-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_PleMid (m : (ℓ : Loc Cert.PleMid.nD Cert.PleMid.τ Cert.PleMid.sig) → Buf (Elt Bits) ℓ) : Prop :=
  True

def Pre_PleMidIdeal (m : (ℓ : Loc Cert.PleMidIdeal.nD Cert.PleMidIdeal.τ Cert.PleMidIdeal.sig) → Buf (Elt Ideal) ℓ) : Prop :=
  True

def Pre_PleMidRefIdeal (m : (ℓ : Loc Cert.PleMidRefIdeal.nD Cert.PleMidRefIdeal.τ Cert.PleMidRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1))
      ∧ r.2.sem = fun _ => 0)

def quiescent_PleMid [hPleMid : Cert.PleMid.Facts] : Prop :=
  ∀ (m : (ℓ : Loc Cert.PleMid.nD Cert.PleMid.τ Cert.PleMid.sig) → Buf (Elt Bits) ℓ) (g : Dev Cert.PleMid.nD → PrngReg), Pre_PleMid m →
    θ_run (Cert.PleMid.defs (F := Bits)) (onTc (τ := Cert.PleMid.τ) (Cert.PleMid.main (F := Bits))) ⟨m, fun _ => 0, g⟩ (fun r => (∀ c : Dev Cert.PleMid.nD,
      r.2.mem ((c.tc : Thread Cert.PleMid.nD Cert.PleMid.τ).loc Cert.PleMid.main_arg0) = m ((c.tc : Thread Cert.PleMid.nD Cert.PleMid.τ).loc Cert.PleMid.main_arg0)
      ∧ r.2.mem ((c.tc : Thread Cert.PleMid.nD Cert.PleMid.τ).loc Cert.PleMid.main_arg1) = m ((c.tc : Thread Cert.PleMid.nD Cert.PleMid.τ).loc Cert.PleMid.main_arg1)
      ∧ r.2.mem ((c.tc : Thread Cert.PleMid.nD Cert.PleMid.τ).loc Cert.PleMid.main_arg2) = m ((c.tc : Thread Cert.PleMid.nD Cert.PleMid.τ).loc Cert.PleMid.main_arg2)
      ∧ r.2.mem ((c.tc : Thread Cert.PleMid.nD Cert.PleMid.τ).loc Cert.PleMid.main_arg3) = m ((c.tc : Thread Cert.PleMid.nD Cert.PleMid.τ).loc Cert.PleMid.main_arg3)
      ∧ r.2.mem ((c.tc : Thread Cert.PleMid.nD Cert.PleMid.τ).loc Cert.PleMid.main_arg4) = m ((c.tc : Thread Cert.PleMid.nD Cert.PleMid.τ).loc Cert.PleMid.main_arg4)
      ∧ r.2.mem ((c.tc : Thread Cert.PleMid.nD Cert.PleMid.τ).loc Cert.PleMid.main_arg5) = m ((c.tc : Thread Cert.PleMid.nD Cert.PleMid.τ).loc Cert.PleMid.main_arg5))
      ∧ r.2.sem = fun _ => 0)

def quiescent_PleMidIdeal [hPleMidIdeal : Cert.PleMidIdeal.Facts] : Prop :=
  ∀ (m : (ℓ : Loc Cert.PleMidIdeal.nD Cert.PleMidIdeal.τ Cert.PleMidIdeal.sig) → Buf (Elt Ideal) ℓ) (g : Dev Cert.PleMidIdeal.nD → PrngReg), Pre_PleMidIdeal m →
    θ_run (Cert.PleMidIdeal.defs (F := Ideal)) (onTc (τ := Cert.PleMidIdeal.τ) (Cert.PleMidIdeal.main (F := Ideal))) ⟨m, fun _ => 0, g⟩ (fun r => (∀ c : Dev Cert.PleMidIdeal.nD,
      r.2.mem ((c.tc : Thread Cert.PleMidIdeal.nD Cert.PleMidIdeal.τ).loc Cert.PleMidIdeal.main_arg0) = m ((c.tc : Thread Cert.PleMidIdeal.nD Cert.PleMidIdeal.τ).loc Cert.PleMidIdeal.main_arg0)
      ∧ r.2.mem ((c.tc : Thread Cert.PleMidIdeal.nD Cert.PleMidIdeal.τ).loc Cert.PleMidIdeal.main_arg1) = m ((c.tc : Thread Cert.PleMidIdeal.nD Cert.PleMidIdeal.τ).loc Cert.PleMidIdeal.main_arg1)
      ∧ r.2.mem ((c.tc : Thread Cert.PleMidIdeal.nD Cert.PleMidIdeal.τ).loc Cert.PleMidIdeal.main_arg2) = m ((c.tc : Thread Cert.PleMidIdeal.nD Cert.PleMidIdeal.τ).loc Cert.PleMidIdeal.main_arg2)
      ∧ r.2.mem ((c.tc : Thread Cert.PleMidIdeal.nD Cert.PleMidIdeal.τ).loc Cert.PleMidIdeal.main_arg3) = m ((c.tc : Thread Cert.PleMidIdeal.nD Cert.PleMidIdeal.τ).loc Cert.PleMidIdeal.main_arg3)
      ∧ r.2.mem ((c.tc : Thread Cert.PleMidIdeal.nD Cert.PleMidIdeal.τ).loc Cert.PleMidIdeal.main_arg4) = m ((c.tc : Thread Cert.PleMidIdeal.nD Cert.PleMidIdeal.τ).loc Cert.PleMidIdeal.main_arg4)
      ∧ r.2.mem ((c.tc : Thread Cert.PleMidIdeal.nD Cert.PleMidIdeal.τ).loc Cert.PleMidIdeal.main_arg5) = m ((c.tc : Thread Cert.PleMidIdeal.nD Cert.PleMidIdeal.τ).loc Cert.PleMidIdeal.main_arg5))
      ∧ r.2.sem = fun _ => 0)

def quiescent_PleMidRefIdeal [hPleMidRefIdeal : Cert.PleMidRefIdeal.Facts] : Prop :=
  ∀ (m : (ℓ : Loc Cert.PleMidRefIdeal.nD Cert.PleMidRefIdeal.τ Cert.PleMidRefIdeal.sig) → Buf (Elt Ideal) ℓ) (g : Dev Cert.PleMidRefIdeal.nD → PrngReg), Pre_PleMidRefIdeal m →
    θ_run (Cert.PleMidRefIdeal.defs (F := Ideal)) (onTc (τ := Cert.PleMidRefIdeal.τ) (Cert.PleMidRefIdeal.main (F := Ideal))) ⟨m, fun _ => 0, g⟩ (fun r => (∀ c : Dev Cert.PleMidRefIdeal.nD,
      r.2.mem ((c.tc : Thread Cert.PleMidRefIdeal.nD Cert.PleMidRefIdeal.τ).loc Cert.PleMidRefIdeal.main_arg0) = m ((c.tc : Thread Cert.PleMidRefIdeal.nD Cert.PleMidRefIdeal.τ).loc Cert.PleMidRefIdeal.main_arg0)
      ∧ r.2.mem ((c.tc : Thread Cert.PleMidRefIdeal.nD Cert.PleMidRefIdeal.τ).loc Cert.PleMidRefIdeal.main_arg1) = m ((c.tc : Thread Cert.PleMidRefIdeal.nD Cert.PleMidRefIdeal.τ).loc Cert.PleMidRefIdeal.main_arg1)
      ∧ r.2.mem ((c.tc : Thread Cert.PleMidRefIdeal.nD Cert.PleMidRefIdeal.τ).loc Cert.PleMidRefIdeal.main_arg2) = m ((c.tc : Thread Cert.PleMidRefIdeal.nD Cert.PleMidRefIdeal.τ).loc Cert.PleMidRefIdeal.main_arg2)
      ∧ r.2.mem ((c.tc : Thread Cert.PleMidRefIdeal.nD Cert.PleMidRefIdeal.τ).loc Cert.PleMidRefIdeal.main_arg3) = m ((c.tc : Thread Cert.PleMidRefIdeal.nD Cert.PleMidRefIdeal.τ).loc Cert.PleMidRefIdeal.main_arg3)
      ∧ r.2.mem ((c.tc : Thread Cert.PleMidRefIdeal.nD Cert.PleMidRefIdeal.τ).loc Cert.PleMidRefIdeal.main_arg4) = m ((c.tc : Thread Cert.PleMidRefIdeal.nD Cert.PleMidRefIdeal.τ).loc Cert.PleMidRefIdeal.main_arg4)
      ∧ r.2.mem ((c.tc : Thread Cert.PleMidRefIdeal.nD Cert.PleMidRefIdeal.τ).loc Cert.PleMidRefIdeal.main_arg5) = m ((c.tc : Thread Cert.PleMidRefIdeal.nD Cert.PleMidRefIdeal.τ).loc Cert.PleMidRefIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "mask" .bf16 0xF14A#16 ⊥

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v11) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v8)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v8) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v32) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v14)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v81) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v14)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v14) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v79) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v29_0)) (v1 : (c : Dev Cert.QkvIdeal.nD) → Buf (Elt Ideal) ((c.tc : Thread Cert.QkvIdeal.nD Cert.QkvIdeal.τ).loc Cert.QkvIdeal.main_v29_1)) (v2 : (c : Dev Cert.QkvIdeal.nD) → Buf (Elt Ideal) ((c.tc : Thread Cert.QkvIdeal.nD Cert.QkvIdeal.τ).loc Cert.QkvIdeal.main_v29_2)) (v3 : (c : Dev Cert.QkvIdeal.nD) → Buf (Elt Ideal) ((c.tc : Thread Cert.QkvIdeal.nD Cert.QkvIdeal.τ).loc Cert.QkvIdeal.main_v29_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v29_0) = v0 c
          ∧ r.2.mem ((c.tc : Thread Cert.QkvIdeal.nD Cert.QkvIdeal.τ).loc Cert.QkvIdeal.main_v29_1) = v1 c
          ∧ r.2.mem ((c.tc : Thread Cert.QkvIdeal.nD Cert.QkvIdeal.τ).loc Cert.QkvIdeal.main_v29_2) = v2 c
          ∧ r.2.mem ((c.tc : Thread Cert.QkvIdeal.nD Cert.QkvIdeal.τ).loc Cert.QkvIdeal.main_v29_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v105) = v0 c
          ∧ r.2.mem ((c.tc : Thread Cert.QkvRefIdeal.nD Cert.QkvRefIdeal.τ).loc Cert.QkvRefIdeal.main_v106) = v1 c
          ∧ r.2.mem ((c.tc : Thread Cert.QkvRefIdeal.nD Cert.QkvRefIdeal.τ).loc Cert.QkvRefIdeal.main_v107) = v2 c
          ∧ r.2.mem ((c.tc : Thread Cert.QkvRefIdeal.nD Cert.QkvRefIdeal.τ).loc Cert.QkvRefIdeal.main_v108) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v14)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v14) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v267) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)) →
    ∃ (v0 : (c : Dev Cert.PrenormIdeal.nD) → Buf (Elt Ideal) ((c.tc : Thread Cert.PrenormIdeal.nD Cert.PrenormIdeal.τ).loc Cert.PrenormIdeal.main_v4)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v4) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v16) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1))

def preserves_PleMid_PleMidIdeal : Prop :=
  True

def algebraic_PleMidIdeal_PleMidRefIdeal [hPleMidIdeal : Cert.PleMidIdeal.Facts] [hPleMidRefIdeal : Cert.PleMidRefIdeal.Facts] : Prop :=
  ∀ (m : (ℓ : Loc Cert.PleMidIdeal.nD Cert.PleMidIdeal.τ Cert.PleMidIdeal.sig) → Buf (Elt Ideal) ℓ) (g : Dev Cert.PleMidIdeal.nD → PrngReg)
    (m' : (ℓ : Loc Cert.PleMidRefIdeal.nD Cert.PleMidRefIdeal.τ Cert.PleMidRefIdeal.sig) → Buf (Elt Ideal) ℓ) (g' : Dev Cert.PleMidRefIdeal.nD → PrngReg), Pre_PleMidIdeal m →
    (∀ c : Dev Cert.PleMidIdeal.nD,
      m' ((c.tc : Thread Cert.PleMidRefIdeal.nD Cert.PleMidRefIdeal.τ).loc Cert.PleMidRefIdeal.main_arg0) = m ((c.tc : Thread Cert.PleMidIdeal.nD Cert.PleMidIdeal.τ).loc Cert.PleMidIdeal.main_arg0)
      ∧ m' ((c.tc : Thread Cert.PleMidRefIdeal.nD Cert.PleMidRefIdeal.τ).loc Cert.PleMidRefIdeal.main_arg1) = m ((c.tc : Thread Cert.PleMidIdeal.nD Cert.PleMidIdeal.τ).loc Cert.PleMidIdeal.main_arg1)
      ∧ m' ((c.tc : Thread Cert.PleMidRefIdeal.nD Cert.PleMidRefIdeal.τ).loc Cert.PleMidRefIdeal.main_arg2) = m ((c.tc : Thread Cert.PleMidIdeal.nD Cert.PleMidIdeal.τ).loc Cert.PleMidIdeal.main_arg2)
      ∧ m' ((c.tc : Thread Cert.PleMidRefIdeal.nD Cert.PleMidRefIdeal.τ).loc Cert.PleMidRefIdeal.main_arg3) = m ((c.tc : Thread Cert.PleMidIdeal.nD Cert.PleMidIdeal.τ).loc Cert.PleMidIdeal.main_arg3)
      ∧ m' ((c.tc : Thread Cert.PleMidRefIdeal.nD Cert.PleMidRefIdeal.τ).loc Cert.PleMidRefIdeal.main_arg4) = m ((c.tc : Thread Cert.PleMidIdeal.nD Cert.PleMidIdeal.τ).loc Cert.PleMidIdeal.main_arg4)
      ∧ m' ((c.tc : Thread Cert.PleMidRefIdeal.nD Cert.PleMidRefIdeal.τ).loc Cert.PleMidRefIdeal.main_arg5) = m ((c.tc : Thread Cert.PleMidIdeal.nD Cert.PleMidIdeal.τ).loc Cert.PleMidIdeal.main_arg5)) →
    ∃ (v0 : (c : Dev Cert.PleMidIdeal.nD) → Buf (Elt Ideal) ((c.tc : Thread Cert.PleMidIdeal.nD Cert.PleMidIdeal.τ).loc Cert.PleMidIdeal.main_v10_0)) (v1 : (c : Dev Cert.PleMidIdeal.nD) → Buf (Elt Ideal) ((c.tc : Thread Cert.PleMidIdeal.nD Cert.PleMidIdeal.τ).loc Cert.PleMidIdeal.main_v10_1)),
      θ_run (Cert.PleMidIdeal.defs (F := Ideal)) (onTc (τ := Cert.PleMidIdeal.τ) (Cert.PleMidIdeal.main (F := Ideal))) ⟨m, fun _ => 0, g⟩ (fun r => ∀ c : Dev Cert.PleMidIdeal.nD,
          r.2.mem ((c.tc : Thread Cert.PleMidIdeal.nD Cert.PleMidIdeal.τ).loc Cert.PleMidIdeal.main_v10_0) = v0 c
          ∧ r.2.mem ((c.tc : Thread Cert.PleMidIdeal.nD Cert.PleMidIdeal.τ).loc Cert.PleMidIdeal.main_v10_1) = v1 c
          ∧ r.2.mem ((c.tc : Thread Cert.PleMidIdeal.nD Cert.PleMidIdeal.τ).loc Cert.PleMidIdeal.main_arg0) = m ((c.tc : Thread Cert.PleMidIdeal.nD Cert.PleMidIdeal.τ).loc Cert.PleMidIdeal.main_arg0)
          ∧ r.2.mem ((c.tc : Thread Cert.PleMidIdeal.nD Cert.PleMidIdeal.τ).loc Cert.PleMidIdeal.main_arg1) = m ((c.tc : Thread Cert.PleMidIdeal.nD Cert.PleMidIdeal.τ).loc Cert.PleMidIdeal.main_arg1)
          ∧ r.2.mem ((c.tc : Thread Cert.PleMidIdeal.nD Cert.PleMidIdeal.τ).loc Cert.PleMidIdeal.main_arg2) = m ((c.tc : Thread Cert.PleMidIdeal.nD Cert.PleMidIdeal.τ).loc Cert.PleMidIdeal.main_arg2)
          ∧ r.2.mem ((c.tc : Thread Cert.PleMidIdeal.nD Cert.PleMidIdeal.τ).loc Cert.PleMidIdeal.main_arg3) = m ((c.tc : Thread Cert.PleMidIdeal.nD Cert.PleMidIdeal.τ).loc Cert.PleMidIdeal.main_arg3)
          ∧ r.2.mem ((c.tc : Thread Cert.PleMidIdeal.nD Cert.PleMidIdeal.τ).loc Cert.PleMidIdeal.main_arg4) = m ((c.tc : Thread Cert.PleMidIdeal.nD Cert.PleMidIdeal.τ).loc Cert.PleMidIdeal.main_arg4)
          ∧ r.2.mem ((c.tc : Thread Cert.PleMidIdeal.nD Cert.PleMidIdeal.τ).loc Cert.PleMidIdeal.main_arg5) = m ((c.tc : Thread Cert.PleMidIdeal.nD Cert.PleMidIdeal.τ).loc Cert.PleMidIdeal.main_arg5))
      ∧ θ_run (Cert.PleMidRefIdeal.defs (F := Ideal)) (onTc (τ := Cert.PleMidRefIdeal.τ) (Cert.PleMidRefIdeal.main (F := Ideal))) ⟨m', fun _ => 0, g'⟩ (fun r => ∀ c : Dev Cert.PleMidRefIdeal.nD,
          r.2.mem ((c.tc : Thread Cert.PleMidRefIdeal.nD Cert.PleMidRefIdeal.τ).loc Cert.PleMidRefIdeal.main_v32) = v0 c
          ∧ r.2.mem ((c.tc : Thread Cert.PleMidRefIdeal.nD Cert.PleMidRefIdeal.τ).loc Cert.PleMidRefIdeal.main_v48) = v1 c
          ∧ r.2.mem ((c.tc : Thread Cert.PleMidRefIdeal.nD Cert.PleMidRefIdeal.τ).loc Cert.PleMidRefIdeal.main_arg0) = m' ((c.tc : Thread Cert.PleMidRefIdeal.nD Cert.PleMidRefIdeal.τ).loc Cert.PleMidRefIdeal.main_arg0)
          ∧ r.2.mem ((c.tc : Thread Cert.PleMidRefIdeal.nD Cert.PleMidRefIdeal.τ).loc Cert.PleMidRefIdeal.main_arg1) = m' ((c.tc : Thread Cert.PleMidRefIdeal.nD Cert.PleMidRefIdeal.τ).loc Cert.PleMidRefIdeal.main_arg1)
          ∧ r.2.mem ((c.tc : Thread Cert.PleMidRefIdeal.nD Cert.PleMidRefIdeal.τ).loc Cert.PleMidRefIdeal.main_arg2) = m' ((c.tc : Thread Cert.PleMidRefIdeal.nD Cert.PleMidRefIdeal.τ).loc Cert.PleMidRefIdeal.main_arg2)
          ∧ r.2.mem ((c.tc : Thread Cert.PleMidRefIdeal.nD Cert.PleMidRefIdeal.τ).loc Cert.PleMidRefIdeal.main_arg3) = m' ((c.tc : Thread Cert.PleMidRefIdeal.nD Cert.PleMidRefIdeal.τ).loc Cert.PleMidRefIdeal.main_arg3)
          ∧ r.2.mem ((c.tc : Thread Cert.PleMidRefIdeal.nD Cert.PleMidRefIdeal.τ).loc Cert.PleMidRefIdeal.main_arg4) = m' ((c.tc : Thread Cert.PleMidRefIdeal.nD Cert.PleMidRefIdeal.τ).loc Cert.PleMidRefIdeal.main_arg4)
          ∧ r.2.mem ((c.tc : Thread Cert.PleMidRefIdeal.nD Cert.PleMidRefIdeal.τ).loc Cert.PleMidRefIdeal.main_arg5) = m' ((c.tc : Thread Cert.PleMidRefIdeal.nD Cert.PleMidRefIdeal.τ).loc Cert.PleMidRefIdeal.main_arg5))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesRefIdeal : Cert.GatesRefIdeal.Facts) (hMerge : Cert.Merge.Facts) (hMergeIdeal : Cert.MergeIdeal.Facts) (hMergeRefIdeal : Cert.MergeRefIdeal.Facts) (hPle : Cert.Ple.Facts) (hPleIdeal : Cert.PleIdeal.Facts) (hPleRefIdeal : Cert.PleRefIdeal.Facts) (hFfn : Cert.Ffn.Facts) (hFfnIdeal : Cert.FfnIdeal.Facts) (hFfnRefIdeal : Cert.FfnRefIdeal.Facts) (hSgu : Cert.Sgu.Facts) (hSguIdeal : Cert.SguIdeal.Facts) (hSguRefIdeal : Cert.SguRefIdeal.Facts) (hQkv : Cert.Qkv.Facts) (hQkvIdeal : Cert.QkvIdeal.Facts) (hQkvRefIdeal : Cert.QkvRefIdeal.Facts) (hConv : Cert.Conv.Facts) (hConvIdeal : Cert.ConvIdeal.Facts) (hConvRefIdeal : Cert.ConvRefIdeal.Facts) (hPrenorm : Cert.Prenorm.Facts) (hPrenormIdeal : Cert.PrenormIdeal.Facts) (hPrenormRefIdeal : Cert.PrenormRefIdeal.Facts) (hPleMid : Cert.PleMid.Facts) (hPleMidIdeal : Cert.PleMidIdeal.Facts) (hPleMidRefIdeal : Cert.PleMidRefIdeal.Facts),
    quiescent_Kernel (hKernel := hKernel)
    ∧ quiescent_KernelIdeal (hKernelIdeal := hKernelIdeal)
    ∧ quiescent_ReferenceIdeal (hReferenceIdeal := hReferenceIdeal)
    ∧ quiescent_Gates (hGates := hGates)
    ∧ quiescent_GatesIdeal (hGatesIdeal := hGatesIdeal)
    ∧ quiescent_GatesRefIdeal (hGatesRefIdeal := hGatesRefIdeal)
    ∧ quiescent_Merge (hMerge := hMerge)
    ∧ quiescent_MergeIdeal (hMergeIdeal := hMergeIdeal)
    ∧ quiescent_MergeRefIdeal (hMergeRefIdeal := hMergeRefIdeal)
    ∧ quiescent_Ple (hPle := hPle)
    ∧ quiescent_PleIdeal (hPleIdeal := hPleIdeal)
    ∧ quiescent_PleRefIdeal (hPleRefIdeal := hPleRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Sgu (hSgu := hSgu)
    ∧ quiescent_SguIdeal (hSguIdeal := hSguIdeal)
    ∧ quiescent_SguRefIdeal (hSguRefIdeal := hSguRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Conv (hConv := hConv)
    ∧ quiescent_ConvIdeal (hConvIdeal := hConvIdeal)
    ∧ quiescent_ConvRefIdeal (hConvRefIdeal := hConvRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_PleMid (hPleMid := hPleMid)
    ∧ quiescent_PleMidIdeal (hPleMidIdeal := hPleMidIdeal)
    ∧ quiescent_PleMidRefIdeal (hPleMidRefIdeal := hPleMidRefIdeal)
    ∧ preserves_Kernel_KernelIdeal
    ∧ preserves_Gates_GatesIdeal
    ∧ algebraic_GatesIdeal_GatesRefIdeal (hGatesIdeal := hGatesIdeal) (hGatesRefIdeal := hGatesRefIdeal)
    ∧ preserves_Merge_MergeIdeal
    ∧ algebraic_MergeIdeal_MergeRefIdeal (hMergeIdeal := hMergeIdeal) (hMergeRefIdeal := hMergeRefIdeal)
    ∧ preserves_Ple_PleIdeal
    ∧ algebraic_PleIdeal_PleRefIdeal (hPleIdeal := hPleIdeal) (hPleRefIdeal := hPleRefIdeal)
    ∧ preserves_Ffn_FfnIdeal
    ∧ algebraic_FfnIdeal_FfnRefIdeal (hFfnIdeal := hFfnIdeal) (hFfnRefIdeal := hFfnRefIdeal)
    ∧ preserves_Sgu_SguIdeal
    ∧ algebraic_SguIdeal_SguRefIdeal (hSguIdeal := hSguIdeal) (hSguRefIdeal := hSguRefIdeal)
    ∧ preserves_Qkv_QkvIdeal
    ∧ algebraic_QkvIdeal_QkvRefIdeal (hQkvIdeal := hQkvIdeal) (hQkvRefIdeal := hQkvRefIdeal)
    ∧ preserves_Conv_ConvIdeal
    ∧ algebraic_ConvIdeal_ConvRefIdeal (hConvIdeal := hConvIdeal) (hConvRefIdeal := hConvRefIdeal)
    ∧ preserves_Prenorm_PrenormIdeal
    ∧ algebraic_PrenormIdeal_PrenormRefIdeal (hPrenormIdeal := hPrenormIdeal) (hPrenormRefIdeal := hPrenormRefIdeal)
    ∧ preserves_PleMid_PleMidIdeal
    ∧ algebraic_PleMidIdeal_PleMidRefIdeal (hPleMidIdeal := hPleMidIdeal) (hPleMidRefIdeal := hPleMidRefIdeal)
-- ==== Kernel.lean ====
abbrev S2x16384x1024 : Shape := ⟨3, ![2, 16384, 1024]⟩
abbrev S2x64x256x1024 : Shape := ⟨4, ![2, 64, 256, 1024]⟩
abbrev S_ : Shape := ⟨0, ![]⟩
abbrev S2x64x1024 : Shape := ⟨3, ![2, 64, 1024]⟩
abbrev S2x128x1024 : Shape := ⟨3, ![2, 128, 1024]⟩
abbrev S2x64x256x8x128 : Shape := ⟨5, ![2, 64, 256, 8, 128]⟩
abbrev S2x16384x8x128 : Shape := ⟨4, ![2, 16384, 8, 128]⟩
abbrev S2x16384x8x256 : Shape := ⟨4, ![2, 16384, 8, 256]⟩
abbrev S2x16384x2048 : Shape := ⟨3, ![2, 16384, 2048]⟩
abbrev S32x1024x8x128 : Shape := ⟨4, ![32, 1024, 8, 128]⟩
abbrev S8x32x128x1024 : Shape := ⟨4, ![8, 32, 128, 1024]⟩
abbrev S8x32x16x1024 : Shape := ⟨4, ![8, 32, 16, 1024]⟩
abbrev S8x32x144x1024 : Shape := ⟨4, ![8, 32, 144, 1024]⟩
abbrev S1x16384x128 : Shape := ⟨3, ![1, 16384, 128]⟩
abbrev S1x16384x256 : Shape := ⟨3, ![1, 16384, 256]⟩
abbrev S1x16x144x1024 : Shape := ⟨4, ![1, 16, 144, 1024]⟩
abbrev S1x128x128 : Shape := ⟨3, ![1, 128, 128]⟩
abbrev S2x2x1024x256 : Shape := ⟨4, ![2, 2, 1024, 256]⟩
abbrev S2x1024x1024 : Shape := ⟨3, ![2, 1024, 1024]⟩
abbrev S1x1024x128 : Shape := ⟨3, ![1, 1024, 128]⟩
abbrev S1024x128 : Shape := ⟨2, ![1024, 128]⟩
abbrev S1x64x128 : Shape := ⟨3, ![1, 64, 128]⟩
abbrev S64x128 : Shape := ⟨2, ![64, 128]⟩
abbrev S64x1024 : Shape := ⟨2, ![64, 1024]⟩
abbrev S1024 : Shape := ⟨1, ![1024]⟩
abbrev S1x1024 : Shape := ⟨2, ![1, 1024]⟩
abbrev S128x1024 : Shape := ⟨2, ![128, 1024]⟩
abbrev S1024x256 : Shape := ⟨2, ![1024, 256]⟩
abbrev S1x1x1024x256 : Shape := ⟨4, ![1, 1, 1024, 256]⟩
abbrev S1x1024x256 : Shape := ⟨3, ![1, 1024, 256]⟩
abbrev S1024x1024 : Shape := ⟨2, ![1024, 1024]⟩
abbrev S1x1024x1024 : Shape := ⟨3, ![1, 1024, 1024]⟩
abbrev S144x1024 : Shape := ⟨2, ![144, 1024]⟩
abbrev S1x1x144x1024 : Shape := ⟨4, ![1, 1, 144, 1024]⟩
abbrev S256x256 : Shape := ⟨2, ![256, 256]⟩
abbrev S1x256x256 : Shape := ⟨3, ![1, 256, 256]⟩

abbrev nBuf : Space → Nat
  | .hbm => 35
  | .vmem => 11
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x64x256x1024, .f32⟩
  | .hbm, ⟨4, _⟩ => ⟨S_, .f32⟩
  | .hbm, ⟨5, _⟩ => ⟨S2x64x1024, .f32⟩
  | .hbm, ⟨6, _⟩ => ⟨S_, .f32⟩
  | .hbm, ⟨7, _⟩ => ⟨S2x64x1024, .f32⟩
  | .hbm, ⟨8, _⟩ => ⟨S2x64x1024, .f32⟩
  | .hbm, ⟨9, _⟩ => ⟨S_, .i32⟩
  | .hbm, ⟨10, _⟩ => ⟨S_, .f32⟩
  | .hbm, ⟨11, _⟩ => ⟨S2x128x1024, .f32⟩
  | .hbm, ⟨12, _⟩ => ⟨S2x128x1024, .bf16⟩
  | .hbm, ⟨13, _⟩ => ⟨S_, .f32⟩
  | .hbm, ⟨14, _⟩ => ⟨S_, .f32⟩
  | .hbm, ⟨15, _⟩ => ⟨S2x16384x1024, .f32⟩
  | .hbm, ⟨16, _⟩ => ⟨S2x16384x1024, .f32⟩
  | .hbm, ⟨17, _⟩ => ⟨S2x16384x1024, .bf16⟩
  | .hbm, ⟨18, _⟩ => ⟨S2x64x256x8x128, .i32⟩
  | .hbm, ⟨19, _⟩ => ⟨S2x64x256x8x128, .i32⟩
  | .hbm, ⟨20, _⟩ => ⟨S2x64x256x8x128, .i1⟩
  | .hbm, ⟨21, _⟩ => ⟨S2x64x256x8x128, .f32⟩
  | .hbm, ⟨22, _⟩ => ⟨S2x64x256x8x128, .bf16⟩
  | .hbm, ⟨23, _⟩ => ⟨S2x16384x8x128, .bf16⟩
  | .hbm, ⟨24, _⟩ => ⟨S2x16384x1024, .bf16⟩
  | .hbm, ⟨25, _⟩ => ⟨S2x16384x8x128, .bf16⟩
  | .hbm, ⟨26, _⟩ => ⟨S2x16384x8x256, .bf16⟩
  | .hbm, ⟨27, _⟩ => ⟨S2x16384x2048, .bf16⟩
  | .hbm, ⟨28, _⟩ => ⟨S2x16384x1024, .bf16⟩
  | .hbm, ⟨29, _⟩ => ⟨S32x1024x8x128, .bf16⟩
  | .hbm, ⟨30, _⟩ => ⟨S8x32x128x1024, .bf16⟩
  | .hbm, ⟨31, _⟩ => ⟨S_, .bf16⟩
  | .hbm, ⟨32, _⟩ => ⟨S8x32x16x1024, .bf16⟩
  | .hbm, ⟨33, _⟩ => ⟨S8x32x144x1024, .bf16⟩
  | .hbm, ⟨34, _⟩ => ⟨S2x16384x1024, .bf16⟩
  | .local _ .vmem, ⟨0, _⟩ => ⟨S1x16384x128, .bf16⟩
  | .local _ .vmem, ⟨1, _⟩ => ⟨S1x16384x128, .bf16⟩
  | .local _ .vmem, ⟨2, _⟩ => ⟨S1x16384x256, .bf16⟩
  | .local _ .vmem, ⟨3, _⟩ => ⟨S1x16x144x1024, .bf16⟩
  | .local _ .vmem, ⟨4, _⟩ => ⟨S1x128x128, .bf16⟩
  | .local _ .vmem, ⟨5, _⟩ => ⟨S1x128x128, .bf16⟩
  | .local _ .vmem, ⟨6, _⟩ => ⟨S1x16384x128, .bf16⟩
  | .local _ .vmem, ⟨7, _⟩ => ⟨S1x16384x128, .bf16⟩
  | .local _ .vmem, ⟨8, _⟩ => ⟨S2x2x1024x256, .bf16⟩
  | .local _ .vmem, ⟨9, _⟩ => ⟨S2x1024x1024, .f32⟩
  | .local _ .vmem, ⟨10, _⟩ => ⟨S2x1024x1024, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def k0_mult1 : BitVec 32 :=
  let c0_i32 : BitVec 32 := 0#32
  c0_i32
def k0_mult2 : BitVec 32 :=
  let c1024_i32 : BitVec 32 := 1024#32
  c1024_i32
def k0_mult3 : BitVec 32 :=
  let c0_i32_64 : BitVec 32 := 0#32
  let c0_i32_65 : BitVec 32 := 0#32
  let v170 : BitVec 32 := Scalar.minsi c0_i32_64 c0_i32_65
  let c1024_i32_66 : BitVec 32 := 1024#32
  let v171 : BitVec 32 := Scalar.muli v170 c1024_i32_66
  v171
def k0_off1 (c0_i32_64 : BitVec 32) : Fin 3 → Nat :=
  let c0_68 : Index := 0#32
  let c0_i32_65 : BitVec 32 := 0#32
  let v170 : BitVec 32 := Scalar.minsi c0_i32_64 c0_i32_65
  let c1024_i32_66 : BitVec 32 := 1024#32
  let v171 : BitVec 32 := Scalar.muli v170 c1024_i32_66
  let v172 : BitVec 32 := v171
  let v174 : Index := Scalar.indexCast v172
  let c0_69 : Index := 0#32
  ![0, v174.toNat, 0]
def k0_off2 (v_true : BitVec 1) : Fin 4 → Nat :=
  let c0_70 : Index := 0#32
  let true_67 : BitVec 1 := 1#1
  let v173 : BitVec 1 := Scalar.andi v_true true_67
  let v177 : BitVec 32 := Scalar.extui v173
  let v178 : Index := Scalar.indexCast v177
  let c0_71 : Index := 0#32
  let c0_72 : Index := 0#32
  ![0, v178.toNat, 0, 0]
def k0_mult4 : BitVec 32 :=
  let c1_i32 : BitVec 32 := 1#32
  let c0_i32_78 : BitVec 32 := 0#32
  let v187 : BitVec 32 := Scalar.minsi c1_i32 c0_i32_78
  let c1024_i32_79 : BitVec 32 := 1024#32
  let v188 : BitVec 32 := Scalar.muli v187 c1024_i32_79
  v188
@[reducible] def k0_t1_loop : Scf.Loop 32 :=
  let c0_i32_99 : BitVec 32 := 0#32
  let c16_i32 : BitVec 32 := 16#32
  let v217 : BitVec 32 := Scalar.addi c0_i32_99 c16_i32
  let c1_i32_100 : BitVec 32 := 1#32
  ⟨c0_i32_99, v217, c1_i32_100⟩
@[reducible] def k0_t2_loop (k0_t1 : Fin k0_t1_loop.trips) : Scf.Loop 32 :=
  let c0_i32_134 : BitVec 32 := 0#32
  let c0_i32_99 : BitVec 32 := 0#32
  let c1_i32_100 : BitVec 32 := 1#32
  let arg10 : BitVec 32 := Scf.iv c0_i32_99 c1_i32_100 k0_t1
  let c4_i32_102 : BitVec 32 := 4#32
  let v219 : BitVec 32 := Scalar.muli arg10 c4_i32_102
  let c0_i32_104 : BitVec 32 := 0#32
  let v221 : BitVec 1 := Scalar.cmpi .sgt v219 c0_i32_104
  let v222 : BitVec 32 := Scalar.extui v221
  let c0_i32_105 : BitVec 32 := 0#32
  let v223 : BitVec 1 := Scalar.cmpi .slt v219 c0_i32_105
  let v224 : BitVec 32 := Scalar.extui v223
  let v225 : BitVec 32 := Scalar.subi v222 v224
  let c4_i32_103 : BitVec 32 := 4#32
  let c0_i32_106 : BitVec 32 := 0#32
  let v226 : BitVec 1 := Scalar.cmpi .sgt c4_i32_103 c0_i32_106
  let v227 : BitVec 32 := Scalar.extui v226
  let c0_i32_107 : BitVec 32 := 0#32
  let v228 : BitVec 1 := Scalar.cmpi .slt c4_i32_103 c0_i32_107
  let v229 : BitVec 32 := Scalar.extui v228
  let v230 : BitVec 32 := Scalar.subi v227 v229
  let v231 : BitVec 1 := Scalar.cmpi .ne v225 v230
  let v232 : BitVec 32 := Scalar.remsi v219 c4_i32_103
  let c0_i32_108 : BitVec 32 := 0#32
  let v233 : BitVec 1 := Scalar.cmpi .ne v232 c0_i32_108
  let v234 : BitVec 1 := Scalar.andi v231 v233
  let v220 : BitVec 32 := Scalar.divsi v219 c4_i32_103
  let c1_i32_109 : BitVec 32 := 1#32
  let v235 : BitVec 32 := Scalar.subi v220 c1_i32_109
  let v236 : BitVec 32 := Scalar.select v234 v235 v220
  let c1_i32_123 : BitVec 32 := 1#32
  let c4_i32_110 : BitVec 32 := 4#32
  let v237 : BitVec 32 := Scalar.muli arg10 c4_i32_110
  let c0_i32_112 : BitVec 32 := 0#32
  let v239 : BitVec 1 := Scalar.cmpi .sgt v237 c0_i32_112
  let v240 : BitVec 32 := Scalar.extui v239
  let c0_i32_113 : BitVec 32 := 0#32
  let v241 : BitVec 1 := Scalar.cmpi .slt v237 c0_i32_113
  let v242 : BitVec 32 := Scalar.extui v241
  let v243 : BitVec 32 := Scalar.subi v240 v242
  let c4_i32_111 : BitVec 32 := 4#32
  let c0_i32_114 : BitVec 32 := 0#32
  let v244 : BitVec 1 := Scalar.cmpi .sgt c4_i32_111 c0_i32_114
  let v245 : BitVec 32 := Scalar.extui v244
  let c0_i32_115 : BitVec 32 := 0#32
  let v246 : BitVec 1 := Scalar.cmpi .slt c4_i32_111 c0_i32_115
  let v247 : BitVec 32 := Scalar.extui v246
  let v248 : BitVec 32 := Scalar.subi v245 v247
  let v249 : BitVec 1 := Scalar.cmpi .ne v243 v248
  let v250 : BitVec 32 := Scalar.remsi v237 c4_i32_111
  let c0_i32_116 : BitVec 32 := 0#32
  let v251 : BitVec 1 := Scalar.cmpi .ne v250 c0_i32_116
  let v252 : BitVec 1 := Scalar.andi v249 v251
  let v238 : BitVec 32 := Scalar.divsi v237 c4_i32_111
  let c1_i32_117 : BitVec 32 := 1#32
  let v253 : BitVec 32 := Scalar.subi v238 c1_i32_117
  let v254 : BitVec 32 := Scalar.select v252 v253 v238
  let c2_i32 : BitVec 32 := 2#32
  let c0_i32_118 : BitVec 32 := 0#32
  let v255 : BitVec 1 := Scalar.cmpi .eq c2_i32 c0_i32_118
  let c1_i32_119 : BitVec 32 := 1#32
  let v256 : BitVec 32 := Scalar.select v255 c1_i32_119 c2_i32
  let v257 : BitVec 32 := Scalar.remsi v254 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let v265 : BitVec 32 := Scalar.subi c1_i32_123 v264
  let v266 : BitVec 32 := Scalar.addi v236 v265
  let c1_i32_124 : BitVec 32 := 1#32
  let v267 : BitVec 32 := Scalar.addi v266 c1_i32_124
  let c2_i32_126 : BitVec 32 := 2#32
  let v269 : BitVec 32 := Scalar.subi v267 c2_i32_126
  let c0_i32_128 : BitVec 32 := 0#32
  let v271 : BitVec 1 := Scalar.cmpi .sgt v269 c0_i32_128
  let v272 : BitVec 32 := Scalar.extui v271
  let c0_i32_129 : BitVec 32 := 0#32
  let v273 : BitVec 1 := Scalar.cmpi .slt v269 c0_i32_129
  let v274 : BitVec 32 := Scalar.extui v273
  let v275 : BitVec 32 := Scalar.subi v272 v274
  let c2_i32_127 : BitVec 32 := 2#32
  let c0_i32_130 : BitVec 32 := 0#32
  let v276 : BitVec 1 := Scalar.cmpi .sgt c2_i32_127 c0_i32_130
  let v277 : BitVec 32 := Scalar.extui v276
  let c0_i32_131 : BitVec 32 := 0#32
  let v278 : BitVec 1 := Scalar.cmpi .slt c2_i32_127 c0_i32_131
  let v279 : BitVec 32 := Scalar.extui v278
  let v280 : BitVec 32 := Scalar.subi v277 v279
  let v281 : BitVec 1 := Scalar.cmpi .ne v275 v280
  let v282 : BitVec 32 := Scalar.remsi v269 c2_i32_127
  let c0_i32_132 : BitVec 32 := 0#32
  let v283 : BitVec 1 := Scalar.cmpi .ne v282 c0_i32_132
  let v284 : BitVec 1 := Scalar.andi v281 v283
  let v270 : BitVec 32 := Scalar.divsi v269 c2_i32_127
  let c1_i32_133 : BitVec 32 := 1#32
  let v285 : BitVec 32 := Scalar.subi v270 c1_i32_133
  let v286 : BitVec 32 := Scalar.select v284 v285 v270
  let v287 : BitVec 32 := Scalar.subi v286 c0_i32_134
  let c1_i32_135 : BitVec 32 := 1#32
  let v289 : BitVec 32 := Scalar.divsi v287 c1_i32_135
  let v290 : BitVec 32 := Scalar.muli v289 c1_i32_135
  let v291 : BitVec 32 := Scalar.addi c0_i32_134 v290
  let c1_i32_136 : BitVec 32 := 1#32
  ⟨c0_i32_134, v291, c1_i32_136⟩
def k0_mult5 (k0_t1 : Fin k0_t1_loop.trips) (k0_t2 : Fin (k0_t2_loop k0_t1).trips) : BitVec 32 :=
  let c2_i32_329 : BitVec 32 := 2#32
  let c2_i32_328 : BitVec 32 := 2#32
  let c0_i32_134 : BitVec 32 := 0#32
  let c1_i32_136 : BitVec 32 := 1#32
  let arg14 : BitVec 32 := Scf.iv c0_i32_134 c1_i32_136 k0_t2
  let v651 : BitVec 32 := Scalar.muli c2_i32_328 arg14
  let v652 : BitVec 32 := Scalar.addi c2_i32_329 v651
  let c0_i32_99 : BitVec 32 := 0#32
  let c1_i32_100 : BitVec 32 := 1#32
  let arg10 : BitVec 32 := Scf.iv c0_i32_99 c1_i32_100 k0_t1
  let c4_i32_330 : BitVec 32 := 4#32
  let v653 : BitVec 32 := Scalar.muli arg10 c4_i32_330
  let c0_i32_332 : BitVec 32 := 0#32
  let v655 : BitVec 1 := Scalar.cmpi .sgt v653 c0_i32_332
  let v656 : BitVec 32 := Scalar.extui v655
  let c0_i32_333 : BitVec 32 := 0#32
  let v657 : BitVec 1 := Scalar.cmpi .slt v653 c0_i32_333
  let v658 : BitVec 32 := Scalar.extui v657
  let v659 : BitVec 32 := Scalar.subi v656 v658
  let c4_i32_331 : BitVec 32 := 4#32
  let c0_i32_334 : BitVec 32 := 0#32
  let v660 : BitVec 1 := Scalar.cmpi .sgt c4_i32_331 c0_i32_334
  let v661 : BitVec 32 := Scalar.extui v660
  let c0_i32_335 : BitVec 32 := 0#32
  let v662 : BitVec 1 := Scalar.cmpi .slt c4_i32_331 c0_i32_335
  let v663 : BitVec 32 := Scalar.extui v662
  let v664 : BitVec 32 := Scalar.subi v661 v663
  let v665 : BitVec 1 := Scalar.cmpi .ne v659 v664
  let v666 : BitVec 32 := Scalar.remsi v653 c4_i32_331
  let c0_i32_336 : BitVec 32 := 0#32
  let v667 : BitVec 1 := Scalar.cmpi .ne v666 c0_i32_336
  let v668 : BitVec 1 := Scalar.andi v665 v667
  let v654 : BitVec 32 := Scalar.divsi v653 c4_i32_331
  let c1_i32_337 : BitVec 32 := 1#32
  let v669 : BitVec 32 := Scalar.subi v654 c1_i32_337
  let v670 : BitVec 32 := Scalar.select v668 v669 v654
  let v671 : BitVec 32 := Scalar.minsi v652 v670
  let c1024_i32_338 : BitVec 32 := 1024#32
  let v672 : BitVec 32 := Scalar.muli v671 c1024_i32_338
  v672
def k0_off3 (k0_t1 : Fin k0_t1_loop.trips) (k0_t2 : Fin (k0_t2_loop k0_t1).trips) : Fin 3 → Nat :=
  let c0_346 : Index := 0#32
  let c2_i32_329 : BitVec 32 := 2#32
  let c2_i32_328 : BitVec 32 := 2#32
  let c0_i32_134 : BitVec 32 := 0#32
  let c1_i32_136 : BitVec 32 := 1#32
  let arg14 : BitVec 32 := Scf.iv c0_i32_134 c1_i32_136 k0_t2
  let v651 : BitVec 32 := Scalar.muli c2_i32_328 arg14
  let v652 : BitVec 32 := Scalar.addi c2_i32_329 v651
  let c0_i32_99 : BitVec 32 := 0#32
  let c1_i32_100 : BitVec 32 := 1#32
  let arg10 : BitVec 32 := Scf.iv c0_i32_99 c1_i32_100 k0_t1
  let c4_i32_330 : BitVec 32 := 4#32
  let v653 : BitVec 32 := Scalar.muli arg10 c4_i32_330
  let c0_i32_332 : BitVec 32 := 0#32
  let v655 : BitVec 1 := Scalar.cmpi .sgt v653 c0_i32_332
  let v656 : BitVec 32 := Scalar.extui v655
  let c0_i32_333 : BitVec 32 := 0#32
  let v657 : BitVec 1 := Scalar.cmpi .slt v653 c0_i32_333
  let v658 : BitVec 32 := Scalar.extui v657
  let v659 : BitVec 32 := Scalar.subi v656 v658
  let c4_i32_331 : BitVec 32 := 4#32
  let c0_i32_334 : BitVec 32 := 0#32
  let v660 : BitVec 1 := Scalar.cmpi .sgt c4_i32_331 c0_i32_334
  let v661 : BitVec 32 := Scalar.extui v660
  let c0_i32_335 : BitVec 32 := 0#32
  let v662 : BitVec 1 := Scalar.cmpi .slt c4_i32_331 c0_i32_335
  let v663 : BitVec 32 := Scalar.extui v662
  let v664 : BitVec 32 := Scalar.subi v661 v663
  let v665 : BitVec 1 := Scalar.cmpi .ne v659 v664
  let v666 : BitVec 32 := Scalar.remsi v653 c4_i32_331
  let c0_i32_336 : BitVec 32 := 0#32
  let v667 : BitVec 1 := Scalar.cmpi .ne v666 c0_i32_336
  let v668 : BitVec 1 := Scalar.andi v665 v667
  let v654 : BitVec 32 := Scalar.divsi v653 c4_i32_331
  let c1_i32_337 : BitVec 32 := 1#32
  let v669 : BitVec 32 := Scalar.subi v654 c1_i32_337
  let v670 : BitVec 32 := Scalar.select v668 v669 v654
  let v671 : BitVec 32 := Scalar.minsi v652 v670
  let c1024_i32_338 : BitVec 32 := 1024#32
  let v672 : BitVec 32 := Scalar.muli v671 c1024_i32_338
  let v673 : BitVec 32 := v672
  let v687 : Index := Scalar.indexCast v673
  let c0_347 : Index := 0#32
  ![0, v687.toNat, 0]
def k0_off4 (k0_t1 : Fin k0_t1_loop.trips) (k0_t2 : Fin (k0_t2_loop k0_t1).trips) : Fin 4 → Nat :=
  let c0_i32_99 : BitVec 32 := 0#32
  let c1_i32_100 : BitVec 32 := 1#32
  let arg10 : BitVec 32 := Scf.iv c0_i32_99 c1_i32_100 k0_t1
  let c2_i32_348 : BitVec 32 := 2#32
  let c0_i32_349 : BitVec 32 := 0#32
  let v690 : BitVec 1 := Scalar.cmpi .eq c2_i32_348 c0_i32_349
  let c1_i32_350 : BitVec 32 := 1#32
  let v691 : BitVec 32 := Scalar.select v690 c1_i32_350 c2_i32_348
  let v692 : BitVec 32 := Scalar.remsi arg10 v691
  let c0_i32_352 : BitVec 32 := 0#32
  let v694 : BitVec 1 := Scalar.cmpi .slt v692 c0_i32_352
  let c0_i32_353 : BitVec 32 := 0#32
  let v695 : BitVec 1 := Scalar.cmpi .slt v691 c0_i32_353
  let v696 : BitVec 1 := Scalar.xori v694 v695
  let c0_i32_351 : BitVec 32 := 0#32
  let v693 : BitVec 1 := Scalar.cmpi .ne v692 c0_i32_351
  let v697 : BitVec 1 := Scalar.andi v696 v693
  let v698 : BitVec 32 := Scalar.addi v692 v691
  let v699 : BitVec 32 := Scalar.select v697 v698 v692
  let v701 : Index := Scalar.indexCast v699
  let c2_i32_329 : BitVec 32 := 2#32
  let c2_i32_328 : BitVec 32 := 2#32
  let c0_i32_134 : BitVec 32 := 0#32
  let c1_i32_136 : BitVec 32 := 1#32
  let arg14 : BitVec 32 := Scf.iv c0_i32_134 c1_i32_136 k0_t2
  let v651 : BitVec 32 := Scalar.muli c2_i32_328 arg14
  let v652 : BitVec 32 := Scalar.addi c2_i32_329 v651
  let c4_i32_330 : BitVec 32 := 4#32
  let v653 : BitVec 32 := Scalar.muli arg10 c4_i32_330
  let c0_i32_332 : BitVec 32 := 0#32
  let v655 : BitVec 1 := Scalar.cmpi .sgt v653 c0_i32_332
  let v656 : BitVec 32 := Scalar.extui v655
  let c0_i32_333 : BitVec 32 := 0#32
  let v657 : BitVec 1 := Scalar.cmpi .slt v653 c0_i32_333
  let v658 : BitVec 32 := Scalar.extui v657
  let v659 : BitVec 32 := Scalar.subi v656 v658
  let c4_i32_331 : BitVec 32 := 4#32
  let c0_i32_334 : BitVec 32 := 0#32
  let v660 : BitVec 1 := Scalar.cmpi .sgt c4_i32_331 c0_i32_334
  let v661 : BitVec 32 := Scalar.extui v660
  let c0_i32_335 : BitVec 32 := 0#32
  let v662 : BitVec 1 := Scalar.cmpi .slt c4_i32_331 c0_i32_335
  let v663 : BitVec 32 := Scalar.extui v662
  let v664 : BitVec 32 := Scalar.subi v661 v663
  let v665 : BitVec 1 := Scalar.cmpi .ne v659 v664
  let v666 : BitVec 32 := Scalar.remsi v653 c4_i32_331
  let c0_i32_336 : BitVec 32 := 0#32
  let v667 : BitVec 1 := Scalar.cmpi .ne v666 c0_i32_336
  let v668 : BitVec 1 := Scalar.andi v665 v667
  let v654 : BitVec 32 := Scalar.divsi v653 c4_i32_331
  let c1_i32_337 : BitVec 32 := 1#32
  let v669 : BitVec 32 := Scalar.subi v654 c1_i32_337
  let v670 : BitVec 32 := Scalar.select v668 v669 v654
  let v674 : BitVec 1 := Scalar.cmpi .eq v652 v670
  let c2_i32_339 : BitVec 32 := 2#32
  let c0_i32_340 : BitVec 32 := 0#32
  let v675 : BitVec 1 := Scalar.cmpi .eq c2_i32_339 c0_i32_340
  let c1_i32_341 : BitVec 32 := 1#32
  let v676 : BitVec 32 := Scalar.select v675 c1_i32_341 c2_i32_339
  let v677 : BitVec 32 := Scalar.remsi v670 v676
  let c0_i32_343 : BitVec 32 := 0#32
  let v679 : BitVec 1 := Scalar.cmpi .slt v677 c0_i32_343
  let c0_i32_344 : BitVec 32 := 0#32
  let v680 : BitVec 1 := Scalar.cmpi .slt v676 c0_i32_344
  let v681 : BitVec 1 := Scalar.xori v679 v680
  let c0_i32_342 : BitVec 32 := 0#32
  let v678 : BitVec 1 := Scalar.cmpi .ne v677 c0_i32_342
  let v682 : BitVec 1 := Scalar.andi v681 v678
  let v683 : BitVec 32 := Scalar.addi v677 v676
  let v684 : BitVec 32 := Scalar.select v682 v683 v677
  let c0_i32_345 : BitVec 32 := 0#32
  let v685 : BitVec 1 := Scalar.cmpi .eq v684 c0_i32_345
  let v686 : BitVec 1 := Scalar.andi v674 v685
  let v700 : BitVec 32 := Scalar.extui v686
  let v702 : Index := Scalar.indexCast v700
  let c0_354 : Index := 0#32
  let c0_355 : Index := 0#32
  ![v701.toNat, v702.toNat, 0, 0]
def k0_off5 (k0_t1 : Fin k0_t1_loop.trips) (k0_t2 : Fin (k0_t2_loop k0_t1).trips) (c2_i32_367 : BitVec 32) : Fin 4 → Nat :=
  let c0_376 : Index := 0#32
  let c2_i32_329 : BitVec 32 := 2#32
  let c2_i32_328 : BitVec 32 := 2#32
  let c0_i32_134 : BitVec 32 := 0#32
  let c1_i32_136 : BitVec 32 := 1#32
  let arg14 : BitVec 32 := Scf.iv c0_i32_134 c1_i32_136 k0_t2
  let v651 : BitVec 32 := Scalar.muli c2_i32_328 arg14
  let v652 : BitVec 32 := Scalar.addi c2_i32_329 v651
  let v723 : BitVec 32 := Scalar.subi v652 c2_i32_367
  let c0_i32_99 : BitVec 32 := 0#32
  let c1_i32_100 : BitVec 32 := 1#32
  let arg10 : BitVec 32 := Scf.iv c0_i32_99 c1_i32_100 k0_t1
  let c4_i32_368 : BitVec 32 := 4#32
  let v726 : BitVec 32 := Scalar.muli arg10 c4_i32_368
  let c0_i32_370 : BitVec 32 := 0#32
  let v728 : BitVec 1 := Scalar.cmpi .sgt v726 c0_i32_370
  let v729 : BitVec 32 := Scalar.extui v728
  let c0_i32_371 : BitVec 32 := 0#32
  let v730 : BitVec 1 := Scalar.cmpi .slt v726 c0_i32_371
  let v731 : BitVec 32 := Scalar.extui v730
  let v732 : BitVec 32 := Scalar.subi v729 v731
  let c4_i32_369 : BitVec 32 := 4#32
  let c0_i32_372 : BitVec 32 := 0#32
  let v733 : BitVec 1 := Scalar.cmpi .sgt c4_i32_369 c0_i32_372
  let v734 : BitVec 32 := Scalar.extui v733
  let c0_i32_373 : BitVec 32 := 0#32
  let v735 : BitVec 1 := Scalar.cmpi .slt c4_i32_369 c0_i32_373
  let v736 : BitVec 32 := Scalar.extui v735
  let v737 : BitVec 32 := Scalar.subi v734 v736
  let v738 : BitVec 1 := Scalar.cmpi .ne v732 v737
  let v739 : BitVec 32 := Scalar.remsi v726 c4_i32_369
  let c0_i32_374 : BitVec 32 := 0#32
  let v740 : BitVec 1 := Scalar.cmpi .ne v739 c0_i32_374
  let v741 : BitVec 1 := Scalar.andi v738 v740
  let v727 : BitVec 32 := Scalar.divsi v726 c4_i32_369
  let c1_i32_375 : BitVec 32 := 1#32
  let v742 : BitVec 32 := Scalar.subi v727 c1_i32_375
  let v743 : BitVec 32 := Scalar.select v741 v742 v727
  let v744 : BitVec 32 := Scalar.minsi v723 v743
  let v745 : Index := Scalar.indexCast v744
  let c0_377 : Index := 0#32
  let c0_378 : Index := 0#32
  ![0, v745.toNat, 0, 0]
def k0_mult6 (k0_t1 : Fin k0_t1_loop.trips) (k0_t2 : Fin (k0_t2_loop k0_t1).trips) : BitVec 32 :=
  let c2_i32_329 : BitVec 32 := 2#32
  let c2_i32_328 : BitVec 32 := 2#32
  let c0_i32_134 : BitVec 32 := 0#32
  let c1_i32_136 : BitVec 32 := 1#32
  let arg14 : BitVec 32 := Scf.iv c0_i32_134 c1_i32_136 k0_t2
  let v651 : BitVec 32 := Scalar.muli c2_i32_328 arg14
  let v652 : BitVec 32 := Scalar.addi c2_i32_329 v651
  let c1_i32_383 : BitVec 32 := 1#32
  let v752 : BitVec 32 := Scalar.addi v652 c1_i32_383
  let c0_i32_99 : BitVec 32 := 0#32
  let c1_i32_100 : BitVec 32 := 1#32
  let arg10 : BitVec 32 := Scf.iv c0_i32_99 c1_i32_100 k0_t1
  let c4_i32_384 : BitVec 32 := 4#32
  let v753 : BitVec 32 := Scalar.muli arg10 c4_i32_384
  let c0_i32_386 : BitVec 32 := 0#32
  let v755 : BitVec 1 := Scalar.cmpi .sgt v753 c0_i32_386
  let v756 : BitVec 32 := Scalar.extui v755
  let c0_i32_387 : BitVec 32 := 0#32
  let v757 : BitVec 1 := Scalar.cmpi .slt v753 c0_i32_387
  let v758 : BitVec 32 := Scalar.extui v757
  let v759 : BitVec 32 := Scalar.subi v756 v758
  let c4_i32_385 : BitVec 32 := 4#32
  let c0_i32_388 : BitVec 32 := 0#32
  let v760 : BitVec 1 := Scalar.cmpi .sgt c4_i32_385 c0_i32_388
  let v761 : BitVec 32 := Scalar.extui v760
  let c0_i32_389 : BitVec 32 := 0#32
  let v762 : BitVec 1 := Scalar.cmpi .slt c4_i32_385 c0_i32_389
  let v763 : BitVec 32 := Scalar.extui v762
  let v764 : BitVec 32 := Scalar.subi v761 v763
  let v765 : BitVec 1 := Scalar.cmpi .ne v759 v764
  let v766 : BitVec 32 := Scalar.remsi v753 c4_i32_385
  let c0_i32_390 : BitVec 32 := 0#32
  let v767 : BitVec 1 := Scalar.cmpi .ne v766 c0_i32_390
  let v768 : BitVec 1 := Scalar.andi v765 v767
  let v754 : BitVec 32 := Scalar.divsi v753 c4_i32_385
  let c1_i32_391 : BitVec 32 := 1#32
  let v769 : BitVec 32 := Scalar.subi v754 c1_i32_391
  let v770 : BitVec 32 := Scalar.select v768 v769 v754
  let v771 : BitVec 32 := Scalar.minsi v752 v770
  let c1024_i32_392 : BitVec 32 := 1024#32
  let v772 : BitVec 32 := Scalar.muli v771 c1024_i32_392
  v772
def k0_off6 (k0_t1 : Fin k0_t1_loop.trips) (k0_t2 : Fin (k0_t2_loop k0_t1).trips) : Fin 3 → Nat :=
  let c0_400 : Index := 0#32
  let c2_i32_329 : BitVec 32 := 2#32
  let c2_i32_328 : BitVec 32 := 2#32
  let c0_i32_134 : BitVec 32 := 0#32
  let c1_i32_136 : BitVec 32 := 1#32
  let arg14 : BitVec 32 := Scf.iv c0_i32_134 c1_i32_136 k0_t2
  let v651 : BitVec 32 := Scalar.muli c2_i32_328 arg14
  let v652 : BitVec 32 := Scalar.addi c2_i32_329 v651
  let c1_i32_383 : BitVec 32 := 1#32
  let v752 : BitVec 32 := Scalar.addi v652 c1_i32_383
  let c0_i32_99 : BitVec 32 := 0#32
  let c1_i32_100 : BitVec 32 := 1#32
  let arg10 : BitVec 32 := Scf.iv c0_i32_99 c1_i32_100 k0_t1
  let c4_i32_384 : BitVec 32 := 4#32
  let v753 : BitVec 32 := Scalar.muli arg10 c4_i32_384
  let c0_i32_386 : BitVec 32 := 0#32
  let v755 : BitVec 1 := Scalar.cmpi .sgt v753 c0_i32_386
  let v756 : BitVec 32 := Scalar.extui v755
  let c0_i32_387 : BitVec 32 := 0#32
  let v757 : BitVec 1 := Scalar.cmpi .slt v753 c0_i32_387
  let v758 : BitVec 32 := Scalar.extui v757
  let v759 : BitVec 32 := Scalar.subi v756 v758
  let c4_i32_385 : BitVec 32 := 4#32
  let c0_i32_388 : BitVec 32 := 0#32
  let v760 : BitVec 1 := Scalar.cmpi .sgt c4_i32_385 c0_i32_388
  let v761 : BitVec 32 := Scalar.extui v760
  let c0_i32_389 : BitVec 32 := 0#32
  let v762 : BitVec 1 := Scalar.cmpi .slt c4_i32_385 c0_i32_389
  let v763 : BitVec 32 := Scalar.extui v762
  let v764 : BitVec 32 := Scalar.subi v761 v763
  let v765 : BitVec 1 := Scalar.cmpi .ne v759 v764
  let v766 : BitVec 32 := Scalar.remsi v753 c4_i32_385
  let c0_i32_390 : BitVec 32 := 0#32
  let v767 : BitVec 1 := Scalar.cmpi .ne v766 c0_i32_390
  let v768 : BitVec 1 := Scalar.andi v765 v767
  let v754 : BitVec 32 := Scalar.divsi v753 c4_i32_385
  let c1_i32_391 : BitVec 32 := 1#32
  let v769 : BitVec 32 := Scalar.subi v754 c1_i32_391
  let v770 : BitVec 32 := Scalar.select v768 v769 v754
  let v771 : BitVec 32 := Scalar.minsi v752 v770
  let c1024_i32_392 : BitVec 32 := 1024#32
  let v772 : BitVec 32 := Scalar.muli v771 c1024_i32_392
  let v773 : BitVec 32 := v772
  let v787 : Index := Scalar.indexCast v773
  let c0_401 : Index := 0#32
  ![0, v787.toNat, 0]
def k0_off7 (k0_t1 : Fin k0_t1_loop.trips) (k0_t2 : Fin (k0_t2_loop k0_t1).trips) : Fin 4 → Nat :=
  let c0_i32_99 : BitVec 32 := 0#32
  let c1_i32_100 : BitVec 32 := 1#32
  let arg10 : BitVec 32 := Scf.iv c0_i32_99 c1_i32_100 k0_t1
  let c2_i32_402 : BitVec 32 := 2#32
  let c0_i32_403 : BitVec 32 := 0#32
  let v790 : BitVec 1 := Scalar.cmpi .eq c2_i32_402 c0_i32_403
  let c1_i32_404 : BitVec 32 := 1#32
  let v791 : BitVec 32 := Scalar.select v790 c1_i32_404 c2_i32_402
  let v792 : BitVec 32 := Scalar.remsi arg10 v791
  let c0_i32_406 : BitVec 32 := 0#32
  let v794 : BitVec 1 := Scalar.cmpi .slt v792 c0_i32_406
  let c0_i32_407 : BitVec 32 := 0#32
  let v795 : BitVec 1 := Scalar.cmpi .slt v791 c0_i32_407
  let v796 : BitVec 1 := Scalar.xori v794 v795
  let c0_i32_405 : BitVec 32 := 0#32
  let v793 : BitVec 1 := Scalar.cmpi .ne v792 c0_i32_405
  let v797 : BitVec 1 := Scalar.andi v796 v793
  let v798 : BitVec 32 := Scalar.addi v792 v791
  let v799 : BitVec 32 := Scalar.select v797 v798 v792
  let v801 : Index := Scalar.indexCast v799
  let c2_i32_329 : BitVec 32 := 2#32
  let c2_i32_328 : BitVec 32 := 2#32
  let c0_i32_134 : BitVec 32 := 0#32
  let c1_i32_136 : BitVec 32 := 1#32
  let arg14 : BitVec 32 := Scf.iv c0_i32_134 c1_i32_136 k0_t2
  let v651 : BitVec 32 := Scalar.muli c2_i32_328 arg14
  let v652 : BitVec 32 := Scalar.addi c2_i32_329 v651
  let c1_i32_383 : BitVec 32 := 1#32
  let v752 : BitVec 32 := Scalar.addi v652 c1_i32_383
  let c4_i32_384 : BitVec 32 := 4#32
  let v753 : BitVec 32 := Scalar.muli arg10 c4_i32_384
  let c0_i32_386 : BitVec 32 := 0#32
  let v755 : BitVec 1 := Scalar.cmpi .sgt v753 c0_i32_386
  let v756 : BitVec 32 := Scalar.extui v755
  let c0_i32_387 : BitVec 32 := 0#32
  let v757 : BitVec 1 := Scalar.cmpi .slt v753 c0_i32_387
  let v758 : BitVec 32 := Scalar.extui v757
  let v759 : BitVec 32 := Scalar.subi v756 v758
  let c4_i32_385 : BitVec 32 := 4#32
  let c0_i32_388 : BitVec 32 := 0#32
  let v760 : BitVec 1 := Scalar.cmpi .sgt c4_i32_385 c0_i32_388
  let v761 : BitVec 32 := Scalar.extui v760
  let c0_i32_389 : BitVec 32 := 0#32
  let v762 : BitVec 1 := Scalar.cmpi .slt c4_i32_385 c0_i32_389
  let v763 : BitVec 32 := Scalar.extui v762
  let v764 : BitVec 32 := Scalar.subi v761 v763
  let v765 : BitVec 1 := Scalar.cmpi .ne v759 v764
  let v766 : BitVec 32 := Scalar.remsi v753 c4_i32_385
  let c0_i32_390 : BitVec 32 := 0#32
  let v767 : BitVec 1 := Scalar.cmpi .ne v766 c0_i32_390
  let v768 : BitVec 1 := Scalar.andi v765 v767
  let v754 : BitVec 32 := Scalar.divsi v753 c4_i32_385
  let c1_i32_391 : BitVec 32 := 1#32
  let v769 : BitVec 32 := Scalar.subi v754 c1_i32_391
  let v770 : BitVec 32 := Scalar.select v768 v769 v754
  let v774 : BitVec 1 := Scalar.cmpi .eq v752 v770
  let c2_i32_393 : BitVec 32 := 2#32
  let c0_i32_394 : BitVec 32 := 0#32
  let v775 : BitVec 1 := Scalar.cmpi .eq c2_i32_393 c0_i32_394
  let c1_i32_395 : BitVec 32 := 1#32
  let v776 : BitVec 32 := Scalar.select v775 c1_i32_395 c2_i32_393
  let v777 : BitVec 32 := Scalar.remsi v770 v776
  let c0_i32_397 : BitVec 32 := 0#32
  let v779 : BitVec 1 := Scalar.cmpi .slt v777 c0_i32_397
  let c0_i32_398 : BitVec 32 := 0#32
  let v780 : BitVec 1 := Scalar.cmpi .slt v776 c0_i32_398
  let v781 : BitVec 1 := Scalar.xori v779 v780
  let c0_i32_396 : BitVec 32 := 0#32
  let v778 : BitVec 1 := Scalar.cmpi .ne v777 c0_i32_396
  let v782 : BitVec 1 := Scalar.andi v781 v778
  let v783 : BitVec 32 := Scalar.addi v777 v776
  let v784 : BitVec 32 := Scalar.select v782 v783 v777
  let c0_i32_399 : BitVec 32 := 0#32
  let v785 : BitVec 1 := Scalar.cmpi .eq v784 c0_i32_399
  let v786 : BitVec 1 := Scalar.andi v774 v785
  let v800 : BitVec 32 := Scalar.extui v786
  let v802 : Index := Scalar.indexCast v800
  let c0_408 : Index := 0#32
  let c0_409 : Index := 0#32
  ![v801.toNat, v802.toNat, 0, 0]
@[reducible] def k0_t3_loop (k0_t1 : Fin k0_t1_loop.trips) : Scf.Loop 32 :=
  let c0_i32_134 : BitVec 32 := 0#32
  let c0_i32_99 : BitVec 32 := 0#32
  let c1_i32_100 : BitVec 32 := 1#32
  let arg10 : BitVec 32 := Scf.iv c0_i32_99 c1_i32_100 k0_t1
  let c4_i32_102 : BitVec 32 := 4#32
  let v219 : BitVec 32 := Scalar.muli arg10 c4_i32_102
  let c0_i32_104 : BitVec 32 := 0#32
  let v221 : BitVec 1 := Scalar.cmpi .sgt v219 c0_i32_104
  let v222 : BitVec 32 := Scalar.extui v221
  let c0_i32_105 : BitVec 32 := 0#32
  let v223 : BitVec 1 := Scalar.cmpi .slt v219 c0_i32_105
  let v224 : BitVec 32 := Scalar.extui v223
  let v225 : BitVec 32 := Scalar.subi v222 v224
  let c4_i32_103 : BitVec 32 := 4#32
  let c0_i32_106 : BitVec 32 := 0#32
  let v226 : BitVec 1 := Scalar.cmpi .sgt c4_i32_103 c0_i32_106
  let v227 : BitVec 32 := Scalar.extui v226
  let c0_i32_107 : BitVec 32 := 0#32
  let v228 : BitVec 1 := Scalar.cmpi .slt c4_i32_103 c0_i32_107
  let v229 : BitVec 32 := Scalar.extui v228
  let v230 : BitVec 32 := Scalar.subi v227 v229
  let v231 : BitVec 1 := Scalar.cmpi .ne v225 v230
  let v232 : BitVec 32 := Scalar.remsi v219 c4_i32_103
  let c0_i32_108 : BitVec 32 := 0#32
  let v233 : BitVec 1 := Scalar.cmpi .ne v232 c0_i32_108
  let v234 : BitVec 1 := Scalar.andi v231 v233
  let v220 : BitVec 32 := Scalar.divsi v219 c4_i32_103
  let c1_i32_109 : BitVec 32 := 1#32
  let v235 : BitVec 32 := Scalar.subi v220 c1_i32_109
  let v236 : BitVec 32 := Scalar.select v234 v235 v220
  let c1_i32_123 : BitVec 32 := 1#32
  let c4_i32_110 : BitVec 32 := 4#32
  let v237 : BitVec 32 := Scalar.muli arg10 c4_i32_110
  let c0_i32_112 : BitVec 32 := 0#32
  let v239 : BitVec 1 := Scalar.cmpi .sgt v237 c0_i32_112
  let v240 : BitVec 32 := Scalar.extui v239
  let c0_i32_113 : BitVec 32 := 0#32
  let v241 : BitVec 1 := Scalar.cmpi .slt v237 c0_i32_113
  let v242 : BitVec 32 := Scalar.extui v241
  let v243 : BitVec 32 := Scalar.subi v240 v242
  let c4_i32_111 : BitVec 32 := 4#32
  let c0_i32_114 : BitVec 32 := 0#32
  let v244 : BitVec 1 := Scalar.cmpi .sgt c4_i32_111 c0_i32_114
  let v245 : BitVec 32 := Scalar.extui v244
  let c0_i32_115 : BitVec 32 := 0#32
  let v246 : BitVec 1 := Scalar.cmpi .slt c4_i32_111 c0_i32_115
  let v247 : BitVec 32 := Scalar.extui v246
  let v248 : BitVec 32 := Scalar.subi v245 v247
  let v249 : BitVec 1 := Scalar.cmpi .ne v243 v248
  let v250 : BitVec 32 := Scalar.remsi v237 c4_i32_111
  let c0_i32_116 : BitVec 32 := 0#32
  let v251 : BitVec 1 := Scalar.cmpi .ne v250 c0_i32_116
  let v252 : BitVec 1 := Scalar.andi v249 v251
  let v238 : BitVec 32 := Scalar.divsi v237 c4_i32_111
  let c1_i32_117 : BitVec 32 := 1#32
  let v253 : BitVec 32 := Scalar.subi v238 c1_i32_117
  let v254 : BitVec 32 := Scalar.select v252 v253 v238
  let c2_i32 : BitVec 32 := 2#32
  let c0_i32_118 : BitVec 32 := 0#32
  let v255 : BitVec 1 := Scalar.cmpi .eq c2_i32 c0_i32_118
  let c1_i32_119 : BitVec 32 := 1#32
  let v256 : BitVec 32 := Scalar.select v255 c1_i32_119 c2_i32
  let v257 : BitVec 32 := Scalar.remsi v254 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let v265 : BitVec 32 := Scalar.subi c1_i32_123 v264
  let v266 : BitVec 32 := Scalar.addi v236 v265
  let c1_i32_124 : BitVec 32 := 1#32
  let v267 : BitVec 32 := Scalar.addi v266 c1_i32_124
  let c2_i32_126 : BitVec 32 := 2#32
  let v269 : BitVec 32 := Scalar.subi v267 c2_i32_126
  let c0_i32_128 : BitVec 32 := 0#32
  let v271 : BitVec 1 := Scalar.cmpi .sgt v269 c0_i32_128
  let v272 : BitVec 32 := Scalar.extui v271
  let c0_i32_129 : BitVec 32 := 0#32
  let v273 : BitVec 1 := Scalar.cmpi .slt v269 c0_i32_129
  let v274 : BitVec 32 := Scalar.extui v273
  let v275 : BitVec 32 := Scalar.subi v272 v274
  let c2_i32_127 : BitVec 32 := 2#32
  let c0_i32_130 : BitVec 32 := 0#32
  let v276 : BitVec 1 := Scalar.cmpi .sgt c2_i32_127 c0_i32_130
  let v277 : BitVec 32 := Scalar.extui v276
  let c0_i32_131 : BitVec 32 := 0#32
  let v278 : BitVec 1 := Scalar.cmpi .slt c2_i32_127 c0_i32_131
  let v279 : BitVec 32 := Scalar.extui v278
  let v280 : BitVec 32 := Scalar.subi v277 v279
  let v281 : BitVec 1 := Scalar.cmpi .ne v275 v280
  let v282 : BitVec 32 := Scalar.remsi v269 c2_i32_127
  let c0_i32_132 : BitVec 32 := 0#32
  let v283 : BitVec 1 := Scalar.cmpi .ne v282 c0_i32_132
  let v284 : BitVec 1 := Scalar.andi v281 v283
  let v270 : BitVec 32 := Scalar.divsi v269 c2_i32_127
  let c1_i32_133 : BitVec 32 := 1#32
  let v285 : BitVec 32 := Scalar.subi v270 c1_i32_133
  let v286 : BitVec 32 := Scalar.select v284 v285 v270
  let v287 : BitVec 32 := Scalar.subi v286 c0_i32_134
  let c1_i32_135 : BitVec 32 := 1#32
  let v289 : BitVec 32 := Scalar.divsi v287 c1_i32_135
  let v290 : BitVec 32 := Scalar.muli v289 c1_i32_135
  let v291 : BitVec 32 := Scalar.addi c0_i32_134 v290
  let v288 : BitVec 32 := Scalar.addi c0_i32_134 v287
  let c1_i32_137 : BitVec 32 := 1#32
  ⟨v291, v288, c1_i32_137⟩
def k0_mult7 (k0_t1 : Fin k0_t1_loop.trips) (k0_t3 : Fin (k0_t3_loop k0_t1).trips) : BitVec 32 :=
  let c2_i32_329 : BitVec 32 := 2#32
  let c2_i32_328 : BitVec 32 := 2#32
  let c0_i32_134 : BitVec 32 := 0#32
  let c0_i32_99 : BitVec 32 := 0#32
  let c1_i32_100 : BitVec 32 := 1#32
  let arg10 : BitVec 32 := Scf.iv c0_i32_99 c1_i32_100 k0_t1
  let c4_i32_102 : BitVec 32 := 4#32
  let v219 : BitVec 32 := Scalar.muli arg10 c4_i32_102
  let c0_i32_104 : BitVec 32 := 0#32
  let v221 : BitVec 1 := Scalar.cmpi .sgt v219 c0_i32_104
  let v222 : BitVec 32 := Scalar.extui v221
  let c0_i32_105 : BitVec 32 := 0#32
  let v223 : BitVec 1 := Scalar.cmpi .slt v219 c0_i32_105
  let v224 : BitVec 32 := Scalar.extui v223
  let v225 : BitVec 32 := Scalar.subi v222 v224
  let c4_i32_103 : BitVec 32 := 4#32
  let c0_i32_106 : BitVec 32 := 0#32
  let v226 : BitVec 1 := Scalar.cmpi .sgt c4_i32_103 c0_i32_106
  let v227 : BitVec 32 := Scalar.extui v226
  let c0_i32_107 : BitVec 32 := 0#32
  let v228 : BitVec 1 := Scalar.cmpi .slt c4_i32_103 c0_i32_107
  let v229 : BitVec 32 := Scalar.extui v228
  let v230 : BitVec 32 := Scalar.subi v227 v229
  let v231 : BitVec 1 := Scalar.cmpi .ne v225 v230
  let v232 : BitVec 32 := Scalar.remsi v219 c4_i32_103
  let c0_i32_108 : BitVec 32 := 0#32
  let v233 : BitVec 1 := Scalar.cmpi .ne v232 c0_i32_108
  let v234 : BitVec 1 := Scalar.andi v231 v233
  let v220 : BitVec 32 := Scalar.divsi v219 c4_i32_103
  let c1_i32_109 : BitVec 32 := 1#32
  let v235 : BitVec 32 := Scalar.subi v220 c1_i32_109
  let v236 : BitVec 32 := Scalar.select v234 v235 v220
  let c1_i32_123 : BitVec 32 := 1#32
  let c4_i32_110 : BitVec 32 := 4#32
  let v237 : BitVec 32 := Scalar.muli arg10 c4_i32_110
  let c0_i32_112 : BitVec 32 := 0#32
  let v239 : BitVec 1 := Scalar.cmpi .sgt v237 c0_i32_112
  let v240 : BitVec 32 := Scalar.extui v239
  let c0_i32_113 : BitVec 32 := 0#32
  let v241 : BitVec 1 := Scalar.cmpi .slt v237 c0_i32_113
  let v242 : BitVec 32 := Scalar.extui v241
  let v243 : BitVec 32 := Scalar.subi v240 v242
  let c4_i32_111 : BitVec 32 := 4#32
  let c0_i32_114 : BitVec 32 := 0#32
  let v244 : BitVec 1 := Scalar.cmpi .sgt c4_i32_111 c0_i32_114
  let v245 : BitVec 32 := Scalar.extui v244
  let c0_i32_115 : BitVec 32 := 0#32
  let v246 : BitVec 1 := Scalar.cmpi .slt c4_i32_111 c0_i32_115
  let v247 : BitVec 32 := Scalar.extui v246
  let v248 : BitVec 32 := Scalar.subi v245 v247
  let v249 : BitVec 1 := Scalar.cmpi .ne v243 v248
  let v250 : BitVec 32 := Scalar.remsi v237 c4_i32_111
  let c0_i32_116 : BitVec 32 := 0#32
  let v251 : BitVec 1 := Scalar.cmpi .ne v250 c0_i32_116
  let v252 : BitVec 1 := Scalar.andi v249 v251
  let v238 : BitVec 32 := Scalar.divsi v237 c4_i32_111
  let c1_i32_117 : BitVec 32 := 1#32
  let v253 : BitVec 32 := Scalar.subi v238 c1_i32_117
  let v254 : BitVec 32 := Scalar.select v252 v253 v238
  let c2_i32 : BitVec 32 := 2#32
  let c0_i32_118 : BitVec 32 := 0#32
  let v255 : BitVec 1 := Scalar.cmpi .eq c2_i32 c0_i32_118
  let c1_i32_119 : BitVec 32 := 1#32
  let v256 : BitVec 32 := Scalar.select v255 c1_i32_119 c2_i32
  let v257 : BitVec 32 := Scalar.remsi v254 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let v265 : BitVec 32 := Scalar.subi c1_i32_123 v264
  let v266 : BitVec 32 := Scalar.addi v236 v265
  let c1_i32_124 : BitVec 32 := 1#32
  let v267 : BitVec 32 := Scalar.addi v266 c1_i32_124
  let c2_i32_126 : BitVec 32 := 2#32
  let v269 : BitVec 32 := Scalar.subi v267 c2_i32_126
  let c0_i32_128 : BitVec 32 := 0#32
  let v271 : BitVec 1 := Scalar.cmpi .sgt v269 c0_i32_128
  let v272 : BitVec 32 := Scalar.extui v271
  let c0_i32_129 : BitVec 32 := 0#32
  let v273 : BitVec 1 := Scalar.cmpi .slt v269 c0_i32_129
  let v274 : BitVec 32 := Scalar.extui v273
  let v275 : BitVec 32 := Scalar.subi v272 v274
  let c2_i32_127 : BitVec 32 := 2#32
  let c0_i32_130 : BitVec 32 := 0#32
  let v276 : BitVec 1 := Scalar.cmpi .sgt c2_i32_127 c0_i32_130
  let v277 : BitVec 32 := Scalar.extui v276
  let c0_i32_131 : BitVec 32 := 0#32
  let v278 : BitVec 1 := Scalar.cmpi .slt c2_i32_127 c0_i32_131
  let v279 : BitVec 32 := Scalar.extui v278
  let v280 : BitVec 32 := Scalar.subi v277 v279
  let v281 : BitVec 1 := Scalar.cmpi .ne v275 v280
  let v282 : BitVec 32 := Scalar.remsi v269 c2_i32_127
  let c0_i32_132 : BitVec 32 := 0#32
  let v283 : BitVec 1 := Scalar.cmpi .ne v282 c0_i32_132
  let v284 : BitVec 1 := Scalar.andi v281 v283
  let v270 : BitVec 32 := Scalar.divsi v269 c2_i32_127
  let c1_i32_133 : BitVec 32 := 1#32
  let v285 : BitVec 32 := Scalar.subi v270 c1_i32_133
  let v286 : BitVec 32 := Scalar.select v284 v285 v270
  let v287 : BitVec 32 := Scalar.subi v286 c0_i32_134
  let c1_i32_135 : BitVec 32 := 1#32
  let v289 : BitVec 32 := Scalar.divsi v287 c1_i32_135
  let v290 : BitVec 32 := Scalar.muli v289 c1_i32_135
  let v291 : BitVec 32 := Scalar.addi c0_i32_134 v290
  let c1_i32_137 : BitVec 32 := 1#32
  let arg14 : BitVec 32 := Scf.iv v291 c1_i32_137 k0_t3
  let v651 : BitVec 32 := Scalar.muli c2_i32_328 arg14
  let v652 : BitVec 32 := Scalar.addi c2_i32_329 v651
  let c4_i32_330 : BitVec 32 := 4#32
  let v653 : BitVec 32 := Scalar.muli arg10 c4_i32_330
  let c0_i32_332 : BitVec 32 := 0#32
  let v655 : BitVec 1 := Scalar.cmpi .sgt v653 c0_i32_332
  let v656 : BitVec 32 := Scalar.extui v655
  let c0_i32_333 : BitVec 32 := 0#32
  let v657 : BitVec 1 := Scalar.cmpi .slt v653 c0_i32_333
  let v658 : BitVec 32 := Scalar.extui v657
  let v659 : BitVec 32 := Scalar.subi v656 v658
  let c4_i32_331 : BitVec 32 := 4#32
  let c0_i32_334 : BitVec 32 := 0#32
  let v660 : BitVec 1 := Scalar.cmpi .sgt c4_i32_331 c0_i32_334
  let v661 : BitVec 32 := Scalar.extui v660
  let c0_i32_335 : BitVec 32 := 0#32
  let v662 : BitVec 1 := Scalar.cmpi .slt c4_i32_331 c0_i32_335
  let v663 : BitVec 32 := Scalar.extui v662
  let v664 : BitVec 32 := Scalar.subi v661 v663
  let v665 : BitVec 1 := Scalar.cmpi .ne v659 v664
  let v666 : BitVec 32 := Scalar.remsi v653 c4_i32_331
  let c0_i32_336 : BitVec 32 := 0#32
  let v667 : BitVec 1 := Scalar.cmpi .ne v666 c0_i32_336
  let v668 : BitVec 1 := Scalar.andi v665 v667
  let v654 : BitVec 32 := Scalar.divsi v653 c4_i32_331
  let c1_i32_337 : BitVec 32 := 1#32
  let v669 : BitVec 32 := Scalar.subi v654 c1_i32_337
  let v670 : BitVec 32 := Scalar.select v668 v669 v654
  let v671 : BitVec 32 := Scalar.minsi v652 v670
  let c1024_i32_338 : BitVec 32 := 1024#32
  let v672 : BitVec 32 := Scalar.muli v671 c1024_i32_338
  v672
def k0_off8 (k0_t1 : Fin k0_t1_loop.trips) (k0_t3 : Fin (k0_t3_loop k0_t1).trips) : Fin 3 → Nat :=
  let c0_346 : Index := 0#32
  let c2_i32_329 : BitVec 32 := 2#32
  let c2_i32_328 : BitVec 32 := 2#32
  let c0_i32_134 : BitVec 32 := 0#32
  let c0_i32_99 : BitVec 32 := 0#32
  let c1_i32_100 : BitVec 32 := 1#32
  let arg10 : BitVec 32 := Scf.iv c0_i32_99 c1_i32_100 k0_t1
  let c4_i32_102 : BitVec 32 := 4#32
  let v219 : BitVec 32 := Scalar.muli arg10 c4_i32_102
  let c0_i32_104 : BitVec 32 := 0#32
  let v221 : BitVec 1 := Scalar.cmpi .sgt v219 c0_i32_104
  let v222 : BitVec 32 := Scalar.extui v221
  let c0_i32_105 : BitVec 32 := 0#32
  let v223 : BitVec 1 := Scalar.cmpi .slt v219 c0_i32_105
  let v224 : BitVec 32 := Scalar.extui v223
  let v225 : BitVec 32 := Scalar.subi v222 v224
  let c4_i32_103 : BitVec 32 := 4#32
  let c0_i32_106 : BitVec 32 := 0#32
  let v226 : BitVec 1 := Scalar.cmpi .sgt c4_i32_103 c0_i32_106
  let v227 : BitVec 32 := Scalar.extui v226
  let c0_i32_107 : BitVec 32 := 0#32
  let v228 : BitVec 1 := Scalar.cmpi .slt c4_i32_103 c0_i32_107
  let v229 : BitVec 32 := Scalar.extui v228
  let v230 : BitVec 32 := Scalar.subi v227 v229
  let v231 : BitVec 1 := Scalar.cmpi .ne v225 v230
  let v232 : BitVec 32 := Scalar.remsi v219 c4_i32_103
  let c0_i32_108 : BitVec 32 := 0#32
  let v233 : BitVec 1 := Scalar.cmpi .ne v232 c0_i32_108
  let v234 : BitVec 1 := Scalar.andi v231 v233
  let v220 : BitVec 32 := Scalar.divsi v219 c4_i32_103
  let c1_i32_109 : BitVec 32 := 1#32
  let v235 : BitVec 32 := Scalar.subi v220 c1_i32_109
  let v236 : BitVec 32 := Scalar.select v234 v235 v220
  let c1_i32_123 : BitVec 32 := 1#32
  let c4_i32_110 : BitVec 32 := 4#32
  let v237 : BitVec 32 := Scalar.muli arg10 c4_i32_110
  let c0_i32_112 : BitVec 32 := 0#32
  let v239 : BitVec 1 := Scalar.cmpi .sgt v237 c0_i32_112
  let v240 : BitVec 32 := Scalar.extui v239
  let c0_i32_113 : BitVec 32 := 0#32
  let v241 : BitVec 1 := Scalar.cmpi .slt v237 c0_i32_113
  let v242 : BitVec 32 := Scalar.extui v241
  let v243 : BitVec 32 := Scalar.subi v240 v242
  let c4_i32_111 : BitVec 32 := 4#32
  let c0_i32_114 : BitVec 32 := 0#32
  let v244 : BitVec 1 := Scalar.cmpi .sgt c4_i32_111 c0_i32_114
  let v245 : BitVec 32 := Scalar.extui v244
  let c0_i32_115 : BitVec 32 := 0#32
  let v246 : BitVec 1 := Scalar.cmpi .slt c4_i32_111 c0_i32_115
  let v247 : BitVec 32 := Scalar.extui v246
  let v248 : BitVec 32 := Scalar.subi v245 v247
  let v249 : BitVec 1 := Scalar.cmpi .ne v243 v248
  let v250 : BitVec 32 := Scalar.remsi v237 c4_i32_111
  let c0_i32_116 : BitVec 32 := 0#32
  let v251 : BitVec 1 := Scalar.cmpi .ne v250 c0_i32_116
  let v252 : BitVec 1 := Scalar.andi v249 v251
  let v238 : BitVec 32 := Scalar.divsi v237 c4_i32_111
  let c1_i32_117 : BitVec 32 := 1#32
  let v253 : BitVec 32 := Scalar.subi v238 c1_i32_117
  let v254 : BitVec 32 := Scalar.select v252 v253 v238
  let c2_i32 : BitVec 32 := 2#32
  let c0_i32_118 : BitVec 32 := 0#32
  let v255 : BitVec 1 := Scalar.cmpi .eq c2_i32 c0_i32_118
  let c1_i32_119 : BitVec 32 := 1#32
  let v256 : BitVec 32 := Scalar.select v255 c1_i32_119 c2_i32
  let v257 : BitVec 32 := Scalar.remsi v254 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let v265 : BitVec 32 := Scalar.subi c1_i32_123 v264
  let v266 : BitVec 32 := Scalar.addi v236 v265
  let c1_i32_124 : BitVec 32 := 1#32
  let v267 : BitVec 32 := Scalar.addi v266 c1_i32_124
  let c2_i32_126 : BitVec 32 := 2#32
  let v269 : BitVec 32 := Scalar.subi v267 c2_i32_126
  let c0_i32_128 : BitVec 32 := 0#32
  let v271 : BitVec 1 := Scalar.cmpi .sgt v269 c0_i32_128
  let v272 : BitVec 32 := Scalar.extui v271
  let c0_i32_129 : BitVec 32 := 0#32
  let v273 : BitVec 1 := Scalar.cmpi .slt v269 c0_i32_129
  let v274 : BitVec 32 := Scalar.extui v273
  let v275 : BitVec 32 := Scalar.subi v272 v274
  let c2_i32_127 : BitVec 32 := 2#32
  let c0_i32_130 : BitVec 32 := 0#32
  let v276 : BitVec 1 := Scalar.cmpi .sgt c2_i32_127 c0_i32_130
  let v277 : BitVec 32 := Scalar.extui v276
  let c0_i32_131 : BitVec 32 := 0#32
  let v278 : BitVec 1 := Scalar.cmpi .slt c2_i32_127 c0_i32_131
  let v279 : BitVec 32 := Scalar.extui v278
  let v280 : BitVec 32 := Scalar.subi v277 v279
  let v281 : BitVec 1 := Scalar.cmpi .ne v275 v280
  let v282 : BitVec 32 := Scalar.remsi v269 c2_i32_127
  let c0_i32_132 : BitVec 32 := 0#32
  let v283 : BitVec 1 := Scalar.cmpi .ne v282 c0_i32_132
  let v284 : BitVec 1 := Scalar.andi v281 v283
  let v270 : BitVec 32 := Scalar.divsi v269 c2_i32_127
  let c1_i32_133 : BitVec 32 := 1#32
  let v285 : BitVec 32 := Scalar.subi v270 c1_i32_133
  let v286 : BitVec 32 := Scalar.select v284 v285 v270
  let v287 : BitVec 32 := Scalar.subi v286 c0_i32_134
  let c1_i32_135 : BitVec 32 := 1#32
  let v289 : BitVec 32 := Scalar.divsi v287 c1_i32_135
  let v290 : BitVec 32 := Scalar.muli v289 c1_i32_135
  let v291 : BitVec 32 := Scalar.addi c0_i32_134 v290
  let c1_i32_137 : BitVec 32 := 1#32
  let arg14 : BitVec 32 := Scf.iv v291 c1_i32_137 k0_t3
  let v651 : BitVec 32 := Scalar.muli c2_i32_328 arg14
  let v652 : BitVec 32 := Scalar.addi c2_i32_329 v651
  let c4_i32_330 : BitVec 32 := 4#32
  let v653 : BitVec 32 := Scalar.muli arg10 c4_i32_330
  let c0_i32_332 : BitVec 32 := 0#32
  let v655 : BitVec 1 := Scalar.cmpi .sgt v653 c0_i32_332
  let v656 : BitVec 32 := Scalar.extui v655
  let c0_i32_333 : BitVec 32 := 0#32
  let v657 : BitVec 1 := Scalar.cmpi .slt v653 c0_i32_333
  let v658 : BitVec 32 := Scalar.extui v657
  let v659 : BitVec 32 := Scalar.subi v656 v658
  let c4_i32_331 : BitVec 32 := 4#32
  let c0_i32_334 : BitVec 32 := 0#32
  let v660 : BitVec 1 := Scalar.cmpi .sgt c4_i32_331 c0_i32_334
  let v661 : BitVec 32 := Scalar.extui v660
  let c0_i32_335 : BitVec 32 := 0#32
  let v662 : BitVec 1 := Scalar.cmpi .slt c4_i32_331 c0_i32_335
  let v663 : BitVec 32 := Scalar.extui v662
  let v664 : BitVec 32 := Scalar.subi v661 v663
  let v665 : BitVec 1 := Scalar.cmpi .ne v659 v664
  let v666 : BitVec 32 := Scalar.remsi v653 c4_i32_331
  let c0_i32_336 : BitVec 32 := 0#32
  let v667 : BitVec 1 := Scalar.cmpi .ne v666 c0_i32_336
  let v668 : BitVec 1 := Scalar.andi v665 v667
  let v654 : BitVec 32 := Scalar.divsi v653 c4_i32_331
  let c1_i32_337 : BitVec 32 := 1#32
  let v669 : BitVec 32 := Scalar.subi v654 c1_i32_337
  let v670 : BitVec 32 := Scalar.select v668 v669 v654
  let v671 : BitVec 32 := Scalar.minsi v652 v670
  let c1024_i32_338 : BitVec 32 := 1024#32
  let v672 : BitVec 32 := Scalar.muli v671 c1024_i32_338
  let v673 : BitVec 32 := v672
  let v687 : Index := Scalar.indexCast v673
  let c0_347 : Index := 0#32
  ![0, v687.toNat, 0]
def k0_off9 (k0_t1 : Fin k0_t1_loop.trips) (k0_t3 : Fin (k0_t3_loop k0_t1).trips) : Fin 4 → Nat :=
  let c0_i32_99 : BitVec 32 := 0#32
  let c1_i32_100 : BitVec 32 := 1#32
  let arg10 : BitVec 32 := Scf.iv c0_i32_99 c1_i32_100 k0_t1
  let c2_i32_348 : BitVec 32 := 2#32
  let c0_i32_349 : BitVec 32 := 0#32
  let v690 : BitVec 1 := Scalar.cmpi .eq c2_i32_348 c0_i32_349
  let c1_i32_350 : BitVec 32 := 1#32
  let v691 : BitVec 32 := Scalar.select v690 c1_i32_350 c2_i32_348
  let v692 : BitVec 32 := Scalar.remsi arg10 v691
  let c0_i32_352 : BitVec 32 := 0#32
  let v694 : BitVec 1 := Scalar.cmpi .slt v692 c0_i32_352
  let c0_i32_353 : BitVec 32 := 0#32
  let v695 : BitVec 1 := Scalar.cmpi .slt v691 c0_i32_353
  let v696 : BitVec 1 := Scalar.xori v694 v695
  let c0_i32_351 : BitVec 32 := 0#32
  let v693 : BitVec 1 := Scalar.cmpi .ne v692 c0_i32_351
  let v697 : BitVec 1 := Scalar.andi v696 v693
  let v698 : BitVec 32 := Scalar.addi v692 v691
  let v699 : BitVec 32 := Scalar.select v697 v698 v692
  let v701 : Index := Scalar.indexCast v699
  let c2_i32_329 : BitVec 32 := 2#32
  let c2_i32_328 : BitVec 32 := 2#32
  let c0_i32_134 : BitVec 32 := 0#32
  let c4_i32_102 : BitVec 32 := 4#32
  let v219 : BitVec 32 := Scalar.muli arg10 c4_i32_102
  let c0_i32_104 : BitVec 32 := 0#32
  let v221 : BitVec 1 := Scalar.cmpi .sgt v219 c0_i32_104
  let v222 : BitVec 32 := Scalar.extui v221
  let c0_i32_105 : BitVec 32 := 0#32
  let v223 : BitVec 1 := Scalar.cmpi .slt v219 c0_i32_105
  let v224 : BitVec 32 := Scalar.extui v223
  let v225 : BitVec 32 := Scalar.subi v222 v224
  let c4_i32_103 : BitVec 32 := 4#32
  let c0_i32_106 : BitVec 32 := 0#32
  let v226 : BitVec 1 := Scalar.cmpi .sgt c4_i32_103 c0_i32_106
  let v227 : BitVec 32 := Scalar.extui v226
  let c0_i32_107 : BitVec 32 := 0#32
  let v228 : BitVec 1 := Scalar.cmpi .slt c4_i32_103 c0_i32_107
  let v229 : BitVec 32 := Scalar.extui v228
  let v230 : BitVec 32 := Scalar.subi v227 v229
  let v231 : BitVec 1 := Scalar.cmpi .ne v225 v230
  let v232 : BitVec 32 := Scalar.remsi v219 c4_i32_103
  let c0_i32_108 : BitVec 32 := 0#32
  let v233 : BitVec 1 := Scalar.cmpi .ne v232 c0_i32_108
  let v234 : BitVec 1 := Scalar.andi v231 v233
  let v220 : BitVec 32 := Scalar.divsi v219 c4_i32_103
  let c1_i32_109 : BitVec 32 := 1#32
  let v235 : BitVec 32 := Scalar.subi v220 c1_i32_109
  let v236 : BitVec 32 := Scalar.select v234 v235 v220
  let c1_i32_123 : BitVec 32 := 1#32
  let c4_i32_110 : BitVec 32 := 4#32
  let v237 : BitVec 32 := Scalar.muli arg10 c4_i32_110
  let c0_i32_112 : BitVec 32 := 0#32
  let v239 : BitVec 1 := Scalar.cmpi .sgt v237 c0_i32_112
  let v240 : BitVec 32 := Scalar.extui v239
  let c0_i32_113 : BitVec 32 := 0#32
  let v241 : BitVec 1 := Scalar.cmpi .slt v237 c0_i32_113
  let v242 : BitVec 32 := Scalar.extui v241
  let v243 : BitVec 32 := Scalar.subi v240 v242
  let c4_i32_111 : BitVec 32 := 4#32
  let c0_i32_114 : BitVec 32 := 0#32
  let v244 : BitVec 1 := Scalar.cmpi .sgt c4_i32_111 c0_i32_114
  let v245 : BitVec 32 := Scalar.extui v244
  let c0_i32_115 : BitVec 32 := 0#32
  let v246 : BitVec 1 := Scalar.cmpi .slt c4_i32_111 c0_i32_115
  let v247 : BitVec 32 := Scalar.extui v246
  let v248 : BitVec 32 := Scalar.subi v245 v247
  let v249 : BitVec 1 := Scalar.cmpi .ne v243 v248
  let v250 : BitVec 32 := Scalar.remsi v237 c4_i32_111
  let c0_i32_116 : BitVec 32 := 0#32
  let v251 : BitVec 1 := Scalar.cmpi .ne v250 c0_i32_116
  let v252 : BitVec 1 := Scalar.andi v249 v251
  let v238 : BitVec 32 := Scalar.divsi v237 c4_i32_111
  let c1_i32_117 : BitVec 32 := 1#32
  let v253 : BitVec 32 := Scalar.subi v238 c1_i32_117
  let v254 : BitVec 32 := Scalar.select v252 v253 v238
  let c2_i32 : BitVec 32 := 2#32
  let c0_i32_118 : BitVec 32 := 0#32
  let v255 : BitVec 1 := Scalar.cmpi .eq c2_i32 c0_i32_118
  let c1_i32_119 : BitVec 32 := 1#32
  let v256 : BitVec 32 := Scalar.select v255 c1_i32_119 c2_i32
  let v257 : BitVec 32 := Scalar.remsi v254 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let v265 : BitVec 32 := Scalar.subi c1_i32_123 v264
  let v266 : BitVec 32 := Scalar.addi v236 v265
  let c1_i32_124 : BitVec 32 := 1#32
  let v267 : BitVec 32 := Scalar.addi v266 c1_i32_124
  let c2_i32_126 : BitVec 32 := 2#32
  let v269 : BitVec 32 := Scalar.subi v267 c2_i32_126
  let c0_i32_128 : BitVec 32 := 0#32
  let v271 : BitVec 1 := Scalar.cmpi .sgt v269 c0_i32_128
  let v272 : BitVec 32 := Scalar.extui v271
  let c0_i32_129 : BitVec 32 := 0#32
  let v273 : BitVec 1 := Scalar.cmpi .slt v269 c0_i32_129
  let v274 : BitVec 32 := Scalar.extui v273
  let v275 : BitVec 32 := Scalar.subi v272 v274
  let c2_i32_127 : BitVec 32 := 2#32
  let c0_i32_130 : BitVec 32 := 0#32
  let v276 : BitVec 1 := Scalar.cmpi .sgt c2_i32_127 c0_i32_130
  let v277 : BitVec 32 := Scalar.extui v276
  let c0_i32_131 : BitVec 32 := 0#32
  let v278 : BitVec 1 := Scalar.cmpi .slt c2_i32_127 c0_i32_131
  let v279 : BitVec 32 := Scalar.extui v278
  let v280 : BitVec 32 := Scalar.subi v277 v279
  let v281 : BitVec 1 := Scalar.cmpi .ne v275 v280
  let v282 : BitVec 32 := Scalar.remsi v269 c2_i32_127
  let c0_i32_132 : BitVec 32 := 0#32
  let v283 : BitVec 1 := Scalar.cmpi .ne v282 c0_i32_132
  let v284 : BitVec 1 := Scalar.andi v281 v283
  let v270 : BitVec 32 := Scalar.divsi v269 c2_i32_127
  let c1_i32_133 : BitVec 32 := 1#32
  let v285 : BitVec 32 := Scalar.subi v270 c1_i32_133
  let v286 : BitVec 32 := Scalar.select v284 v285 v270
  let v287 : BitVec 32 := Scalar.subi v286 c0_i32_134
  let c1_i32_135 : BitVec 32 := 1#32
  let v289 : BitVec 32 := Scalar.divsi v287 c1_i32_135
  let v290 : BitVec 32 := Scalar.muli v289 c1_i32_135
  let v291 : BitVec 32 := Scalar.addi c0_i32_134 v290
  let c1_i32_137 : BitVec 32 := 1#32
  let arg14 : BitVec 32 := Scf.iv v291 c1_i32_137 k0_t3
  let v651 : BitVec 32 := Scalar.muli c2_i32_328 arg14
  let v652 : BitVec 32 := Scalar.addi c2_i32_329 v651
  let c4_i32_330 : BitVec 32 := 4#32
  let v653 : BitVec 32 := Scalar.muli arg10 c4_i32_330
  let c0_i32_332 : BitVec 32 := 0#32
  let v655 : BitVec 1 := Scalar.cmpi .sgt v653 c0_i32_332
  let v656 : BitVec 32 := Scalar.extui v655
  let c0_i32_333 : BitVec 32 := 0#32
  let v657 : BitVec 1 := Scalar.cmpi .slt v653 c0_i32_333
  let v658 : BitVec 32 := Scalar.extui v657
  let v659 : BitVec 32 := Scalar.subi v656 v658
  let c4_i32_331 : BitVec 32 := 4#32
  let c0_i32_334 : BitVec 32 := 0#32
  let v660 : BitVec 1 := Scalar.cmpi .sgt c4_i32_331 c0_i32_334
  let v661 : BitVec 32 := Scalar.extui v660
  let c0_i32_335 : BitVec 32 := 0#32
  let v662 : BitVec 1 := Scalar.cmpi .slt c4_i32_331 c0_i32_335
  let v663 : BitVec 32 := Scalar.extui v662
  let v664 : BitVec 32 := Scalar.subi v661 v663
  let v665 : BitVec 1 := Scalar.cmpi .ne v659 v664
  let v666 : BitVec 32 := Scalar.remsi v653 c4_i32_331
  let c0_i32_336 : BitVec 32 := 0#32
  let v667 : BitVec 1 := Scalar.cmpi .ne v666 c0_i32_336
  let v668 : BitVec 1 := Scalar.andi v665 v667
  let v654 : BitVec 32 := Scalar.divsi v653 c4_i32_331
  let c1_i32_337 : BitVec 32 := 1#32
  let v669 : BitVec 32 := Scalar.subi v654 c1_i32_337
  let v670 : BitVec 32 := Scalar.select v668 v669 v654
  let v674 : BitVec 1 := Scalar.cmpi .eq v652 v670
  let c2_i32_339 : BitVec 32 := 2#32
  let c0_i32_340 : BitVec 32 := 0#32
  let v675 : BitVec 1 := Scalar.cmpi .eq c2_i32_339 c0_i32_340
  let c1_i32_341 : BitVec 32 := 1#32
  let v676 : BitVec 32 := Scalar.select v675 c1_i32_341 c2_i32_339
  let v677 : BitVec 32 := Scalar.remsi v670 v676
  let c0_i32_343 : BitVec 32 := 0#32
  let v679 : BitVec 1 := Scalar.cmpi .slt v677 c0_i32_343
  let c0_i32_344 : BitVec 32 := 0#32
  let v680 : BitVec 1 := Scalar.cmpi .slt v676 c0_i32_344
  let v681 : BitVec 1 := Scalar.xori v679 v680
  let c0_i32_342 : BitVec 32 := 0#32
  let v678 : BitVec 1 := Scalar.cmpi .ne v677 c0_i32_342
  let v682 : BitVec 1 := Scalar.andi v681 v678
  let v683 : BitVec 32 := Scalar.addi v677 v676
  let v684 : BitVec 32 := Scalar.select v682 v683 v677
  let c0_i32_345 : BitVec 32 := 0#32
  let v685 : BitVec 1 := Scalar.cmpi .eq v684 c0_i32_345
  let v686 : BitVec 1 := Scalar.andi v674 v685
  let v700 : BitVec 32 := Scalar.extui v686
  let v702 : Index := Scalar.indexCast v700
  let c0_354 : Index := 0#32
  let c0_355 : Index := 0#32
  ![v701.toNat, v702.toNat, 0, 0]
def k0_off10 (k0_t1 : Fin k0_t1_loop.trips) (k0_t3 : Fin (k0_t3_loop k0_t1).trips) (c2_i32_367 : BitVec 32) : Fin 4 → Nat :=
  let c0_376 : Index := 0#32
  let c2_i32_329 : BitVec 32 := 2#32
  let c2_i32_328 : BitVec 32 := 2#32
  let c0_i32_134 : BitVec 32 := 0#32
  let c0_i32_99 : BitVec 32 := 0#32
  let c1_i32_100 : BitVec 32 := 1#32
  let arg10 : BitVec 32 := Scf.iv c0_i32_99 c1_i32_100 k0_t1
  let c4_i32_102 : BitVec 32 := 4#32
  let v219 : BitVec 32 := Scalar.muli arg10 c4_i32_102
  let c0_i32_104 : BitVec 32 := 0#32
  let v221 : BitVec 1 := Scalar.cmpi .sgt v219 c0_i32_104
  let v222 : BitVec 32 := Scalar.extui v221
  let c0_i32_105 : BitVec 32 := 0#32
  let v223 : BitVec 1 := Scalar.cmpi .slt v219 c0_i32_105
  let v224 : BitVec 32 := Scalar.extui v223
  let v225 : BitVec 32 := Scalar.subi v222 v224
  let c4_i32_103 : BitVec 32 := 4#32
  let c0_i32_106 : BitVec 32 := 0#32
  let v226 : BitVec 1 := Scalar.cmpi .sgt c4_i32_103 c0_i32_106
  let v227 : BitVec 32 := Scalar.extui v226
  let c0_i32_107 : BitVec 32 := 0#32
  let v228 : BitVec 1 := Scalar.cmpi .slt c4_i32_103 c0_i32_107
  let v229 : BitVec 32 := Scalar.extui v228
  let v230 : BitVec 32 := Scalar.subi v227 v229
  let v231 : BitVec 1 := Scalar.cmpi .ne v225 v230
  let v232 : BitVec 32 := Scalar.remsi v219 c4_i32_103
  let c0_i32_108 : BitVec 32 := 0#32
  let v233 : BitVec 1 := Scalar.cmpi .ne v232 c0_i32_108
  let v234 : BitVec 1 := Scalar.andi v231 v233
  let v220 : BitVec 32 := Scalar.divsi v219 c4_i32_103
  let c1_i32_109 : BitVec 32 := 1#32
  let v235 : BitVec 32 := Scalar.subi v220 c1_i32_109
  let v236 : BitVec 32 := Scalar.select v234 v235 v220
  let c1_i32_123 : BitVec 32 := 1#32
  let c4_i32_110 : BitVec 32 := 4#32
  let v237 : BitVec 32 := Scalar.muli arg10 c4_i32_110
  let c0_i32_112 : BitVec 32 := 0#32
  let v239 : BitVec 1 := Scalar.cmpi .sgt v237 c0_i32_112
  let v240 : BitVec 32 := Scalar.extui v239
  let c0_i32_113 : BitVec 32 := 0#32
  let v241 : BitVec 1 := Scalar.cmpi .slt v237 c0_i32_113
  let v242 : BitVec 32 := Scalar.extui v241
  let v243 : BitVec 32 := Scalar.subi v240 v242
  let c4_i32_111 : BitVec 32 := 4#32
  let c0_i32_114 : BitVec 32 := 0#32
  let v244 : BitVec 1 := Scalar.cmpi .sgt c4_i32_111 c0_i32_114
  let v245 : BitVec 32 := Scalar.extui v244
  let c0_i32_115 : BitVec 32 := 0#32
  let v246 : BitVec 1 := Scalar.cmpi .slt c4_i32_111 c0_i32_115
  let v247 : BitVec 32 := Scalar.extui v246
  let v248 : BitVec 32 := Scalar.subi v245 v247
  let v249 : BitVec 1 := Scalar.cmpi .ne v243 v248
  let v250 : BitVec 32 := Scalar.remsi v237 c4_i32_111
  let c0_i32_116 : BitVec 32 := 0#32
  let v251 : BitVec 1 := Scalar.cmpi .ne v250 c0_i32_116
  let v252 : BitVec 1 := Scalar.andi v249 v251
  let v238 : BitVec 32 := Scalar.divsi v237 c4_i32_111
  let c1_i32_117 : BitVec 32 := 1#32
  let v253 : BitVec 32 := Scalar.subi v238 c1_i32_117
  let v254 : BitVec 32 := Scalar.select v252 v253 v238
  let c2_i32 : BitVec 32 := 2#32
  let c0_i32_118 : BitVec 32 := 0#32
  let v255 : BitVec 1 := Scalar.cmpi .eq c2_i32 c0_i32_118
  let c1_i32_119 : BitVec 32 := 1#32
  let v256 : BitVec 32 := Scalar.select v255 c1_i32_119 c2_i32
  let v257 : BitVec 32 := Scalar.remsi v254 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let v265 : BitVec 32 := Scalar.subi c1_i32_123 v264
  let v266 : BitVec 32 := Scalar.addi v236 v265
  let c1_i32_124 : BitVec 32 := 1#32
  let v267 : BitVec 32 := Scalar.addi v266 c1_i32_124
  let c2_i32_126 : BitVec 32 := 2#32
  let v269 : BitVec 32 := Scalar.subi v267 c2_i32_126
  let c0_i32_128 : BitVec 32 := 0#32
  let v271 : BitVec 1 := Scalar.cmpi .sgt v269 c0_i32_128
  let v272 : BitVec 32 := Scalar.extui v271
  let c0_i32_129 : BitVec 32 := 0#32
  let v273 : BitVec 1 := Scalar.cmpi .slt v269 c0_i32_129
  let v274 : BitVec 32 := Scalar.extui v273
  let v275 : BitVec 32 := Scalar.subi v272 v274
  let c2_i32_127 : BitVec 32 := 2#32
  let c0_i32_130 : BitVec 32 := 0#32
  let v276 : BitVec 1 := Scalar.cmpi .sgt c2_i32_127 c0_i32_130
  let v277 : BitVec 32 := Scalar.extui v276
  let c0_i32_131 : BitVec 32 := 0#32
  let v278 : BitVec 1 := Scalar.cmpi .slt c2_i32_127 c0_i32_131
  let v279 : BitVec 32 := Scalar.extui v278
  let v280 : BitVec 32 := Scalar.subi v277 v279
  let v281 : BitVec 1 := Scalar.cmpi .ne v275 v280
  let v282 : BitVec 32 := Scalar.remsi v269 c2_i32_127
  let c0_i32_132 : BitVec 32 := 0#32
  let v283 : BitVec 1 := Scalar.cmpi .ne v282 c0_i32_132
  let v284 : BitVec 1 := Scalar.andi v281 v283
  let v270 : BitVec 32 := Scalar.divsi v269 c2_i32_127
  let c1_i32_133 : BitVec 32 := 1#32
  let v285 : BitVec 32 := Scalar.subi v270 c1_i32_133
  let v286 : BitVec 32 := Scalar.select v284 v285 v270
  let v287 : BitVec 32 := Scalar.subi v286 c0_i32_134
  let c1_i32_135 : BitVec 32 := 1#32
  let v289 : BitVec 32 := Scalar.divsi v287 c1_i32_135
  let v290 : BitVec 32 := Scalar.muli v289 c1_i32_135
  let v291 : BitVec 32 := Scalar.addi c0_i32_134 v290
  let c1_i32_137 : BitVec 32 := 1#32
  let arg14 : BitVec 32 := Scf.iv v291 c1_i32_137 k0_t3
  let v651 : BitVec 32 := Scalar.muli c2_i32_328 arg14
  let v652 : BitVec 32 := Scalar.addi c2_i32_329 v651
  let v723 : BitVec 32 := Scalar.subi v652 c2_i32_367
  let c4_i32_368 : BitVec 32 := 4#32
  let v726 : BitVec 32 := Scalar.muli arg10 c4_i32_368
  let c0_i32_370 : BitVec 32 := 0#32
  let v728 : BitVec 1 := Scalar.cmpi .sgt v726 c0_i32_370
  let v729 : BitVec 32 := Scalar.extui v728
  let c0_i32_371 : BitVec 32 := 0#32
  let v730 : BitVec 1 := Scalar.cmpi .slt v726 c0_i32_371
  let v731 : BitVec 32 := Scalar.extui v730
  let v732 : BitVec 32 := Scalar.subi v729 v731
  let c4_i32_369 : BitVec 32 := 4#32
  let c0_i32_372 : BitVec 32 := 0#32
  let v733 : BitVec 1 := Scalar.cmpi .sgt c4_i32_369 c0_i32_372
  let v734 : BitVec 32 := Scalar.extui v733
  let c0_i32_373 : BitVec 32 := 0#32
  let v735 : BitVec 1 := Scalar.cmpi .slt c4_i32_369 c0_i32_373
  let v736 : BitVec 32 := Scalar.extui v735
  let v737 : BitVec 32 := Scalar.subi v734 v736
  let v738 : BitVec 1 := Scalar.cmpi .ne v732 v737
  let v739 : BitVec 32 := Scalar.remsi v726 c4_i32_369
  let c0_i32_374 : BitVec 32 := 0#32
  let v740 : BitVec 1 := Scalar.cmpi .ne v739 c0_i32_374
  let v741 : BitVec 1 := Scalar.andi v738 v740
  let v727 : BitVec 32 := Scalar.divsi v726 c4_i32_369
  let c1_i32_375 : BitVec 32 := 1#32
  let v742 : BitVec 32 := Scalar.subi v727 c1_i32_375
  let v743 : BitVec 32 := Scalar.select v741 v742 v727
  let v744 : BitVec 32 := Scalar.minsi v723 v743
  let v745 : Index := Scalar.indexCast v744
  let c0_377 : Index := 0#32
  let c0_378 : Index := 0#32
  ![0, v745.toNat, 0, 0]
def k0_mult8 (k0_t1 : Fin k0_t1_loop.trips) (k0_t3 : Fin (k0_t3_loop k0_t1).trips) : BitVec 32 :=
  let c2_i32_329 : BitVec 32 := 2#32
  let c2_i32_328 : BitVec 32 := 2#32
  let c0_i32_134 : BitVec 32 := 0#32
  let c0_i32_99 : BitVec 32 := 0#32
  let c1_i32_100 : BitVec 32 := 1#32
  let arg10 : BitVec 32 := Scf.iv c0_i32_99 c1_i32_100 k0_t1
  let c4_i32_102 : BitVec 32 := 4#32
  let v219 : BitVec 32 := Scalar.muli arg10 c4_i32_102
  let c0_i32_104 : BitVec 32 := 0#32
  let v221 : BitVec 1 := Scalar.cmpi .sgt v219 c0_i32_104
  let v222 : BitVec 32 := Scalar.extui v221
  let c0_i32_105 : BitVec 32 := 0#32
  let v223 : BitVec 1 := Scalar.cmpi .slt v219 c0_i32_105
  let v224 : BitVec 32 := Scalar.extui v223
  let v225 : BitVec 32 := Scalar.subi v222 v224
  let c4_i32_103 : BitVec 32 := 4#32
  let c0_i32_106 : BitVec 32 := 0#32
  let v226 : BitVec 1 := Scalar.cmpi .sgt c4_i32_103 c0_i32_106
  let v227 : BitVec 32 := Scalar.extui v226
  let c0_i32_107 : BitVec 32 := 0#32
  let v228 : BitVec 1 := Scalar.cmpi .slt c4_i32_103 c0_i32_107
  let v229 : BitVec 32 := Scalar.extui v228
  let v230 : BitVec 32 := Scalar.subi v227 v229
  let v231 : BitVec 1 := Scalar.cmpi .ne v225 v230
  let v232 : BitVec 32 := Scalar.remsi v219 c4_i32_103
  let c0_i32_108 : BitVec 32 := 0#32
  let v233 : BitVec 1 := Scalar.cmpi .ne v232 c0_i32_108
  let v234 : BitVec 1 := Scalar.andi v231 v233
  let v220 : BitVec 32 := Scalar.divsi v219 c4_i32_103
  let c1_i32_109 : BitVec 32 := 1#32
  let v235 : BitVec 32 := Scalar.subi v220 c1_i32_109
  let v236 : BitVec 32 := Scalar.select v234 v235 v220
  let c1_i32_123 : BitVec 32 := 1#32
  let c4_i32_110 : BitVec 32 := 4#32
  let v237 : BitVec 32 := Scalar.muli arg10 c4_i32_110
  let c0_i32_112 : BitVec 32 := 0#32
  let v239 : BitVec 1 := Scalar.cmpi .sgt v237 c0_i32_112
  let v240 : BitVec 32 := Scalar.extui v239
  let c0_i32_113 : BitVec 32 := 0#32
  let v241 : BitVec 1 := Scalar.cmpi .slt v237 c0_i32_113
  let v242 : BitVec 32 := Scalar.extui v241
  let v243 : BitVec 32 := Scalar.subi v240 v242
  let c4_i32_111 : BitVec 32 := 4#32
  let c0_i32_114 : BitVec 32 := 0#32
  let v244 : BitVec 1 := Scalar.cmpi .sgt c4_i32_111 c0_i32_114
  let v245 : BitVec 32 := Scalar.extui v244
  let c0_i32_115 : BitVec 32 := 0#32
  let v246 : BitVec 1 := Scalar.cmpi .slt c4_i32_111 c0_i32_115
  let v247 : BitVec 32 := Scalar.extui v246
  let v248 : BitVec 32 := Scalar.subi v245 v247
  let v249 : BitVec 1 := Scalar.cmpi .ne v243 v248
  let v250 : BitVec 32 := Scalar.remsi v237 c4_i32_111
  let c0_i32_116 : BitVec 32 := 0#32
  let v251 : BitVec 1 := Scalar.cmpi .ne v250 c0_i32_116
  let v252 : BitVec 1 := Scalar.andi v249 v251
  let v238 : BitVec 32 := Scalar.divsi v237 c4_i32_111
  let c1_i32_117 : BitVec 32 := 1#32
  let v253 : BitVec 32 := Scalar.subi v238 c1_i32_117
  let v254 : BitVec 32 := Scalar.select v252 v253 v238
  let c2_i32 : BitVec 32 := 2#32
  let c0_i32_118 : BitVec 32 := 0#32
  let v255 : BitVec 1 := Scalar.cmpi .eq c2_i32 c0_i32_118
  let c1_i32_119 : BitVec 32 := 1#32
  let v256 : BitVec 32 := Scalar.select v255 c1_i32_119 c2_i32
  let v257 : BitVec 32 := Scalar.remsi v254 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let v265 : BitVec 32 := Scalar.subi c1_i32_123 v264
  let v266 : BitVec 32 := Scalar.addi v236 v265
  let c1_i32_124 : BitVec 32 := 1#32
  let v267 : BitVec 32 := Scalar.addi v266 c1_i32_124
  let c2_i32_126 : BitVec 32 := 2#32
  let v269 : BitVec 32 := Scalar.subi v267 c2_i32_126
  let c0_i32_128 : BitVec 32 := 0#32
  let v271 : BitVec 1 := Scalar.cmpi .sgt v269 c0_i32_128
  let v272 : BitVec 32 := Scalar.extui v271
  let c0_i32_129 : BitVec 32 := 0#32
  let v273 : BitVec 1 := Scalar.cmpi .slt v269 c0_i32_129
  let v274 : BitVec 32 := Scalar.extui v273
  let v275 : BitVec 32 := Scalar.subi v272 v274
  let c2_i32_127 : BitVec 32 := 2#32
  let c0_i32_130 : BitVec 32 := 0#32
  let v276 : BitVec 1 := Scalar.cmpi .sgt c2_i32_127 c0_i32_130
  let v277 : BitVec 32 := Scalar.extui v276
  let c0_i32_131 : BitVec 32 := 0#32
  let v278 : BitVec 1 := Scalar.cmpi .slt c2_i32_127 c0_i32_131
  let v279 : BitVec 32 := Scalar.extui v278
  let v280 : BitVec 32 := Scalar.subi v277 v279
  let v281 : BitVec 1 := Scalar.cmpi .ne v275 v280
  let v282 : BitVec 32 := Scalar.remsi v269 c2_i32_127
  let c0_i32_132 : BitVec 32 := 0#32
  let v283 : BitVec 1 := Scalar.cmpi .ne v282 c0_i32_132
  let v284 : BitVec 1 := Scalar.andi v281 v283
  let v270 : BitVec 32 := Scalar.divsi v269 c2_i32_127
  let c1_i32_133 : BitVec 32 := 1#32
  let v285 : BitVec 32 := Scalar.subi v270 c1_i32_133
  let v286 : BitVec 32 := Scalar.select v284 v285 v270
  let v287 : BitVec 32 := Scalar.subi v286 c0_i32_134
  let c1_i32_135 : BitVec 32 := 1#32
  let v289 : BitVec 32 := Scalar.divsi v287 c1_i32_135
  let v290 : BitVec 32 := Scalar.muli v289 c1_i32_135
  let v291 : BitVec 32 := Scalar.addi c0_i32_134 v290
  let c1_i32_137 : BitVec 32 := 1#32
  let arg14 : BitVec 32 := Scf.iv v291 c1_i32_137 k0_t3
  let v651 : BitVec 32 := Scalar.muli c2_i32_328 arg14
  let v652 : BitVec 32 := Scalar.addi c2_i32_329 v651
  let c1_i32_383 : BitVec 32 := 1#32
  let v752 : BitVec 32 := Scalar.addi v652 c1_i32_383
  let c4_i32_384 : BitVec 32 := 4#32
  let v753 : BitVec 32 := Scalar.muli arg10 c4_i32_384
  let c0_i32_386 : BitVec 32 := 0#32
  let v755 : BitVec 1 := Scalar.cmpi .sgt v753 c0_i32_386
  let v756 : BitVec 32 := Scalar.extui v755
  let c0_i32_387 : BitVec 32 := 0#32
  let v757 : BitVec 1 := Scalar.cmpi .slt v753 c0_i32_387
  let v758 : BitVec 32 := Scalar.extui v757
  let v759 : BitVec 32 := Scalar.subi v756 v758
  let c4_i32_385 : BitVec 32 := 4#32
  let c0_i32_388 : BitVec 32 := 0#32
  let v760 : BitVec 1 := Scalar.cmpi .sgt c4_i32_385 c0_i32_388
  let v761 : BitVec 32 := Scalar.extui v760
  let c0_i32_389 : BitVec 32 := 0#32
  let v762 : BitVec 1 := Scalar.cmpi .slt c4_i32_385 c0_i32_389
  let v763 : BitVec 32 := Scalar.extui v762
  let v764 : BitVec 32 := Scalar.subi v761 v763
  let v765 : BitVec 1 := Scalar.cmpi .ne v759 v764
  let v766 : BitVec 32 := Scalar.remsi v753 c4_i32_385
  let c0_i32_390 : BitVec 32 := 0#32
  let v767 : BitVec 1 := Scalar.cmpi .ne v766 c0_i32_390
  let v768 : BitVec 1 := Scalar.andi v765 v767
  let v754 : BitVec 32 := Scalar.divsi v753 c4_i32_385
  let c1_i32_391 : BitVec 32 := 1#32
  let v769 : BitVec 32 := Scalar.subi v754 c1_i32_391
  let v770 : BitVec 32 := Scalar.select v768 v769 v754
  let v771 : BitVec 32 := Scalar.minsi v752 v770
  let c1024_i32_392 : BitVec 32 := 1024#32
  let v772 : BitVec 32 := Scalar.muli v771 c1024_i32_392
  v772
def k0_off11 (k0_t1 : Fin k0_t1_loop.trips) (k0_t3 : Fin (k0_t3_loop k0_t1).trips) : Fin 3 → Nat :=
  let c0_400 : Index := 0#32
  let c2_i32_329 : BitVec 32 := 2#32
  let c2_i32_328 : BitVec 32 := 2#32
  let c0_i32_134 : BitVec 32 := 0#32
  let c0_i32_99 : BitVec 32 := 0#32
  let c1_i32_100 : BitVec 32 := 1#32
  let arg10 : BitVec 32 := Scf.iv c0_i32_99 c1_i32_100 k0_t1
  let c4_i32_102 : BitVec 32 := 4#32
  let v219 : BitVec 32 := Scalar.muli arg10 c4_i32_102
  let c0_i32_104 : BitVec 32 := 0#32
  let v221 : BitVec 1 := Scalar.cmpi .sgt v219 c0_i32_104
  let v222 : BitVec 32 := Scalar.extui v221
  let c0_i32_105 : BitVec 32 := 0#32
  let v223 : BitVec 1 := Scalar.cmpi .slt v219 c0_i32_105
  let v224 : BitVec 32 := Scalar.extui v223
  let v225 : BitVec 32 := Scalar.subi v222 v224
  let c4_i32_103 : BitVec 32 := 4#32
  let c0_i32_106 : BitVec 32 := 0#32
  let v226 : BitVec 1 := Scalar.cmpi .sgt c4_i32_103 c0_i32_106
  let v227 : BitVec 32 := Scalar.extui v226
  let c0_i32_107 : BitVec 32 := 0#32
  let v228 : BitVec 1 := Scalar.cmpi .slt c4_i32_103 c0_i32_107
  let v229 : BitVec 32 := Scalar.extui v228
  let v230 : BitVec 32 := Scalar.subi v227 v229
  let v231 : BitVec 1 := Scalar.cmpi .ne v225 v230
  let v232 : BitVec 32 := Scalar.remsi v219 c4_i32_103
  let c0_i32_108 : BitVec 32 := 0#32
  let v233 : BitVec 1 := Scalar.cmpi .ne v232 c0_i32_108
  let v234 : BitVec 1 := Scalar.andi v231 v233
  let v220 : BitVec 32 := Scalar.divsi v219 c4_i32_103
  let c1_i32_109 : BitVec 32 := 1#32
  let v235 : BitVec 32 := Scalar.subi v220 c1_i32_109
  let v236 : BitVec 32 := Scalar.select v234 v235 v220
  let c1_i32_123 : BitVec 32 := 1#32
  let c4_i32_110 : BitVec 32 := 4#32
  let v237 : BitVec 32 := Scalar.muli arg10 c4_i32_110
  let c0_i32_112 : BitVec 32 := 0#32
  let v239 : BitVec 1 := Scalar.cmpi .sgt v237 c0_i32_112
  let v240 : BitVec 32 := Scalar.extui v239
  let c0_i32_113 : BitVec 32 := 0#32
  let v241 : BitVec 1 := Scalar.cmpi .slt v237 c0_i32_113
  let v242 : BitVec 32 := Scalar.extui v241
  let v243 : BitVec 32 := Scalar.subi v240 v242
  let c4_i32_111 : BitVec 32 := 4#32
  let c0_i32_114 : BitVec 32 := 0#32
  let v244 : BitVec 1 := Scalar.cmpi .sgt c4_i32_111 c0_i32_114
  let v245 : BitVec 32 := Scalar.extui v244
  let c0_i32_115 : BitVec 32 := 0#32
  let v246 : BitVec 1 := Scalar.cmpi .slt c4_i32_111 c0_i32_115
  let v247 : BitVec 32 := Scalar.extui v246
  let v248 : BitVec 32 := Scalar.subi v245 v247
  let v249 : BitVec 1 := Scalar.cmpi .ne v243 v248
  let v250 : BitVec 32 := Scalar.remsi v237 c4_i32_111
  let c0_i32_116 : BitVec 32 := 0#32
  let v251 : BitVec 1 := Scalar.cmpi .ne v250 c0_i32_116
  let v252 : BitVec 1 := Scalar.andi v249 v251
  let v238 : BitVec 32 := Scalar.divsi v237 c4_i32_111
  let c1_i32_117 : BitVec 32 := 1#32
  let v253 : BitVec 32 := Scalar.subi v238 c1_i32_117
  let v254 : BitVec 32 := Scalar.select v252 v253 v238
  let c2_i32 : BitVec 32 := 2#32
  let c0_i32_118 : BitVec 32 := 0#32
  let v255 : BitVec 1 := Scalar.cmpi .eq c2_i32 c0_i32_118
  let c1_i32_119 : BitVec 32 := 1#32
  let v256 : BitVec 32 := Scalar.select v255 c1_i32_119 c2_i32
  let v257 : BitVec 32 := Scalar.remsi v254 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let v265 : BitVec 32 := Scalar.subi c1_i32_123 v264
  let v266 : BitVec 32 := Scalar.addi v236 v265
  let c1_i32_124 : BitVec 32 := 1#32
  let v267 : BitVec 32 := Scalar.addi v266 c1_i32_124
  let c2_i32_126 : BitVec 32 := 2#32
  let v269 : BitVec 32 := Scalar.subi v267 c2_i32_126
  let c0_i32_128 : BitVec 32 := 0#32
  let v271 : BitVec 1 := Scalar.cmpi .sgt v269 c0_i32_128
  let v272 : BitVec 32 := Scalar.extui v271
  let c0_i32_129 : BitVec 32 := 0#32
  let v273 : BitVec 1 := Scalar.cmpi .slt v269 c0_i32_129
  let v274 : BitVec 32 := Scalar.extui v273
  let v275 : BitVec 32 := Scalar.subi v272 v274
  let c2_i32_127 : BitVec 32 := 2#32
  let c0_i32_130 : BitVec 32 := 0#32
  let v276 : BitVec 1 := Scalar.cmpi .sgt c2_i32_127 c0_i32_130
  let v277 : BitVec 32 := Scalar.extui v276
  let c0_i32_131 : BitVec 32 := 0#32
  let v278 : BitVec 1 := Scalar.cmpi .slt c2_i32_127 c0_i32_131
  let v279 : BitVec 32 := Scalar.extui v278
  let v280 : BitVec 32 := Scalar.subi v277 v279
  let v281 : BitVec 1 := Scalar.cmpi .ne v275 v280
  let v282 : BitVec 32 := Scalar.remsi v269 c2_i32_127
  let c0_i32_132 : BitVec 32 := 0#32
  let v283 : BitVec 1 := Scalar.cmpi .ne v282 c0_i32_132
  let v284 : BitVec 1 := Scalar.andi v281 v283
  let v270 : BitVec 32 := Scalar.divsi v269 c2_i32_127
  let c1_i32_133 : BitVec 32 := 1#32
  let v285 : BitVec 32 := Scalar.subi v270 c1_i32_133
  let v286 : BitVec 32 := Scalar.select v284 v285 v270
  let v287 : BitVec 32 := Scalar.subi v286 c0_i32_134
  let c1_i32_135 : BitVec 32 := 1#32
  let v289 : BitVec 32 := Scalar.divsi v287 c1_i32_135
  let v290 : BitVec 32 := Scalar.muli v289 c1_i32_135
  let v291 : BitVec 32 := Scalar.addi c0_i32_134 v290
  let c1_i32_137 : BitVec 32 := 1#32
  let arg14 : BitVec 32 := Scf.iv v291 c1_i32_137 k0_t3
  let v651 : BitVec 32 := Scalar.muli c2_i32_328 arg14
  let v652 : BitVec 32 := Scalar.addi c2_i32_329 v651
  let c1_i32_383 : BitVec 32 := 1#32
  let v752 : BitVec 32 := Scalar.addi v652 c1_i32_383
  let c4_i32_384 : BitVec 32 := 4#32
  let v753 : BitVec 32 := Scalar.muli arg10 c4_i32_384
  let c0_i32_386 : BitVec 32 := 0#32
  let v755 : BitVec 1 := Scalar.cmpi .sgt v753 c0_i32_386
  let v756 : BitVec 32 := Scalar.extui v755
  let c0_i32_387 : BitVec 32 := 0#32
  let v757 : BitVec 1 := Scalar.cmpi .slt v753 c0_i32_387
  let v758 : BitVec 32 := Scalar.extui v757
  let v759 : BitVec 32 := Scalar.subi v756 v758
  let c4_i32_385 : BitVec 32 := 4#32
  let c0_i32_388 : BitVec 32 := 0#32
  let v760 : BitVec 1 := Scalar.cmpi .sgt c4_i32_385 c0_i32_388
  let v761 : BitVec 32 := Scalar.extui v760
  let c0_i32_389 : BitVec 32 := 0#32
  let v762 : BitVec 1 := Scalar.cmpi .slt c4_i32_385 c0_i32_389
  let v763 : BitVec 32 := Scalar.extui v762
  let v764 : BitVec 32 := Scalar.subi v761 v763
  let v765 : BitVec 1 := Scalar.cmpi .ne v759 v764
  let v766 : BitVec 32 := Scalar.remsi v753 c4_i32_385
  let c0_i32_390 : BitVec 32 := 0#32
  let v767 : BitVec 1 := Scalar.cmpi .ne v766 c0_i32_390
  let v768 : BitVec 1 := Scalar.andi v765 v767
  let v754 : BitVec 32 := Scalar.divsi v753 c4_i32_385
  let c1_i32_391 : BitVec 32 := 1#32
  let v769 : BitVec 32 := Scalar.subi v754 c1_i32_391
  let v770 : BitVec 32 := Scalar.select v768 v769 v754
  let v771 : BitVec 32 := Scalar.minsi v752 v770
  let c1024_i32_392 : BitVec 32 := 1024#32
  let v772 : BitVec 32 := Scalar.muli v771 c1024_i32_392
  let v773 : BitVec 32 := v772
  let v787 : Index := Scalar.indexCast v773
  let c0_401 : Index := 0#32
  ![0, v787.toNat, 0]
def k0_off12 (k0_t1 : Fin k0_t1_loop.trips) (k0_t3 : Fin (k0_t3_loop k0_t1).trips) : Fin 4 → Nat :=
  let c0_i32_99 : BitVec 32 := 0#32
  let c1_i32_100 : BitVec 32 := 1#32
  let arg10 : BitVec 32 := Scf.iv c0_i32_99 c1_i32_100 k0_t1
  let c2_i32_402 : BitVec 32 := 2#32
  let c0_i32_403 : BitVec 32 := 0#32
  let v790 : BitVec 1 := Scalar.cmpi .eq c2_i32_402 c0_i32_403
  let c1_i32_404 : BitVec 32 := 1#32
  let v791 : BitVec 32 := Scalar.select v790 c1_i32_404 c2_i32_402
  let v792 : BitVec 32 := Scalar.remsi arg10 v791
  let c0_i32_406 : BitVec 32 := 0#32
  let v794 : BitVec 1 := Scalar.cmpi .slt v792 c0_i32_406
  let c0_i32_407 : BitVec 32 := 0#32
  let v795 : BitVec 1 := Scalar.cmpi .slt v791 c0_i32_407
  let v796 : BitVec 1 := Scalar.xori v794 v795
  let c0_i32_405 : BitVec 32 := 0#32
  let v793 : BitVec 1 := Scalar.cmpi .ne v792 c0_i32_405
  let v797 : BitVec 1 := Scalar.andi v796 v793
  let v798 : BitVec 32 := Scalar.addi v792 v791
  let v799 : BitVec 32 := Scalar.select v797 v798 v792
  let v801 : Index := Scalar.indexCast v799
  let c2_i32_329 : BitVec 32 := 2#32
  let c2_i32_328 : BitVec 32 := 2#32
  let c0_i32_134 : BitVec 32 := 0#32
  let c4_i32_102 : BitVec 32 := 4#32
  let v219 : BitVec 32 := Scalar.muli arg10 c4_i32_102
  let c0_i32_104 : BitVec 32 := 0#32
  let v221 : BitVec 1 := Scalar.cmpi .sgt v219 c0_i32_104
  let v222 : BitVec 32 := Scalar.extui v221
  let c0_i32_105 : BitVec 32 := 0#32
  let v223 : BitVec 1 := Scalar.cmpi .slt v219 c0_i32_105
  let v224 : BitVec 32 := Scalar.extui v223
  let v225 : BitVec 32 := Scalar.subi v222 v224
  let c4_i32_103 : BitVec 32 := 4#32
  let c0_i32_106 : BitVec 32 := 0#32
  let v226 : BitVec 1 := Scalar.cmpi .sgt c4_i32_103 c0_i32_106
  let v227 : BitVec 32 := Scalar.extui v226
  let c0_i32_107 : BitVec 32 := 0#32
  let v228 : BitVec 1 := Scalar.cmpi .slt c4_i32_103 c0_i32_107
  let v229 : BitVec 32 := Scalar.extui v228
  let v230 : BitVec 32 := Scalar.subi v227 v229
  let v231 : BitVec 1 := Scalar.cmpi .ne v225 v230
  let v232 : BitVec 32 := Scalar.remsi v219 c4_i32_103
  let c0_i32_108 : BitVec 32 := 0#32
  let v233 : BitVec 1 := Scalar.cmpi .ne v232 c0_i32_108
  let v234 : BitVec 1 := Scalar.andi v231 v233
  let v220 : BitVec 32 := Scalar.divsi v219 c4_i32_103
  let c1_i32_109 : BitVec 32 := 1#32
  let v235 : BitVec 32 := Scalar.subi v220 c1_i32_109
  let v236 : BitVec 32 := Scalar.select v234 v235 v220
  let c1_i32_123 : BitVec 32 := 1#32
  let c4_i32_110 : BitVec 32 := 4#32
  let v237 : BitVec 32 := Scalar.muli arg10 c4_i32_110
  let c0_i32_112 : BitVec 32 := 0#32
  let v239 : BitVec 1 := Scalar.cmpi .sgt v237 c0_i32_112
  let v240 : BitVec 32 := Scalar.extui v239
  let c0_i32_113 : BitVec 32 := 0#32
  let v241 : BitVec 1 := Scalar.cmpi .slt v237 c0_i32_113
  let v242 : BitVec 32 := Scalar.extui v241
  let v243 : BitVec 32 := Scalar.subi v240 v242
  let c4_i32_111 : BitVec 32 := 4#32
  let c0_i32_114 : BitVec 32 := 0#32
  let v244 : BitVec 1 := Scalar.cmpi .sgt c4_i32_111 c0_i32_114
  let v245 : BitVec 32 := Scalar.extui v244
  let c0_i32_115 : BitVec 32 := 0#32
  let v246 : BitVec 1 := Scalar.cmpi .slt c4_i32_111 c0_i32_115
  let v247 : BitVec 32 := Scalar.extui v246
  let v248 : BitVec 32 := Scalar.subi v245 v247
  let v249 : BitVec 1 := Scalar.cmpi .ne v243 v248
  let v250 : BitVec 32 := Scalar.remsi v237 c4_i32_111
  let c0_i32_116 : BitVec 32 := 0#32
  let v251 : BitVec 1 := Scalar.cmpi .ne v250 c0_i32_116
  let v252 : BitVec 1 := Scalar.andi v249 v251
  let v238 : BitVec 32 := Scalar.divsi v237 c4_i32_111
  let c1_i32_117 : BitVec 32 := 1#32
  let v253 : BitVec 32 := Scalar.subi v238 c1_i32_117
  let v254 : BitVec 32 := Scalar.select v252 v253 v238
  let c2_i32 : BitVec 32 := 2#32
  let c0_i32_118 : BitVec 32 := 0#32
  let v255 : BitVec 1 := Scalar.cmpi .eq c2_i32 c0_i32_118
  let c1_i32_119 : BitVec 32 := 1#32
  let v256 : BitVec 32 := Scalar.select v255 c1_i32_119 c2_i32
  let v257 : BitVec 32 := Scalar.remsi v254 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let v265 : BitVec 32 := Scalar.subi c1_i32_123 v264
  let v266 : BitVec 32 := Scalar.addi v236 v265
  let c1_i32_124 : BitVec 32 := 1#32
  let v267 : BitVec 32 := Scalar.addi v266 c1_i32_124
  let c2_i32_126 : BitVec 32 := 2#32
  let v269 : BitVec 32 := Scalar.subi v267 c2_i32_126
  let c0_i32_128 : BitVec 32 := 0#32
  let v271 : BitVec 1 := Scalar.cmpi .sgt v269 c0_i32_128
  let v272 : BitVec 32 := Scalar.extui v271
  let c0_i32_129 : BitVec 32 := 0#32
  let v273 : BitVec 1 := Scalar.cmpi .slt v269 c0_i32_129
  let v274 : BitVec 32 := Scalar.extui v273
  let v275 : BitVec 32 := Scalar.subi v272 v274
  let c2_i32_127 : BitVec 32 := 2#32
  let c0_i32_130 : BitVec 32 := 0#32
  let v276 : BitVec 1 := Scalar.cmpi .sgt c2_i32_127 c0_i32_130
  let v277 : BitVec 32 := Scalar.extui v276
  let c0_i32_131 : BitVec 32 := 0#32
  let v278 : BitVec 1 := Scalar.cmpi .slt c2_i32_127 c0_i32_131
  let v279 : BitVec 32 := Scalar.extui v278
  let v280 : BitVec 32 := Scalar.subi v277 v279
  let v281 : BitVec 1 := Scalar.cmpi .ne v275 v280
  let v282 : BitVec 32 := Scalar.remsi v269 c2_i32_127
  let c0_i32_132 : BitVec 32 := 0#32
  let v283 : BitVec 1 := Scalar.cmpi .ne v282 c0_i32_132
  let v284 : BitVec 1 := Scalar.andi v281 v283
  let v270 : BitVec 32 := Scalar.divsi v269 c2_i32_127
  let c1_i32_133 : BitVec 32 := 1#32
  let v285 : BitVec 32 := Scalar.subi v270 c1_i32_133
  let v286 : BitVec 32 := Scalar.select v284 v285 v270
  let v287 : BitVec 32 := Scalar.subi v286 c0_i32_134
  let c1_i32_135 : BitVec 32 := 1#32
  let v289 : BitVec 32 := Scalar.divsi v287 c1_i32_135
  let v290 : BitVec 32 := Scalar.muli v289 c1_i32_135
  let v291 : BitVec 32 := Scalar.addi c0_i32_134 v290
  let c1_i32_137 : BitVec 32 := 1#32
  let arg14 : BitVec 32 := Scf.iv v291 c1_i32_137 k0_t3
  let v651 : BitVec 32 := Scalar.muli c2_i32_328 arg14
  let v652 : BitVec 32 := Scalar.addi c2_i32_329 v651
  let c1_i32_383 : BitVec 32 := 1#32
  let v752 : BitVec 32 := Scalar.addi v652 c1_i32_383
  let c4_i32_384 : BitVec 32 := 4#32
  let v753 : BitVec 32 := Scalar.muli arg10 c4_i32_384
  let c0_i32_386 : BitVec 32 := 0#32
  let v755 : BitVec 1 := Scalar.cmpi .sgt v753 c0_i32_386
  let v756 : BitVec 32 := Scalar.extui v755
  let c0_i32_387 : BitVec 32 := 0#32
  let v757 : BitVec 1 := Scalar.cmpi .slt v753 c0_i32_387
  let v758 : BitVec 32 := Scalar.extui v757
  let v759 : BitVec 32 := Scalar.subi v756 v758
  let c4_i32_385 : BitVec 32 := 4#32
  let c0_i32_388 : BitVec 32 := 0#32
  let v760 : BitVec 1 := Scalar.cmpi .sgt c4_i32_385 c0_i32_388
  let v761 : BitVec 32 := Scalar.extui v760
  let c0_i32_389 : BitVec 32 := 0#32
  let v762 : BitVec 1 := Scalar.cmpi .slt c4_i32_385 c0_i32_389
  let v763 : BitVec 32 := Scalar.extui v762
  let v764 : BitVec 32 := Scalar.subi v761 v763
  let v765 : BitVec 1 := Scalar.cmpi .ne v759 v764
  let v766 : BitVec 32 := Scalar.remsi v753 c4_i32_385
  let c0_i32_390 : BitVec 32 := 0#32
  let v767 : BitVec 1 := Scalar.cmpi .ne v766 c0_i32_390
  let v768 : BitVec 1 := Scalar.andi v765 v767
  let v754 : BitVec 32 := Scalar.divsi v753 c4_i32_385
  let c1_i32_391 : BitVec 32 := 1#32
  let v769 : BitVec 32 := Scalar.subi v754 c1_i32_391
  let v770 : BitVec 32 := Scalar.select v768 v769 v754
  let v774 : BitVec 1 := Scalar.cmpi .eq v752 v770
  let c2_i32_393 : BitVec 32 := 2#32
  let c0_i32_394 : BitVec 32 := 0#32
  let v775 : BitVec 1 := Scalar.cmpi .eq c2_i32_393 c0_i32_394
  let c1_i32_395 : BitVec 32 := 1#32
  let v776 : BitVec 32 := Scalar.select v775 c1_i32_395 c2_i32_393
  let v777 : BitVec 32 := Scalar.remsi v770 v776
  let c0_i32_397 : BitVec 32 := 0#32
  let v779 : BitVec 1 := Scalar.cmpi .slt v777 c0_i32_397
  let c0_i32_398 : BitVec 32 := 0#32
  let v780 : BitVec 1 := Scalar.cmpi .slt v776 c0_i32_398
  let v781 : BitVec 1 := Scalar.xori v779 v780
  let c0_i32_396 : BitVec 32 := 0#32
  let v778 : BitVec 1 := Scalar.cmpi .ne v777 c0_i32_396
  let v782 : BitVec 1 := Scalar.andi v781 v778
  let v783 : BitVec 32 := Scalar.addi v777 v776
  let v784 : BitVec 32 := Scalar.select v782 v783 v777
  let c0_i32_399 : BitVec 32 := 0#32
  let v785 : BitVec 1 := Scalar.cmpi .eq v784 c0_i32_399
  let v786 : BitVec 1 := Scalar.andi v774 v785
  let v800 : BitVec 32 := Scalar.extui v786
  let v802 : Index := Scalar.indexCast v800
  let c0_408 : Index := 0#32
  let c0_409 : Index := 0#32
  ![v801.toNat, v802.toNat, 0, 0]
def k0_mult9 (k0_t1 : Fin k0_t1_loop.trips) : BitVec 32 :=
  let c0_i32_147 : BitVec 32 := 0#32
  let c0_i32_99 : BitVec 32 := 0#32
  let c1_i32_100 : BitVec 32 := 1#32
  let arg10 : BitVec 32 := Scf.iv c0_i32_99 c1_i32_100 k0_t1
  let c1_i32_138 : BitVec 32 := 1#32
  let v294 : BitVec 32 := Scalar.addi arg10 c1_i32_138
  let c15_i32 : BitVec 32 := 15#32
  let v295 : BitVec 32 := Scalar.minsi v294 c15_i32
  let c4_i32_139 : BitVec 32 := 4#32
  let v296 : BitVec 32 := Scalar.muli v295 c4_i32_139
  let c0_i32_141 : BitVec 32 := 0#32
  let v298 : BitVec 1 := Scalar.cmpi .sgt v296 c0_i32_141
  let v299 : BitVec 32 := Scalar.extui v298
  let c0_i32_142 : BitVec 32 := 0#32
  let v300 : BitVec 1 := Scalar.cmpi .slt v296 c0_i32_142
  let v301 : BitVec 32 := Scalar.extui v300
  let v302 : BitVec 32 := Scalar.subi v299 v301
  let c4_i32_140 : BitVec 32 := 4#32
  let c0_i32_143 : BitVec 32 := 0#32
  let v303 : BitVec 1 := Scalar.cmpi .sgt c4_i32_140 c0_i32_143
  let v304 : BitVec 32 := Scalar.extui v303
  let c0_i32_144 : BitVec 32 := 0#32
  let v305 : BitVec 1 := Scalar.cmpi .slt c4_i32_140 c0_i32_144
  let v306 : BitVec 32 := Scalar.extui v305
  let v307 : BitVec 32 := Scalar.subi v304 v306
  let v308 : BitVec 1 := Scalar.cmpi .ne v302 v307
  let v309 : BitVec 32 := Scalar.remsi v296 c4_i32_140
  let c0_i32_145 : BitVec 32 := 0#32
  let v310 : BitVec 1 := Scalar.cmpi .ne v309 c0_i32_145
  let v311 : BitVec 1 := Scalar.andi v308 v310
  let v297 : BitVec 32 := Scalar.divsi v296 c4_i32_140
  let c1_i32_146 : BitVec 32 := 1#32
  let v312 : BitVec 32 := Scalar.subi v297 c1_i32_146
  let v313 : BitVec 32 := Scalar.select v311 v312 v297
  let v314 : BitVec 32 := Scalar.minsi c0_i32_147 v313
  let c1024_i32_148 : BitVec 32 := 1024#32
  let v315 : BitVec 32 := Scalar.muli v314 c1024_i32_148
  v315
def k0_off13 (k0_t1 : Fin k0_t1_loop.trips) (c0_i32_147 : BitVec 32) : Fin 3 → Nat :=
  let c0_157 : Index := 0#32
  let c0_i32_99 : BitVec 32 := 0#32
  let c1_i32_100 : BitVec 32 := 1#32
  let arg10 : BitVec 32 := Scf.iv c0_i32_99 c1_i32_100 k0_t1
  let c1_i32_138 : BitVec 32 := 1#32
  let v294 : BitVec 32 := Scalar.addi arg10 c1_i32_138
  let c15_i32 : BitVec 32 := 15#32
  let v295 : BitVec 32 := Scalar.minsi v294 c15_i32
  let c4_i32_139 : BitVec 32 := 4#32
  let v296 : BitVec 32 := Scalar.muli v295 c4_i32_139
  let c0_i32_141 : BitVec 32 := 0#32
  let v298 : BitVec 1 := Scalar.cmpi .sgt v296 c0_i32_141
  let v299 : BitVec 32 := Scalar.extui v298
  let c0_i32_142 : BitVec 32 := 0#32
  let v300 : BitVec 1 := Scalar.cmpi .slt v296 c0_i32_142
  let v301 : BitVec 32 := Scalar.extui v300
  let v302 : BitVec 32 := Scalar.subi v299 v301
  let c4_i32_140 : BitVec 32 := 4#32
  let c0_i32_143 : BitVec 32 := 0#32
  let v303 : BitVec 1 := Scalar.cmpi .sgt c4_i32_140 c0_i32_143
  let v304 : BitVec 32 := Scalar.extui v303
  let c0_i32_144 : BitVec 32 := 0#32
  let v305 : BitVec 1 := Scalar.cmpi .slt c4_i32_140 c0_i32_144
  let v306 : BitVec 32 := Scalar.extui v305
  let v307 : BitVec 32 := Scalar.subi v304 v306
  let v308 : BitVec 1 := Scalar.cmpi .ne v302 v307
  let v309 : BitVec 32 := Scalar.remsi v296 c4_i32_140
  let c0_i32_145 : BitVec 32 := 0#32
  let v310 : BitVec 1 := Scalar.cmpi .ne v309 c0_i32_145
  let v311 : BitVec 1 := Scalar.andi v308 v310
  let v297 : BitVec 32 := Scalar.divsi v296 c4_i32_140
  let c1_i32_146 : BitVec 32 := 1#32
  let v312 : BitVec 32 := Scalar.subi v297 c1_i32_146
  let v313 : BitVec 32 := Scalar.select v311 v312 v297
  let v314 : BitVec 32 := Scalar.minsi c0_i32_147 v313
  let c1024_i32_148 : BitVec 32 := 1024#32
  let v315 : BitVec 32 := Scalar.muli v314 c1024_i32_148
  let v316 : BitVec 32 := v315
  let v330 : Index := Scalar.indexCast v316
  let c0_158 : Index := 0#32
  ![0, v330.toNat, 0]
def k0_off14 (k0_t1 : Fin k0_t1_loop.trips) (c0_i32_149 : BitVec 32) : Fin 4 → Nat :=
  let c0_i32_99 : BitVec 32 := 0#32
  let c1_i32_100 : BitVec 32 := 1#32
  let arg10 : BitVec 32 := Scf.iv c0_i32_99 c1_i32_100 k0_t1
  let c1_i32_138 : BitVec 32 := 1#32
  let v294 : BitVec 32 := Scalar.addi arg10 c1_i32_138
  let c15_i32 : BitVec 32 := 15#32
  let v295 : BitVec 32 := Scalar.minsi v294 c15_i32
  let c2_i32_159 : BitVec 32 := 2#32
  let c0_i32_160 : BitVec 32 := 0#32
  let v333 : BitVec 1 := Scalar.cmpi .eq c2_i32_159 c0_i32_160
  let c1_i32_161 : BitVec 32 := 1#32
  let v334 : BitVec 32 := Scalar.select v333 c1_i32_161 c2_i32_159
  let v335 : BitVec 32 := Scalar.remsi v295 v334
  let c0_i32_163 : BitVec 32 := 0#32
  let v337 : BitVec 1 := Scalar.cmpi .slt v335 c0_i32_163
  let c0_i32_164 : BitVec 32 := 0#32
  let v338 : BitVec 1 := Scalar.cmpi .slt v334 c0_i32_164
  let v339 : BitVec 1 := Scalar.xori v337 v338
  let c0_i32_162 : BitVec 32 := 0#32
  let v336 : BitVec 1 := Scalar.cmpi .ne v335 c0_i32_162
  let v340 : BitVec 1 := Scalar.andi v339 v336
  let v341 : BitVec 32 := Scalar.addi v335 v334
  let v342 : BitVec 32 := Scalar.select v340 v341 v335
  let v344 : Index := Scalar.indexCast v342
  let c4_i32_139 : BitVec 32 := 4#32
  let v296 : BitVec 32 := Scalar.muli v295 c4_i32_139
  let c0_i32_141 : BitVec 32 := 0#32
  let v298 : BitVec 1 := Scalar.cmpi .sgt v296 c0_i32_141
  let v299 : BitVec 32 := Scalar.extui v298
  let c0_i32_142 : BitVec 32 := 0#32
  let v300 : BitVec 1 := Scalar.cmpi .slt v296 c0_i32_142
  let v301 : BitVec 32 := Scalar.extui v300
  let v302 : BitVec 32 := Scalar.subi v299 v301
  let c4_i32_140 : BitVec 32 := 4#32
  let c0_i32_143 : BitVec 32 := 0#32
  let v303 : BitVec 1 := Scalar.cmpi .sgt c4_i32_140 c0_i32_143
  let v304 : BitVec 32 := Scalar.extui v303
  let c0_i32_144 : BitVec 32 := 0#32
  let v305 : BitVec 1 := Scalar.cmpi .slt c4_i32_140 c0_i32_144
  let v306 : BitVec 32 := Scalar.extui v305
  let v307 : BitVec 32 := Scalar.subi v304 v306
  let v308 : BitVec 1 := Scalar.cmpi .ne v302 v307
  let v309 : BitVec 32 := Scalar.remsi v296 c4_i32_140
  let c0_i32_145 : BitVec 32 := 0#32
  let v310 : BitVec 1 := Scalar.cmpi .ne v309 c0_i32_145
  let v311 : BitVec 1 := Scalar.andi v308 v310
  let v297 : BitVec 32 := Scalar.divsi v296 c4_i32_140
  let c1_i32_146 : BitVec 32 := 1#32
  let v312 : BitVec 32 := Scalar.subi v297 c1_i32_146
  let v313 : BitVec 32 := Scalar.select v311 v312 v297
  let v317 : BitVec 1 := Scalar.cmpi .eq v313 c0_i32_149
  let c2_i32_150 : BitVec 32 := 2#32
  let c0_i32_151 : BitVec 32 := 0#32
  let v318 : BitVec 1 := Scalar.cmpi .eq c2_i32_150 c0_i32_151
  let c1_i32_152 : BitVec 32 := 1#32
  let v319 : BitVec 32 := Scalar.select v318 c1_i32_152 c2_i32_150
  let v320 : BitVec 32 := Scalar.remsi v313 v319
  let c0_i32_154 : BitVec 32 := 0#32
  let v322 : BitVec 1 := Scalar.cmpi .slt v320 c0_i32_154
  let c0_i32_155 : BitVec 32 := 0#32
  let v323 : BitVec 1 := Scalar.cmpi .slt v319 c0_i32_155
  let v324 : BitVec 1 := Scalar.xori v322 v323
  let c0_i32_153 : BitVec 32 := 0#32
  let v321 : BitVec 1 := Scalar.cmpi .ne v320 c0_i32_153
  let v325 : BitVec 1 := Scalar.andi v324 v321
  let v326 : BitVec 32 := Scalar.addi v320 v319
  let v327 : BitVec 32 := Scalar.select v325 v326 v320
  let c0_i32_156 : BitVec 32 := 0#32
  let v328 : BitVec 1 := Scalar.cmpi .eq v327 c0_i32_156
  let v329 : BitVec 1 := Scalar.andi v317 v328
  let v343 : BitVec 32 := Scalar.extui v329
  let v345 : Index := Scalar.indexCast v343
  let c0_165 : Index := 0#32
  let c0_166 : Index := 0#32
  ![v344.toNat, v345.toNat, 0, 0]
def k0_off15 (k0_t1 : Fin k0_t1_loop.trips) (c2_i32_204 : BitVec 32) : Fin 4 → Nat :=
  let c0_213 : Index := 0#32
  let c0_i32_99 : BitVec 32 := 0#32
  let c1_i32_100 : BitVec 32 := 1#32
  let arg10 : BitVec 32 := Scf.iv c0_i32_99 c1_i32_100 k0_t1
  let c4_i32_102 : BitVec 32 := 4#32
  let v219 : BitVec 32 := Scalar.muli arg10 c4_i32_102
  let c0_i32_104 : BitVec 32 := 0#32
  let v221 : BitVec 1 := Scalar.cmpi .sgt v219 c0_i32_104
  let v222 : BitVec 32 := Scalar.extui v221
  let c0_i32_105 : BitVec 32 := 0#32
  let v223 : BitVec 1 := Scalar.cmpi .slt v219 c0_i32_105
  let v224 : BitVec 32 := Scalar.extui v223
  let v225 : BitVec 32 := Scalar.subi v222 v224
  let c4_i32_103 : BitVec 32 := 4#32
  let c0_i32_106 : BitVec 32 := 0#32
  let v226 : BitVec 1 := Scalar.cmpi .sgt c4_i32_103 c0_i32_106
  let v227 : BitVec 32 := Scalar.extui v226
  let c0_i32_107 : BitVec 32 := 0#32
  let v228 : BitVec 1 := Scalar.cmpi .slt c4_i32_103 c0_i32_107
  let v229 : BitVec 32 := Scalar.extui v228
  let v230 : BitVec 32 := Scalar.subi v227 v229
  let v231 : BitVec 1 := Scalar.cmpi .ne v225 v230
  let v232 : BitVec 32 := Scalar.remsi v219 c4_i32_103
  let c0_i32_108 : BitVec 32 := 0#32
  let v233 : BitVec 1 := Scalar.cmpi .ne v232 c0_i32_108
  let v234 : BitVec 1 := Scalar.andi v231 v233
  let v220 : BitVec 32 := Scalar.divsi v219 c4_i32_103
  let c1_i32_109 : BitVec 32 := 1#32
  let v235 : BitVec 32 := Scalar.subi v220 c1_i32_109
  let v236 : BitVec 32 := Scalar.select v234 v235 v220
  let c1_i32_123 : BitVec 32 := 1#32
  let c4_i32_110 : BitVec 32 := 4#32
  let v237 : BitVec 32 := Scalar.muli arg10 c4_i32_110
  let c0_i32_112 : BitVec 32 := 0#32
  let v239 : BitVec 1 := Scalar.cmpi .sgt v237 c0_i32_112
  let v240 : BitVec 32 := Scalar.extui v239
  let c0_i32_113 : BitVec 32 := 0#32
  let v241 : BitVec 1 := Scalar.cmpi .slt v237 c0_i32_113
  let v242 : BitVec 32 := Scalar.extui v241
  let v243 : BitVec 32 := Scalar.subi v240 v242
  let c4_i32_111 : BitVec 32 := 4#32
  let c0_i32_114 : BitVec 32 := 0#32
  let v244 : BitVec 1 := Scalar.cmpi .sgt c4_i32_111 c0_i32_114
  let v245 : BitVec 32 := Scalar.extui v244
  let c0_i32_115 : BitVec 32 := 0#32
  let v246 : BitVec 1 := Scalar.cmpi .slt c4_i32_111 c0_i32_115
  let v247 : BitVec 32 := Scalar.extui v246
  let v248 : BitVec 32 := Scalar.subi v245 v247
  let v249 : BitVec 1 := Scalar.cmpi .ne v243 v248
  let v250 : BitVec 32 := Scalar.remsi v237 c4_i32_111
  let c0_i32_116 : BitVec 32 := 0#32
  let v251 : BitVec 1 := Scalar.cmpi .ne v250 c0_i32_116
  let v252 : BitVec 1 := Scalar.andi v249 v251
  let v238 : BitVec 32 := Scalar.divsi v237 c4_i32_111
  let c1_i32_117 : BitVec 32 := 1#32
  let v253 : BitVec 32 := Scalar.subi v238 c1_i32_117
  let v254 : BitVec 32 := Scalar.select v252 v253 v238
  let c2_i32 : BitVec 32 := 2#32
  let c0_i32_118 : BitVec 32 := 0#32
  let v255 : BitVec 1 := Scalar.cmpi .eq c2_i32 c0_i32_118
  let c1_i32_119 : BitVec 32 := 1#32
  let v256 : BitVec 32 := Scalar.select v255 c1_i32_119 c2_i32
  let v257 : BitVec 32 := Scalar.remsi v254 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let v265 : BitVec 32 := Scalar.subi c1_i32_123 v264
  let v266 : BitVec 32 := Scalar.addi v236 v265
  let c1_i32_124 : BitVec 32 := 1#32
  let v267 : BitVec 32 := Scalar.addi v266 c1_i32_124
  let v399 : BitVec 32 := Scalar.subi v267 c2_i32_204
  let c4_i32_205 : BitVec 32 := 4#32
  let v402 : BitVec 32 := Scalar.muli arg10 c4_i32_205
  let c0_i32_207 : BitVec 32 := 0#32
  let v404 : BitVec 1 := Scalar.cmpi .sgt v402 c0_i32_207
  let v405 : BitVec 32 := Scalar.extui v404
  let c0_i32_208 : BitVec 32 := 0#32
  let v406 : BitVec 1 := Scalar.cmpi .slt v402 c0_i32_208
  let v407 : BitVec 32 := Scalar.extui v406
  let v408 : BitVec 32 := Scalar.subi v405 v407
  let c4_i32_206 : BitVec 32 := 4#32
  let c0_i32_209 : BitVec 32 := 0#32
  let v409 : BitVec 1 := Scalar.cmpi .sgt c4_i32_206 c0_i32_209
  let v410 : BitVec 32 := Scalar.extui v409
  let c0_i32_210 : BitVec 32 := 0#32
  let v411 : BitVec 1 := Scalar.cmpi .slt c4_i32_206 c0_i32_210
  let v412 : BitVec 32 := Scalar.extui v411
  let v413 : BitVec 32 := Scalar.subi v410 v412
  let v414 : BitVec 1 := Scalar.cmpi .ne v408 v413
  let v415 : BitVec 32 := Scalar.remsi v402 c4_i32_206
  let c0_i32_211 : BitVec 32 := 0#32
  let v416 : BitVec 1 := Scalar.cmpi .ne v415 c0_i32_211
  let v417 : BitVec 1 := Scalar.andi v414 v416
  let v403 : BitVec 32 := Scalar.divsi v402 c4_i32_206
  let c1_i32_212 : BitVec 32 := 1#32
  let v418 : BitVec 32 := Scalar.subi v403 c1_i32_212
  let v419 : BitVec 32 := Scalar.select v417 v418 v403
  let v420 : BitVec 32 := Scalar.minsi v399 v419
  let v421 : Index := Scalar.indexCast v420
  let c0_214 : Index := 0#32
  let c0_215 : Index := 0#32
  ![0, v421.toNat, 0, 0]
def k0_mult10 (k0_t1 : Fin k0_t1_loop.trips) : BitVec 32 :=
  let c1_i32_228 : BitVec 32 := 1#32
  let c0_i32_99 : BitVec 32 := 0#32
  let c1_i32_100 : BitVec 32 := 1#32
  let arg10 : BitVec 32 := Scf.iv c0_i32_99 c1_i32_100 k0_t1
  let c1_i32_138 : BitVec 32 := 1#32
  let v294 : BitVec 32 := Scalar.addi arg10 c1_i32_138
  let c15_i32 : BitVec 32 := 15#32
  let v295 : BitVec 32 := Scalar.minsi v294 c15_i32
  let c4_i32_220 : BitVec 32 := 4#32
  let v428 : BitVec 32 := Scalar.muli v295 c4_i32_220
  let c0_i32_222 : BitVec 32 := 0#32
  let v430 : BitVec 1 := Scalar.cmpi .sgt v428 c0_i32_222
  let v431 : BitVec 32 := Scalar.extui v430
  let c0_i32_223 : BitVec 32 := 0#32
  let v432 : BitVec 1 := Scalar.cmpi .slt v428 c0_i32_223
  let v433 : BitVec 32 := Scalar.extui v432
  let v434 : BitVec 32 := Scalar.subi v431 v433
  let c4_i32_221 : BitVec 32 := 4#32
  let c0_i32_224 : BitVec 32 := 0#32
  let v435 : BitVec 1 := Scalar.cmpi .sgt c4_i32_221 c0_i32_224
  let v436 : BitVec 32 := Scalar.extui v435
  let c0_i32_225 : BitVec 32 := 0#32
  let v437 : BitVec 1 := Scalar.cmpi .slt c4_i32_221 c0_i32_225
  let v438 : BitVec 32 := Scalar.extui v437
  let v439 : BitVec 32 := Scalar.subi v436 v438
  let v440 : BitVec 1 := Scalar.cmpi .ne v434 v439
  let v441 : BitVec 32 := Scalar.remsi v428 c4_i32_221
  let c0_i32_226 : BitVec 32 := 0#32
  let v442 : BitVec 1 := Scalar.cmpi .ne v441 c0_i32_226
  let v443 : BitVec 1 := Scalar.andi v440 v442
  let v429 : BitVec 32 := Scalar.divsi v428 c4_i32_221
  let c1_i32_227 : BitVec 32 := 1#32
  let v444 : BitVec 32 := Scalar.subi v429 c1_i32_227
  let v445 : BitVec 32 := Scalar.select v443 v444 v429
  let v446 : BitVec 32 := Scalar.minsi c1_i32_228 v445
  let c1024_i32_229 : BitVec 32 := 1024#32
  let v447 : BitVec 32 := Scalar.muli v446 c1024_i32_229
  v447
def k0_mult11 (k0_t1 : Fin k0_t1_loop.trips) : BitVec 32 :=
  let c0_i32_99 : BitVec 32 := 0#32
  let c1_i32_100 : BitVec 32 := 1#32
  let arg10 : BitVec 32 := Scf.iv c0_i32_99 c1_i32_100 k0_t1
  let c2_i32_253 : BitVec 32 := 2#32
  let v486 : BitVec 32 := Scalar.addi arg10 c2_i32_253
  let c15_i32_254 : BitVec 32 := 15#32
  let v487 : BitVec 32 := Scalar.minsi v486 c15_i32_254
  let c1024_i32_255 : BitVec 32 := 1024#32
  let v488 : BitVec 32 := Scalar.muli v487 c1024_i32_255
  v488
def k0_off16 (k0_t1 : Fin k0_t1_loop.trips) : Fin 3 → Nat :=
  let c0_256 : Index := 0#32
  let c0_i32_99 : BitVec 32 := 0#32
  let c1_i32_100 : BitVec 32 := 1#32
  let arg10 : BitVec 32 := Scf.iv c0_i32_99 c1_i32_100 k0_t1
  let c2_i32_253 : BitVec 32 := 2#32
  let v486 : BitVec 32 := Scalar.addi arg10 c2_i32_253
  let c15_i32_254 : BitVec 32 := 15#32
  let v487 : BitVec 32 := Scalar.minsi v486 c15_i32_254
  let c1024_i32_255 : BitVec 32 := 1024#32
  let v488 : BitVec 32 := Scalar.muli v487 c1024_i32_255
  let v489 : BitVec 32 := v488
  let v490 : Index := Scalar.indexCast v489
  let c0_257 : Index := 0#32
  ![0, v490.toNat, 0]
def k0_off17 (k0_t1 : Fin k0_t1_loop.trips) : Fin 4 → Nat :=
  let c0_i32_99 : BitVec 32 := 0#32
  let c1_i32_100 : BitVec 32 := 1#32
  let arg10 : BitVec 32 := Scf.iv c0_i32_99 c1_i32_100 k0_t1
  let c2_i32_253 : BitVec 32 := 2#32
  let v486 : BitVec 32 := Scalar.addi arg10 c2_i32_253
  let c15_i32_254 : BitVec 32 := 15#32
  let v487 : BitVec 32 := Scalar.minsi v486 c15_i32_254
  let c2_i32_283 : BitVec 32 := 2#32
  let c0_i32_284 : BitVec 32 := 0#32
  let v567 : BitVec 1 := Scalar.cmpi .eq c2_i32_283 c0_i32_284
  let c1_i32_285 : BitVec 32 := 1#32
  let v568 : BitVec 32 := Scalar.select v567 c1_i32_285 c2_i32_283
  let v569 : BitVec 32 := Scalar.remsi v487 v568
  let c0_i32_287 : BitVec 32 := 0#32
  let v571 : BitVec 1 := Scalar.cmpi .slt v569 c0_i32_287
  let c0_i32_288 : BitVec 32 := 0#32
  let v572 : BitVec 1 := Scalar.cmpi .slt v568 c0_i32_288
  let v573 : BitVec 1 := Scalar.xori v571 v572
  let c0_i32_286 : BitVec 32 := 0#32
  let v570 : BitVec 1 := Scalar.cmpi .ne v569 c0_i32_286
  let v574 : BitVec 1 := Scalar.andi v573 v570
  let v575 : BitVec 32 := Scalar.addi v569 v568
  let v576 : BitVec 32 := Scalar.select v574 v575 v569
  let v577 : Index := Scalar.indexCast v576
  let c0_289 : Index := 0#32
  let c0_290 : Index := 0#32
  let c0_291 : Index := 0#32
  ![v577.toNat, 0, 0, 0]
def k0_off18 (k0_t1 : Fin k0_t1_loop.trips) : Fin 4 → Nat :=
  let c0_i32_99 : BitVec 32 := 0#32
  let c1_i32_100 : BitVec 32 := 1#32
  let arg10 : BitVec 32 := Scf.iv c0_i32_99 c1_i32_100 k0_t1
  let c2_i32_253 : BitVec 32 := 2#32
  let v486 : BitVec 32 := Scalar.addi arg10 c2_i32_253
  let c15_i32_254 : BitVec 32 := 15#32
  let v487 : BitVec 32 := Scalar.minsi v486 c15_i32_254
  let c2_i32_293 : BitVec 32 := 2#32
  let c0_i32_294 : BitVec 32 := 0#32
  let v583 : BitVec 1 := Scalar.cmpi .eq c2_i32_293 c0_i32_294
  let c1_i32_295 : BitVec 32 := 1#32
  let v584 : BitVec 32 := Scalar.select v583 c1_i32_295 c2_i32_293
  let v585 : BitVec 32 := Scalar.remsi v487 v584
  let c0_i32_297 : BitVec 32 := 0#32
  let v587 : BitVec 1 := Scalar.cmpi .slt v585 c0_i32_297
  let c0_i32_298 : BitVec 32 := 0#32
  let v588 : BitVec 1 := Scalar.cmpi .slt v584 c0_i32_298
  let v589 : BitVec 1 := Scalar.xori v587 v588
  let c0_i32_296 : BitVec 32 := 0#32
  let v586 : BitVec 1 := Scalar.cmpi .ne v585 c0_i32_296
  let v590 : BitVec 1 := Scalar.andi v589 v586
  let v591 : BitVec 32 := Scalar.addi v585 v584
  let v592 : BitVec 32 := Scalar.select v590 v591 v585
  let v593 : Index := Scalar.indexCast v592
  let c1_299 : Index := 1#32
  let c0_300 : Index := 0#32
  let c0_301 : Index := 0#32
  ![v593.toNat, 1, 0, 0]
def k0_mult12 (k0_t1 : Fin k0_t1_loop.trips) : BitVec 32 :=
  let c0_i32_99 : BitVec 32 := 0#32
  let c1_i32_100 : BitVec 32 := 1#32
  let arg10 : BitVec 32 := Scf.iv c0_i32_99 c1_i32_100 k0_t1
  let c1024_i32_325 : BitVec 32 := 1024#32
  let v645 : BitVec 32 := Scalar.muli arg10 c1024_i32_325
  v645
def k0_off19 (k0_t1 : Fin k0_t1_loop.trips) : Fin 3 → Nat :=
  let c0_326 : Index := 0#32
  let c0_i32_99 : BitVec 32 := 0#32
  let c1_i32_100 : BitVec 32 := 1#32
  let arg10 : BitVec 32 := Scf.iv c0_i32_99 c1_i32_100 k0_t1
  let c1024_i32_325 : BitVec 32 := 1024#32
  let v645 : BitVec 32 := Scalar.muli arg10 c1024_i32_325
  let v646 : BitVec 32 := v645
  let v647 : Index := Scalar.indexCast v646
  let c0_327 : Index := 0#32
  ![0, v647.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x144x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x16384x1024 : Shape := ⟨3, ![2, 16384, 1024]⟩
abbrev S2x16384x8x128 : Shape := ⟨4, ![2, 16384, 8, 128]⟩
abbrev S2x8x16384x128 : Shape := ⟨4, ![2, 8, 16384, 128]⟩
abbrev S16384 : Shape := ⟨1, ![16384]⟩
abbrev S64x256 : Shape := ⟨2, ![64, 256]⟩
abbrev S2x8x64x256x128 : Shape := ⟨5, ![2, 8, 64, 256, 128]⟩
abbrev S_ : Shape := ⟨0, ![]⟩
abbrev S2x8x64x128 : Shape := ⟨4, ![2, 8, 64, 128]⟩
abbrev S2x8x16384x64 : Shape := ⟨4, ![2, 8, 16384, 64]⟩
abbrev S64 : Shape := ⟨1, ![64]⟩
abbrev S16384x1 : Shape := ⟨2, ![16384, 1]⟩
abbrev S1x64 : Shape := ⟨2, ![1, 64]⟩
abbrev S16384x64 : Shape := ⟨2, ![16384, 64]⟩
abbrev S2x8x16384x3 : Shape := ⟨4, ![2, 8, 16384, 3]⟩
abbrev S3 : Shape := ⟨1, ![3]⟩
abbrev S1x3 : Shape := ⟨2, ![1, 3]⟩
abbrev S16384x3 : Shape := ⟨2, ![16384, 3]⟩
abbrev S2x8x16384x3x1 : Shape := ⟨5, ![2, 8, 16384, 3, 1]⟩
abbrev S1x1x1x1x16384 : Shape := ⟨5, ![1, 1, 1, 1, 16384]⟩
abbrev S2x8x16384x3x16384 : Shape := ⟨5, ![2, 8, 16384, 3, 16384]⟩
abbrev S16384x3x1 : Shape := ⟨3, ![16384, 3, 1]⟩
abbrev S1x1x16384x3x1 : Shape := ⟨5, ![1, 1, 16384, 3, 1]⟩
abbrev S2x8x16384x16384 : Shape := ⟨4, ![2, 8, 16384, 16384]⟩
abbrev S1x16384 : Shape := ⟨2, ![1, 16384]⟩
abbrev S16384x16384 : Shape := ⟨2, ![16384, 16384]⟩
abbrev S1x1x16384x16384 : Shape := ⟨4, ![1, 1, 16384, 16384]⟩
abbrev S2x8x16384 : Shape := ⟨3, ![2, 8, 16384]⟩
abbrev S2x8x16384x1 : Shape := ⟨4, ![2, 8, 16384, 1]⟩

abbrev nBuf : Space → Nat
  | .hbm => 86
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S2x16384x8x128, .f32⟩
  | .hbm, ⟨4, _⟩ => ⟨S2x8x16384x128, .f32⟩
  | .hbm, ⟨5, _⟩ => ⟨S2x16384x8x128, .f32⟩
  | .hbm, ⟨6, _⟩ => ⟨S2x8x16384x128, .f32⟩
  | .hbm, ⟨7, _⟩ => ⟨S2x16384x8x128, .f32⟩
  | .hbm, ⟨8, _⟩ => ⟨S2x8x16384x128, .f32⟩
  | .hbm, ⟨9, _⟩ => ⟨S16384, .i32⟩
  | .hbm, ⟨10, _⟩ => ⟨S64x256, .i32⟩
  | .hbm, ⟨11, _⟩ => ⟨S16384, .i32⟩
  | .hbm, ⟨12, _⟩ => ⟨S2x8x64x256x128, .f32⟩
  | .hbm, ⟨13, _⟩ => ⟨S_, .f32⟩
  | .hbm, ⟨14, _⟩ => ⟨S2x8x64x128, .f32⟩
  | .hbm, ⟨15, _⟩ => ⟨S_, .f32⟩
  | .hbm, ⟨16, _⟩ => ⟨S2x8x64x128, .f32⟩
  | .hbm, ⟨17, _⟩ => ⟨S2x8x64x128, .f32⟩
  | .hbm, ⟨18, _⟩ => ⟨S2x8x16384x64, .f32⟩
  | .hbm, ⟨19, _⟩ => ⟨S64, .i32⟩
  | .hbm, ⟨20, _⟩ => ⟨S16384x1, .i32⟩
  | .hbm, ⟨21, _⟩ => ⟨S1x64, .i32⟩
  | .hbm, ⟨22, _⟩ => ⟨S16384x64, .i32⟩
  | .hbm, ⟨23, _⟩ => ⟨S16384x64, .i32⟩
  | .hbm, ⟨24, _⟩ => ⟨S16384x64, .i1⟩
  | .hbm, ⟨25, _⟩ => ⟨S_, .f32⟩
  | .hbm, ⟨26, _⟩ => ⟨S_, .f32⟩
  | .hbm, ⟨27, _⟩ => ⟨S2x8x16384x64, .i1⟩
  | .hbm, ⟨28, _⟩ => ⟨S2x8x16384x64, .f32⟩
  | .hbm, ⟨29, _⟩ => ⟨S2x8x16384x64, .f32⟩
  | .hbm, ⟨30, _⟩ => ⟨S2x8x16384x3, .f32⟩
  | .hbm, ⟨31, _⟩ => ⟨S2x8x16384x3, .i32⟩
  | .hbm, ⟨32, _⟩ => ⟨S3, .i32⟩
  | .hbm, ⟨33, _⟩ => ⟨S16384x1, .i32⟩
  | .hbm, ⟨34, _⟩ => ⟨S1x3, .i32⟩
  | .hbm, ⟨35, _⟩ => ⟨S16384x3, .i32⟩
  | .hbm, ⟨36, _⟩ => ⟨S16384x3, .i32⟩
  | .hbm, ⟨37, _⟩ => ⟨S16384x3, .i1⟩
  | .hbm, ⟨38, _⟩ => ⟨S2x8x16384x3x1, .i32⟩
  | .hbm, ⟨39, _⟩ => ⟨S1x1x1x1x16384, .i32⟩
  | .hbm, ⟨40, _⟩ => ⟨S2x8x16384x3x16384, .i32⟩
  | .hbm, ⟨41, _⟩ => ⟨S2x8x16384x3x16384, .i32⟩
  | .hbm, ⟨42, _⟩ => ⟨S2x8x16384x3x16384, .i1⟩
  | .hbm, ⟨43, _⟩ => ⟨S16384x3x1, .i1⟩
  | .hbm, ⟨44, _⟩ => ⟨S1x1x16384x3x1, .i1⟩
  | .hbm, ⟨45, _⟩ => ⟨S2x8x16384x3x16384, .i1⟩
  | .hbm, ⟨46, _⟩ => ⟨S2x8x16384x3x16384, .i1⟩
  | .hbm, ⟨47, _⟩ => ⟨S_, .i1⟩
  | .hbm, ⟨48, _⟩ => ⟨S2x8x16384x16384, .i1⟩
  | .hbm, ⟨49, _⟩ => ⟨S16384x1, .i32⟩
  | .hbm, ⟨50, _⟩ => ⟨S1x16384, .i32⟩
  | .hbm, ⟨51, _⟩ => ⟨S16384x16384, .i32⟩
  | .hbm, ⟨52, _⟩ => ⟨S16384x16384, .i32⟩
  | .hbm, ⟨53, _⟩ => ⟨S16384x16384, .i1⟩
  | .hbm, ⟨54, _⟩ => ⟨S16384x1, .i32⟩
  | .hbm, ⟨55, _⟩ => ⟨S1x16384, .i32⟩
  | .hbm, ⟨56, _⟩ => ⟨S16384x16384, .i32⟩
  | .hbm, ⟨57, _⟩ => ⟨S16384x16384, .i32⟩
  | .hbm, ⟨58, _⟩ => ⟨S16384x16384, .i1⟩
  | .hbm, ⟨59, _⟩ => ⟨S16384x16384, .i1⟩
  | .hbm, ⟨60, _⟩ => ⟨S1x1x16384x16384, .i1⟩
  | .hbm, ⟨61, _⟩ => ⟨S2x8x16384x16384, .i1⟩
  | .hbm, ⟨62, _⟩ => ⟨S2x8x16384x16384, .i1⟩
  | .hbm, ⟨63, _⟩ => ⟨S2x8x16384x16384, .f32⟩
  | .hbm, ⟨64, _⟩ => ⟨S_, .f32⟩
  | .hbm, ⟨65, _⟩ => ⟨S_, .f32⟩
  | .hbm, ⟨66, _⟩ => ⟨S2x8x16384x16384, .f32⟩
  | .hbm, ⟨67, _⟩ => ⟨S2x8x16384x16384, .f32⟩
  | .hbm, ⟨68, _⟩ => ⟨S_, .f32⟩
  | .hbm, ⟨69, _⟩ => ⟨S2x8x16384, .f32⟩
  | .hbm, ⟨70, _⟩ => ⟨S_, .f32⟩
  | .hbm, ⟨71, _⟩ => ⟨S2x8x16384, .f32⟩
  | .hbm, ⟨72, _⟩ => ⟨S2x8x16384, .f32⟩
  | .hbm, ⟨73, _⟩ => ⟨S2x8x16384x1, .f32⟩
  | .hbm, ⟨74, _⟩ => ⟨S2x8x16384x16384, .f32⟩
  | .hbm, ⟨75, _⟩ => ⟨S2x8x16384x16384, .f32⟩
  | .hbm, ⟨76, _⟩ => ⟨S2x8x16384x16384, .f32⟩
  | .hbm, ⟨77, _⟩ => ⟨S_, .f32⟩
  | .hbm, ⟨78, _⟩ => ⟨S2x8x16384, .f32⟩
  | .hbm, ⟨79, _⟩ => ⟨S2x8x16384x1, .f32⟩
  | .hbm, ⟨80, _⟩ => ⟨S2x8x16384x16384, .f32⟩
  | .hbm, ⟨81, _⟩ => ⟨S2x8x16384x16384, .f32⟩
  | .hbm, ⟨82, _⟩ => ⟨S2x8x16384x128, .f32⟩
  | .hbm, ⟨83, _⟩ => ⟨S2x16384x8x128, .f32⟩
  | .hbm, ⟨84, _⟩ => ⟨S2x16384x1024, .f32⟩
  | .hbm, ⟨85, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_values : Ref sig .tc := ⟨.hbm, 30, rfl⟩
abbrev main_indices : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_2 : Ref sig .tc := ⟨.hbm, 64, rfl⟩
abbrev main_call1_v0 : Ref sig .tc := ⟨.hbm, 65, rfl⟩
abbrev main_call1_v1 : Ref sig .tc := ⟨.hbm, 66, rfl⟩
abbrev main_v52 : Ref sig .tc := ⟨.hbm, 67, rfl⟩
abbrev main_cst_3 : Ref sig .tc := ⟨.hbm, 68, rfl⟩
abbrev main_v53 : Ref sig .tc := ⟨.hbm, 69, rfl⟩
abbrev main_cst_4 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Gates.lean ====
abbrev S2x16384x2048 : Shape := ⟨3, ![2, 16384, 2048]⟩
abbrev S2x2048x11264 : Shape := ⟨3, ![2, 2048, 11264]⟩
abbrev S32768x2048 : Shape := ⟨2, ![32768, 2048]⟩
abbrev S32768x6144 : Shape := ⟨2, ![32768, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2x2048x11264, .f32⟩
  | .hbm, ⟨2, _⟩ => ⟨S32768x2048, .f32⟩
  | .hbm, ⟨3, _⟩ => ⟨S32768x2048, .bf16⟩
  | .hbm, ⟨4, _⟩ => ⟨S2x2048x11264, .bf16⟩
  | .hbm, ⟨5, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesRefIdeal.lean ====
abbrev S2x16384x2048 : Shape := ⟨3, ![2, 16384, 2048]⟩
abbrev S2x2048x11264 : Shape := ⟨3, ![2, 2048, 11264]⟩
abbrev S32768x2048 : Shape := ⟨2, ![32768, 2048]⟩
abbrev S1x2048x11264 : Shape := ⟨3, ![1, 2048, 11264]⟩
abbrev S2048x11264 : Shape := ⟨2, ![2048, 11264]⟩
abbrev S32768x11264 : Shape := ⟨2, ![32768, 11264]⟩
abbrev S32768x6144 : Shape := ⟨2, ![32768, 6144]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048x11264, .f32⟩
  | .hbm, ⟨2, _⟩ => ⟨S32768x2048, .f32⟩
  | .hbm, ⟨3, _⟩ => ⟨S1x2048x11264, .f32⟩
  | .hbm, ⟨4, _⟩ => ⟨S2048x11264, .f32⟩
  | .hbm, ⟨5, _⟩ => ⟨S32768x11264, .f32⟩
  | .hbm, ⟨6, _⟩ => ⟨S32768x6144, .f32⟩
  | .hbm, ⟨7, _⟩ => ⟨S32768x6144, .f32⟩
  | .hbm, ⟨8, _⟩ => ⟨S32768x6144, .f32⟩
  | .hbm, ⟨9, _⟩ => ⟨S_, .f32⟩
  | .hbm, ⟨10, _⟩ => ⟨S32768x6144, .f32⟩
  | .hbm, ⟨11, _⟩ => ⟨S32768x6144, .f32⟩
  | .hbm, ⟨12, _⟩ => ⟨S_, .f32⟩
  | .hbm, ⟨13, _⟩ => ⟨S32768x6144, .f32⟩
  | .hbm, ⟨14, _⟩ => ⟨S32768x6144, .f32⟩
  | .hbm, ⟨15, _⟩ => ⟨S32768x6144, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Merge.lean ====
abbrev S2x16384x2048 : Shape := ⟨3, ![2, 16384, 2048]⟩
abbrev S2x16384x512 : Shape := ⟨3, ![2, 16384, 512]⟩
abbrev S2x16384x1024 : Shape := ⟨3, ![2, 16384, 1024]⟩
abbrev S2x16384x6144 : Shape := ⟨3, ![2, 16384, 6144]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S2x2048 : Shape := ⟨2, ![2, 2048]⟩
abbrev S32768x2048 : Shape := ⟨2, ![32768, 2048]⟩
abbrev S32768x512 : Shape := ⟨2, ![32768, 512]⟩
abbrev S32768x1024 : Shape := ⟨2, ![32768, 1024]⟩
abbrev S32768x6144 : Shape := ⟨2, ![32768, 6144]⟩
abbrev S1x2048 : Shape := ⟨2, ![1, 2048]⟩
abbrev S2048 : Shape := ⟨1, ![2048]⟩
abbrev S256x2048 : Shape := ⟨2, ![256, 2048]⟩
abbrev S256x512 : Shape := ⟨2, ![256, 512]⟩
abbrev S256x1024 : Shape := ⟨2, ![256, 1024]⟩
abbrev S256x6144 : Shape := ⟨2, ![256, 6144]⟩
abbrev S1x512x2048 : Shape := ⟨3, ![1, 512, 2048]⟩
abbrev S1x1024x2048 : Shape := ⟨3, ![1, 1024, 2048]⟩
abbrev S1x2048x2048 : Shape := ⟨3, ![1, 2048, 2048]⟩
abbrev S512x2048 : Shape := ⟨2, ![512, 2048]⟩
abbrev S1024x2048 : Shape := ⟨2, ![1024, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 27
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2x16384x512, .f32⟩
  | .hbm, ⟨2, _⟩ => ⟨S2x16384x512, .f32⟩
  | .hbm, ⟨3, _⟩ => ⟨S2x16384x1024, .f32⟩
  | .hbm, ⟨4, _⟩ => ⟨S2x16384x6144, .f32⟩
  | .hbm, ⟨5, _⟩ => ⟨S2x512x2048, .f32⟩
  | .hbm, ⟨6, _⟩ => ⟨S2x512x2048, .f32⟩
  | .hbm, ⟨7, _⟩ => ⟨S2x1024x2048, .f32⟩
  | .hbm, ⟨8, _⟩ => ⟨S2x2048x2048, .f32⟩
  | .hbm, ⟨9, _⟩ => ⟨S2x2048, .f32⟩
  | .hbm, ⟨10, _⟩ => ⟨S2x512x2048, .bf16⟩
  | .hbm, ⟨11, _⟩ => ⟨S2x512x2048, .bf16⟩
  | .hbm, ⟨12, _⟩ => ⟨S2x1024x2048, .bf16⟩
  | .hbm, ⟨13, _⟩ => ⟨S2x2048x2048, .bf16⟩
  | .hbm, ⟨14, _⟩ => ⟨S32768x2048, .f32⟩
  | .hbm, ⟨15, _⟩ => ⟨S32768x512, .f32⟩
  | .hbm, ⟨16, _⟩ => ⟨S32768x512, .bf16⟩
  | .hbm, ⟨17, _⟩ => ⟨S32768x512, .f32⟩
  | .hbm, ⟨18, _⟩ => ⟨S32768x512, .bf16⟩
  | .hbm, ⟨19, _⟩ => ⟨S32768x1024, .f32⟩
  | .hbm, ⟨20, _⟩ => ⟨S32768x1024, .bf16⟩
  | .hbm, ⟨21, _⟩ => ⟨S32768x6144, .f32⟩
  | .hbm, ⟨22, _⟩ => ⟨S32768x6144, .bf16⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x6144, .bf16⟩
  | .local _ .vmem, ⟨9, _⟩ => ⟨S256x6144, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x1024x2048, .bf16⟩
  | .local _ .vmem, ⟨13, _⟩ => ⟨S1x2048x2048, .bf16⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S2x16384x2048 : Shape := ⟨3, ![2, 16384, 2048]⟩
abbrev S2x16384x512 : Shape := ⟨3, ![2, 16384, 512]⟩
abbrev S2x16384x1024 : Shape := ⟨3, ![2, 16384, 1024]⟩
abbrev S2x16384x6144 : Shape := ⟨3, ![2, 16384, 6144]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S2x2048 : Shape := ⟨2, ![2, 2048]⟩
abbrev S32768x2048 : Shape := ⟨2, ![32768, 2048]⟩
abbrev S32768x512 : Shape := ⟨2, ![32768, 512]⟩
abbrev S32768x1024 : Shape := ⟨2, ![32768, 1024]⟩
abbrev S32768x6144 : Shape := ⟨2, ![32768, 6144]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩

abbrev nBuf : Space → Nat
  | .hbm => 54
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x512, .f32⟩
  | .hbm, ⟨2, _⟩ => ⟨S2x16384x512, .f32⟩
  | .hbm, ⟨3, _⟩ => ⟨S2x16384x1024, .f32⟩
  | .hbm, ⟨4, _⟩ => ⟨S2x16384x6144, .f32⟩
  | .hbm, ⟨5, _⟩ => ⟨S2x512x2048, .f32⟩
  | .hbm, ⟨6, _⟩ => ⟨S2x512x2048, .f32⟩
  | .hbm, ⟨7, _⟩ => ⟨S2x1024x2048, .f32⟩
  | .hbm, ⟨8, _⟩ => ⟨S2x2048x2048, .f32⟩
  | .hbm, ⟨9, _⟩ => ⟨S2x2048, .f32⟩
  | .hbm, ⟨10, _⟩ => ⟨S32768x2048, .f32⟩
  | .hbm, ⟨11, _⟩ => ⟨S32768x512, .f32⟩
  | .hbm, ⟨12, _⟩ => ⟨S32768x512, .f32⟩
  | .hbm, ⟨13, _⟩ => ⟨S32768x1024, .f32⟩
  | .hbm, ⟨14, _⟩ => ⟨S32768x6144, .f32⟩
  | .hbm, ⟨15, _⟩ => ⟨S1x512x2048, .f32⟩
  | .hbm, ⟨16, _⟩ => ⟨S512x2048, .f32⟩
  | .hbm, ⟨17, _⟩ => ⟨S32768x2048, .f32⟩
  | .hbm, ⟨18, _⟩ => ⟨S1x512x2048, .f32⟩
  | .hbm, ⟨19, _⟩ => ⟨S512x2048, .f32⟩
  | .hbm, ⟨20, _⟩ => ⟨S32768x2048, .f32⟩
  | .hbm, ⟨21, _⟩ => ⟨S1x1024x2048, .f32⟩
  | .hbm, ⟨22, _⟩ => ⟨S1024x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S1x2048x2048, .f32⟩
  | .hbm, ⟨33, _⟩ => ⟨S2048x2048, .f32⟩
  | .hbm, ⟨34, _⟩ => ⟨S32768x2048, .f32⟩
  | .hbm, ⟨35, _⟩ => ⟨S1x2048, .f32⟩
  | .hbm, ⟨36, _⟩ => ⟨S2048, .f32⟩
  | .hbm, ⟨37, _⟩ => ⟨S32768x2048, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x2048, .f32⟩
  | .hbm, ⟨49, _⟩ => ⟨S32768x2048, .f32⟩
  | .hbm, ⟨50, _⟩ => ⟨S1x2048, .f32⟩
  | .hbm, ⟨51, _⟩ => ⟨S32768x2048, .f32⟩
  | .hbm, ⟨52, _⟩ => ⟨S32768x2048, .f32⟩
  | .hbm, ⟨53, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_cst_0 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Ple.lean ====
abbrev S2x16384x2048 : Shape := ⟨3, ![2, 16384, 2048]⟩
abbrev S2x2x16384x256 : Shape := ⟨4, ![2, 2, 16384, 256]⟩
abbrev S2x2048 : Shape := ⟨2, ![2, 2048]⟩
abbrev S2x2048x2048 : Shape := ⟨3, ![2, 2048, 2048]⟩
abbrev S2x256x2048 : Shape := ⟨3, ![2, 256, 2048]⟩
abbrev S1x2048 : Shape := ⟨2, ![1, 2048]⟩
abbrev S2048 : Shape := ⟨1, ![2048]⟩
abbrev S32768x2048 : Shape := ⟨2, ![32768, 2048]⟩
abbrev S2x32768x256 : Shape := ⟨3, ![2, 32768, 256]⟩
abbrev S512x2048 : Shape := ⟨2, ![512, 2048]⟩
abbrev S1x512x256 : Shape := ⟨3, ![1, 512, 256]⟩
abbrev S1x2048x2048 : Shape := ⟨3, ![1, 2048, 2048]⟩
abbrev S1x256x2048 : Shape := ⟨3, ![1, 256, 2048]⟩
abbrev S512 : Shape := ⟨1, ![512]⟩
abbrev S512x1 : Shape := ⟨2, ![512, 1]⟩
abbrev S2048x2048 : Shape := ⟨2, ![2048, 2048]⟩
abbrev S512x256 : Shape := ⟨2, ![512, 256]⟩
abbrev S256x2048 : Shape := ⟨2, ![256, 2048]⟩

abbrev nBuf : Space → Nat
  | .hbm => 14
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2x2x16384x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S1x2048, .f32⟩
  | .hbm, ⟨6, _⟩ => ⟨S2048, .f32⟩
  | .hbm, ⟨7, _⟩ => ⟨S32768x2048, .f32⟩
  | .hbm, ⟨8, _⟩ => ⟨S2x32768x256, .f32⟩
  | .hbm, ⟨9, _⟩ => ⟨S1x2048, .f32⟩
  | .hbm, ⟨10, _⟩ => ⟨S2x2048x2048, .bf16⟩
  | .hbm, ⟨11, _⟩ => ⟨S2x256x2048, .bf16⟩
  | .hbm, ⟨12, _⟩ => ⟨S1x2048, .f32⟩
  | .hbm, ⟨13, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x2048, .f32⟩
  | .local _ .vmem, ⟨5, _⟩ => ⟨S1x2048x2048, .bf16⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S2x16384x2048 : Shape := ⟨3, ![2, 16384, 2048]⟩
abbrev S2x2x16384x256 : Shape := ⟨4, ![2, 2, 16384, 256]⟩
abbrev S2x2048 : Shape := ⟨2, ![2, 2048]⟩
abbrev S2x2048x2048 : Shape := ⟨3, ![2, 2048, 2048]⟩
abbrev S2x256x2048 : Shape := ⟨3, ![2, 256, 2048]⟩
abbrev S32768x2048 : Shape := ⟨2, ![32768, 2048]⟩
abbrev S2x32768x256 : Shape := ⟨3, ![2, 32768, 256]⟩
abbrev S1x32768x256 : Shape := ⟨3, ![1, 32768, 256]⟩
abbrev S32768x256 : Shape := ⟨2, ![32768, 256]⟩
abbrev S1x256x2048 : Shape := ⟨3, ![1, 256, 2048]⟩
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x2048 : Shape := ⟨3, ![1, 2048, 2048]⟩
abbrev S2048x2048 : Shape := ⟨2, ![2048, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2x16384x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S32768x2048, .f32⟩
  | .hbm, ⟨6, _⟩ => ⟨S2x32768x256, .f32⟩
  | .hbm, ⟨7, _⟩ => ⟨S1x32768x256, .f32⟩
  | .hbm, ⟨8, _⟩ => ⟨S32768x256, .f32⟩
  | .hbm, ⟨9, _⟩ => ⟨S1x256x2048, .f32⟩
  | .hbm, ⟨10, _⟩ => ⟨S256x2048, .f32⟩
  | .hbm, ⟨11, _⟩ => ⟨S32768x2048, .f32⟩
  | .hbm, ⟨12, _⟩ => ⟨S1x2048, .f32⟩
  | .hbm, ⟨13, _⟩ => ⟨S2048, .f32⟩
  | .hbm, ⟨14, _⟩ => ⟨S32768x2048, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x2048, .f32⟩
  | .hbm, ⟨26, _⟩ => ⟨S32768x2048, .f32⟩
  | .hbm, ⟨27, _⟩ => ⟨S1x2048, .f32⟩
  | .hbm, ⟨28, _⟩ => ⟨S32768x2048, .f32⟩
  | .hbm, ⟨29, _⟩ => ⟨S32768x2048, .f32⟩
  | .hbm, ⟨30, _⟩ => ⟨S1x2048x2048, .f32⟩
  | .hbm, ⟨31, _⟩ => ⟨S2048x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S_, .f32⟩
  | .hbm, ⟨39, _⟩ => ⟨S32768x2048, .f32⟩
  | .hbm, ⟨40, _⟩ => ⟨S32768x2048, .f32⟩
  | .hbm, ⟨41, _⟩ => ⟨S32768x2048, .f32⟩
  | .hbm, ⟨42, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Ffn.lean ====
abbrev S2x16384x2048 : Shape := ⟨3, ![2, 16384, 2048]⟩
abbrev S2x2048 : Shape := ⟨2, ![2, 2048]⟩
abbrev S2x2048x11264 : Shape := ⟨3, ![2, 2048, 11264]⟩
abbrev S2x3x5632 : Shape := ⟨3, ![2, 3, 5632]⟩
abbrev S2x5632 : Shape := ⟨2, ![2, 5632]⟩
abbrev S2x5632x2048 : Shape := ⟨3, ![2, 5632, 2048]⟩
abbrev S32768x2048 : Shape := ⟨2, ![32768, 2048]⟩
abbrev S1x2048 : Shape := ⟨2, ![1, 2048]⟩
abbrev S2048 : Shape := ⟨1, ![2048]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S512x2048 : Shape := ⟨2, ![512, 2048]⟩
abbrev S16x2048 : Shape := ⟨2, ![16, 2048]⟩
abbrev S1x2048x512 : Shape := ⟨3, ![1, 2048, 512]⟩
abbrev S3x512 : Shape := ⟨2, ![3, 512]⟩
abbrev S1x512 : Shape := ⟨2, ![1, 512]⟩
abbrev S1x512x2048 : Shape := ⟨3, ![1, 512, 2048]⟩
abbrev S528x2048 : Shape := ⟨2, ![528, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S2048x512 : Shape := ⟨2, ![2048, 512]⟩
abbrev S528x512 : Shape := ⟨2, ![528, 512]⟩
abbrev S512x512 : Shape := ⟨2, ![512, 512]⟩

abbrev nBuf : Space → Nat
  | .hbm => 22
  | .vmem => 20
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2x2048x11264, .f32⟩
  | .hbm, ⟨3, _⟩ => ⟨S2x3x5632, .f32⟩
  | .hbm, ⟨4, _⟩ => ⟨S2x5632, .f32⟩
  | .hbm, ⟨5, _⟩ => ⟨S2x5632x2048, .f32⟩
  | .hbm, ⟨6, _⟩ => ⟨S2x2048, .f32⟩
  | .hbm, ⟨7, _⟩ => ⟨S32768x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2x2048x11264, .bf16⟩
  | .hbm, ⟨12, _⟩ => ⟨S1x3x5632, .f32⟩
  | .hbm, ⟨13, _⟩ => ⟨S3x5632, .f32⟩
  | .hbm, ⟨14, _⟩ => ⟨S1x5632, .f32⟩
  | .hbm, ⟨15, _⟩ => ⟨S5632, .f32⟩
  | .hbm, ⟨16, _⟩ => ⟨S1x5632, .f32⟩
  | .hbm, ⟨17, _⟩ => ⟨S2x5632x2048, .bf16⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S3x512, .f32⟩
  | .local _ .vmem, ⟨10, _⟩ => ⟨S3x512, .f32⟩
  | .local _ .vmem, ⟨11, _⟩ => ⟨S1x512, .f32⟩
  | .local _ .vmem, ⟨12, _⟩ => ⟨S1x512, .f32⟩
  | .local _ .vmem, ⟨13, _⟩ => ⟨S1x512x2048, .bf16⟩
  | .local _ .vmem, ⟨14, _⟩ => ⟨S1x512x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S528x2048, .bf16⟩
  | .local _ .vmem, ⟨19, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v57 : BitVec 1 := Scalar.cmpi .eq arg1 c10_i32
  let v58 : BitVec 32 := Scalar.extui v57
  let c0_i32_28 : BitVec 32 := 0#32
  let v59 : BitVec 1 := Scalar.cmpi .ne v58 c0_i32_28
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S2x16384x2048 : Shape := ⟨3, ![2, 16384, 2048]⟩
abbrev S2x2048 : Shape := ⟨2, ![2, 2048]⟩
abbrev S2x2048x11264 : Shape := ⟨3, ![2, 2048, 11264]⟩
abbrev S2x3x5632 : Shape := ⟨3, ![2, 3, 5632]⟩
abbrev S2x5632 : Shape := ⟨2, ![2, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S1x2048x11264 : Shape := ⟨3, ![1, 2048, 11264]⟩
abbrev S2048x11264 : Shape := ⟨2, ![2048, 11264]⟩
abbrev S2x16384x11264 : Shape := ⟨3, ![2, 16384, 11264]⟩
abbrev S2x16384x5632 : Shape := ⟨3, ![2, 16384, 5632]⟩
abbrev S2x16386x5632 : Shape := ⟨3, ![2, 16386, 5632]⟩
abbrev S1x1x5632 : Shape := ⟨3, ![1, 1, 5632]⟩
abbrev S5632 : Shape := ⟨1, ![5632]⟩
abbrev S1x5632 : Shape := ⟨2, ![1, 5632]⟩
abbrev S1x5632x2048 : Shape := ⟨3, ![1, 5632, 2048]⟩
abbrev S5632x2048 : Shape := ⟨2, ![5632, 2048]⟩
abbrev S32768x2048 : Shape := ⟨2, ![32768, 2048]⟩

abbrev nBuf : Space → Nat
  | .hbm => 102
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2x2048x11264, .f32⟩
  | .hbm, ⟨3, _⟩ => ⟨S2x3x5632, .f32⟩
  | .hbm, ⟨4, _⟩ => ⟨S2x5632, .f32⟩
  | .hbm, ⟨5, _⟩ => ⟨S2x5632x2048, .f32⟩
  | .hbm, ⟨6, _⟩ => ⟨S2x2048, .f32⟩
  | .hbm, ⟨7, _⟩ => ⟨S1x2048, .f32⟩
  | .hbm, ⟨8, _⟩ => ⟨S2048, .f32⟩
  | .hbm, ⟨9, _⟩ => ⟨S2x16384x2048, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x2048, .f32⟩
  | .hbm, ⟨21, _⟩ => ⟨S2x16384x2048, .f32⟩
  | .hbm, ⟨22, _⟩ => ⟨S1x1x2048, .f32⟩
  | .hbm, ⟨23, _⟩ => ⟨S2x16384x2048, .f32⟩
  | .hbm, ⟨24, _⟩ => ⟨S2x16384x2048, .f32⟩
  | .hbm, ⟨25, _⟩ => ⟨S1x2048x11264, .f32⟩
  | .hbm, ⟨26, _⟩ => ⟨S2048x11264, .f32⟩
  | .hbm, ⟨27, _⟩ => ⟨S2x16384x11264, .f32⟩
  | .hbm, ⟨28, _⟩ => ⟨S2x16384x5632, .f32⟩
  | .hbm, ⟨29, _⟩ => ⟨S2x16384x5632, .f32⟩
  | .hbm, ⟨30, _⟩ => ⟨S_, .i32⟩
  | .hbm, ⟨31, _⟩ => ⟨S_, .f32⟩
  | .hbm, ⟨32, _⟩ => ⟨S2x16386x5632, .f32⟩
  | .hbm, ⟨33, _⟩ => ⟨S1x1x5632, .f32⟩
  | .hbm, ⟨34, _⟩ => ⟨S5632, .f32⟩
  | .hbm, ⟨35, _⟩ => ⟨S2x16384x5632, .f32⟩
  | .hbm, ⟨36, _⟩ => ⟨S1x1x5632, .f32⟩
  | .hbm, ⟨37, _⟩ => ⟨S2x16384x5632, .f32⟩
  | .hbm, ⟨38, _⟩ => ⟨S2x16384x5632, .f32⟩
  | .hbm, ⟨39, _⟩ => ⟨S_, .f32⟩
  | .hbm, ⟨40, _⟩ => ⟨S2x16384x5632, .f32⟩
  | .hbm, ⟨41, _⟩ => ⟨S2x16384x5632, .f32⟩
  | .hbm, ⟨42, _⟩ => ⟨S1x1x5632, .f32⟩
  | .hbm, ⟨43, _⟩ => ⟨S5632, .f32⟩
  | .hbm, ⟨44, _⟩ => ⟨S2x16384x5632, .f32⟩
  | .hbm, ⟨45, _⟩ => ⟨S1x1x5632, .f32⟩
  | .hbm, ⟨46, _⟩ => ⟨S2x16384x5632, .f32⟩
  | .hbm, ⟨47, _⟩ => ⟨S2x16384x5632, .f32⟩
  | .hbm, ⟨48, _⟩ => ⟨S2x16384x5632, .f32⟩
  | .hbm, ⟨49, _⟩ => ⟨S1x1x5632, .f32⟩
  | .hbm, ⟨50, _⟩ => ⟨S5632, .f32⟩
  | .hbm, ⟨51, _⟩ => ⟨S2x16384x5632, .f32⟩
  | .hbm, ⟨52, _⟩ => ⟨S1x1x5632, .f32⟩
  | .hbm, ⟨53, _⟩ => ⟨S2x16384x5632, .f32⟩
  | .hbm, ⟨54, _⟩ => ⟨S2x16384x5632, .f32⟩
  | .hbm, ⟨55, _⟩ => ⟨S2x16384x5632, .f32⟩
  | .hbm, ⟨56, _⟩ => ⟨S1x5632, .f32⟩
  | .hbm, ⟨57, _⟩ => ⟨S5632, .f32⟩
  | .hbm, ⟨58, _⟩ => ⟨S1x1x5632, .f32⟩
  | .hbm, ⟨59, _⟩ => ⟨S2x16384x5632, .f32⟩
  | .hbm, ⟨60, _⟩ => ⟨S2x16384x5632, .f32⟩
  | .hbm, ⟨61, _⟩ => ⟨S2x16384x5632, .f32⟩
  | .hbm, ⟨62, _⟩ => ⟨S2x16384x5632, .f32⟩
  | .hbm, ⟨63, _⟩ => ⟨S_, .f32⟩
  | .hbm, ⟨64, _⟩ => ⟨S2x16384x5632, .f32⟩
  | .hbm, ⟨65, _⟩ => ⟨S2x16384x5632, .f32⟩
  | .hbm, ⟨66, _⟩ => ⟨S2x16384x5632, .f32⟩
  | .hbm, ⟨67, _⟩ => ⟨S_, .f32⟩
  | .hbm, ⟨68, _⟩ => ⟨S2x16384x5632, .f32⟩
  | .hbm, ⟨69, _⟩ => ⟨S2x16384x5632, .f32⟩
  | .hbm, ⟨70, _⟩ => ⟨S2x16384x5632, .f32⟩
  | .hbm, ⟨71, _⟩ => ⟨S_, .f32⟩
  | .hbm, ⟨72, _⟩ => ⟨S2x16384x5632, .f32⟩
  | .hbm, ⟨73, _⟩ => ⟨S2x16384x5632, .f32⟩
  | .hbm, ⟨74, _⟩ => ⟨S_, .f32⟩
  | .hbm, ⟨75, _⟩ => ⟨S2x16384x5632, .f32⟩
  | .hbm, ⟨76, _⟩ => ⟨S2x16384x5632, .f32⟩
  | .hbm, ⟨77, _⟩ => ⟨S2x16384x5632, .f32⟩
  | .hbm, ⟨78, _⟩ => ⟨S2x16384x5632, .f32⟩
  | .hbm, ⟨79, _⟩ => ⟨S1x5632x2048, .f32⟩
  | .hbm, ⟨80, _⟩ => ⟨S5632x2048, .f32⟩
  | .hbm, ⟨81, _⟩ => ⟨S2x16384x2048, .f32⟩
  | .hbm, ⟨82, _⟩ => ⟨S1x2048, .f32⟩
  | .hbm, ⟨83, _⟩ => ⟨S2048, .f32⟩
  | .hbm, ⟨84, _⟩ => ⟨S2x16384x2048, .f32⟩
  | .hbm, ⟨85, _⟩ => ⟨S_, .f32⟩
  | .hbm, ⟨86, _⟩ => ⟨S2x16384, .f32⟩
  | .hbm, ⟨87, _⟩ => ⟨S2x16384x1, .f32⟩
  | .hbm, ⟨88, _⟩ => ⟨S_, .f32⟩
  | .hbm, ⟨89, _⟩ => ⟨S2x16384x1, .f32⟩
  | .hbm, ⟨90, _⟩ => ⟨S2x16384x1, .f32⟩
  | .hbm, ⟨91, _⟩ => ⟨S_, .f32⟩
  | .hbm, ⟨92, _⟩ => ⟨S2x16384x1, .f32⟩
  | .hbm, ⟨93, _⟩ => ⟨S2x16384x1, .f32⟩
  | .hbm, ⟨94, _⟩ => ⟨S2x16384x1, .f32⟩
  | .hbm, ⟨95, _⟩ => ⟨S2x16384x2048, .f32⟩
  | .hbm, ⟨96, _⟩ => ⟨S2x16384x2048, .f32⟩
  | .hbm, ⟨97, _⟩ => ⟨S1x1x2048, .f32⟩
  | .hbm, ⟨98, _⟩ => ⟨S2x16384x2048, .f32⟩
  | .hbm, ⟨99, _⟩ => ⟨S2x16384x2048, .f32⟩
  | .hbm, ⟨100, _⟩ => ⟨S2x16384x2048, .f32⟩
  | .hbm, ⟨101, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_4 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Sgu.lean ====
abbrev S2x16384x2048 : Shape := ⟨3, ![2, 16384, 2048]⟩
abbrev S2x2048x11264 : Shape := ⟨3, ![2, 2048, 11264]⟩
abbrev S2x512 : Shape := ⟨2, ![2, 512]⟩
abbrev S2x4x128x128 : Shape := ⟨4, ![2, 4, 128, 128]⟩
abbrev S2x4x128 : Shape := ⟨3, ![2, 4, 128]⟩
abbrev S32768x2048 : Shape := ⟨2, ![32768, 2048]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S128x4 : Shape := ⟨2, ![128, 4]⟩
abbrev S32768x512 : Shape := ⟨2, ![32768, 512]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 21
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2x2048x11264, .f32⟩
  | .hbm, ⟨2, _⟩ => ⟨S2x512, .f32⟩
  | .hbm, ⟨3, _⟩ => ⟨S2x512, .f32⟩
  | .hbm, ⟨4, _⟩ => ⟨S2x4x128x128, .f32⟩
  | .hbm, ⟨5, _⟩ => ⟨S2x4x128, .f32⟩
  | .hbm, ⟨6, _⟩ => ⟨S32768x2048, .f32⟩
  | .hbm, ⟨7, _⟩ => ⟨S32768x2048, .bf16⟩
  | .hbm, ⟨8, _⟩ => ⟨S2x2048x11264, .bf16⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S1x4x128x128, .f32⟩
  | .hbm, ⟨16, _⟩ => ⟨S4x128x128, .f32⟩
  | .hbm, ⟨17, _⟩ => ⟨S1x4x128, .f32⟩
  | .hbm, ⟨18, _⟩ => ⟨S4x128, .f32⟩
  | .hbm, ⟨19, _⟩ => ⟨S128x4, .f32⟩
  | .hbm, ⟨20, _⟩ => ⟨S32768x512, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S512x512, .bf16⟩
  | .local _ .vmem, ⟨9, _⟩ => ⟨S512x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c8_i32 : BitVec 32 := 8#32
  let c0_i32_1 : BitVec 32 := 0#32
  ![c0_i32.toNat, c0_i32_0.toNat, c8_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c9_i32 : BitVec 32 := 9#32
  let c0_i32_1 : BitVec 32 := 0#32
  ![c0_i32.toNat, c0_i32_0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguRefIdeal.lean ====
abbrev S2x16384x2048 : Shape := ⟨3, ![2, 16384, 2048]⟩
abbrev S2x2048x11264 : Shape := ⟨3, ![2, 2048, 11264]⟩
abbrev S2x512 : Shape := ⟨2, ![2, 512]⟩
abbrev S2x4x128x128 : Shape := ⟨4, ![2, 4, 128, 128]⟩
abbrev S2x4x128 : Shape := ⟨3, ![2, 4, 128]⟩
abbrev S1x2048x11264 : Shape := ⟨3, ![1, 2048, 11264]⟩
abbrev S2048x11264 : Shape := ⟨2, ![2048, 11264]⟩
abbrev S2x16384x11264 : Shape := ⟨3, ![2, 16384, 11264]⟩
abbrev S2x16384x1024 : Shape := ⟨3, ![2, 16384, 1024]⟩
abbrev S2x16384x512 : Shape := ⟨3, ![2, 16384, 512]⟩
abbrev S_ : Shape := ⟨0, ![]⟩
abbrev S1x512 : Shape := ⟨2, ![1, 512]⟩
abbrev S512 : Shape := ⟨1, ![512]⟩
abbrev S2x16384 : Shape := ⟨2, ![2, 16384]⟩
abbrev S2x16384x1 : Shape := ⟨3, ![2, 16384, 1]⟩
abbrev S1x1x512 : Shape := ⟨3, ![1, 1, 512]⟩
abbrev S2x128x128x4x128 : Shape := ⟨5, ![2, 128, 128, 4, 128]⟩
abbrev S128x128 : Shape := ⟨2, ![128, 128]⟩
abbrev S1x4x128x128 : Shape := ⟨4, ![1, 4, 128, 128]⟩
abbrev S4x128x128 : Shape := ⟨3, ![4, 128, 128]⟩
abbrev S1x128x128 : Shape := ⟨3, ![1, 128, 128]⟩
abbrev S4x2x128x128x128 : Shape := ⟨5, ![4, 2, 128, 128, 128]⟩
abbrev S1x4x128 : Shape := ⟨3, ![1, 4, 128]⟩
abbrev S4x128 : Shape := ⟨2, ![4, 128]⟩
abbrev S128x4 : Shape := ⟨2, ![128, 4]⟩
abbrev S1x1x128x4x1 : Shape := ⟨5, ![1, 1, 128, 4, 1]⟩
abbrev S32768x512 : Shape := ⟨2, ![32768, 512]⟩

abbrev nBuf : Space → Nat
  | .hbm => 108
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048x11264, .f32⟩
  | .hbm, ⟨2, _⟩ => ⟨S2x512, .f32⟩
  | .hbm, ⟨3, _⟩ => ⟨S2x512, .f32⟩
  | .hbm, ⟨4, _⟩ => ⟨S2x4x128x128, .f32⟩
  | .hbm, ⟨5, _⟩ => ⟨S2x4x128, .f32⟩
  | .hbm, ⟨6, _⟩ => ⟨S1x2048x11264, .f32⟩
  | .hbm, ⟨7, _⟩ => ⟨S2048x11264, .f32⟩
  | .hbm, ⟨8, _⟩ => ⟨S2x16384x11264, .f32⟩
  | .hbm, ⟨9, _⟩ => ⟨S2x16384x1024, .f32⟩
  | .hbm, ⟨10, _⟩ => ⟨S2x16384x512, .f32⟩
  | .hbm, ⟨11, _⟩ => ⟨S2x16384x512, .f32⟩
  | .hbm, ⟨12, _⟩ => ⟨S2x16384x512, .f32⟩
  | .hbm, ⟨13, _⟩ => ⟨S2x16384x512, .f32⟩
  | .hbm, ⟨14, _⟩ => ⟨S_, .f32⟩
  | .hbm, ⟨15, _⟩ => ⟨S2x16384x512, .f32⟩
  | .hbm, ⟨16, _⟩ => ⟨S2x16384x512, .f32⟩
  | .hbm, ⟨17, _⟩ => ⟨S2x16384x512, .f32⟩
  | .hbm, ⟨18, _⟩ => ⟨S_, .f32⟩
  | .hbm, ⟨19, _⟩ => ⟨S2x16384x512, .f32⟩
  | .hbm, ⟨20, _⟩ => ⟨S2x16384x512, .f32⟩
  | .hbm, ⟨21, _⟩ => ⟨S2x16384x512, .f32⟩
  | .hbm, ⟨22, _⟩ => ⟨S_, .f32⟩
  | .hbm, ⟨23, _⟩ => ⟨S2x16384x512, .f32⟩
  | .hbm, ⟨24, _⟩ => ⟨S2x16384x512, .f32⟩
  | .hbm, ⟨25, _⟩ => ⟨S_, .f32⟩
  | .hbm, ⟨26, _⟩ => ⟨S2x16384x512, .f32⟩
  | .hbm, ⟨27, _⟩ => ⟨S2x16384x512, .f32⟩
  | .hbm, ⟨28, _⟩ => ⟨S2x16384x512, .f32⟩
  | .hbm, ⟨29, _⟩ => ⟨S2x16384x512, .f32⟩
  | .hbm, ⟨30, _⟩ => ⟨S2x16384x512, .f32⟩
  | .hbm, ⟨31, _⟩ => ⟨S_, .f32⟩
  | .hbm, ⟨32, _⟩ => ⟨S2x16384x512, .f32⟩
  | .hbm, ⟨33, _⟩ => ⟨S2x16384x512, .f32⟩
  | .hbm, ⟨34, _⟩ => ⟨S2x16384x512, .f32⟩
  | .hbm, ⟨35, _⟩ => ⟨S_, .f32⟩
  | .hbm, ⟨36, _⟩ => ⟨S2x16384x512, .f32⟩
  | .hbm, ⟨37, _⟩ => ⟨S2x16384x512, .f32⟩
  | .hbm, ⟨38, _⟩ => ⟨S2x16384x512, .f32⟩
  | .hbm, ⟨39, _⟩ => ⟨S_, .f32⟩
  | .hbm, ⟨40, _⟩ => ⟨S2x16384x512, .f32⟩
  | .hbm, ⟨41, _⟩ => ⟨S2x16384x512, .f32⟩
  | .hbm, ⟨42, _⟩ => ⟨S_, .f32⟩
  | .hbm, ⟨43, _⟩ => ⟨S2x16384x512, .f32⟩
  | .hbm, ⟨44, _⟩ => ⟨S2x16384x512, .f32⟩
  | .hbm, ⟨45, _⟩ => ⟨S2x16384x512, .f32⟩
  | .hbm, ⟨46, _⟩ => ⟨S1x512, .f32⟩
  | .hbm, ⟨47, _⟩ => ⟨S512, .f32⟩
  | .hbm, ⟨48, _⟩ => ⟨S1x512, .f32⟩
  | .hbm, ⟨49, _⟩ => ⟨S512, .f32⟩
  | .hbm, ⟨50, _⟩ => ⟨S_, .f32⟩
  | .hbm, ⟨51, _⟩ => ⟨S2x16384, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S2x16384x512, .f32⟩
  | .hbm, ⟨57, _⟩ => ⟨S2x16384x512, .f32⟩
  | .hbm, ⟨58, _⟩ => ⟨S2x16384x512, .f32⟩
  | .hbm, ⟨59, _⟩ => ⟨S_, .f32⟩
  | .hbm, ⟨60, _⟩ => ⟨S2x16384, .f32⟩
  | .hbm, ⟨61, _⟩ => ⟨S2x16384x1, .f32⟩
  | .hbm, ⟨62, _⟩ => ⟨S_, .f32⟩
  | .hbm, ⟨63, _⟩ => ⟨S2x16384x1, .f32⟩
  | .hbm, ⟨64, _⟩ => ⟨S2x16384x1, .f32⟩
  | .hbm, ⟨65, _⟩ => ⟨S2x16384x512, .f32⟩
  | .hbm, ⟨66, _⟩ => ⟨S2x16384x512, .f32⟩
  | .hbm, ⟨67, _⟩ => ⟨S_, .f32⟩
  | .hbm, ⟨68, _⟩ => ⟨S2x16384x1, .f32⟩
  | .hbm, ⟨69, _⟩ => ⟨S2x16384x1, .f32⟩
  | .hbm, ⟨70, _⟩ => ⟨S2x16384x1, .f32⟩
  | .hbm, ⟨71, _⟩ => ⟨S2x16384x512, .f32⟩
  | .hbm, ⟨72, _⟩ => ⟨S2x16384x512, .f32⟩
  | .hbm, ⟨73, _⟩ => ⟨S1x1x512, .f32⟩
  | .hbm, ⟨74, _⟩ => ⟨S2x16384x512, .f32⟩
  | .hbm, ⟨75, _⟩ => ⟨S2x16384x512, .f32⟩
  | .hbm, ⟨76, _⟩ => ⟨S1x1x512, .f32⟩
  | .hbm, ⟨77, _⟩ => ⟨S2x16384x512, .f32⟩
  | .hbm, ⟨78, _⟩ => ⟨S2x16384x512, .f32⟩
  | .hbm, ⟨79, _⟩ => ⟨S2x128x128x4x128, .f32⟩
  | .hbm, ⟨80, _⟩ => ⟨S_, .f32⟩
  | .hbm, ⟨81, _⟩ => ⟨S128x128, .f32⟩
  | .hbm, ⟨82, _⟩ => ⟨S128x128, .i32⟩
  | .hbm, ⟨83, _⟩ => ⟨S_, .i32⟩
  | .hbm, ⟨84, _⟩ => ⟨S128x128, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S_, .f32⟩
  | .hbm, ⟨89, _⟩ => ⟨S128x128, .f32⟩
  | .hbm, ⟨90, _⟩ => ⟨S128x128, .f32⟩
  | .hbm, ⟨91, _⟩ => ⟨S1x4x128x128, .f32⟩
  | .hbm, ⟨92, _⟩ => ⟨S4x128x128, .f32⟩
  | .hbm, ⟨93, _⟩ => ⟨S1x128x128, .f32⟩
  | .hbm, ⟨94, _⟩ => ⟨S4x128x128, .f32⟩
  | .hbm, ⟨95, _⟩ => ⟨S4x128x128, .f32⟩
  | .hbm, ⟨96, _⟩ => ⟨S4x2x128x128x128, .f32⟩
  | .hbm, ⟨97, _⟩ => ⟨S2x128x128x4x128, .f32⟩
  | .hbm, ⟨98, _⟩ => ⟨S1x4x128, .f32⟩
  | .hbm, ⟨99, _⟩ => ⟨S4x128, .f32⟩
  | .hbm, ⟨100, _⟩ => ⟨S128x4, .f32⟩
  | .hbm, ⟨101, _⟩ => ⟨S1x1x128x4x1, .f32⟩
  | .hbm, ⟨102, _⟩ => ⟨S2x128x128x4x128, .f32⟩
  | .hbm, ⟨103, _⟩ => ⟨S2x128x128x4x128, .f32⟩
  | .hbm, ⟨104, _⟩ => ⟨S2x16384x512, .f32⟩
  | .hbm, ⟨105, _⟩ => ⟨S2x16384x512, .f32⟩
  | .hbm, ⟨106, _⟩ => ⟨S32768x512, .f32⟩
  | .hbm, ⟨107, _⟩ => ⟨S32768x512, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_cst : Ref sig .tc := ⟨.hbm, 88, rfl⟩
abbrev main_call0_v5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Qkv.lean ====
abbrev S2x16384x2048 : Shape := ⟨3, ![2, 16384, 2048]⟩
abbrev S2x2048x11264 : Shape := ⟨3, ![2, 2048, 11264]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S32768x2048 : Shape := ⟨2, ![32768, 2048]⟩
abbrev S32768x1024 : Shape := ⟨2, ![32768, 1024]⟩
abbrev S8x32x144x1024 : Shape := ⟨4, ![8, 32, 144, 1024]⟩
abbrev S32x4x1024 : Shape := ⟨3, ![32, 4, 1024]⟩
abbrev S1024x2048 : Shape := ⟨2, ![1024, 2048]⟩
abbrev S1x2048x1024 : Shape := ⟨3, ![1, 2048, 1024]⟩
abbrev S1024x128 : Shape := ⟨2, ![1024, 128]⟩
abbrev S1024x1024 : Shape := ⟨2, ![1024, 1024]⟩
abbrev S8x1x144x1024 : Shape := ⟨4, ![8, 1, 144, 1024]⟩
abbrev S1x4x1024 : Shape := ⟨3, ![1, 4, 1024]⟩
abbrev S2048x1024 : Shape := ⟨2, ![2048, 1024]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩
abbrev S128x1024 : Shape := ⟨2, ![128, 1024]⟩
abbrev S1x1x128x1024 : Shape := ⟨4, ![1, 1, 128, 1024]⟩
abbrev S16x1024 : Shape := ⟨2, ![16, 1024]⟩
abbrev S1x1x16x1024 : Shape := ⟨4, ![1, 1, 16, 1024]⟩

abbrev nBuf : Space → Nat
  | .hbm => 42
  | .vmem => 18
  | .smem => 0
  | _ => 0

abbrev bufTy : (tb : Table) → Fin (tcTables nBuf tb) → BufTy
  | .hbm, ⟨0, _⟩ => ⟨S2x16384x2048, .f32⟩
  | .hbm, ⟨1, _⟩ => ⟨S2x2048x11264, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16384, .i32⟩
  | .hbm, ⟨17, _⟩ => ⟨S16384, .f32⟩
  | .hbm, ⟨18, _⟩ => ⟨S16384x1, .f32⟩
  | .hbm, ⟨19, _⟩ => ⟨S1x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S_, .f32⟩
  | .hbm, ⟨26, _⟩ => ⟨S16384x96, .f32⟩
  | .hbm, ⟨27, _⟩ => ⟨S_, .f32⟩
  | .hbm, ⟨28, _⟩ => ⟨S16384x16, .f32⟩
  | .hbm, ⟨29, _⟩ => ⟨S_, .f32⟩
  | .hbm, ⟨30, _⟩ => ⟨S16384x96, .f32⟩
  | .hbm, ⟨31, _⟩ => ⟨S16384x128, .f32⟩
  | .hbm, ⟨32, _⟩ => ⟨S16384x16, .f32⟩
  | .hbm, ⟨33, _⟩ => ⟨S16384x128, .f32⟩
  | .hbm, ⟨34, _⟩ => ⟨S16384x128, .f32⟩
  | .hbm, ⟨35, _⟩ => ⟨S32768x2048, .f32⟩
  | .hbm, ⟨36, _⟩ => ⟨S32768x2048, .bf16⟩
  | .hbm, ⟨37, _⟩ => ⟨S2x2048x11264, .bf16⟩
  | .hbm, ⟨38, _⟩ => ⟨S32768x1024, .bf16⟩
  | .hbm, ⟨39, _⟩ => ⟨S32768x2048, .bf16⟩
  | .hbm, ⟨40, _⟩ => ⟨S8x32x144x1024, .bf16⟩
  | .hbm, ⟨41, _⟩ => ⟨S32x4x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x2048, .bf16⟩
  | .local _ .vmem, ⟨13, _⟩ => ⟨S1024x2048, .bf16⟩
  | .local _ .vmem, ⟨14, _⟩ => ⟨S8x1x144x1024, .bf16⟩
  | .local _ .vmem, ⟨15, _⟩ => ⟨S8x1x144x1024, .bf16⟩
  | .local _ .vmem, ⟨16, _⟩ => ⟨S1x4x1024, .f32⟩
  | .local _ .vmem, ⟨17, _⟩ => ⟨S1x4x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_5 : BitVec 32 := 0#32
  let v10 : BitVec 1 := Scalar.cmpi .ne v9 c0_i32_5
  v10

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x1x144x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== QkvRefIdeal.lean ====
abbrev S2x16384x2048 : Shape := ⟨3, ![2, 16384, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S2x16384x11264 : Shape := ⟨3, ![2, 16384, 11264]⟩
abbrev S2x16384x1024 : Shape := ⟨3, ![2, 16384, 1024]⟩
abbrev S16384 : Shape := ⟨1, ![16384]⟩
abbrev S2x16384x8x128 : Shape := ⟨4, ![2, 16384, 8, 128]⟩
abbrev S2x8x16384x128 : Shape := ⟨4, ![2, 8, 16384, 128]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S2x8x16384x16 : Shape := ⟨4, ![2, 8, 16384, 16]⟩
abbrev S1x1x16384x16 : Shape := ⟨4, ![1, 1, 16384, 16]⟩
abbrev S2x8x16384x96 : Shape := ⟨4, ![2, 8, 16384, 96]⟩
abbrev S32768x1024 : Shape := ⟨2, ![32768, 1024]⟩
abbrev S2x64x256x1024 : Shape := ⟨4, ![2, 64, 256, 1024]⟩
abbrev S2x64x1024 : Shape := ⟨3, ![2, 64, 1024]⟩
abbrev S2x64x256x8x128 : Shape := ⟨5, ![2, 64, 256, 8, 128]⟩
abbrev S128 : Shape := ⟨1, ![128]⟩
abbrev S1x1x1x1x128 : Shape := ⟨5, ![1, 1, 1, 1, 128]⟩
abbrev S2x16384x8x256 : Shape := ⟨4, ![2, 16384, 8, 256]⟩
abbrev S32768x2048 : Shape := ⟨2, ![32768, 2048]⟩
abbrev S32x1024x8x128 : Shape := ⟨4, ![32, 1024, 8, 128]⟩
abbrev S8x32x128x1024 : Shape := ⟨4, ![8, 32, 128, 1024]⟩
abbrev S8x32x16x1024 : Shape := ⟨4, ![8, 32, 16, 1024]⟩
abbrev S8x32x144x1024 : Shape := ⟨4, ![8, 32, 144, 1024]⟩
abbrev S32x4x1024 : Shape := ⟨3, ![32, 4, 1024]⟩

abbrev nBuf : Space → Nat
  | .hbm => 123
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048x11264, .f32⟩
  | .hbm, ⟨2, _⟩ => ⟨S1x2048x11264, .f32⟩
  | .hbm, ⟨3, _⟩ => ⟨S2048x11264, .f32⟩
  | .hbm, ⟨4, _⟩ => ⟨S2x16384x11264, .f32⟩
  | .hbm, ⟨5, _⟩ => ⟨S2x16384x1024, .f32⟩
  | .hbm, ⟨6, _⟩ => ⟨S2x16384x1024, .f32⟩
  | .hbm, ⟨7, _⟩ => ⟨S2x16384x1024, .f32⟩
  | .hbm, ⟨8, _⟩ => ⟨S16384, .i32⟩
  | .hbm, ⟨9, _⟩ => ⟨S2x16384x8x128, .f32⟩
  | .hbm, ⟨10, _⟩ => ⟨S2x8x16384x128, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16384, .f32⟩
  | .hbm, ⟨26, _⟩ => ⟨S16384x1, .f32⟩
  | .hbm, ⟨27, _⟩ => ⟨S1x16, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S16384x16, .f32⟩
  | .hbm, ⟨32, _⟩ => ⟨S16384x16, .f32⟩
  | .hbm, ⟨33, _⟩ => ⟨S2x8x16384x16, .f32⟩
  | .hbm, ⟨34, _⟩ => ⟨S2x8x16384x16, .f32⟩
  | .hbm, ⟨35, _⟩ => ⟨S1x1x16384x16, .f32⟩
  | .hbm, ⟨36, _⟩ => ⟨S2x8x16384x16, .f32⟩
  | .hbm, ⟨37, _⟩ => ⟨S2x8x16384x16, .f32⟩
  | .hbm, ⟨38, _⟩ => ⟨S1x1x16384x16, .f32⟩
  | .hbm, ⟨39, _⟩ => ⟨S2x8x16384x16, .f32⟩
  | .hbm, ⟨40, _⟩ => ⟨S2x8x16384x16, .f32⟩
  | .hbm, ⟨41, _⟩ => ⟨S2x8x16384x16, .f32⟩
  | .hbm, ⟨42, _⟩ => ⟨S1x1x16384x16, .f32⟩
  | .hbm, ⟨43, _⟩ => ⟨S2x8x16384x16, .f32⟩
  | .hbm, ⟨44, _⟩ => ⟨S2x8x16384x16, .f32⟩
  | .hbm, ⟨45, _⟩ => ⟨S1x1x16384x16, .f32⟩
  | .hbm, ⟨46, _⟩ => ⟨S2x8x16384x16, .f32⟩
  | .hbm, ⟨47, _⟩ => ⟨S2x8x16384x16, .f32⟩
  | .hbm, ⟨48, _⟩ => ⟨S2x8x16384x16, .f32⟩
  | .hbm, ⟨49, _⟩ => ⟨S2x8x16384x96, .f32⟩
  | .hbm, ⟨50, _⟩ => ⟨S2x8x16384x128, .f32⟩
  | .hbm, ⟨51, _⟩ => ⟨S_, .f32⟩
  | .hbm, ⟨52, _⟩ => ⟨S2x8x16384x128, .f32⟩
  | .hbm, ⟨53, _⟩ => ⟨S2x8x16384x128, .f32⟩
  | .hbm, ⟨54, _⟩ => ⟨S2x16384x8x128, .f32⟩
  | .hbm, ⟨55, _⟩ => ⟨S32768x1024, .f32⟩
  | .hbm, ⟨56, _⟩ => ⟨S2x16384x8x128, .f32⟩
  | .hbm, ⟨57, _⟩ => ⟨S2x8x16384x128, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S16384, .f32⟩
  | .hbm, ⟨73, _⟩ => ⟨S16384x1, .f32⟩
  | .hbm, ⟨74, _⟩ => ⟨S1x16, .f32⟩
  | .hbm, ⟨75, _⟩ => ⟨S16384x16, .f32⟩
  | .hbm, ⟨76, _⟩ => ⟨S16384x16, .f32⟩
  | .hbm, ⟨77, _⟩ => ⟨S16384x16, .f32⟩
  | .hbm, ⟨78, _⟩ => ⟨S16384x16, .f32⟩
  | .hbm, ⟨79, _⟩ => ⟨S16384x16, .f32⟩
  | .hbm, ⟨80, _⟩ => ⟨S2x8x16384x16, .f32⟩
  | .hbm, ⟨81, _⟩ => ⟨S2x8x16384x16, .f32⟩
  | .hbm, ⟨82, _⟩ => ⟨S1x1x16384x16, .f32⟩
  | .hbm, ⟨83, _⟩ => ⟨S2x8x16384x16, .f32⟩
  | .hbm, ⟨84, _⟩ => ⟨S2x8x16384x16, .f32⟩
  | .hbm, ⟨85, _⟩ => ⟨S1x1x16384x16, .f32⟩
  | .hbm, ⟨86, _⟩ => ⟨S2x8x16384x16, .f32⟩
  | .hbm, ⟨87, _⟩ => ⟨S2x8x16384x16, .f32⟩
  | .hbm, ⟨88, _⟩ => ⟨S2x8x16384x16, .f32⟩
  | .hbm, ⟨89, _⟩ => ⟨S1x1x16384x16, .f32⟩
  | .hbm, ⟨90, _⟩ => ⟨S2x8x16384x16, .f32⟩
  | .hbm, ⟨91, _⟩ => ⟨S2x8x16384x16, .f32⟩
  | .hbm, ⟨92, _⟩ => ⟨S1x1x16384x16, .f32⟩
  | .hbm, ⟨93, _⟩ => ⟨S2x8x16384x16, .f32⟩
  | .hbm, ⟨94, _⟩ => ⟨S2x8x16384x16, .f32⟩
  | .hbm, ⟨95, _⟩ => ⟨S2x8x16384x16, .f32⟩
  | .hbm, ⟨96, _⟩ => ⟨S2x8x16384x96, .f32⟩
  | .hbm, ⟨97, _⟩ => ⟨S2x8x16384x128, .f32⟩
  | .hbm, ⟨98, _⟩ => ⟨S2x16384x8x128, .f32⟩
  | .hbm, ⟨99, _⟩ => ⟨S2x64x256x1024, .f32⟩
  | .hbm, ⟨100, _⟩ => ⟨S_, .f32⟩
  | .hbm, ⟨101, _⟩ => ⟨S2x64x1024, .f32⟩
  | .hbm, ⟨102, _⟩ => ⟨S_, .f32⟩
  | .hbm, ⟨103, _⟩ => ⟨S2x64x1024, .f32⟩
  | .hbm, ⟨104, _⟩ => ⟨S2x64x1024, .f32⟩
  | .hbm, ⟨105, _⟩ => ⟨S2x64x256x8x128, .i32⟩
  | .hbm, ⟨106, _⟩ => ⟨S128, .i32⟩
  | .hbm, ⟨107, _⟩ => ⟨S1x1x1x1x128, .i32⟩
  | .hbm, ⟨108, _⟩ => ⟨S2x64x256x8x128, .i32⟩
  | .hbm, ⟨109, _⟩ => ⟨S2x64x256x8x128, .i1⟩
  | .hbm, ⟨110, _⟩ => ⟨S2x64x256x8x128, .f32⟩
  | .hbm, ⟨111, _⟩ => ⟨S2x16384x8x128, .f32⟩
  | .hbm, ⟨112, _⟩ => ⟨S2x16384x8x256, .f32⟩
  | .hbm, ⟨113, _⟩ => ⟨S32768x2048, .f32⟩
  | .hbm, ⟨114, _⟩ => ⟨S32x1024x8x128, .f32⟩
  | .hbm, ⟨115, _⟩ => ⟨S8x32x128x1024, .f32⟩
  | .hbm, ⟨116, _⟩ => ⟨S_, .f32⟩
  | .hbm, ⟨117, _⟩ => ⟨S8x32x16x1024, .f32⟩
  | .hbm, ⟨118, _⟩ => ⟨S8x32x144x1024, .f32⟩
  | .hbm, ⟨119, _⟩ => ⟨S32768x1024, .bf16⟩
  | .hbm, ⟨120, _⟩ => ⟨S32768x2048, .bf16⟩
  | .hbm, ⟨121, _⟩ => ⟨S8x32x144x1024, .bf16⟩
  | .hbm, ⟨122, _⟩ => ⟨S32x4x1024, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_4 : Ref sig .tc := ⟨.hbm, 59, rfl⟩
abbrev main_v52 : Ref sig .tc := ⟨.hbm, 60, rfl⟩
abbrev main_v53 : Ref sig .tc := ⟨.hbm, 61, rfl⟩
abbrev main_cst_5 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_6 : Ref sig .tc := ⟨.hbm, 66, rfl⟩
abbrev main_v57 : Ref sig .tc := ⟨.hbm, 67, rfl⟩
abbrev main_v58 : Ref sig .tc := ⟨.hbm, 68, rfl⟩
abbrev main_cst_7 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_8 : Ref sig .tc := ⟨.hbm, 100, rfl⟩
abbrev main_v89 : Ref sig .tc := ⟨.hbm, 101, rfl⟩
abbrev main_cst_9 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_cst_10 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩

abbrev nD : Nat := 1
abbrev τ : Topo := Topo.v7x

variable {F : FTy → Type} [FloatOps F]
-- ==== Conv.lean ====
abbrev S2x16384x2048 : Shape := ⟨3, ![2, 16384, 2048]⟩
abbrev S2x2048x11264 : Shape := ⟨3, ![2, 2048, 11264]⟩
abbrev S2x31x512 : Shape := ⟨3, ![2, 31, 512]⟩
abbrev S2x512 : Shape := ⟨2, ![2, 512]⟩
abbrev S32768x2048 : Shape := ⟨2, ![32768, 2048]⟩
abbrev S1x31x512 : Shape := ⟨3, ![1, 31, 512]⟩
abbrev S31x512 : Shape := ⟨2, ![31, 512]⟩
abbrev S1x512 : Shape := ⟨2, ![1, 512]⟩
abbrev S512 : Shape := ⟨1, ![512]⟩
abbrev S32768x512 : Shape := ⟨2, ![32768, 512]⟩
abbrev S512x2048 : Shape := ⟨2, ![512, 2048]⟩
abbrev S32x2048 : Shape := ⟨2, ![32, 2048]⟩
abbrev S1x2048x512 : Shape := ⟨3, ![1, 2048, 512]⟩
abbrev S512x512 : Shape := ⟨2, ![512, 512]⟩
abbrev S544x512 : Shape := ⟨2, ![544, 512]⟩
abbrev S8x136x128 : Shape := ⟨3, ![8, 136, 128]⟩
abbrev S2048x512 : Shape := ⟨2, ![2048, 512]⟩
abbrev S32x512 : Shape := ⟨2, ![32, 512]⟩
abbrev S1x128 : Shape := ⟨2, ![1, 128]⟩
abbrev S128x128 : Shape := ⟨2, ![128, 128]⟩
abbrev S136x128 : Shape := ⟨2, ![136, 128]⟩
abbrev S1x136x128 : Shape := ⟨3, ![1, 136, 128]⟩
abbrev S1x128x128 : Shape := ⟨3, ![1, 128, 128]⟩
abbrev S128x512 : Shape := ⟨2, ![128, 512]⟩
abbrev S128 : Shape := ⟨1, ![128]⟩
abbrev S128x1 : Shape := ⟨2, ![128, 1]⟩

abbrev nBuf : Space → Nat
  | .hbm => 21
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2x2048x11264, .f32⟩
  | .hbm, ⟨2, _⟩ => ⟨S2x31x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S32768x2048, .f32⟩
  | .hbm, ⟨7, _⟩ => ⟨S32768x2048, .bf16⟩
  | .hbm, ⟨8, _⟩ => ⟨S2x2048x11264, .bf16⟩
  | .hbm, ⟨9, _⟩ => ⟨S1x31x512, .f32⟩
  | .hbm, ⟨10, _⟩ => ⟨S31x512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S32768x512, .bf16⟩
  | .local _ .vmem, ⟨0, _⟩ => ⟨S512x2048, .bf16⟩
  | .local _ .vmem, ⟨1, _⟩ => ⟨S512x2048, .bf16⟩
  | .local _ .vmem, ⟨2, _⟩ => ⟨S32x2048, .bf16⟩
  | .local _ .vmem, ⟨3, _⟩ => ⟨S32x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S544x512, .f32⟩
  | .local _ .vmem, ⟨13, _⟩ => ⟨S8x136x128, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S2x16384x2048 : Shape := ⟨3, ![2, 16384, 2048]⟩
abbrev S2x2048x11264 : Shape := ⟨3, ![2, 2048, 11264]⟩
abbrev S2x31x512 : Shape := ⟨3, ![2, 31, 512]⟩
abbrev S2x512 : Shape := ⟨2, ![2, 512]⟩
abbrev S1x2048x11264 : Shape := ⟨3, ![1, 2048, 11264]⟩
abbrev S2048x11264 : Shape := ⟨2, ![2048, 11264]⟩
abbrev S2x16384x11264 : Shape := ⟨3, ![2, 16384, 11264]⟩
abbrev S2x16384x1024 : Shape := ⟨3, ![2, 16384, 1024]⟩
abbrev S2x16384x512 : Shape := ⟨3, ![2, 16384, 512]⟩
abbrev S_ : Shape := ⟨0, ![]⟩
abbrev S2x16414x512 : Shape := ⟨3, ![2, 16414, 512]⟩
abbrev S1x1x512 : Shape := ⟨3, ![1, 1, 512]⟩
abbrev S512 : Shape := ⟨1, ![512]⟩
abbrev S1x512 : Shape := ⟨2, ![1, 512]⟩
abbrev S2x16384 : Shape := ⟨2, ![2, 16384]⟩
abbrev S2x16384x1 : Shape := ⟨3, ![2, 16384, 1]⟩
abbrev S32768x512 : Shape := ⟨2, ![32768, 512]⟩

abbrev nBuf : Space → Nat
  | .hbm => 292
  | .vmem => 0
  | .smem => 0
  | _ => 0

abbrev hbmTy0_0 (i : Nat) : BufTy := match i % 128 with
  | 0 => ⟨S2x16384x2048, .f32⟩
  | 1 => ⟨S2x2048x11264, .f32⟩
  | 2 => ⟨S2x31x512, .f32⟩
  | 3 => ⟨S2x512, .f32⟩
  | 4 => ⟨S2x512, .f32⟩
  | 5 => ⟨S2x512, .f32⟩
  | 6 => ⟨S1x2048x11264, .f32⟩
  | 7 => ⟨S2048x11264, .f32⟩
  | 8 => ⟨S2x16384x11264, .f32⟩
  | 9 => ⟨S2x16384x1024, .f32⟩
  | 10 => ⟨S2x16384x512, .f32⟩
  | 11 => ⟨S2x16384x512, .f32⟩
  | 12 => ⟨S2x16384x512, .f32⟩
  | 13 => ⟨S2x16384x512, .f32⟩
  | 14 => ⟨S_, .f32⟩
  | 15 => ⟨S2x16384x512, .f32⟩
  | 16 => ⟨S2x16384x512, .f32⟩
  | 17 => ⟨S_, .f32⟩
  | 18 => ⟨S2x16384x512, .f32⟩
  | 19 => ⟨S2x16384x512, .f32⟩
  | 20 => ⟨S2x16384x512, .f32⟩
  | 21 => ⟨S_, .i32⟩
  | 22 => ⟨S_, .f32⟩
  | 23 => ⟨S2x16414x512, .f32⟩
  | 24 => ⟨S1x1x512, .f32⟩
  | 25 => ⟨S512, .f32⟩
  | 26 => ⟨S2x16384x512, .f32⟩
  | 27 => ⟨S1x1x512, .f32⟩
  | 28 => ⟨S2x16384x512, .f32⟩
  | 29 => ⟨S2x16384x512, .f32⟩
  | 30 => ⟨S_, .f32⟩
  | 31 => ⟨S2x16384x512, .f32⟩
  | 32 => ⟨S2x16384x512, .f32⟩
  | 33 => ⟨S1x1x512, .f32⟩
  | 34 => ⟨S512, .f32⟩
  | 35 => ⟨S2x16384x512, .f32⟩
  | 36 => ⟨S1x1x512, .f32⟩
  | 37 => ⟨S2x16384x512, .f32⟩
  | 38 => ⟨S2x16384x512, .f32⟩
  | 39 => ⟨S2x16384x512, .f32⟩
  | 40 => ⟨S1x1x512, .f32⟩
  | 41 => ⟨S512, .f32⟩
  | 42 => ⟨S2x16384x512, .f32⟩
  | 43 => ⟨S1x1x512, .f32⟩
  | 44 => ⟨S2x16384x512, .f32⟩
  | 45 => ⟨S2x16384x512, .f32⟩
  | 46 => ⟨S2x16384x512, .f32⟩
  | 47 => ⟨S1x1x512, .f32⟩
  | 48 => ⟨S512, .f32⟩
  | 49 => ⟨S2x16384x512, .f32⟩
  | 50 => ⟨S1x1x512, .f32⟩
  | 51 => ⟨S2x16384x512, .f32⟩
  | 52 => ⟨S2x16384x512, .f32⟩
  | 53 => ⟨S2x16384x512, .f32⟩
  | 54 => ⟨S1x1x512, .f32⟩
  | 55 => ⟨S512, .f32⟩
  | 56 => ⟨S2x16384x512, .f32⟩
  | 57 => ⟨S1x1x512, .f32⟩
  | 58 => ⟨S2x16384x512, .f32⟩
  | 59 => ⟨S2x16384x512, .f32⟩
  | 60 => ⟨S2x16384x512, .f32⟩
  | 61 => ⟨S1x1x512, .f32⟩
  | 62 => ⟨S512, .f32⟩
  | 63 => ⟨S2x16384x512, .f32⟩
  | 64 => ⟨S1x1x512, .f32⟩
  | 65 => ⟨S2x16384x512, .f32⟩
  | 66 => ⟨S2x16384x512, .f32⟩
  | 67 => ⟨S2x16384x512, .f32⟩
  | 68 => ⟨S1x1x512, .f32⟩
  | 69 => ⟨S512, .f32⟩
  | 70 => ⟨S2x16384x512, .f32⟩
  | 71 => ⟨S1x1x512, .f32⟩
  | 72 => ⟨S2x16384x512, .f32⟩
  | 73 => ⟨S2x16384x512, .f32⟩
  | 74 => ⟨S2x16384x512, .f32⟩
  | 75 => ⟨S1x1x512, .f32⟩
  | 76 => ⟨S512, .f32⟩
  | 77 => ⟨S2x16384x512, .f32⟩
  | 78 => ⟨S1x1x512, .f32⟩
  | 79 => ⟨S2x16384x512, .f32⟩
  | 80 => ⟨S2x16384x512, .f32⟩
  | 81 => ⟨S2x16384x512, .f32⟩
  | 82 => ⟨S1x1x512, .f32⟩
  | 83 => ⟨S512, .f32⟩
  | 84 => ⟨S2x16384x512, .f32⟩
  | 85 => ⟨S1x1x512, .f32⟩
  | 86 => ⟨S2x16384x512, .f32⟩
  | 87 => ⟨S2x16384x512, .f32⟩
  | 88 => ⟨S2x16384x512, .f32⟩
  | 89 => ⟨S1x1x512, .f32⟩
  | 90 => ⟨S512, .f32⟩
  | 91 => ⟨S2x16384x512, .f32⟩
  | 92 => ⟨S1x1x512, .f32⟩
  | 93 => ⟨S2x16384x512, .f32⟩
  | 94 => ⟨S2x16384x512, .f32⟩
  | 95 => ⟨S2x16384x512, .f32⟩
  | 96 => ⟨S1x1x512, .f32⟩
  | 97 => ⟨S512, .f32⟩
  | 98 => ⟨S2x16384x512, .f32⟩
  | 99 => ⟨S1x1x512, .f32⟩
  | 100 => ⟨S2x16384x512, .f32⟩
  | 101 => ⟨S2x16384x512, .f32⟩
  | 102 => ⟨S2x16384x512, .f32⟩
  | 103 => ⟨S1x1x512, .f32⟩
  | 104 => ⟨S512, .f32⟩
  | 105 => ⟨S2x16384x512, .f32⟩
  | 106 => ⟨S1x1x512, .f32⟩
  | 107 => ⟨S2x16384x512, .f32⟩
  | 108 => ⟨S2x16384x512, .f32⟩
  | 109 => ⟨S2x16384x512, .f32⟩
  | 110 => ⟨S1x1x512, .f32⟩
  | 111 => ⟨S512, .f32⟩
  | 112 => ⟨S2x16384x512, .f32⟩
  | 113 => ⟨S1x1x512, .f32⟩
  | 114 => ⟨S2x16384x512, .f32⟩
  | 115 => ⟨S2x16384x512, .f32⟩
  | 116 => ⟨S2x16384x512, .f32⟩
  | 117 => ⟨S1x1x512, .f32⟩
  | 118 => ⟨S512, .f32⟩
  | 119 => ⟨S2x16384x512, .f32⟩
  | 120 => ⟨S1x1x512, .f32⟩
  | 121 => ⟨S2x16384x512, .f32⟩
  | 122 => ⟨S2x16384x512, .f32⟩
  | 123 => ⟨S2x16384x512, .f32⟩
  | 124 => ⟨S1x1x512, .f32⟩
  | 125 => ⟨S512, .f32⟩
  | 126 => ⟨S2x16384x512, .f32⟩
  | 127 => ⟨S1x1x512, .f32⟩
  | _ => ⟨S2x16384x2048, .f32⟩

abbrev hbmTy0_1 (i : Nat) : BufTy := match i % 128 with
  | 0 => ⟨S2x16384x512, .f32⟩
  | 1 => ⟨S2x16384x512, .f32⟩
  | 2 => ⟨S2x16384x512, .f32⟩
  | 3 => ⟨S1x1x512, .f32⟩
  | 4 => ⟨S512, .f32⟩
  | 5 => ⟨S2x16384x512, .f32⟩
  | 6 => ⟨S1x1x512, .f32⟩
  | 7 => ⟨S2x16384x512, .f32⟩
  | 8 => ⟨S2x16384x512, .f32⟩
  | 9 => ⟨S2x16384x512, .f32⟩
  | 10 => ⟨S1x1x512, .f32⟩
  | 11 => ⟨S512, .f32⟩
  | 12 => ⟨S2x16384x512, .f32⟩
  | 13 => ⟨S1x1x512, .f32⟩
  | 14 => ⟨S2x16384x512, .f32⟩
  | 15 => ⟨S2x16384x512, .f32⟩
  | 16 => ⟨S2x16384x512, .f32⟩
  | 17 => ⟨S1x1x512, .f32⟩
  | 18 => ⟨S512, .f32⟩
  | 19 => ⟨S2x16384x512, .f32⟩
  | 20 => ⟨S1x1x512, .f32⟩
  | 21 => ⟨S2x16384x512, .f32⟩
  | 22 => ⟨S2x16384x512, .f32⟩
  | 23 => ⟨S2x16384x512, .f32⟩
  | 24 => ⟨S1x1x512, .f32⟩
  | 25 => ⟨S512, .f32⟩
  | 26 => ⟨S2x16384x512, .f32⟩
  | 27 => ⟨S1x1x512, .f32⟩
  | 28 => ⟨S2x16384x512, .f32⟩
  | 29 => ⟨S2x16384x512, .f32⟩
  | 30 => ⟨S2x16384x512, .f32⟩
  | 31 => ⟨S1x1x512, .f32⟩
  | 32 => ⟨S512, .f32⟩
  | 33 => ⟨S2x16384x512, .f32⟩
  | 34 => ⟨S1x1x512, .f32⟩
  | 35 => ⟨S2x16384x512, .f32⟩
  | 36 => ⟨S2x16384x512, .f32⟩
  | 37 => ⟨S2x16384x512, .f32⟩
  | 38 => ⟨S1x1x512, .f32⟩
  | 39 => ⟨S512, .f32⟩
  | 40 => ⟨S2x16384x512, .f32⟩
  | 41 => ⟨S1x1x512, .f32⟩
  | 42 => ⟨S2x16384x512, .f32⟩
  | 43 => ⟨S2x16384x512, .f32⟩
  | 44 => ⟨S2x16384x512, .f32⟩
  | 45 => ⟨S1x1x512, .f32⟩
  | 46 => ⟨S512, .f32⟩
  | 47 => ⟨S2x16384x512, .f32⟩
  | 48 => ⟨S1x1x512, .f32⟩
  | 49 => ⟨S2x16384x512, .f32⟩
  | 50 => ⟨S2x16384x512, .f32⟩
  | 51 => ⟨S2x16384x512, .f32⟩
  | 52 => ⟨S1x1x512, .f32⟩
  | 53 => ⟨S512, .f32⟩
  | 54 => ⟨S2x16384x512, .f32⟩
  | 55 => ⟨S1x1x512, .f32⟩
  | 56 => ⟨S2x16384x512, .f32⟩
  | 57 => ⟨S2x16384x512, .f32⟩
  | 58 => ⟨S2x16384x512, .f32⟩
  | 59 => ⟨S1x1x512, .f32⟩
  | 60 => ⟨S512, .f32⟩
  | 61 => ⟨S2x16384x512, .f32⟩
  | 62 => ⟨S1x1x512, .f32⟩
  | 63 => ⟨S2x16384x512, .f32⟩
  | 64 => ⟨S2x16384x512, .f32⟩
  | 65 => ⟨S2x16384x512, .f32⟩
  | 66 => ⟨S1x1x512, .f32⟩
  | 67 => ⟨S512, .f32⟩
  | 68 => ⟨S2x16384x512, .f32⟩
  | 69 => ⟨S1x1x512, .f32⟩
  | 70 => ⟨S2x16384x512, .f32⟩
  | 71 => ⟨S2x16384x512, .f32⟩
  | 72 => ⟨S2x16384x512, .f32⟩
  | 73 => ⟨S1x1x512, .f32⟩
  | 74 => ⟨S512, .f32⟩
  | 75 => ⟨S2x16384x512, .f32⟩
  | 76 => ⟨S1x1x512, .f32⟩
  | 77 => ⟨S2x16384x512, .f32⟩
  | 78 => ⟨S2x16384x512, .f32⟩
  | 79 => ⟨S2x16384x512, .f32⟩
  | 80 => ⟨S1x1x512, .f32⟩
  | 81 => ⟨S512, .f32⟩
  | 82 => ⟨S2x16384x512, .f32⟩
  | 83 => ⟨S1x1x512, .f32⟩
  | 84 => ⟨S2x16384x512, .f32⟩
  | 85 => ⟨S2x16384x512, .f32⟩
  | 86 => ⟨S2x16384x512, .f32⟩
  | 87 => ⟨S1x1x512, .f32⟩
  | 88 => ⟨S512, .f32⟩
  | 89 => ⟨S2x16384x512, .f32⟩
  | 90 => ⟨S1x1x512, .f32⟩
  | 91 => ⟨S2x16384x512, .f32⟩
  | 92 => ⟨S2x16384x512, .f32⟩
  | 93 => ⟨S2x16384x512, .f32⟩
  | 94 => ⟨S1x1x512, .f32⟩
  | 95 => ⟨S512, .f32⟩
  | 96 => ⟨S2x16384x512, .f32⟩
  | 97 => ⟨S1x1x512, .f32⟩
  | 98 => ⟨S2x16384x512, .f32⟩
  | 99 => ⟨S2x16384x512, .f32⟩
  | 100 => ⟨S2x16384x512, .f32⟩
  | 101 => ⟨S1x1x512, .f32⟩
  | 102 => ⟨S512, .f32⟩
  | 103 => ⟨S2x16384x512, .f32⟩
  | 104 => ⟨S1x1x512, .f32⟩
  | 105 => ⟨S2x16384x512, .f32⟩
  | 106 => ⟨S2x16384x512, .f32⟩
  | 107 => ⟨S2x16384x512, .f32⟩
  | 108 => ⟨S1x1x512, .f32⟩
  | 109 => ⟨S512, .f32⟩
  | 110 => ⟨S2x16384x512, .f32⟩
  | 111 => ⟨S1x1x512, .f32⟩
  | 112 => ⟨S2x16384x512, .f32⟩
  | 113 => ⟨S2x16384x512, .f32⟩
  | 114 => ⟨S2x16384x512, .f32⟩
  | 115 => ⟨S1x512, .f32⟩
  | 116 => ⟨S512, .f32⟩
  | 117 => ⟨S1x1x512, .f32⟩
  | 118 => ⟨S2x16384x512, .f32⟩
  | 119 => ⟨S2x16384x512, .f32⟩
  | 120 => ⟨S1x512, .f32⟩
  | 121 => ⟨S512, .f32⟩
  | 122 => ⟨S1x512, .f32⟩
  | 123 => ⟨S512, .f32⟩
  | 124 => ⟨S_, .f32⟩
  | 125 => ⟨S2x16384, .f32⟩
  | 126 => ⟨S2x16384x1, .f32⟩
  | 127 => ⟨S_, .f32⟩
  | _ => ⟨S2x16384x2048, .f32⟩

abbrev hbmTy0_2 (i : Nat) : BufTy := match i % 128 with
  | 0 => ⟨S2x16384x1, .f32⟩
  | 1 => ⟨S2x16384x1, .f32⟩
  | 2 => ⟨S2x16384x512, .f32⟩
  | 3 => ⟨S2x16384x512, .f32⟩
  | 4 => ⟨S2x16384x512, .f32⟩
  | 5 => ⟨S_, .f32⟩
  | 6 => ⟨S2x16384, .f32⟩
  | 7 => ⟨S2x16384x1, .f32⟩
  | 8 => ⟨S_, .f32⟩
  | 9 => ⟨S2x16384x1, .f32⟩
  | 10 => ⟨S2x16384x1, .f32⟩
  | 11 => ⟨S2x16384x512, .f32⟩
  | 12 => ⟨S2x16384x512, .f32⟩
  | 13 => ⟨S_, .f32⟩
  | 14 => ⟨S2x16384x1, .f32⟩
  | 15 => ⟨S2x16384x1, .f32⟩
  | 16 => ⟨S2x16384x1, .f32⟩
  | 17 => ⟨S2x16384x512, .f32⟩
  | 18 => ⟨S2x16384x512, .f32⟩
  | 19 => ⟨S1x1x512, .f32⟩
  | 20 => ⟨S2x16384x512, .f32⟩
  | 21 => ⟨S2x16384x512, .f32⟩
  | 22 => ⟨S1x1x512, .f32⟩
  | 23 => ⟨S2x16384x512, .f32⟩
  | 24 => ⟨S2x16384x512, .f32⟩
  | 25 => ⟨S2x16384x512, .f32⟩
  | 26 => ⟨S2x16384x512, .f32⟩
  | 27 => ⟨S_, .f32⟩
  | 28 => ⟨S2x16384x512, .f32⟩
  | 29 => ⟨S2x16384x512, .f32⟩
  | 30 => ⟨S_, .f32⟩
  | 31 => ⟨S2x16384x512, .f32⟩
  | 32 => ⟨S2x16384x512, .f32⟩
  | 33 => ⟨S2x16384x512, .f32⟩
  | 34 => ⟨S32768x512, .f32⟩
  | 35 => ⟨S32768x512, .bf16⟩
  | _ => ⟨S2x16384x2048, .f32⟩

abbrev hbmTy (i : Nat) : BufTy := match i / 128 with
  | 0 => hbmTy0_0 i
  | 1 => hbmTy0_1 i
  | 2 => hbmTy0_2 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_v195 : Ref sig .tc := ⟨.hbm, 206, rfl⟩
abbrev main_v196 : Ref sig .tc := ⟨.hbm, 207, rfl⟩
abbrev main_v197 : Ref sig .tc := ⟨.hbm, 208, rfl⟩
abbrev main_v198 : Ref sig .tc := ⟨.hbm, 209, rfl⟩
abbrev main_v199 : Ref sig .tc := ⟨.hbm, 210, rfl⟩
abbrev main_v200 : Ref sig .tc := ⟨.hbm, 211, rfl⟩
abbrev main_v201 : Ref sig .tc := ⟨.hbm, 212, rfl⟩
abbrev main_v202 : Ref sig .tc := ⟨.hbm, 213, rfl⟩
abbrev main_v203 : Ref sig .tc := ⟨.hbm, 214, rfl⟩
abbrev main_v204 : Ref sig .tc := ⟨.hbm, 215, rfl⟩
abbrev main_v205 : Ref sig .tc := ⟨.hbm, 216, rfl⟩
abbrev main_v206 : Ref sig .tc := ⟨.hbm, 217, rfl⟩
abbrev main_v207 : Ref sig .tc := ⟨.hbm, 218, rfl⟩
abbrev main_v208 : Ref sig .tc := ⟨.hbm, 219, rfl⟩
abbrev main_v209 : Ref sig .tc := ⟨.hbm, 220, rfl⟩
abbrev main_v210 : Ref sig .tc := ⟨.hbm, 221, rfl⟩
abbrev main_v211 : Ref sig .tc := ⟨.hbm, 222, rfl⟩
abbrev main_v212 : Ref sig .tc := ⟨.hbm, 223, rfl⟩
abbrev main_v213 : Ref sig .tc := ⟨.hbm, 224, rfl⟩
abbrev main_v214 : Ref sig .tc := ⟨.hbm, 225, rfl⟩
abbrev main_v215 : Ref sig .tc := ⟨.hbm, 226, rfl⟩
abbrev main_v216 : Ref sig .tc := ⟨.hbm, 227, rfl⟩
abbrev main_v217 : Ref sig .tc := ⟨.hbm, 228, rfl⟩
abbrev main_v218 : Ref sig .tc := ⟨.hbm, 229, rfl⟩
abbrev main_v219 : Ref sig .tc := ⟨.hbm, 230, rfl⟩
abbrev main_v220 : Ref sig .tc := ⟨.hbm, 231, rfl⟩
abbrev main_v221 : Ref sig .tc := ⟨.hbm, 232, rfl⟩
abbrev main_v222 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_cst_2 : Ref sig .tc := ⟨.hbm, 252, rfl⟩
abbrev main_v241 : Ref sig .tc := ⟨.hbm, 253, rfl⟩
abbrev main_v242 : Ref sig .tc := ⟨.hbm, 254, rfl⟩
abbrev main_cst_3 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_cst_4 : Ref sig .tc := ⟨.hbm, 261, rfl⟩
abbrev main_v248 : Ref sig .tc := ⟨.hbm, 262, rfl⟩
abbrev main_v249 : Ref sig .tc := ⟨.hbm, 263, rfl⟩
abbrev main_cst_5 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_cst_6 : Ref sig .tc := ⟨.hbm, 269, rfl⟩
abbrev main_v254 : Ref sig .tc := ⟨.hbm, 270, rfl⟩
abbrev main_v255 : Ref sig .tc := ⟨.hbm, 271, rfl⟩
abbrev main_v256 : Ref sig .tc := ⟨.hbm, 272, rfl⟩
abbrev main_v257 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_v264 : Ref sig .tc := ⟨.hbm, 280, rfl⟩
abbrev main_call1_v0 : Ref sig .tc := ⟨.hbm, 281, rfl⟩
abbrev main_call1_v1 : Ref sig .tc := ⟨.hbm, 282, rfl⟩
abbrev main_call1_cst : Ref sig .tc := ⟨.hbm, 283, rfl⟩
abbrev main_call1_v2 : Ref sig .tc := ⟨.hbm, 284, rfl⟩
abbrev main_call1_v3 : Ref sig .tc := ⟨.hbm, 285, rfl⟩
abbrev main_call1_cst_0 : Ref sig .tc := ⟨.hbm, 286, rfl⟩
abbrev main_call1_v4 : Ref sig .tc := ⟨.hbm, 287, rfl⟩
abbrev main_call1_v5 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩

abbrev nD : Nat := 1
abbrev τ : Topo := Topo.v7x

variable {F : FTy → Type} [FloatOps F]
-- ==== Prenorm.lean ====
abbrev S2x16384x2048 : Shape := ⟨3, ![2, 16384, 2048]⟩
abbrev S2x2048 : Shape := ⟨2, ![2, 2048]⟩
abbrev S32768x2048 : Shape := ⟨2, ![32768, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S32768x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrenormRefIdeal.lean ====
abbrev S2x16384x2048 : Shape := ⟨3, ![2, 16384, 2048]⟩
abbrev S2x2048 : Shape := ⟨2, ![2, 2048]⟩
abbrev S32768x2048 : Shape := ⟨2, ![32768, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S32768x2048, .f32⟩
  | .hbm, ⟨3, _⟩ => ⟨S1x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== PleMid.lean ====
abbrev S2x16384x2048 : Shape := ⟨3, ![2, 16384, 2048]⟩
abbrev S2x2x16384x256 : Shape := ⟨4, ![2, 2, 16384, 256]⟩
abbrev S2x2048 : Shape := ⟨2, ![2, 2048]⟩
abbrev S2x2048x2048 : Shape := ⟨3, ![2, 2048, 2048]⟩
abbrev S2x256x2048 : Shape := ⟨3, ![2, 256, 2048]⟩
abbrev S32768x2048 : Shape := ⟨2, ![32768, 2048]⟩
abbrev S2x32768x256 : Shape := ⟨3, ![2, 32768, 256]⟩
abbrev S1x2048 : Shape := ⟨2, ![1, 2048]⟩
abbrev S2048 : Shape := ⟨1, ![2048]⟩
abbrev S512x2048 : Shape := ⟨2, ![512, 2048]⟩
abbrev S1x512x256 : Shape := ⟨3, ![1, 512, 256]⟩
abbrev S1x2048x2048 : Shape := ⟨3, ![1, 2048, 2048]⟩
abbrev S1x256x2048 : Shape := ⟨3, ![1, 256, 2048]⟩
abbrev S512 : Shape := ⟨1, ![512]⟩
abbrev S512x1 : Shape := ⟨2, ![512, 1]⟩
abbrev S2048x2048 : Shape := ⟨2, ![2048, 2048]⟩
abbrev S512x256 : Shape := ⟨2, ![512, 256]⟩
abbrev S256x2048 : Shape := ⟨2, ![256, 2048]⟩

abbrev nBuf : Space → Nat
  | .hbm => 18
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2x2x16384x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2x2048, .f32⟩
  | .hbm, ⟨6, _⟩ => ⟨S32768x2048, .f32⟩
  | .hbm, ⟨7, _⟩ => ⟨S2x32768x256, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2x2048x2048, .bf16⟩
  | .hbm, ⟨12, _⟩ => ⟨S2x256x2048, .bf16⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S32768x2048, .f32⟩
  | .hbm, ⟨17, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x512x256, .f32⟩
  | .local _ .vmem, ⟨3, _⟩ => ⟨S1x512x256, .f32⟩
  | .local _ .vmem, ⟨4, _⟩ => ⟨S1x2048, .f32⟩
  | .local _ .vmem, ⟨5, _⟩ => ⟨S1x2048x2048, .bf16⟩
  | .local _ .vmem, ⟨6, _⟩ => ⟨S1x256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleMidRefIdeal.lean ====
abbrev S2x16384x2048 : Shape := ⟨3, ![2, 16384, 2048]⟩
abbrev S2x2x16384x256 : Shape := ⟨4, ![2, 2, 16384, 256]⟩
abbrev S2x2048 : Shape := ⟨2, ![2, 2048]⟩
abbrev S2x2048x2048 : Shape := ⟨3, ![2, 2048, 2048]⟩
abbrev S2x256x2048 : Shape := ⟨3, ![2, 256, 2048]⟩
abbrev S32768x2048 : Shape := ⟨2, ![32768, 2048]⟩
abbrev S2x32768x256 : Shape := ⟨3, ![2, 32768, 256]⟩
abbrev S1x32768x256 : Shape := ⟨3, ![1, 32768, 256]⟩
abbrev S32768x256 : Shape := ⟨2, ![32768, 256]⟩
abbrev S1x256x2048 : Shape := ⟨3, ![1, 256, 2048]⟩
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048x2048 : Shape := ⟨3, ![1, 2048, 2048]⟩
abbrev S2048x2048 : Shape := ⟨2, ![2048, 2048]⟩

abbrev nBuf : Space → Nat
  | .hbm => 63
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2x16384x256, .f32⟩
  | .hbm, ⟨2, _⟩ => ⟨S2x2048, .f32⟩
  | .hbm, ⟨3, _⟩ => ⟨S2x2048x2048, .f32⟩
  | .hbm, ⟨4, _⟩ => ⟨S2x256x2048, .f32⟩
  | .hbm, ⟨5, _⟩ => ⟨S2x2048, .f32⟩
  | .hbm, ⟨6, _⟩ => ⟨S32768x2048, .f32⟩
  | .hbm, ⟨7, _⟩ => ⟨S2x32768x256, .f32⟩
  | .hbm, ⟨8, _⟩ => ⟨S1x32768x256, .f32⟩
  | .hbm, ⟨9, _⟩ => ⟨S32768x256, .f32⟩
  | .hbm, ⟨10, _⟩ => ⟨S1x256x2048, .f32⟩
  | .hbm, ⟨11, _⟩ => ⟨S256x2048, .f32⟩
  | .hbm, ⟨12, _⟩ => ⟨S32768x2048, .f32⟩
  | .hbm, ⟨13, _⟩ => ⟨S1x2048, .f32⟩
  | .hbm, ⟨14, _⟩ => ⟨S2048, .f32⟩
  | .hbm, ⟨15, _⟩ => ⟨S32768x2048, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x2048, .f32⟩
  | .hbm, ⟨27, _⟩ => ⟨S32768x2048, .f32⟩
  | .hbm, ⟨28, _⟩ => ⟨S1x2048, .f32⟩
  | .hbm, ⟨29, _⟩ => ⟨S32768x2048, .f32⟩
  | .hbm, ⟨30, _⟩ => ⟨S32768x2048, .f32⟩
  | .hbm, ⟨31, _⟩ => ⟨S1x2048x2048, .f32⟩
  | .hbm, ⟨32, _⟩ => ⟨S2048x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768x2048, .f32⟩
  | .hbm, ⟨38, _⟩ => ⟨S32768x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S1x2048, .f32⟩
  | .hbm, ⟨45, _⟩ => ⟨S2048, .f32⟩
  | .hbm, ⟨46, _⟩ => ⟨S32768x2048, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x2048, .f32⟩
  | .hbm, ⟨58, _⟩ => ⟨S32768x2048, .f32⟩
  | .hbm, ⟨59, _⟩ => ⟨S1x2048, .f32⟩
  | .hbm, ⟨60, _⟩ => ⟨S32768x2048, .f32⟩
  | .hbm, ⟨61, _⟩ => ⟨S32768x2048, .f32⟩
  | .hbm, ⟨62, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Proof.TileLoop.lean ====
/- The attention kernel's outer loop, over the sixteen tiles of one head's queries: what one trip writes and carries,
   the state before each trip as the fold of the trips, and the invariant stating it. -/
module

public import proofs.«01_k».proof.Proof.Gen.KernelIdeal.Loops

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- One trip's resources: the four operands' blocks at `X`, the output block and the three scratch buffers at `f`. -/
abbrev Trip_k0_t1 (c : Dev nD) (arg2 : Memref sig .tc .vmem S1x16384x128 .bf16) (arg3 : Memref sig .tc .vmem S1x16384x256 .bf16) (arg4 : Memref sig .tc .vmem S1x16x144x1024 .bf16) (arg5 : Memref sig .tc .vmem S1x128x128 .bf16) (arg6 : Memref sig .tc .vmem S1x16384x128 .bf16) (arg7 : Memref sig .tc .vmem S2x2x1024x256 .bf16) (arg8 : Memref sig .tc .vmem S2x1024x1024 .f32) (arg9 : Memref sig .tc .vmem S2x1024x1024 .bf16) (X2 : BufTy.Contents (Elt F) arg2.view.ty) (X3 : BufTy.Contents (Elt F) arg3.view.ty) (X4 : BufTy.Contents (Elt F) arg4.view.ty) (X5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

set_option maxHeartbeats 4000000 in
/-- ONE TRIP of the loop over the tiles, at a symbolic trip and carried value: what it yields and the pieces it writes
    into the output block and the scratch, as functions of what it finds there. -/
@[irreducible] def trip_k0_t1 (c : Dev nD) (i : grid0.Coords) (arg2 : Memref sig .tc .vmem S1x16384x128 .bf16) (harg2 : arg2.IsWhole) (arg3 : Memref sig .tc .vmem S1x16384x256 .bf16) (harg3 : arg3.IsWhole) (arg4 : Memref sig .tc .vmem S1x16x144x1024 .bf16) (harg4 : arg4.IsWhole) (arg5 : Memref sig .tc .vmem S1x128x128 .bf16) (harg5 : arg5.IsWhole) (arg6 : Memref sig .tc .vmem S1x16384x128 .bf16) (harg6 : arg6.IsWhole) (arg7 : Memref sig .tc .vmem S2x2x1024x256 .bf16) (harg7 : arg7.IsWhole) (arg8 : Memref sig .tc .vmem S2x1024x1024 .f32) (harg8 : arg8.IsWhole) (arg9 : Memref sig .tc .vmem S2x1024x1024 .bf16) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    Σ' (R : ((FVec F S1x1024 .f32 × FVec F S1x1024 .f32 × FVec F S1x1024 .f32) → BufTy.Contents (Elt F) arg6.view.ty → BufTy.Contents (Elt F) arg7.view.ty → BufTy.Contents (Elt F) arg8.view.ty → BufTy.Contents (Elt F) arg9.view.ty → (FVec F S1x1024 .f32 × FVec F S1x1024 .f32 × FVec F S1x1024 .f32))) (L6 : ((FVec F S1x1024 .f32 × FVec F S1x1024 .f32 × FVec F S1x1024 .f32) → BufTy.Contents (Elt F) arg6.view.ty → BufTy.Contents (Elt F) arg7.view.ty → BufTy.Contents (Elt F) arg8.view.ty → BufTy.Contents (Elt F) arg9.view.ty → List (View.Piece (Elt F) S1x16384x128 .bf16))) (L7 : ((FVec F S1x1024 .f32 × FVec F S1x1024 .f32 × FVec F S1x1024 .f32) → BufTy.Contents (Elt F) arg6.view.ty → BufTy.Contents (Elt F) arg7.view.ty → BufTy.Contents (Elt F) arg8.view.ty → BufTy.Contents (Elt F) arg9.view.ty → List (View.Piece (Elt F) S2x2x1024x256 .bf16))) (L8 : ((FVec F S1x1024 .f32 × FVec F S1x1024 .f32 × FVec F S1x1024 .f32) → BufTy.Contents (Elt F) arg6.view.ty → BufTy.Contents (Elt F) arg7.view.ty → BufTy.Contents (Elt F) arg8.view.ty → BufTy.Contents (Elt F) arg9.view.ty → List (View.Piece (Elt F) S2x1024x1024 .f32))), { L9 : ((FVec F S1x1024 .f32 × FVec F S1x1024 .f32 × FVec F S1x1024 .f32) → BufTy.Contents (Elt F) arg6.view.ty → BufTy.Contents (Elt F) arg7.view.ty → BufTy.Contents (Elt F) arg8.view.ty → BufTy.Contents (Elt F) arg9.view.ty → List (View.Piece (Elt F) S2x1024x1024 .bf16)) // ∀ (E : Set ℕ) (acc : (FVec F S1x1024 .f32 × FVec F S1x1024 .f32 × FVec F S1x1024 .f32)) (f6 : BufTy.Contents (Elt F) arg6.view.ty) (f7 : BufTy.Contents (Elt F) arg7.view.ty) (f8 : BufTy.Contents (Elt F) arg8.view.ty) (f9 : BufTy.Contents (Elt F) arg9.view.ty),
      Trip_k0_t1 (F := F) c arg2 arg3 arg4 arg5 arg6 arg7 arg8 arg9 X2 X3 X4 X5 f6 f7 f8 f9
      ⊢ wp frame (wpE (defs₀ (F := F)) Variants.none (c : Thread nD τ) none) E (k0_t1_body (F := F) i arg2 harg2 arg3 harg3 arg4 harg4 arg5 harg5 arg6 harg6 arg7 harg7 arg8 harg8 arg9 harg9 k acc)
          (fun yld => iprop(⌜yld = R acc f6 f7 f8 f9⌝ ∗ Trip_k0_t1 (F := F) c arg2 arg3 arg4 arg5 arg6 arg7 arg8 arg9 X2 X3 X4 X5 (arg6.view.writes (Elt F) f6 (L6 acc f6 f7 f8 f9)) (arg7.view.writes (Elt F) f7 (L7 acc f6 f7 f8 f9)) (arg8.view.writes (Elt F) f8 (L8 acc f6 f7 f8 f9)) (arg9.view.writes (Elt F) f9 (L9 acc f6 f7 f8 f9)))) } := by
  refine ⟨?_, ?_, ?_, ?_, ?_, fun E acc f6 f7 f8 f9 => ?run⟩
  case run =>
    unfold k0_t1_body
    simp only [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨H2, H3, H4, H5, H6, H7, H8, H9⟩
    sl_exec
    sl_step
    sl_close

/-- Trip `k` applied to the state `prev` before it: the carried value and, per written buffer, the pieces so far. -/
@[irreducible] def st_k0_t1Step (c : Dev nD) (i : grid0.Coords) (arg2 : Memref sig .tc .vmem S1x16384x128 .bf16) (harg2 : arg2.IsWhole) (arg3 : Memref sig .tc .vmem S1x16384x256 .bf16) (harg3 : arg3.IsWhole) (arg4 : Memref sig .tc .vmem S1x16x144x1024 .bf16) (harg4 : arg4.IsWhole) (arg5 : Memref sig .tc .vmem S1x128x128 .bf16) (harg5 : arg5.IsWhole) (arg6 : Memref sig .tc .vmem S1x16384x128 .bf16) (harg6 : arg6.IsWhole) (arg7 : Memref sig .tc .vmem S2x2x1024x256 .bf16) (harg7 : arg7.IsWhole) (arg8 : Memref sig .tc .vmem S2x1024x1024 .f32) (harg8 : arg8.IsWhole) (arg9 : Memref sig .tc .vmem S2x1024x1024 .bf16) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (k : ℕ)
    (prev : (FVec F S1x1024 .f32 × FVec F S1x1024 .f32 × FVec F S1x1024 .f32) × List (View.Piece (Elt F) S1x16384x128 .bf16) × List (View.Piece (Elt F) S2x2x1024x256 .bf16) × List (View.Piece (Elt F) S2x1024x1024 .f32) × List (View.Piece (Elt F) S2x1024x1024 .bf16)) :
    (FVec F S1x1024 .f32 × FVec F S1x1024 .f32 × FVec F S1x1024 .f32) × List (View.Piece (Elt F) S1x16384x128 .bf16) × List (View.Piece (Elt F) S2x2x1024x256 .bf16) × List (View.Piece (Elt F) S2x1024x1024 .f32) × List (View.Piece (Elt F) S2x1024x1024 .bf16) :=
  if h : k < k0_t1_loop.trips then
    ((trip_k0_t1 (F := F) c i arg2 harg2 arg3 harg3 arg4 harg4 arg5 harg5 arg6 harg6 arg7 harg7 arg8 harg8 arg9 harg9 X2 X3 X4 X5 ⟨k, h⟩).1 prev.1 (arg6.view.writes (Elt F) G6 (prev).2.1) (arg7.view.writes (Elt F) G7 (prev).2.2.1) (arg8.view.writes (Elt F) G8 (prev).2.2.2.1) (arg9.view.writes (Elt F) G9 (prev).2.2.2.2),
      (trip_k0_t1 (F := F) c i arg2 harg2 arg3 harg3 arg4 harg4 arg5 harg5 arg6 harg6 arg7 harg7 arg8 harg8 arg9 harg9 X2 X3 X4 X5 ⟨k, h⟩).2.1 prev.1 (arg6.view.writes (Elt F) G6 (prev).2.1) (arg7.view.writes (Elt F) G7 (prev).2.2.1) (arg8.view.writes (Elt F) G8 (prev).2.2.2.1) (arg9.view.writes (Elt F) G9 (prev).2.2.2.2) ++ prev.2.1, (trip_k0_t1 (F := F) c i arg2 harg2 arg3 harg3 arg4 harg4 arg5 harg5 arg6 harg6 arg7 harg7 arg8 harg8 arg9 harg9 X2 X3 X4 X5 ⟨k, h⟩).2.2.1 prev.1 (arg6.view.writes (Elt F) G6 (prev).2.1) (arg7.view.writes (Elt F) G7 (prev).2.2.1) (arg8.view.writes (Elt F) G8 (prev).2.2.2.1) (arg9.view.writes (Elt F) G9 (prev).2.2.2.2) ++ prev.2.2.1, (trip_k0_t1 (F := F) c i arg2 harg2 arg3 harg3 arg4 harg4 arg5 harg5 arg6 harg6 arg7 harg7 arg8 harg8 arg9 harg9 X2 X3 X4 X5 ⟨k, h⟩).2.2.2.1 prev.1 (arg6.view.writes (Elt F) G6 (prev).2.1) (arg7.view.writes (Elt F) G7 (prev).2.2.1) (arg8.view.writes (Elt F) G8 (prev).2.2.2.1) (arg9.view.writes (Elt F) G9 (prev).2.2.2.2) ++ prev.2.2.2.1, (trip_k0_t1 (F := F) c i arg2 harg2 arg3 harg3 arg4 harg4 arg5 harg5 arg6 harg6 arg7 harg7 arg8 harg8 arg9 harg9 X2 X3 X4 X5 ⟨k, h⟩).2.2.2.2.1 prev.1 (arg6.view.writes (Elt F) G6 (prev).2.1) (arg7.view.writes (Elt F) G7 (prev).2.2.1) (arg8.view.writes (Elt F) G8 (prev).2.2.2.1) (arg9.view.writes (Elt F) G9 (prev).2.2.2.2) ++ prev.2.2.2.2)
  else prev

/-- THE STATE before trip `k`: the carried value, and per written buffer the pieces of the trips before, last first. -/
def st_k0_t1 (c : Dev nD) (i : grid0.Coords) (arg2 : Memref sig .tc .vmem S1x16384x128 .bf16) (harg2 : arg2.IsWhole) (arg3 : Memref sig .tc .vmem S1x16384x256 .bf16) (harg3 : arg3.IsWhole) (arg4 : Memref sig .tc .vmem S1x16x144x1024 .bf16) (harg4 : arg4.IsWhole) (arg5 : Memref sig .tc .vmem S1x128x128 .bf16) (harg5 : arg5.IsWhole) (arg6 : Memref sig .tc .vmem S1x16384x128 .bf16) (harg6 : arg6.IsWhole) (arg7 : Memref sig .tc .vmem S2x2x1024x256 .bf16) (harg7 : arg7.IsWhole) (arg8 : Memref sig .tc .vmem S2x1024x1024 .f32) (harg8 : arg8.IsWhole) (arg9 : Memref sig .tc .vmem S2x1024x1024 .bf16) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (init : (FVec F S1x1024 .f32 × FVec F S1x1024 .f32 × FVec F S1x1024 .f32)) : ℕ →
    (FVec F S1x1024 .f32 × FVec F S1x1024 .f32 × FVec F S1x1024 .f32) × List (View.Piece (Elt F) S1x16384x128 .bf16) × List (View.Piece (Elt F) S2x2x1024x256 .bf16) × List (View.Piece (Elt F) S2x1024x1024 .f32) × List (View.Piece (Elt F) S2x1024x1024 .bf16)
  | 0 => (init, [], [], [], [])
  | k + 1 => st_k0_t1Step (F := F) c i arg2 harg2 arg3 harg3 arg4 harg4 arg5 harg5 arg6 harg6 arg7 harg7 arg8 harg8 arg9 harg9 X2 X3 X4 X5 G6 G7 G8 G9 k (st_k0_t1 c i arg2 harg2 arg3 harg3 arg4 harg4 arg5 harg5 arg6 harg6 arg7 harg7 arg8 harg8 arg9 harg9 X2 X3 X4 X5 G6 G7 G8 G9 init k)

/-- One more trip of the state, its components named. -/
theorem st_k0_t1_succ (c : Dev nD) (i : grid0.Coords) (arg2 : Memref sig .tc .vmem S1x16384x128 .bf16) (harg2 : arg2.IsWhole) (arg3 : Memref sig .tc .vmem S1x16384x256 .bf16) (harg3 : arg3.IsWhole) (arg4 : Memref sig .tc .vmem S1x16x144x1024 .bf16) (harg4 : arg4.IsWhole) (arg5 : Memref sig .tc .vmem S1x128x128 .bf16) (harg5 : arg5.IsWhole) (arg6 : Memref sig .tc .vmem S1x16384x128 .bf16) (harg6 : arg6.IsWhole) (arg7 : Memref sig .tc .vmem S2x2x1024x256 .bf16) (harg7 : arg7.IsWhole) (arg8 : Memref sig .tc .vmem S2x1024x1024 .f32) (harg8 : arg8.IsWhole) (arg9 : Memref sig .tc .vmem S2x1024x1024 .bf16) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (init : (FVec F S1x1024 .f32 × FVec F S1x1024 .f32 × FVec F S1x1024 .f32)) (k : Fin k0_t1_loop.trips) :
    st_k0_t1 (F := F) c i arg2 harg2 arg3 harg3 arg4 harg4 arg5 harg5 arg6 harg6 arg7 harg7 arg8 harg8 arg9 harg9 X2 X3 X4 X5 G6 G7 G8 G9 init (k.val + 1) =
    ((trip_k0_t1 (F := F) c i arg2 harg2 arg3 harg3 arg4 harg4 arg5 harg5 arg6 harg6 arg7 harg7 arg8 harg8 arg9 harg9 X2 X3 X4 X5 k).1 (st_k0_t1 (F := F) c i arg2 harg2 arg3 harg3 arg4 harg4 arg5 harg5 arg6 harg6 arg7 harg7 arg8 harg8 arg9 harg9 X2 X3 X4 X5 G6 G7 G8 G9 init k.val).1 (arg6.view.writes (Elt F) G6 (st_k0_t1 (F := F) c i arg2 harg2 arg3 harg3 arg4 harg4 arg5 harg5 arg6 harg6 arg7 harg7 arg8 harg8 arg9 harg9 X2 X3 X4 X5 G6 G7 G8 G9 init k.val).2.1) (arg7.view.writes (Elt F) G7 (st_k0_t1 (F := F) c i arg2 harg2 arg3 harg3 arg4 harg4 arg5 harg5 arg6 harg6 arg7 harg7 arg8 harg8 arg9 harg9 X2 X3 X4 X5 G6 G7 G8 G9 init k.val).2.2.1) (arg8.view.writes (Elt F) G8 (st_k0_t1 (F := F) c i arg2 harg2 arg3 harg3 arg4 harg4 arg5 harg5 arg6 harg6 arg7 harg7 arg8 harg8 arg9 harg9 X2 X3 X4 X5 G6 G7 G8 G9 init k.val).2.2.2.1) (arg9.view.writes (Elt F) G9 (st_k0_t1 (F := F) c i arg2 harg2 arg3 harg3 arg4 harg4 arg5 harg5 arg6 harg6 arg7 harg7 arg8 harg8 arg9 harg9 X2 X3 X4 X5 G6 G7 G8 G9 init k.val).2.2.2.2),
      (trip_k0_t1 (F := F) c i arg2 harg2 arg3 harg3 arg4 harg4 arg5 harg5 arg6 harg6 arg7 harg7 arg8 harg8 arg9 harg9 X2 X3 X4 X5 k).2.1 (st_k0_t1 (F := F) c i arg2 harg2 arg3 harg3 arg4 harg4 arg5 harg5 arg6 harg6 arg7 harg7 arg8 harg8 arg9 harg9 X2 X3 X4 X5 G6 G7 G8 G9 init k.val).1 (arg6.view.writes (Elt F) G6 (st_k0_t1 (F := F) c i arg2 harg2 arg3 harg3 arg4 harg4 arg5 harg5 arg6 harg6 arg7 harg7 arg8 harg8 arg9 harg9 X2 X3 X4 X5 G6 G7 G8 G9 init k.val).2.1) (arg7.view.writes (Elt F) G7 (st_k0_t1 (F := F) c i arg2 harg2 arg3 harg3 arg4 harg4 arg5 harg5 arg6 harg6 arg7 harg7 arg8 harg8 arg9 harg9 X2 X3 X4 X5 G6 G7 G8 G9 init k.val).2.2.1) (arg8.view.writes (Elt F) G8 (st_k0_t1 (F := F) c i arg2 harg2 arg3 harg3 arg4 harg4 arg5 harg5 arg6 harg6 arg7 harg7 arg8 harg8 arg9 harg9 X2 X3 X4 X5 G6 G7 G8 G9 init k.val).2.2.2.1) (arg9.view.writes (Elt F) G9 (st_k0_t1 (F := F) c i arg2 harg2 arg3 harg3 arg4 harg4 arg5 harg5 arg6 harg6 arg7 harg7 arg8 harg8 arg9 harg9 X2 X3 X4 X5 G6 G7 G8 G9 init k.val).2.2.2.2) ++ (st_k0_t1 (F := F) c i arg2 harg2 arg3 harg3 arg4 harg4 arg5 harg5 arg6 harg6 arg7 harg7 arg8 harg8 arg9 harg9 X2 X3 X4 X5 G6 G7 G8 G9 init k.val).2.1, (trip_k0_t1 (F := F) c i arg2 harg2 arg3 harg3 arg4 harg4 arg5 harg5 arg6 harg6 arg7 harg7 arg8 harg8 arg9 harg9 X2 X3 X4 X5 k).2.2.1 (st_k0_t1 (F := F) c i arg2 harg2 arg3 harg3 arg4 harg4 arg5 harg5 arg6 harg6 arg7 harg7 arg8 harg8 arg9 harg9 X2 X3 X4 X5 G6 G7 G8 G9 init k.val).1 (arg6.view.writes (Elt F) G6 (st_k0_t1 (F := F) c i arg2 harg2 arg3 harg3 arg4 harg4 arg5 harg5 arg6 harg6 arg7 harg7 arg8 harg8 arg9 harg9 X2 X3 X4 X5 G6 G7 G8 G9 init k.val).2.1) (arg7.view.writes (Elt F) G7 (st_k0_t1 (F := F) c i arg2 harg2 arg3 harg3 arg4 harg4 arg5 harg5 arg6 harg6 arg7 harg7 arg8 harg8 arg9 harg9 X2 X3 X4 X5 G6 G7 G8 G9 init k.val).2.2.1) (arg8.view.writes (Elt F) G8 (st_k0_t1 (F := F) c i arg2 harg2 arg3 harg3 arg4 harg4 arg5 harg5 arg6 harg6 arg7 harg7 arg8 harg8 arg9 harg9 X2 X3 X4 X5 G6 G7 G8 G9 init k.val).2.2.2.1) (arg9.view.writes (Elt F) G9 (st_k0_t1 (F := F) c i arg2 harg2 arg3 harg3 arg4 harg4 arg5 harg5 arg6 harg6 arg7 harg7 arg8 harg8 arg9 harg9 X2 X3 X4 X5 G6 G7 G8 G9 init k.val).2.2.2.2) ++ (st_k0_t1 (F := F) c i arg2 harg2 arg3 harg3 arg4 harg4 arg5 harg5 arg6 harg6 arg7 harg7 arg8 harg8 arg9 harg9 X2 X3 X4 X5 G6 G7 G8 G9 init k.val).2.2.1, (trip_k0_t1 (F := F) c i arg2 harg2 arg3 harg3 arg4 harg4 arg5 harg5 arg6 harg6 arg7 harg7 arg8 harg8 arg9 harg9 X2 X3 X4 X5 k).2.2.2.1 (st_k0_t1 (F := F) c i arg2 harg2 arg3 harg3 arg4 harg4 arg5 harg5 arg6 harg6 arg7 harg7 arg8 harg8 arg9 harg9 X2 X3 X4 X5 G6 G7 G8 G9 init k.val).1 (arg6.view.writes (Elt F) G6 (st_k0_t1 (F := F) c i arg2 harg2 arg3 harg3 arg4 harg4 arg5 harg5 arg6 harg6 arg7 harg7 arg8 harg8 arg9 harg9 X2 X3 X4 X5 G6 G7 G8 G9 init k.val).2.1) (arg7.view.writes (Elt F) G7 (st_k0_t1 (F := F) c i arg2 harg2 arg3 harg3 arg4 harg4 arg5 harg5 arg6 harg6 arg7 harg7 arg8 harg8 arg9 harg9 X2 X3 X4 X5 G6 G7 G8 G9 init k.val).2.2.1) (arg8.view.writes (Elt F) G8 (st_k0_t1 (F := F) c i arg2 harg2 arg3 harg3 arg4 harg4 arg5 harg5 arg6 harg6 arg7 harg7 arg8 harg8 arg9 harg9 X2 X3 X4 X5 G6 G7 G8 G9 init k.val).2.2.2.1) (arg9.view.writes (Elt F) G9 (st_k0_t1 (F := F) c i arg2 harg2 arg3 harg3 arg4 harg4 arg5 harg5 arg6 harg6 arg7 harg7 arg8 harg8 arg9 harg9 X2 X3 X4 X5 G6 G7 G8 G9 init k.val).2.2.2.2) ++ (st_k0_t1 (F := F) c i arg2 harg2 arg3 harg3 arg4 harg4 arg5 harg5 arg6 harg6 arg7 harg7 arg8 harg8 arg9 harg9 X2 X3 X4 X5 G6 G7 G8 G9 init k.val).2.2.2.1, (trip_k0_t1 (F := F) c i arg2 harg2 arg3 harg3 arg4 harg4 arg5 harg5 arg6 harg6 arg7 harg7 arg8 harg8 arg9 harg9 X2 X3 X4 X5 k).2.2.2.2.1 (st_k0_t1 (F := F) c i arg2 harg2 arg3 harg3 arg4 harg4 arg5 harg5 arg6 harg6 arg7 harg7 arg8 harg8 arg9 harg9 X2 X3 X4 X5 G6 G7 G8 G9 init k.val).1 (arg6.view.writes (Elt F) G6 (st_k0_t1 (F := F) c i arg2 harg2 arg3 harg3 arg4 harg4 arg5 harg5 arg6 harg6 arg7 harg7 arg8 harg8 arg9 harg9 X2 X3 X4 X5 G6 G7 G8 G9 init k.val).2.1) (arg7.view.writes (Elt F) G7 (st_k0_t1 (F := F) c i arg2 harg2 arg3 harg3 arg4 harg4 arg5 harg5 arg6 harg6 arg7 harg7 arg8 harg8 arg9 harg9 X2 X3 X4 X5 G6 G7 G8 G9 init k.val).2.2.1) (arg8.view.writes (Elt F) G8 (st_k0_t1 (F := F) c i arg2 harg2 arg3 harg3 arg4 harg4 arg5 harg5 arg6 harg6 arg7 harg7 arg8 harg8 arg9 harg9 X2 X3 X4 X5 G6 G7 G8 G9 init k.val).2.2.2.1) (arg9.view.writes (Elt F) G9 (st_k0_t1 (F := F) c i arg2 harg2 arg3 harg3 arg4 harg4 arg5 harg5 arg6 harg6 arg7 harg7 arg8 harg8 arg9 harg9 X2 X3 X4 X5 G6 G7 G8 G9 init k.val).2.2.2.2) ++ (st_k0_t1 (F := F) c i arg2 harg2 arg3 harg3 arg4 harg4 arg5 harg5 arg6 harg6 arg7 harg7 arg8 harg8 arg9 harg9 X2 X3 X4 X5 G6 G7 G8 G9 init k.val).2.2.2.2) := by
  rw [st_k0_t1.eq_2]; unfold st_k0_t1Step; exact dif_pos k.isLt

theorem st_k0_t1_zero (c : Dev nD) (i : grid0.Coords) (arg2 : Memref sig .tc .vmem S1x16384x128 .bf16) (harg2 : arg2.IsWhole) (arg3 : Memref sig .tc .vmem S1x16384x256 .bf16) (harg3 : arg3.IsWhole) (arg4 : Memref sig .tc .vmem S1x16x144x1024 .bf16) (harg4 : arg4.IsWhole) (arg5 : Memref sig .tc .vmem S1x128x128 .bf16) (harg5 : arg5.IsWhole) (arg6 : Memref sig .tc .vmem S1x16384x128 .bf16) (harg6 : arg6.IsWhole) (arg7 : Memref sig .tc .vmem S2x2x1024x256 .bf16) (harg7 : arg7.IsWhole) (arg8 : Memref sig .tc .vmem S2x1024x1024 .f32) (harg8 : arg8.IsWhole) (arg9 : Memref sig .tc .vmem S2x1024x1024 .bf16) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (init : (FVec F S1x1024 .f32 × FVec F S1x1024 .f32 × FVec F S1x1024 .f32)) :
    (st_k0_t1 (F := F) c i arg2 harg2 arg3 harg3 arg4 harg4 arg5 harg5 arg6 harg6 arg7 harg7 arg8 harg8 arg9 harg9 X2 X3 X4 X5 G6 G7 G8 G9 init 0).1 = init := rfl

/-- THE INVARIANT before trip `k`: the operands unchanged, the written buffers at the pieces of the trips before `k`
    over what they held, and the carried value the state's. -/
abbrev inv_k0_t1 (c : Dev nD) (i : grid0.Coords) (arg2 : Memref sig .tc .vmem S1x16384x128 .bf16) (harg2 : arg2.IsWhole) (arg3 : Memref sig .tc .vmem S1x16384x256 .bf16) (harg3 : arg3.IsWhole) (arg4 : Memref sig .tc .vmem S1x16x144x1024 .bf16) (harg4 : arg4.IsWhole) (arg5 : Memref sig .tc .vmem S1x128x128 .bf16) (harg5 : arg5.IsWhole) (arg6 : Memref sig .tc .vmem S1x16384x128 .bf16) (harg6 : arg6.IsWhole) (arg7 : Memref sig .tc .vmem S2x2x1024x256 .bf16) (harg7 : arg7.IsWhole) (arg8 : Memref sig .tc .vmem S2x1024x1024 .f32) (harg8 : arg8.IsWhole) (arg9 : Memref sig .tc .vmem S2x1024x1024 .bf16) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (init : (FVec F S1x1024 .f32 × FVec F S1x1024 .f32 × FVec F S1x1024 .f32)) (k : ℕ) (acc : (FVec F S1x1024 .f32 × FVec F S1x1024 .f32 × FVec F S1x1024 .f32)) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f, (arg6.view.loc (c : Thread nD τ) ↦[arg6.view.set]{fullShare} f) ∗ ⌜f = (arg6.view.writes (Elt F) G6 (st_k0_t1 (F := F) c i arg2 harg2 arg3 harg3 arg4 harg4 arg5 harg5 arg6 harg6 arg7 harg7 arg8 harg8 arg9 harg9 X2 X3 X4 X5 G6 G7 G8 G9 init k).2.1)⌝) ∗ (∃ f, (arg7.view.loc (c : Thread nD τ) ↦[arg7.view.set]{fullShare} f) ∗ ⌜f = (arg7.view.writes (Elt F) G7 (st_k0_t1 (F := F) c i arg2 harg2 arg3 harg3 arg4 harg4 arg5 harg5 arg6 harg6 arg7 harg7 arg8 harg8 arg9 harg9 X2 X3 X4 X5 G6 G7 G8 G9 init k).2.2.1)⌝) ∗ (∃ f, (arg8.view.loc (c : Thread nD τ) ↦[arg8.view.set]{fullShare} f) ∗ ⌜f = (arg8.view.writes (Elt F) G8 (st_k0_t1 (F := F) c i arg2 harg2 arg3 harg3 arg4 harg4 arg5 harg5 arg6 harg6 arg7 harg7 arg8 harg8 arg9 harg9 X2 X3 X4 X5 G6 G7 G8 G9 init k).2.2.2.1)⌝) ∗ (∃ f, (arg9.view.loc (c : Thread nD τ) ↦[arg9.view.set]{fullShare} f) ∗ ⌜f = (arg9.view.writes (Elt F) G9 (st_k0_t1 (F := F) c i arg2 harg2 arg3 harg3 arg4 harg4 arg5 harg5 arg6 harg6 arg7 harg7 arg8 harg8 arg9 harg9 X2 X3 X4 X5 G6 G7 G8 G9 init k).2.2.2.2)⌝) ∗ ⌜acc = (st_k0_t1 (F := F) c i arg2 harg2 arg3 harg3 arg4 harg4 arg5 harg5 arg6 harg6 arg7 harg7 arg8 harg8 arg9 harg9 X2 X3 X4 X5 G6 G7 G8 G9 init k).1⌝)

set_option warn.classDefReducibility false in
/-- The loop over the tiles by that invariant. -/
@[sl_loop] def loopInv_k0_t1 (c : Dev nD) (i : grid0.Coords) (arg2 : Memref sig .tc .vmem S1x16384x128 .bf16) (harg2 : arg2.IsWhole) (arg3 : Memref sig .tc .vmem S1x16384x256 .bf16) (harg3 : arg3.IsWhole) (arg4 : Memref sig .tc .vmem S1x16x144x1024 .bf16) (harg4 : arg4.IsWhole) (arg5 : Memref sig .tc .vmem S1x128x128 .bf16) (harg5 : arg5.IsWhole) (arg6 : Memref sig .tc .vmem S1x16384x128 .bf16) (harg6 : arg6.IsWhole) (arg7 : Memref sig .tc .vmem S2x2x1024x256 .bf16) (harg7 : arg7.IsWhole) (arg8 : Memref sig .tc .vmem S2x1024x1024 .f32) (harg8 : arg8.IsWhole) (arg9 : Memref sig .tc .vmem S2x1024x1024 .bf16) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G7 : BufTy.Contents (Elt F) arg7.view.ty) (G8 : BufTy.Contents (Elt F) arg8.view.ty) (G9 : BufTy.Contents (Elt F) arg9.view.ty) (init : (FVec F S1x1024 .f32 × FVec F S1x1024 .f32 × FVec F S1x1024 .f32)) :
    LoopInvTy_k0_t1 (F := F) Unit ℕ (UR sig nD τ) ℕ Variants.none c none Set.univ i arg2 harg2 arg3 harg3 arg4 harg4 arg5 harg5 arg6 harg6 arg7 harg7 arg8 harg8 arg9 harg9 init where
  inv := inv_k0_t1 (F := F) c i arg2 harg2 arg3 harg3 arg4 harg4 arg5 harg5 arg6 harg6 arg7 harg7 arg8 harg8 arg9 harg9 X2 X3 X4 X5 G6 G7 G8 G9 init
  step k acc := by
    iintro ⟨H2, H3, H4, H5, ⟨%f6, H6, %h6⟩, ⟨%f7, H7, %h7⟩, ⟨%f8, H8, %h8⟩, ⟨%f9, H9, %h9⟩, %h_acc⟩
    subst h_acc
    iapply (wp_wand_r Idealize.ShloMosaic.frame (wpE (defs₀ (F := F)) Variants.none (c : Thread nD τ) none) Set.univ)
    isplitl [H2 H3 H4 H5 H6 H7 H8 H9]
    · iapply ((trip_k0_t1 (F := F) c i arg2 harg2 arg3 harg3 arg4 harg4 arg5 harg5 arg6 harg6 arg7 harg7 arg8 harg8 arg9 harg9 X2 X3 X4 X5 k).2.2.2.2.2 Set.univ (st_k0_t1 (F := F) c i arg2 harg2 arg3 harg3 arg4 harg4 arg5 harg5 arg6 harg6 arg7 harg7 arg8 harg8 arg9 harg9 X2 X3 X4 X5 G6 G7 G8 G9 init k).1 f6 f7 f8 f9)
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro %yld ⟨%h_res, H2, H3, H4, H5, H6, H7, H8, H9⟩
      isplitl [H2]; · iexact H2
      isplitl [H3]; · iexact H3
      isplitl [H4]; · iexact H4
      isplitl [H5]; · iexact H5
      simp only [st_k0_t1_succ]
      isplitl [H6]
      · iexists _; isplitl [H6]; · iexact H6
        ipureintro; rw [h6, h7, h8, h9, ← View.writes_append]
      isplitl [H7]
      · iexists _; isplitl [H7]; · iexact H7
        ipureintro; rw [h6, h7, h8, h9, ← View.writes_append]
      isplitl [H8]
      · iexists _; isplitl [H8]; · iexact H8
        ipureintro; rw [h6, h7, h8, h9, ← View.writes_append]
      isplitl [H9]
      · iexists _; isplitl [H9]; · iexact H9
        ipureintro; rw [h6, h7, h8, h9, ← View.writes_append]
      ipureintro; rw [h_res, h6, h7, h8, h9]

end Cert.KernelIdeal.Run

end
-- ==== Proof.Body.lean ====
/- The attention kernel's body at one grid point, run whole: the first tile's scores, then the loop over the tiles. -/
module

public import proofs.«01_k».proof.Proof.TileLoop

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- THE BODY at one grid point: from the four operands' blocks, with the output block and the scratch at anything, to
    the operands unchanged and the output block at the pieces the prologue and the sixteen trips write, a function of
    what was found. -/
@[irreducible] def bodyRun (c : Dev nD) (i : grid0.Coords) (arg2 : Memref sig .tc .vmem S1x16384x128 .bf16) (harg2 : arg2.IsWhole) (arg3 : Memref sig .tc .vmem S1x16384x256 .bf16) (harg3 : arg3.IsWhole) (arg4 : Memref sig .tc .vmem S1x16x144x1024 .bf16) (harg4 : arg4.IsWhole) (arg5 : Memref sig .tc .vmem S1x128x128 .bf16) (harg5 : arg5.IsWhole) (arg6 : Memref sig .tc .vmem S1x16384x128 .bf16) (harg6 : arg6.IsWhole) (arg7 : Memref sig .tc .vmem S2x2x1024x256 .bf16) (harg7 : arg7.IsWhole) (arg8 : Memref sig .tc .vmem S2x1024x1024 .f32) (harg8 : arg8.IsWhole) (arg9 : Memref sig .tc .vmem S2x1024x1024 .bf16) (harg9 : arg9.IsWhole) (X2 : BufTy.Contents (Elt F) arg2.view.ty) (X3 : BufTy.Contents (Elt F) arg3.view.ty) (X4 : BufTy.Contents (Elt F) arg4.view.ty) (X5 : BufTy.Contents (Elt F) arg5.view.ty) :
    { L6 : BufTy.Contents (Elt F) arg6.view.ty → BufTy.Contents (Elt F) arg7.view.ty → BufTy.Contents (Elt F) arg8.view.ty → BufTy.Contents (Elt F) arg9.view.ty → List (View.Piece (Elt F) S1x16384x128 .bf16) // ∀ (f6 : BufTy.Contents (Elt F) arg6.view.ty) (f7 : BufTy.Contents (Elt F) arg7.view.ty) (f8 : BufTy.Contents (Elt F) arg8.view.ty) (f9 : BufTy.Contents (Elt F) arg9.view.ty),
      Trip_k0_t1 (F := F) c arg2 arg3 arg4 arg5 arg6 arg7 arg8 arg9 X2 X3 X4 X5 f6 f7 f8 f9
      ⊢ wp frame (wpE (defs₀ (F := F)) Variants.none (c : Thread nD τ) none) Set.univ (cc0_moba_attention (F := F) i arg2 harg2 arg3 harg3 arg4 harg4 arg5 harg5 arg6 harg6 arg7 harg7 arg8 harg8 arg9 harg9)
          (fun _ => iprop(∃ g7 g8 g9, Trip_k0_t1 (F := F) c arg2 arg3 arg4 arg5 arg6 arg7 arg8 arg9 X2 X3 X4 X5 (arg6.view.writes (Elt F) f6 (L6 f6 f7 f8 f9)) g7 g8 g9)) } := by
  refine ⟨?_, fun f6 f7 f8 f9 => ?run⟩
  case run =>
    simp only [cc0_moba_attention_eq_skeleton]; unfold cc0_moba_attention_skel
    simp only [k0_part22_eq_skeleton, k0_part23_eq_skeleton, k0_part24_eq_skeleton, k0_part25_eq_skeleton, k0_part26_eq_skeleton]
    iintro ⟨H2, H3, H4, H5, H6, H7, H8, H9⟩
    sl_exec
    sl_step
    iexists _; iexists _; iexists _
    sl_close

end Cert.KernelIdeal.Run

end
-- ==== Proof.Frame.lean ====
/- The attention call's frame: it terminates without a fault, with every argument as it was, at any float values. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output is window 4. -/
def forgets0 : Fin 5 → Bool := fun w => w.val == 4

/-- The pipeline's proof data: the inputs stay at their blocks, the output is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

abbrev sc0 : Memref sig .tc .vmem S2x2x1024x256 .bf16 := Memref.whole cc0_scratch0
abbrev sc1 : Memref sig .tc .vmem S2x1024x1024 .f32 := Memref.whole cc0_scratch1
abbrev sc2 : Memref sig .tc .vmem S2x1024x1024 .bf16 := Memref.whole cc0_scratch2

/-- What the body keeps between points: the scratch buffers at some contents, and the generator's register. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The body over owned blocks: the operands' as they were, the output's and the scratch's at something. -/
theorem body_owns (c : Dev nD) (i : grid0.Coords) (arg2 : Memref sig .tc .vmem S1x16384x128 .bf16) (harg2 : arg2.IsWhole) (arg3 : Memref sig .tc .vmem S1x16384x256 .bf16) (harg3 : arg3.IsWhole) (arg4 : Memref sig .tc .vmem S1x16x144x1024 .bf16) (harg4 : arg4.IsWhole) (arg5 : Memref sig .tc .vmem S1x128x128 .bf16) (harg5 : arg5.IsWhole) (arg6 : Memref sig .tc .vmem S1x16384x128 .bf16) (harg6 : arg6.IsWhole) (arg7 : Memref sig .tc .vmem S2x2x1024x256 .bf16) (harg7 : arg7.IsWhole) (arg8 : Memref sig .tc .vmem S2x1024x1024 .f32) (harg8 : arg8.IsWhole) (arg9 : Memref sig .tc .vmem S2x1024x1024 .bf16) (harg9 : arg9.IsWhole)
    (x0 : Vec F S1x16384x128 .bf16) (x1 : Vec F S1x16384x256 .bf16) (x2 : Vec F S1x16x144x1024 .bf16) (x3 : Vec F S1x128x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) Set.univ (cc0_moba_attention i arg2 harg2 arg3 harg3 arg4 harg4 arg5 harg5 arg6 harg6 arg7 harg7 arg8 harg8 arg9 harg9) K := by
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4; obtain rfl := harg5.eq_unread hf5
  iapply (wp_wand_r Idealize.ShloMosaic.frame (wpE (defs₀ (F := F)) Variants.none (c : Thread nD τ) none) Set.univ)
  isplitl [H2 H3 H4 H5 H6 H7 H8 H9]
  · iapply ((bodyRun (F := F) c i arg2 harg2 arg3 harg3 arg4 harg4 arg5 harg5 arg6 harg6 arg7 harg7 arg8 harg8 arg9 harg9 _ _ _ _).2 f6 f7 f8 f9)
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro %yld ⟨%g7, %g8, %g9, H2, H3, H4, H5, H6, H7, H8, H9⟩
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

set_option maxHeartbeats 800000 in
/-- The body at any grid point keeps the pipeline's invariant. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩⟩
  iapply (body_owns c (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole program's run: the staged arrays' inputs unchanged, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun _ w => by match w with | ⟨0, _⟩ => rfl | ⟨1, _⟩ => rfl | ⟨2, _⟩ => rfl | ⟨3, _⟩ => rfl | ⟨4, _⟩ => rfl)
    (howed := fun _ _ => rfl) (V := V m) (hmain := hmain m Variants.none) (hA := A_eq m) (hΦ := fun _ _ => rfl)

/-- THE FRAME of the attention call, at any float values: it ends, the arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main_quiescent m ρ)

end Cert.KernelIdeal.Run

end
-- ==== Proof.Frames.lean ====
/- The frames of the three attention programs, and what the two named masks denote. -/
module

public import proofs.«01_k».proof.Defs
public import proofs.«01_k».proof.Proof.BitsFrame
public import proofs.«01_k».proof.Proof.Frame
public import proofs.«01_k».proof.Proof.Gen.ReferenceIdeal
public import proofs.«01_k».proof.Proof.Gen.ReferenceIdeal.Run
public import Idealize.ShloMosaic.PureOps.IdealRules

@[expose] public section

noncomputable section

namespace Cert.Proof.Frames

open Idealize.ShloMosaic Idealize.ShloMosaic.TcCoe Idealize.SL.Sem

/-- The kernel at the machine's floats runs to the end, leaves its arguments alone and its counters at zero. -/
theorem frame_p : Cert.quiescent_Kernel := fun m ρ _ => Cert.Kernel.Run.frame m ρ
/-- So does the kernel over the extended reals. -/
theorem frame_pi : Cert.quiescent_KernelIdeal := fun m ρ _ => Cert.KernelIdeal.Run.frame m ρ
/-- And so does the reference, which has no semaphores at all. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two spellings of the mask both stand for minus infinity. -/
theorem preserves : Cert.preserves_Kernel_KernelIdeal :=
  ⟨IdealRules.named_const.statement Cert.KernelIdeal.κ "mask" .f32 0xF149F2CA#32 ⊥ rfl,
    IdealRules.named_const.statement Cert.KernelIdeal.κ "mask" .bf16 0xF14A#16 ⊥ rfl⟩

end Cert.Proof.Frames

end
-- ==== Proof.FfnArith.lean ====
/- The feed-forward kernel's arithmetic against the reference's, on plain arrays: the reference in six steps, and what the
kernel's expressions are in terms of them. -/
module

public import proofs.«01_k».proof.Proof.Gen.FfnIdeal.Value
public import proofs.«01_k».proof.Proof.Gen.FfnRefIdeal.Run
public import Idealize.ShloMosaic.Lib.Pointwise
public import Idealize.ShloMosaic.Lib.Pipeline.ValueKit

@[expose] public section

set_option maxRecDepth 16384

noncomputable section

namespace Cert.FfnIdeal.Result

open Idealize.ShloMosaic Idealize.ShloMosaic.TcCoe Idealize.SL.Sem
open Idealize.ShloMosaic.Pipeline (Dat)
open Cert.FfnIdeal Cert.FfnIdeal.Gen

/-- The reference's normalised tokens: each token over its root mean square, times the scale of the first layer. -/
def rH (X : FVec Ideal S2x16384x2048 .f32) (N1 : FVec Ideal S2x2048 .f32) : FVec Ideal S2x16384x2048 .f32 :=
  mulf (mulf X (broadcastInDim Cert.FfnRefIdeal.S2x16384x2048 ![0, 1, 2] Cert.FfnRefIdeal.Gen.bcast_S2x16384x1_S2x16384x2048_0_1_2 (Host.rsqrt (addf (Host.divf (broadcastInDim Cert.FfnRefIdeal.S2x16384x1 ![0, 1] Cert.FfnRefIdeal.Gen.bcast_S2x16384_S2x16384x1_0_1 (Host.reduceAdd (mulf X X) (constant Cert.FfnRefIdeal.S_ .f32 0x00000000#32) Cert.FfnRefIdeal.Gen.reducesTo_S2x16384x2048_S2x16384_d2 Cert.FfnRefIdeal.Gen.h_S_)) (broadcastInDim Cert.FfnRefIdeal.S2x16384x1 ![] Cert.FfnRefIdeal.Gen.bcast_S_S2x16384x1 (constant Cert.FfnRefIdeal.S_ .f32 0x45000000#32))) (broadcastInDim Cert.FfnRefIdeal.S2x16384x1 ![] Cert.FfnRefIdeal.Gen.bcast_S_S2x16384x1 (constant Cert.FfnRefIdeal.S_ .f32 0x358637BD#32)))))) (broadcastInDim Cert.FfnRefIdeal.S2x16384x2048 ![0, 1, 2] Cert.FfnRefIdeal.Gen.bcast_S1x1x2048_S2x16384x2048_0_1_2 (broadcastInDim Cert.FfnRefIdeal.S1x1x2048 ![2] Cert.FfnRefIdeal.Gen.bcast_S2048_S1x1x2048_2 (shapeCast _ (extractStridedSlice Cert.FfnRefIdeal.S1x2048 ![0, 0] N1 Cert.FfnRefIdeal.Gen.slices_S2x2048_S1x2048_0_0) Cert.FfnRefIdeal.Gen.shapeCasts_S1x2048_S2048)))

/-- The reference's first product: both halves of the hidden layer. -/
def rU (H : FVec Ideal S2x16384x2048 .f32) (W1 : FVec Ideal S2x2048x11264 .f32) : FVec Ideal Cert.FfnRefIdeal.S2x16384x11264 .f32 :=
  Host.dotGeneral Cert.FfnRefIdeal.dot_S2x16384x2048_S2048x11264_S2x16384x11264_2_0_01_1_n_n none H (shapeCast _ (extractStridedSlice Cert.FfnRefIdeal.S1x2048x11264 ![0, 0, 0] W1 Cert.FfnRefIdeal.Gen.slices_S2x2048x11264_S1x2048x11264_0_0_0) Cert.FfnRefIdeal.Gen.shapeCasts_S1x2048x11264_S2048x11264)

/-- The reference's causal convolution over three tokens of the first half. -/
def rC (U : FVec Ideal Cert.FfnRefIdeal.S2x16384x11264 .f32) (D : FVec Ideal S2x3x5632 .f32) (Bd : FVec Ideal S2x5632 .f32) :
    FVec Ideal Cert.FfnRefIdeal.S2x16384x5632 .f32 :=
  addf (addf (addf (addf (broadcastInDim Cert.FfnRefIdeal.S2x16384x5632 ![] Cert.FfnRefIdeal.Gen.bcast_S_S2x16384x5632 (constant Cert.FfnRefIdeal.S_ .f32 0x00000000#32)) (mulf (broadcastInDim Cert.FfnRefIdeal.S2x16384x5632 ![0, 1, 2] Cert.FfnRefIdeal.Gen.bcast_S1x1x5632_S2x16384x5632_0_1_2 (broadcastInDim Cert.FfnRefIdeal.S1x1x5632 ![2] Cert.FfnRefIdeal.Gen.bcast_S5632_S1x1x5632_2 (shapeCast _ (extractStridedSlice Cert.FfnRefIdeal.S1x1x5632 ![0, 0, 0] D Cert.FfnRefIdeal.Gen.slices_S2x3x5632_S1x1x5632_0_0_0) Cert.FfnRefIdeal.Gen.shapeCasts_S1x1x5632_S5632))) (extractStridedSlice Cert.FfnRefIdeal.S2x16384x5632 ![0, 0, 0] (pad Cert.FfnRefIdeal.S2x16386x5632 ![0, 2, 0] ![0, 0, 0] ![0, 0, 0] (extractStridedSlice Cert.FfnRefIdeal.S2x16384x5632 ![0, 0, 0] U Cert.FfnRefIdeal.Gen.slices_S2x16384x11264_S2x16384x5632_0_0_0) (sitofp .f32 (constantI Cert.FfnRefIdeal.S_ 32 0#32)) Cert.FfnRefIdeal.Gen.pads_S2x16384x5632_S2x16386x5632_000_200_000 Cert.FfnRefIdeal.Gen.h_S_) Cert.FfnRefIdeal.Gen.slices_S2x16386x5632_S2x16384x5632_0_0_0))) (mulf (broadcastInDim Cert.FfnRefIdeal.S2x16384x5632 ![0, 1, 2] Cert.FfnRefIdeal.Gen.bcast_S1x1x5632_S2x16384x5632_0_1_2 (broadcastInDim Cert.FfnRefIdeal.S1x1x5632 ![2] Cert.FfnRefIdeal.Gen.bcast_S5632_S1x1x5632_2 (shapeCast _ (extractStridedSlice Cert.FfnRefIdeal.S1x1x5632 ![0, 1, 0] D Cert.FfnRefIdeal.Gen.slices_S2x3x5632_S1x1x5632_0_1_0) Cert.FfnRefIdeal.Gen.shapeCasts_S1x1x5632_S5632))) (extractStridedSlice Cert.FfnRefIdeal.S2x16384x5632 ![0, 1, 0] (pad Cert.FfnRefIdeal.S2x16386x5632 ![0, 2, 0] ![0, 0, 0] ![0, 0, 0] (extractStridedSlice Cert.FfnRefIdeal.S2x16384x5632 ![0, 0, 0] U Cert.FfnRefIdeal.Gen.slices_S2x16384x11264_S2x16384x5632_0_0_0) (sitofp .f32 (constantI Cert.FfnRefIdeal.S_ 32 0#32)) Cert.FfnRefIdeal.Gen.pads_S2x16384x5632_S2x16386x5632_000_200_000 Cert.FfnRefIdeal.Gen.h_S_) Cert.FfnRefIdeal.Gen.slices_S2x16386x5632_S2x16384x5632_0_1_0))) (mulf (broadcastInDim Cert.FfnRefIdeal.S2x16384x5632 ![0, 1, 2] Cert.FfnRefIdeal.Gen.bcast_S1x1x5632_S2x16384x5632_0_1_2 (broadcastInDim Cert.FfnRefIdeal.S1x1x5632 ![2] Cert.FfnRefIdeal.Gen.bcast_S5632_S1x1x5632_2 (shapeCast _ (extractStridedSlice Cert.FfnRefIdeal.S1x1x5632 ![0, 2, 0] D Cert.FfnRefIdeal.Gen.slices_S2x3x5632_S1x1x5632_0_2_0) Cert.FfnRefIdeal.Gen.shapeCasts_S1x1x5632_S5632))) (extractStridedSlice Cert.FfnRefIdeal.S2x16384x5632 ![0, 2, 0] (pad Cert.FfnRefIdeal.S2x16386x5632 ![0, 2, 0] ![0, 0, 0] ![0, 0, 0] (extractStridedSlice Cert.FfnRefIdeal.S2x16384x5632 ![0, 0, 0] U Cert.FfnRefIdeal.Gen.slices_S2x16384x11264_S2x16384x5632_0_0_0) (sitofp .f32 (constantI Cert.FfnRefIdeal.S_ 32 0#32)) Cert.FfnRefIdeal.Gen.pads_S2x16384x5632_S2x16386x5632_000_200_000 Cert.FfnRefIdeal.Gen.h_S_) Cert.FfnRefIdeal.Gen.slices_S2x16386x5632_S2x16384x5632_0_2_0))) (broadcastInDim Cert.FfnRefIdeal.S2x16384x5632 ![0, 1, 2] Cert.FfnRefIdeal.Gen.bcast_S1x1x5632_S2x16384x5632_0_1_2 (broadcastInDim Cert.FfnRefIdeal.S1x1x5632 ![2] Cert.FfnRefIdeal.Gen.bcast_S5632_S1x1x5632_2 (shapeCast _ (extractStridedSlice Cert.FfnRefIdeal.S1x5632 ![0, 0] Bd Cert.FfnRefIdeal.Gen.slices_S2x5632_S1x5632_0_0) Cert.FfnRefIdeal.Gen.shapeCasts_S1x5632_S5632)))

/-- The reference's gate: the convolution through `gelu`, times the second half. -/
def rA (C : FVec Ideal Cert.FfnRefIdeal.S2x16384x5632 .f32) (U : FVec Ideal Cert.FfnRefIdeal.S2x16384x11264 .f32) : FVec Ideal Cert.FfnRefIdeal.S2x16384x5632 .f32 :=
  mulf (mulf C (mulf (broadcastInDim Cert.FfnRefIdeal.S2x16384x5632 ![] Cert.FfnRefIdeal.Gen.bcast_S_S2x16384x5632 (constant Cert.FfnRefIdeal.S_ .f32 0x3F000000#32)) (addf (broadcastInDim Cert.FfnRefIdeal.S2x16384x5632 ![] Cert.FfnRefIdeal.Gen.bcast_S_S2x16384x5632 (constant Cert.FfnRefIdeal.S_ .f32 0x3F800000#32)) (Host.tanh (mulf (broadcastInDim Cert.FfnRefIdeal.S2x16384x5632 ![] Cert.FfnRefIdeal.Gen.bcast_S_S2x16384x5632 (constant Cert.FfnRefIdeal.S_ .f32 0x3F4C422A#32)) (addf C (mulf (broadcastInDim Cert.FfnRefIdeal.S2x16384x5632 ![] Cert.FfnRefIdeal.Gen.bcast_S_S2x16384x5632 (constant Cert.FfnRefIdeal.S_ .f32 0x3D372713#32)) (mulf (mulf C C) C)))))))) (extractStridedSlice Cert.FfnRefIdeal.S2x16384x5632 ![0, 0, 5632] U Cert.FfnRefIdeal.Gen.slices_S2x16384x11264_S2x16384x5632_0_0_5632)

/-- The reference's second product. -/
def rY (A : FVec Ideal Cert.FfnRefIdeal.S2x16384x5632 .f32) (W2 : FVec Ideal S2x5632x2048 .f32) : FVec Ideal S2x16384x2048 .f32 :=
  Host.dotGeneral Cert.FfnRefIdeal.dot_S2x16384x5632_S5632x2048_S2x16384x2048_2_0_01_1_n_n none A (shapeCast _ (extractStridedSlice Cert.FfnRefIdeal.S1x5632x2048 ![0, 0, 0] W2 Cert.FfnRefIdeal.Gen.slices_S2x5632x2048_S1x5632x2048_0_0_0) Cert.FfnRefIdeal.Gen.shapeCasts_S1x5632x2048_S5632x2048)

/-- The reference's result: the token plus the second product, normalised and scaled. -/
def rO (X Y : FVec Ideal S2x16384x2048 .f32) (N2 : FVec Ideal S2x2048 .f32) : FVec Ideal S32768x2048 .f32 :=
  shapeCast _ (addf X (mulf (mulf Y (broadcastInDim Cert.FfnRefIdeal.S2x16384x2048 ![0, 1, 2] Cert.FfnRefIdeal.Gen.bcast_S2x16384x1_S2x16384x2048_0_1_2 (Host.rsqrt (addf (Host.divf (broadcastInDim Cert.FfnRefIdeal.S2x16384x1 ![0, 1] Cert.FfnRefIdeal.Gen.bcast_S2x16384_S2x16384x1_0_1 (Host.reduceAdd (mulf Y Y) (constant Cert.FfnRefIdeal.S_ .f32 0x00000000#32) Cert.FfnRefIdeal.Gen.reducesTo_S2x16384x2048_S2x16384_d2 Cert.FfnRefIdeal.Gen.h_S_)) (broadcastInDim Cert.FfnRefIdeal.S2x16384x1 ![] Cert.FfnRefIdeal.Gen.bcast_S_S2x16384x1 (constant Cert.FfnRefIdeal.S_ .f32 0x45000000#32))) (broadcastInDim Cert.FfnRefIdeal.S2x16384x1 ![] Cert.FfnRefIdeal.Gen.bcast_S_S2x16384x1 (constant Cert.FfnRefIdeal.S_ .f32 0x358637BD#32)))))) (broadcastInDim Cert.FfnRefIdeal.S2x16384x2048 ![0, 1, 2] Cert.FfnRefIdeal.Gen.bcast_S1x1x2048_S2x16384x2048_0_1_2 (broadcastInDim Cert.FfnRefIdeal.S1x1x2048 ![2] Cert.FfnRefIdeal.Gen.bcast_S2048_S1x1x2048_2 (shapeCast _ (extractStridedSlice Cert.FfnRefIdeal.S1x2048 ![0, 0] N2 Cert.FfnRefIdeal.Gen.slices_S2x2048_S1x2048_0_0) Cert.FfnRefIdeal.Gen.shapeCasts_S1x2048_S2048))))) Cert.FfnRefIdeal.Gen.shapeCasts_S2x16384x2048_S32768x2048

/-- What the kernel's token scratch holds for row tile `i`: sixteen rows of halo, zero where the tile begins a sequence, and
    then the tile's own normalised tokens. -/
def IsScr (H : FVec Ideal S2x16384x2048 .f32) (i : ℕ) (hi : i < 64) (S : FVec Ideal S528x2048 .bf16) : Prop :=
  ∀ (r : Fin 528) (k : Fin 2048), S (ix2 r k) = if i % 32 = 0 ∧ r.val < 16 then (0 : EReal) else
    H (ix3 ⟨(i * 512 + r.val - 16) / 16384, by omega⟩ ⟨(i * 512 + r.val - 16) % 16384, by omega⟩ k)

/-- The normalised token the kernel computes from its block is the reference's. -/
theorem pay7_apply (x : FVec Ideal S512x2048 .f32) (g : FVec Ideal S1x2048 .f32) (X : FVec Ideal S2x16384x2048 .f32)
    (N1 : FVec Ideal S2x2048 .f32) (r : Fin 512) (l : Fin 2048) (b : Fin 2) (s : Fin 16384)
    (hx : ∀ k : Fin 2048, x (ix2 r k) = X (ix3 b s k)) (hg : ∀ k : Fin 2048, g (ix2 0 k) = N1 (ix2 0 k)) :
    k0_pay7 (F := Ideal) (k0_pay4 x) (k0_pay5 g) (k0_pay6 x) (ix2 r l) = rH X N1 (ix3 b s l) := by
  pointwise [k0_pay7, k0_pay4, k0_pay5, k0_pay6, rH]
  simp only [hx, hg]

/-- The test that a row tile begins a sequence: the tile's number is a multiple of 32. -/
theorem start_test : ∀ i : Fin 64, ∀ u v : EReal, Scalar.select (Scalar.cmpi CmpIPredicate.eq
        (Scalar.select
          (Scalar.andi
            (Scalar.xori
              (Scalar.cmpi CmpIPredicate.slt
                (Scalar.remsi (BitVec.ofNat 32 i.val) (Scalar.select (Scalar.cmpi CmpIPredicate.eq 32#32 0#32) 1#32 32#32)) 0#32)
              (Scalar.cmpi CmpIPredicate.slt (Scalar.select (Scalar.cmpi CmpIPredicate.eq 32#32 0#32) 1#32 32#32) 0#32))
            (Scalar.cmpi CmpIPredicate.ne
              (Scalar.remsi (BitVec.ofNat 32 i.val) (Scalar.select (Scalar.cmpi CmpIPredicate.eq 32#32 0#32) 1#32 32#32)) 0#32))
          (Scalar.addi (Scalar.remsi (BitVec.ofNat 32 i.val) (Scalar.select (Scalar.cmpi CmpIPredicate.eq 32#32 0#32) 1#32 32#32))
            (Scalar.select (Scalar.cmpi CmpIPredicate.eq 32#32 0#32) 1#32 32#32))
          (Scalar.remsi (BitVec.ofNat 32 i.val) (Scalar.select (Scalar.cmpi CmpIPredicate.eq 32#32 0#32) 1#32 32#32)))
        0#32) u v = if i.val % 32 = 0 then u else v := by
  intro i u v
  have h : ∀ i : Fin 64, Scalar.cmpi CmpIPredicate.eq
        (Scalar.select
          (Scalar.andi
            (Scalar.xori
              (Scalar.cmpi CmpIPredicate.slt
                (Scalar.remsi (BitVec.ofNat 32 i.val) (Scalar.select (Scalar.cmpi CmpIPredicate.eq 32#32 0#32) 1#32 32#32)) 0#32)
              (Scalar.cmpi CmpIPredicate.slt (Scalar.select (Scalar.cmpi CmpIPredicate.eq 32#32 0#32) 1#32 32#32) 0#32))
            (Scalar.cmpi CmpIPredicate.ne
              (Scalar.remsi (BitVec.ofNat 32 i.val) (Scalar.select (Scalar.cmpi CmpIPredicate.eq 32#32 0#32) 1#32 32#32)) 0#32))
          (Scalar.addi (Scalar.remsi (BitVec.ofNat 32 i.val) (Scalar.select (Scalar.cmpi CmpIPredicate.eq 32#32 0#32) 1#32 32#32))
            (Scalar.select (Scalar.cmpi CmpIPredicate.eq 32#32 0#32) 1#32 32#32))
          (Scalar.remsi (BitVec.ofNat 32 i.val) (Scalar.select (Scalar.cmpi CmpIPredicate.eq 32#32 0#32) 1#32 32#32)))
        0#32 = if i.val % 32 = 0 then 1#1 else 0#1 := by decide +kernel
  rw [h i]
  by_cases hi : i.val % 32 = 0
  · rw [if_pos hi, if_pos hi]; rfl
  · rw [if_neg hi, if_neg hi]; rfl

/-- The halo the kernel computes: zero at a sequence's start, else the reference's normalised token. -/
theorem pay3_apply (i : ℕ) (hi : i < 64) (x : FVec Ideal S16x2048 .f32) (g : FVec Ideal S1x2048 .f32)
    (X : FVec Ideal S2x16384x2048 .f32) (N1 : FVec Ideal S2x2048 .f32) (r : Fin 16) (l : Fin 2048) (b : Fin 2) (s : Fin 16384)
    (hx : ∀ k : Fin 2048, x (ix2 r k) = X (ix3 b s k)) (hg : ∀ k : Fin 2048, g (ix2 0 k) = N1 (ix2 0 k)) :
    k0_pay3 (F := Ideal) (BitVec.ofNat 32 i) x g (ix2 r l) = if i % 32 = 0 then (0 : EReal) else rH X N1 (ix3 b s l) := by
  pointwise [k0_pay3, rH]
  simp only [hx, hg]
  exact start_test ⟨i, hi⟩ _ _

/-- The halo at a sequence's start is zero whatever the block holds. -/
theorem pay3_start (i : ℕ) (hi : i < 64) (hz : i % 32 = 0) (x : FVec Ideal S16x2048 .f32) (g : FVec Ideal S1x2048 .f32)
    (r : Fin 16) (l : Fin 2048) : k0_pay3 (F := Ideal) (BitVec.ofNat 32 i) x g (ix2 r l) = (0 : EReal) := by
  pointwise [k0_pay3]
  exact (start_test ⟨i, hi⟩ _ _).trans (if_pos hz)

/-- The first half's product on the scratch: the reference's product row, or zero where the scratch is zero. -/
theorem pay9_apply (H : FVec Ideal S2x16384x2048 .f32) (W1 : FVec Ideal S2x2048x11264 .f32) (i : ℕ) (hi : i < 64)
    (S : FVec Ideal S528x2048 .bf16) (hS : IsScr H i hi S) (w : FVec Ideal S1x2048x512 .bf16) (l : Fin 512) (l' : Fin 11264)
    (hw : ∀ k : Fin 2048, w (ix3 0 k l) = W1 (ix3 0 k l')) (q : Fin 528) :
    k0_pay9 (F := Ideal) S w (ix2 q l) = if i % 32 = 0 ∧ q.val < 16 then (0 : EReal) else
      rU H W1 (ix3 ⟨(i * 512 + q.val - 16) / 16384, by omega⟩ ⟨(i * 512 + q.val - 16) % 16384, by omega⟩ l') := by
  pointwise [k0_pay9, rU]
  by_cases h : i % 32 = 0 ∧ q.val < 16
  · rw [if_pos h]
    refine Finset.sum_eq_zero fun k _ => ?_
    rw [hS q k, if_pos h, zero_mul]
  · rw [if_neg h]
    refine Finset.sum_congr rfl fun k _ => ?_
    rw [hS q k, if_neg h, hw]

/-- The two orders in which the convolution's three products and its bias are added. -/
theorem conv_reorder {B x0 x1 x2 y0 y1 y2 : EReal} (h2 : x2 = y2) (h1 : x1 = y1) (h0 : x0 = y0) :
    B + x2 + x1 + x0 = y0 + y1 + y2 + B := by
  subst h2 h1 h0
  ac_rfl

/-- The convolution the kernel computes on row `r` of tile `i` is the reference's at that token. -/
theorem conv_apply (H : FVec Ideal S2x16384x2048 .f32) (W1 : FVec Ideal S2x2048x11264 .f32) (D : FVec Ideal S2x3x5632 .f32)
    (Bd : FVec Ideal S2x5632 .f32) (i : ℕ) (hi : i < 64)
    (S : FVec Ideal S528x2048 .bf16) (hS : IsScr H i hi S) (w : FVec Ideal S1x2048x512 .bf16) (b d2 d1 d0 : FVec Ideal S1x512 .f32)
    (l : Fin 512) (l' : Fin 5632)
    (hw : ∀ k : Fin 2048, w (ix3 0 k l) = W1 (ix3 0 k ⟨l'.val, by omega⟩)) (hb : b (ix2 0 l) = Bd (ix2 0 l'))
    (h2 : d2 (ix2 0 l) = D (ix3 0 2 l')) (h1 : d1 (ix2 0 l) = D (ix3 0 1 l')) (h0 : d0 (ix2 0 l) = D (ix3 0 0 l')) (r : Fin 512) :
    (k0_pay11 (F := Ideal) S w b d2 d1 (ix2 r l) + k0_pay12 (F := Ideal) S w d0 (ix2 r l) : EReal) =
      rC (rU H W1) D Bd (ix3 ⟨(i * 512 + r.val) / 16384, by omega⟩ ⟨(i * 512 + r.val) % 16384, by omega⟩ l') := by
  have hz : (FloatOps.sitofp FTy.f32 (0#32) : Ideal .f32) = (0 : EReal) := by
    show (((0#32 : BitVec 32).toInt : ℝ) : EReal) = 0
    simp
  pointwise [k0_pay11, k0_pay12, rC]
  simp only [hb, h2, h1, h0]
  simp only [pay9_apply H W1 i hi S hS w l ⟨l'.val, by omega⟩ hw]
  refine conv_reorder (congrArg _ ?_) (congrArg _ ?_) (congrArg _ ?_)
  all_goals
    split_ifs with ha hd hd
    · exfalso; omega
    · exact hz.symm
    · congr 1
      blk_ext
    · exfalso; omega

/-- One chunk's contribution: the accumulator plus the gated chunk times its rows of the second weights. -/
theorem step_apply (H : FVec Ideal S2x16384x2048 .f32) (W1 : FVec Ideal S2x2048x11264 .f32) (D : FVec Ideal S2x3x5632 .f32)
    (Bd : FVec Ideal S2x5632 .f32) (W2 : FVec Ideal S2x5632x2048 .f32) (i : ℕ) (hi : i < 64) (j : ℕ) (hj : j < 11)
    (S : FVec Ideal S528x2048 .bf16) (hS : IsScr H i hi S) (S' : FVec Ideal S512x2048 .bf16)
    (hS' : ∀ (r : Fin 512) (k : Fin 2048), S' (ix2 r k) = S (ix2 ⟨16 + r.val, by omega⟩ k))
    (w w' : FVec Ideal S1x2048x512 .bf16) (b d2 d1 d0 : FVec Ideal S1x512 .f32) (acc : FVec Ideal S512x2048 .f32)
    (wo : FVec Ideal S1x512x2048 .bf16)
    (hw : ∀ (k : Fin 2048) (l : Fin 512), w (ix3 0 k l) = W1 (ix3 0 k ⟨j * 512 + l.val, by omega⟩))
    (hw' : ∀ (k : Fin 2048) (l : Fin 512), w' (ix3 0 k l) = W1 (ix3 0 k ⟨(j + 11) * 512 + l.val, by omega⟩))
    (hb : ∀ l : Fin 512, b (ix2 0 l) = Bd (ix2 0 ⟨j * 512 + l.val, by omega⟩))
    (h2 : ∀ l : Fin 512, d2 (ix2 0 l) = D (ix3 0 2 ⟨j * 512 + l.val, by omega⟩))
    (h1 : ∀ l : Fin 512, d1 (ix2 0 l) = D (ix3 0 1 ⟨j * 512 + l.val, by omega⟩))
    (h0 : ∀ l : Fin 512, d0 (ix2 0 l) = D (ix3 0 0 ⟨j * 512 + l.val, by omega⟩))
    (hwo : ∀ (k : Fin 512) (l : Fin 2048), wo (ix3 0 k l) = W2 (ix3 0 ⟨j * 512 + k.val, by omega⟩ l)) (r : Fin 512) (l : Fin 2048) :
    k0_pay1 (F := Ideal) (k0_pay10 S' w') (k0_pay11 S w b d2 d1) (k0_pay12 S w d0) acc wo (ix2 r l) =
      (acc (ix2 r l) + ∑ k : Fin 512, rA (rC (rU H W1) D Bd) (rU H W1)
          (ix3 ⟨(i * 512 + r.val) / 16384, by omega⟩ ⟨(i * 512 + r.val) % 16384, by omega⟩ ⟨j * 512 + k.val, by omega⟩)
        * W2 (ix3 0 ⟨j * 512 + k.val, by omega⟩ l) : EReal) := by
  have hu : ∀ k : Fin 512, k0_pay10 (F := Ideal) S' w' (ix2 r k) = rU H W1
      (ix3 ⟨(i * 512 + r.val) / 16384, by omega⟩ ⟨(i * 512 + r.val) % 16384, by omega⟩ ⟨5632 + (j * 512 + k.val), by omega⟩) := by
    intro k
    pointwise [k0_pay10, rU]
    refine Finset.sum_congr rfl fun q _ => ?_
    rw [hS', hS, if_neg (by simp), hw']
    congr 2 <;> blk_ext
  pointwise [k0_pay1, rA]
  congr 1
  refine Finset.sum_congr rfl fun k _ => ?_
  rw [conv_apply H W1 D Bd i hi S hS w b d2 d1 d0 k ⟨j * 512 + k.val, by omega⟩ (fun q => hw q k) (hb k) (h2 k) (h1 k) (h0 k) r,
    hu, hwo]
  ac_rfl

/-- The reference's second product as the sum over the eleven chunks of its hidden columns. -/
theorem rY_chunks (A : FVec Ideal Cert.FfnRefIdeal.S2x16384x5632 .f32) (W2 : FVec Ideal S2x5632x2048 .f32) (b : Fin 2) (s : Fin 16384)
    (l : Fin 2048) : rY A W2 (ix3 b s l) = (∑ j : Fin 11, ∑ k : Fin 512,
      A (ix3 b s ⟨j.val * 512 + k.val, by omega⟩) * W2 (ix3 0 ⟨j.val * 512 + k.val, by omega⟩ l) : EReal) := by
  pointwise [rY]
  exact (Fin.sum_mul_add_congr (f := fun x : Fin 5632 => (A (ix3 b s x) * W2 (ix3 0 x l) : EReal)) fun j k hl => rfl).symm

/-- The last step: the token plus the normalised accumulator is the reference's result. -/
theorem pay2_apply (x acc : FVec Ideal S512x2048 .f32) (g : FVec Ideal S1x2048 .f32) (X Y : FVec Ideal S2x16384x2048 .f32)
    (N2 : FVec Ideal S2x2048 .f32) (r : Fin 512) (l : Fin 2048) (n : Fin 32768)
    (hx : ∀ k : Fin 2048, x (ix2 r k) = X (ix3 ⟨n.val / 16384, by omega⟩ ⟨n.val % 16384, by omega⟩ k))
    (ha : ∀ k : Fin 2048, acc (ix2 r k) = Y (ix3 ⟨n.val / 16384, by omega⟩ ⟨n.val % 16384, by omega⟩ k))
    (hg : ∀ k : Fin 2048, g (ix2 0 k) = N2 (ix2 0 k)) :
    k0_pay2 (F := Ideal) x acc g (ix2 r l) = rO X Y N2 (ix2 n l) := by
  pointwise [k0_pay2, rO]
  simp only [hx, ha, hg]

end Cert.FfnIdeal.Result
end
-- ==== Proof.FfnValue.lean ====
/- What the feed-forward kernel computes: its result array is the reference's, element by element. -/
module

public import proofs.«01_k».proof.Proof.Gen.FfnIdeal.Value
public import proofs.«01_k».proof.Proof.Gen.FfnRefIdeal.Run
public import proofs.«01_k».proof.Defs
public import proofs.«01_k».proof.Proof.FfnArith
public import Idealize.ShloMosaic.Lib.Pointwise
public import Idealize.ShloMosaic.Lib.Pipeline.ValueKit

@[expose] public section

set_option maxRecDepth 16384

noncomputable section

namespace Cert.FfnIdeal.Result

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- Where every window's block sits at each grid point: point `t` is row tile `t / 11` and column chunk `t % 11`. -/
theorem idx : ∀ t : Fin cfg0.N, win0_0.index t = ![t.val / 11, 0] ∧ win0_1.index t = ![t.val / 11 * 32 - 1, 0]
    ∧ win0_2.index t = ![0, 0] ∧ win0_3.index t = ![0, 0, t.val % 11] ∧ win0_4.index t = ![0, 0, t.val % 11 + 11]
    ∧ win0_5.index t = ![0, t.val % 11] ∧ win0_6.index t = ![0, t.val % 11] ∧ win0_7.index t = ![0, t.val % 11, 0]
    ∧ win0_8.index t = ![0, 0] ∧ win0_9.index t = ![t.val / 11, 0] :=
  (by decide +kernel : ∀ t : Fin grid0.N, _)

/-- The grid's first coordinate at each point. -/
theorem coord : ∀ t : Fin cfg0.N, ((grid0.coords t) 0).val = t.val / 11 := (by decide +kernel : ∀ t : Fin grid0.N, _)

/-- The tokens, as a plain array. -/
abbrev argX (c : Dev nD) : FVec Ideal S2x16384x2048 .f32 := m ((c : Thread nD τ).loc main_arg0)
/-- The first norms' scales, as a plain array. -/
abbrev argN1 (c : Dev nD) : FVec Ideal S2x2048 .f32 := m ((c : Thread nD τ).loc main_arg1)
/-- The first weights, as a plain array. -/
abbrev argW1 (c : Dev nD) : FVec Ideal S2x2048x11264 .f32 := m ((c : Thread nD τ).loc main_arg2)
/-- The convolutions' taps, as a plain array. -/
abbrev argD (c : Dev nD) : FVec Ideal S2x3x5632 .f32 := m ((c : Thread nD τ).loc main_arg3)
/-- The convolutions' biases, as a plain array. -/
abbrev argBd (c : Dev nD) : FVec Ideal S2x5632 .f32 := m ((c : Thread nD τ).loc main_arg4)
/-- The second weights, as a plain array. -/
abbrev argW2 (c : Dev nD) : FVec Ideal S2x5632x2048 .f32 := m ((c : Thread nD τ).loc main_arg5)
/-- The second norms' scales, as a plain array. -/
abbrev argN2 (c : Dev nD) : FVec Ideal S2x2048 .f32 := m ((c : Thread nD τ).loc main_arg6)

/-- The reference's hidden product on the arguments. -/
abbrev argU (c : Dev nD) : FVec Ideal Cert.FfnRefIdeal.S2x16384x11264 .f32 := rU (rH (argX m c) (argN1 m c)) (argW1 m c)
/-- The reference's gated hidden layer on the arguments. -/
abbrev argA (c : Dev nD) : FVec Ideal Cert.FfnRefIdeal.S2x16384x5632 .f32 := rA (rC (argU m c) (argD m c) (argBd m c)) (argU m c)

/-- The tokens' array the kernel is called with: the argument with its first two axes joined. -/
theorem entry_x (c : Dev nD) (r : Fin 32768) (k : Fin 2048) : (V m c main_v0 : FVec Ideal S32768x2048 .f32) (ix2 r k)
    = argX m c (ix3 ⟨r.val / 16384, by omega⟩ ⟨r.val % 16384, by omega⟩ k) := by
  have h : @Eq (FVec Ideal S32768x2048 .f32) (V m c main_v0)
      (shapeCast S32768x2048 (argX m c) shapeCasts_S2x16384x2048_S32768x2048) := by
    entry_read
    rfl
  rw [h]
  pointwise

/-- The first norm's row the kernel is called with. -/
theorem entry_n1 (c : Dev nD) (k : Fin 2048) : (V m c main_v3 : FVec Ideal S1x2048 .f32) (ix2 0 k) = argN1 m c (ix2 0 k) := by
  have h : @Eq (FVec Ideal S1x2048 .f32) (V m c main_v3)
      (shapeCast S1x2048 (shapeCast S2048 (extractStridedSlice S1x2048 ![0, 0] (argN1 m c) slices_S2x2048_S1x2048_0_0) shapeCasts_S1x2048_S2048) shapeCasts_S2048_S1x2048) := by
    entry_read
    rfl
  rw [h]
  pointwise

/-- The first weights the kernel is called with. -/
theorem entry_w1 (c : Dev nD) : @Eq (S2x2048x11264.Idx → EReal) (V m c main_v4) (argW1 m c) := by
  entry_read
  rfl

/-- The convolution's taps the kernel is called with. -/
theorem entry_d (c : Dev nD) (d : Fin 3) (k : Fin 5632) : (V m c main_v6 : FVec Ideal S3x5632 .f32) (ix2 d k) = argD m c (ix3 0 d k) := by
  have h : @Eq (FVec Ideal S3x5632 .f32) (V m c main_v6)
      (shapeCast S3x5632 (extractStridedSlice S1x3x5632 ![0, 0, 0] (argD m c) slices_S2x3x5632_S1x3x5632_0_0_0) shapeCasts_S1x3x5632_S3x5632) := by
    entry_read
    rfl
  rw [h]
  pointwise

/-- The convolution's bias the kernel is called with. -/
theorem entry_b (c : Dev nD) (k : Fin 5632) : (V m c main_v9 : FVec Ideal S1x5632 .f32) (ix2 0 k) = argBd m c (ix2 0 k) := by
  have h : @Eq (FVec Ideal S1x5632 .f32) (V m c main_v9)
      (shapeCast S1x5632 (shapeCast S5632 (extractStridedSlice S1x5632 ![0, 0] (argBd m c) slices_S2x5632_S1x5632_0_0) shapeCasts_S1x5632_S5632) shapeCasts_S5632_S1x5632) := by
    entry_read
    rfl
  rw [h]
  pointwise

/-- The second weights the kernel is called with. -/
theorem entry_w2 (c : Dev nD) : @Eq (S2x5632x2048.Idx → EReal) (V m c main_v10) (argW2 m c) := by
  entry_read
  rfl

/-- The second norm's row the kernel is called with. -/
theorem entry_n2 (c : Dev nD) (k : Fin 2048) : (V m c main_v13 : FVec Ideal S1x2048 .f32) (ix2 0 k) = argN2 m c (ix2 0 k) := by
  have h : @Eq (FVec Ideal S1x2048 .f32) (V m c main_v13)
      (shapeCast S1x2048 (shapeCast S2048 (extractStridedSlice S1x2048 ![0, 0] (argN2 m c) slices_S2x2048_S1x2048_0_0) shapeCasts_S1x2048_S2048) shapeCasts_S2048_S1x2048) := by
    entry_read
    rfl
  rw [h]
  pointwise

/-- The tokens' block at point `t`. -/
theorem blk_x (c : Dev nD) (t : Fin cfg0.N) (r : Fin 512) (k : Fin 2048) : iblk m c 0 t (ix2 r k)
    = argX m c (ix3 ⟨(t.val / 11 * 512 + r.val) / 16384, by have := lt_of_lt_of_eq t.isLt N_0; omega⟩ ⟨(t.val / 11 * 512 + r.val) % 16384, by omega⟩ k) := by
  blk_simp [iblk]
  refine Eq.trans (congrArg (V m c main_v0 : S32768x2048.Idx → EReal) ?_) (entry_x m c ⟨t.val / 11 * 512 + r.val, by have := lt_of_lt_of_eq t.isLt N_0; omega⟩ k)
  blk_ext [idx t]

/-- The halo's block at point `t`, where the row tile does not begin the array: the sixteen tokens before the tile. -/
theorem blk_h (c : Dev nD) (t : Fin cfg0.N) (ht : 11 ≤ t.val) (r : Fin 16) (k : Fin 2048) : iblk m c 1 t (ix2 r k)
    = argX m c (ix3 ⟨(t.val / 11 * 512 + r.val - 16) / 16384, by have := lt_of_lt_of_eq t.isLt N_0; omega⟩ ⟨(t.val / 11 * 512 + r.val - 16) % 16384, by omega⟩ k) := by
  blk_simp [iblk]
  refine Eq.trans (congrArg (V m c main_v0 : S32768x2048.Idx → EReal) ?_) (entry_x m c ⟨t.val / 11 * 512 + r.val - 16, by have := lt_of_lt_of_eq t.isLt N_0; omega⟩ k)
  blk_ext [idx t]

/-- The first norm's row at point `t`. -/
theorem blk_n1 (c : Dev nD) (t : Fin cfg0.N) (k : Fin 2048) : iblk m c 2 t (ix2 0 k) = argN1 m c (ix2 0 k) := by
  blk_simp [iblk]
  refine Eq.trans (congrArg (V m c main_v3 : S1x2048.Idx → EReal) ?_) (entry_n1 m c k)
  blk_ext [idx t]

/-- The first half's weights at point `t`. -/
theorem blk_wa (c : Dev nD) (t : Fin cfg0.N) (k : Fin 2048) (l : Fin 512) : iblk m c 3 t (ix3 0 k l)
    = argW1 m c (ix3 0 k ⟨t.val % 11 * 512 + l.val, by omega⟩) := by
  blk_simp [iblk]
  rw [entry_w1]
  blk_ext [idx t]

/-- The second half's weights at point `t`. -/
theorem blk_wb (c : Dev nD) (t : Fin cfg0.N) (k : Fin 2048) (l : Fin 512) : iblk m c 4 t (ix3 0 k l)
    = argW1 m c (ix3 0 k ⟨(t.val % 11 + 11) * 512 + l.val, by omega⟩) := by
  blk_simp [iblk]
  rw [entry_w1]
  blk_ext [idx t]

/-- The convolution's taps at point `t`. -/
theorem blk_d (c : Dev nD) (t : Fin cfg0.N) (d : Fin 3) (l : Fin 512) : iblk m c 5 t (ix2 d l)
    = argD m c (ix3 0 d ⟨t.val % 11 * 512 + l.val, by omega⟩) := by
  blk_simp [iblk]
  refine Eq.trans (congrArg (V m c main_v6 : S3x5632.Idx → EReal) ?_) (entry_d m c d ⟨t.val % 11 * 512 + l.val, by omega⟩)
  blk_ext [idx t]

/-- The convolution's bias at point `t`. -/
theorem blk_b (c : Dev nD) (t : Fin cfg0.N) (l : Fin 512) : iblk m c 6 t (ix2 0 l)
    = argBd m c (ix2 0 ⟨t.val % 11 * 512 + l.val, by omega⟩) := by
  blk_simp [iblk]
  refine Eq.trans (congrArg (V m c main_v9 : S1x5632.Idx → EReal) ?_) (entry_b m c ⟨t.val % 11 * 512 + l.val, by omega⟩)
  blk_ext [idx t]

/-- The second weights at point `t`. -/
theorem blk_wo (c : Dev nD) (t : Fin cfg0.N) (k : Fin 512) (l : Fin 2048) : iblk m c 7 t (ix3 0 k l)
    = argW2 m c (ix3 0 ⟨t.val % 11 * 512 + k.val, by omega⟩ l) := by
  blk_simp [iblk]
  rw [entry_w2]
  blk_ext [idx t]

/-- The second norm's row at point `t`. -/
theorem blk_n2 (c : Dev nD) (t : Fin cfg0.N) (k : Fin 2048) : iblk m c 8 t (ix2 0 k) = argN2 m c (ix2 0 k) := by
  blk_simp [iblk]
  refine Eq.trans (congrArg (V m c main_v13 : S1x2048.Idx → EReal) ?_) (entry_n2 m c k)
  blk_ext [idx t]

/-- The row tile of a point is one of 64. -/
theorem tile_lt (t : Fin cfg0.N) : t.val / 11 < 64 := by have := lt_of_lt_of_eq t.isLt N_0; omega

/-- The token scratch after a tile's first point holds the tile's normalised tokens behind their halo. -/
theorem scr_first (c : Dev nD) (t : Fin cfg0.N) (h0 : t.val % 11 = 0) :
    IsScr (rH (argX m c) (argN1 m c)) (t.val / 11) (tile_lt t) (outsAt0 m c t.val t.isLt).2.1 := by
  intro r k
  rw [outsAt0_A m c t h0 (by omega)]
  frame_out
  rw [coord t]
  canon_tiles x h using View.cover_of_tiledBy _ ![16, 2048] (by sl_kernel_rfl) _
  · obtain ⟨p, q, rfl⟩ : ∃ p q, x = ix2 p q := ⟨x 0, x 1, by blk_ext⟩
    have e0 : r.val = 16 + p.val := h0
    have e1 : k = q := Fin.ext h1
    subst e1
    rw [if_neg (by omega)]
    refine (pay7_apply _ _ (argX m c) (argN1 m c) p k _ _ (fun l => blk_x m c t p l) (fun l => blk_n1 m c t l)).trans ?_
    refine congrArg (rH (argX m c) (argN1 m c)) ?_
    blk_ext
  · obtain ⟨p, q, rfl⟩ : ∃ p q, x = ix2 p q := ⟨x 0, x 1, by blk_ext⟩
    have e0 : r.val = p.val := h0
    have e1 : k = q := Fin.ext h1
    subst e1
    by_cases hz : t.val / 11 % 32 = 0
    · rw [if_pos ⟨hz, by omega⟩]
      exact pay3_start (t.val / 11) (tile_lt t) hz _ _ p k
    · rw [if_neg (fun h => hz h.1)]
      refine (pay3_apply (t.val / 11) (tile_lt t) _ _ (argX m c) (argN1 m c) p k _ _ (fun l => blk_h m c t (by omega) p l)
        (fun l => blk_n1 m c t l)).trans ?_
      rw [if_neg hz]
      refine congrArg (rH (argX m c) (argN1 m c)) ?_
      blk_ext

/-- The token scratch after any point of a tile still holds what the tile's first point left. -/
theorem scr_all (c : Dev nD) : ∀ (n : ℕ) (t : Fin cfg0.N), t.val % 11 = n →
    IsScr (rH (argX m c) (argN1 m c)) (t.val / 11) (tile_lt t) (outsAt0 m c t.val t.isLt).2.1 := by
  intro n
  induction n with
  | zero => exact fun t h => scr_first m c t h
  | succ n ih =>
    intro t h
    have h0 : ¬ t.val % 11 = 0 := by omega
    have ht : t.val - 1 < cfg0.N := Nat.lt_of_le_of_lt (Nat.sub_le _ _) t.isLt
    have e : (outsAt0 m c t.val t.isLt).2.1 = (outsAt0 m c (t.val - 1) ht).2.1 := by
      by_cases h1 : t.val % 11 = 10
      · rw [outsAt0_C m c t h0 h1]; rfl
      · rw [outsAt0_B m c t h0 h1]; rfl
    have hp := ih ⟨t.val - 1, ht⟩ (by show (t.val - 1) % 11 = n; omega)
    have hd : (t.val - 1) / 11 = t.val / 11 := by omega
    rw [e]
    intro r k
    have := hp r k
    simp only [hd] at this
    exact this

/-- The chunk a point adds to its accumulator, at row `r` and column `l`. -/
abbrev part (c : Dev nD) (t : Fin cfg0.N) (y : S512x2048.Idx) : EReal :=
  ∑ k : Fin 512, argA m c (ix3 ⟨(t.val / 11 * 512 + (y 0).val) / 16384, by have h0 : (y 0).val < 512 := (y 0).isLt; have := lt_of_lt_of_eq t.isLt N_0; omega⟩
      ⟨(t.val / 11 * 512 + (y 0).val) % 16384, by omega⟩ ⟨t.val % 11 * 512 + k.val, by omega⟩)
    * argW2 m c (ix3 0 ⟨t.val % 11 * 512 + k.val, by omega⟩ (y 1))

/-- The first point of a tile leaves the first chunk in the accumulator. -/
theorem acc_first (c : Dev nD) (t : Fin cfg0.N) (h0 : t.val % 11 = 0) (y : S512x2048.Idx) :
    (outsAt0 m c t.val t.isLt).2.2 y = (0 : EReal) + part m c t y := by
  have hs := scr_first m c t h0
  rw [outsAt0_A m c t h0 (by omega)] at hs ⊢
  revert hs
  frame_out
  intro hs
  idx_vars y
  simp only [View.readCov_eq_canon']
  refine (step_apply (rH (argX m c) (argN1 m c)) (argW1 m c) (argD m c) (argBd m c) (argW2 m c) (t.val / 11) (tile_lt t) (t.val % 11)
    (by omega) _ ?_ _ ?_ _ _ _ _ _ _ _ _ (fun k l => blk_wa m c t k l) (fun k l => blk_wb m c t k l) (fun l => blk_b m c t l)
    ?_ ?_ ?_ (fun k l => blk_wo m c t k l) y0 y1).trans ?_
  · intro r k
    refine Eq.trans (congrArg (View.canon _) ?_) (hs r k)
    blk_ext <;> simp [Rect.idx_unit_val]
  · intro r k
    refine congrArg (View.canon _) ?_
    blk_ext <;> simp [Rect.idx_unit_val]
  · intro l
    refine Eq.trans (congrArg (iblk m c 5 t) ?_) (blk_d m c t 2 l)
    blk_ext <;> simp [Rect.idx_unit_val]
  · intro l
    refine Eq.trans (congrArg (iblk m c 5 t) ?_) (blk_d m c t 1 l)
    blk_ext <;> simp [Rect.idx_unit_val]
  · intro l
    refine Eq.trans (congrArg (iblk m c 5 t) ?_) (blk_d m c t 0 l)
    blk_ext <;> simp [Rect.idx_unit_val]
  · have hz : k0_pay8 (F := Ideal) (ix2 y0 y1) = (0 : EReal) := by pointwise [k0_pay8]
    rw [hz]
    rfl

/-- The later points of a tile add their chunk to the accumulator. -/
theorem acc_next (c : Dev nD) (t : Fin cfg0.N) (h0 : ¬ t.val % 11 = 0) (y : S512x2048.Idx) :
    (outsAt0 m c t.val t.isLt).2.2 y
      = (outsAt0 m c (t.val - 1) (Nat.lt_of_le_of_lt (Nat.sub_le _ _) t.isLt)).2.2 y + part m c t y := by
  have hp := scr_all m c _ t rfl
  have e : (outsAt0 m c t.val t.isLt).2.1 = (outsAt0 m c (t.val - 1) (Nat.lt_of_le_of_lt (Nat.sub_le _ _) t.isLt)).2.1 := by
    by_cases h1 : t.val % 11 = 10
    · rw [outsAt0_C m c t h0 h1]; rfl
    · rw [outsAt0_B m c t h0 h1]; rfl
  rw [e] at hp
  idx_vars y
  by_cases h1 : t.val % 11 = 10
  · rw [outsAt0_C m c t h0 h1]
    frame_out
    refine (step_apply (rH (argX m c) (argN1 m c)) (argW1 m c) (argD m c) (argBd m c) (argW2 m c) (t.val / 11) (tile_lt t) (t.val % 11)
      (by omega) _ ?_ _ ?_ _ _ _ _ _ _ _ _ (fun k l => blk_wa m c t k l) (fun k l => blk_wb m c t k l) (fun l => blk_b m c t l)
      ?_ ?_ ?_ (fun k l => blk_wo m c t k l) y0 y1).trans ?_
    · intro r k
      exact (congrFun ((Memref.isWhole_whole cc0_scratch0).read_unread _) (ix2 r k)).trans (hp r k)
    · intro r k
      refine congrArg (View.read _ _ _) ?_
      blk_ext <;> simp [Rect.idx_unit_val]
    · intro l
      refine Eq.trans (congrArg (iblk m c 5 t) ?_) (blk_d m c t 2 l)
      blk_ext <;> simp [Rect.idx_unit_val]
    · intro l
      refine Eq.trans (congrArg (iblk m c 5 t) ?_) (blk_d m c t 1 l)
      blk_ext <;> simp [Rect.idx_unit_val]
    · intro l
      refine Eq.trans (congrArg (iblk m c 5 t) ?_) (blk_d m c t 0 l)
      blk_ext <;> simp [Rect.idx_unit_val]
    · exact congrArg (· + _) (congrFun ((Memref.isWhole_whole cc0_scratch1).read_unread _) (ix2 y0 y1))
  · rw [outsAt0_B m c t h0 h1]
    frame_out
    refine (step_apply (rH (argX m c) (argN1 m c)) (argW1 m c) (argD m c) (argBd m c) (argW2 m c) (t.val / 11) (tile_lt t) (t.val % 11)
      (by omega) _ ?_ _ ?_ _ _ _ _ _ _ _ _ (fun k l => blk_wa m c t k l) (fun k l => blk_wb m c t k l) (fun l => blk_b m c t l)
      ?_ ?_ ?_ (fun k l => blk_wo m c t k l) y0 y1).trans ?_
    · intro r k
      exact (congrFun ((Memref.isWhole_whole cc0_scratch0).read_unread _) (ix2 r k)).trans (hp r k)
    · intro r k
      refine congrArg (View.read _ _ _) ?_
      blk_ext <;> simp [Rect.idx_unit_val]
    · intro l
      refine Eq.trans (congrArg (iblk m c 5 t) ?_) (blk_d m c t 2 l)
      blk_ext <;> simp [Rect.idx_unit_val]
    · intro l
      refine Eq.trans (congrArg (iblk m c 5 t) ?_) (blk_d m c t 1 l)
      blk_ext <;> simp [Rect.idx_unit_val]
    · intro l
      refine Eq.trans (congrArg (iblk m c 5 t) ?_) (blk_d m c t 0 l)
      blk_ext <;> simp [Rect.idx_unit_val]
    · exact congrArg (· + _) (congrFun ((Memref.isWhole_whole cc0_scratch1).read_unread _) (ix2 y0 y1))

/-- The accumulator at a tile's last point: the reference's second product. -/
theorem acc_last (c : Dev nD) (t : Fin cfg0.N) (h1 : t.val % 11 = 11 - 1) (r : Fin 512) (l : Fin 2048) :
    (outsAt0 m c t.val t.isLt).2.2 (ix2 r l) = rY (argA m c) (argW2 m c)
      (ix3 ⟨(t.val / 11 * 512 + r.val) / 16384, by have := lt_of_lt_of_eq t.isLt N_0; omega⟩ ⟨(t.val / 11 * 512 + r.val) % 16384, by omega⟩ l) := by
  rw [Pipeline.eq_sum_fin_of_reset_step_apply_of_flush (fun n h => (outsAt0 m c n h).2.2) 11 (fun _ => (0 : EReal)) (part m c)
    (fun t h y => acc_first m c t h y) (fun t h y => acc_next m c t h y) t h1 (ix2 r l), rY_chunks, zero_add]
  refine Finset.sum_congr rfl fun s _ => ?_
  refine Finset.sum_congr rfl fun k _ => ?_
  have e1 : (11 * (t.val / 11) + s.val) / 11 = t.val / 11 := by omega
  have e2 : (11 * (t.val / 11) + s.val) % 11 = s.val := by omega
  simp only [e1, e2]
  rfl

/-- The reference on the arguments. -/
abbrev REF (c : Dev nD) : FVec Ideal S32768x2048 .f32 :=
  rO (argX m c) (rY (argA m c) (argW2 m c)) (argN2 m c)

/-- What a tile's last point writes back is the reference's result on its rows. -/
theorem point (c : Dev nD) (t : Fin cfg0.N) (h1 : t.val % 11 = 10) (r : Fin 512) (l : Fin 2048) :
    (outsAt0 m c t.val t.isLt).1 (ix2 r l) = REF m c (ix2 ⟨t.val / 11 * 512 + r.val, by have := lt_of_lt_of_eq t.isLt N_0; omega⟩ l) := by
  have ha := acc_last m c t h1
  have h0 : ¬ t.val % 11 = 0 := by omega
  rw [outsAt0_C m c t h0 h1] at ha ⊢
  revert ha
  frame_out
  intro ha
  exact pay2_apply _ _ _ (argX m c) _ (argN2 m c) r l ⟨t.val / 11 * 512 + r.val, by have := lt_of_lt_of_eq t.isLt N_0; omega⟩ (fun k => blk_x m c t r k)
    (fun k => ha r k) (fun k => blk_n2 m c t k)

/-- The result array after the run. -/
theorem final (c : Dev nD) : (dats m 0 c).arrAt 9 (cfgs 0).N = REF m c := by
  refine (dats m 0 c).arrAt_eq_of_covers 9 _ (by decide +kernel) fun t hf y => ?_
  blk_simp
  rw [after0_9]
  have h1 : t.val % 11 = 10 := (flush0_9 t).mp hf
  have e : ((win0_9.blk t).view.emb y : S32768x2048.Idx)
      = ix2 ⟨t.val / 11 * 512 + (y 0).val, by have h0 : (y 0).val < 512 := (y 0).isLt; have := lt_of_lt_of_eq t.isLt N_0; omega⟩ (y 1) := by blk_ext [idx t]
  rw [e]; idx_vars y; exact point m c t h1 _ _

/-- The certificate's value claim: the kernel's ideal result is the reference's, on equal arguments. -/
theorem algebraic : Cert.algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨(h c).1.trans ?_, (h c).2⟩) (Cert.FfnRefIdeal.Value.run (F := Ideal) m' ρ')
  obtain ⟨h0, h1, h2, h3, h4, h5, h6⟩ := hagree c
  unfold Cert.FfnRefIdeal.Value.res_main_v81
  rw [h0, h1, h2, h3, h4, h5, h6]
  exact (final m c).symm

end Cert.FfnIdeal.Result
end
-- ==== Proof.GatesValue.lean ====
/- What the gates' kernel computes: its result array is the reference's sigmoid of the gate columns, element by element. -/
module

public import proofs.«01_k».proof.Proof.Gen.GatesIdeal.Value
public import proofs.«01_k».proof.Proof.Gen.GatesRefIdeal.Run
public import proofs.«01_k».proof.Defs
public import Idealize.ShloMosaic.Lib.Pointwise
public import Idealize.ShloMosaic.Lib.Pipeline.ValueKit

@[expose] public section

set_option maxRecDepth 16384

noncomputable section

namespace Cert.GatesIdeal.Result

open Idealize.ShloMosaic Idealize.ShloMosaic.TcCoe Idealize.SL.Sem
open Idealize.ShloMosaic.Pipeline (Dat)
open Cert.GatesIdeal Cert.GatesIdeal.Gen

variable (m : (ℓ : Loc nD τ sig) → Buf (Elt Ideal) ℓ)

/-- The reference's gates: the sigmoid of the columns from 5120 on of the tokens' product with the first layer's matrix. -/
abbrev REF (X : FVec Ideal S2x16384x2048 .f32) (W : FVec Ideal S2x2048x11264 .f32) : FVec Ideal S32768x6144 .bf16 :=
  truncf .bf16 (Host.divf (broadcastInDim Cert.GatesRefIdeal.S32768x6144 ![] Cert.GatesRefIdeal.Gen.bcast_S_S32768x6144 (constant Cert.GatesRefIdeal.S_ .f32 0x3F800000#32)) (addf (broadcastInDim Cert.GatesRefIdeal.S32768x6144 ![] Cert.GatesRefIdeal.Gen.bcast_S_S32768x6144 (constant Cert.GatesRefIdeal.S_ .f32 0x3F800000#32)) (Host.exp (Host.negf (extractStridedSlice Cert.GatesRefIdeal.S32768x6144 ![0, 5120] (Host.dotGeneral Cert.GatesRefIdeal.dot_S32768x2048_S2048x11264_S32768x11264_1_0_0_1_n_n none (shapeCast _ X Cert.GatesRefIdeal.Gen.shapeCasts_S2x16384x2048_S32768x2048) (shapeCast _ (extractStridedSlice Cert.GatesRefIdeal.S1x2048x11264 ![0, 0, 0] W Cert.GatesRefIdeal.Gen.slices_S2x2048x11264_S1x2048x11264_0_0_0) Cert.GatesRefIdeal.Gen.shapeCasts_S1x2048x11264_S2048x11264)) Cert.GatesRefIdeal.Gen.slices_S32768x11264_S32768x6144_0_5120))))) Cert.GatesRefIdeal.Gen.bitsLt_bf16_f32

/-- Where every window's block sits at each grid point. -/
theorem idx : ∀ t : Fin cfg0.N, win0_0.index t = ![t.val / 6, 0] ∧ win0_1.index t = ![0, 0, t.val % 6 + 5]
    ∧ win0_2.index t = ![t.val / 6, t.val % 6] :=
  (by decide +kernel : ∀ t : Fin grid0.N, _)

/-- The tokens, as a plain array. -/
abbrev argX (c : Dev nD) : FVec Ideal S2x16384x2048 .f32 := m ((c : Thread nD τ).loc main_arg0)

/-- The weights, as a plain array. -/
abbrev argW (c : Dev nD) : FVec Ideal S2x2048x11264 .f32 := m ((c : Thread nD τ).loc main_arg1)

/-- The tokens' array the kernel is called with: the argument with its first two axes joined. -/
theorem entry_x (c : Dev nD) (r : Fin 32768) (k : Fin 2048) : (V m c main_v1 : FVec Ideal S32768x2048 .bf16) (ix2 r k)
    = argX m c (ix3 ⟨r.val / 16384, by omega⟩ ⟨r.val % 16384, by omega⟩ k) := by
  have h : @Eq (FVec Ideal S32768x2048 .bf16) (V m c main_v1)
      (truncf .bf16 (shapeCast S32768x2048 (argX m c) shapeCasts_S2x16384x2048_S32768x2048) bitsLt_bf16_f32) := by
    entry_read
    rfl
  rw [h]
  pointwise

/-- The weights' array the kernel is called with: the argument. -/
theorem entry_w (c : Dev nD) : @Eq (S2x2048x11264.Idx → EReal) (V m c main_v2) (argW m c) := by
  entry_read
  rfl

/-- The tokens' block at point `t`. -/
theorem blk_x (c : Dev nD) (t : Fin cfg0.N) (r : Fin 1024) (k : Fin 2048) : iblk m c 0 t (ix2 r k)
    = argX m c (ix3 ⟨(t.val / 6 * 1024 + r.val) / 16384, by have := lt_of_lt_of_eq t.isLt N_0; omega⟩ ⟨(t.val / 6 * 1024 + r.val) % 16384, by omega⟩ k) := by
  blk_simp [iblk]
  refine Eq.trans (congrArg (V m c main_v1 : S32768x2048.Idx → EReal) ?_) (entry_x m c ⟨t.val / 6 * 1024 + r.val, by have := lt_of_lt_of_eq t.isLt N_0; omega⟩ k)
  blk_ext [idx t]

/-- The weights' block at point `t`. -/
theorem blk_w (c : Dev nD) (t : Fin cfg0.N) (k : Fin 2048) (l : Fin 1024) : iblk m c 1 t (ix3 0 k l)
    = argW m c (ix3 0 k ⟨5120 + (t.val % 6 * 1024 + l.val), by omega⟩) := by
  blk_simp [iblk]
  rw [entry_w]
  blk_ext [idx t]

/-- What the body stores at block index `y` of point `t` is the reference's gate at the array index `y` sits at. -/
theorem point (c : Dev nD) (t : Fin cfg0.N) (y) : k0_pay1 (iblk m c 0 t) (iblk m c 1 t) y
    = REF (argX m c) (argW m c) (((cfg0.win 2).blk t).view.emb y) := by
  pointwise [k0_pay1, REF]
  rw [sub_eq_add_neg, zero_add]
  blk_simp [idx t]
  reads_congr
  · exact blk_x m c t _ _
  · exact blk_w m c t _ _

/-- The result array after the run. -/
theorem final (c : Dev nD) : (dats m 0 c).arrAt 2 (cfgs 0).N
    = REF (argX m c) (argW m c) := by
  refine (dats m 0 c).arrAt_eq_of_covers 2 _ (by decide +kernel) fun t _ y => ?_
  blk_simp
  rw [after0_2]; frame_out
  exact point m c t y

/-- The gates' kernel and the reference leave the same result. -/
theorem algebraic : Cert.algebraic_GatesIdeal_GatesRefIdeal := by
  intro m ρ m' ρ' _ hagree
  refine ⟨_, Cert.GatesIdeal.Value.run_blocks (F := Ideal) m ρ, ?_⟩
  refine (θ_run Cert.GatesRefIdeal.defs _ _).mono (fun _ h c => ⟨(h c).1.trans ?_, (h c).2⟩)
    (Cert.GatesRefIdeal.Value.run (F := Ideal) m' ρ')
  obtain ⟨h0, h1⟩ := hagree c
  rw [h0, h1]
  exact (final m c).symm

end Cert.GatesIdeal.Result

end
-- ==== Proof.MergeValue.lean ====
/- What the kernel that merges the three branches computes: its result array is the reference's, element by element. -/
module

public import proofs.«01_k».proof.Proof.Gen.MergeIdeal.Value
public import proofs.«01_k».proof.Proof.Gen.MergeRefIdeal.Run
public import proofs.«01_k».proof.Defs
public import Idealize.ShloMosaic.Lib.Pointwise
public import Idealize.ShloMosaic.Lib.Pipeline.ValueKit

@[expose] public section

set_option maxRecDepth 16384

noncomputable section

namespace Cert.MergeIdeal.Result

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-- The reference's merge: the three projected branches, each times its gate, summed, projected once more, normalised and
    added to the tokens. -/
abbrev REF (X : FVec Ideal S2x16384x2048 .f32) (A B : FVec Ideal S2x16384x512 .f32) (C : FVec Ideal S2x16384x1024 .f32)
    (T : FVec Ideal S2x16384x6144 .f32) (Wa Wb : FVec Ideal S2x512x2048 .f32) (Wc : FVec Ideal S2x1024x2048 .f32)
    (Wo : FVec Ideal S2x2048x2048 .f32) (G : FVec Ideal S2x2048 .f32) : FVec Ideal S32768x2048 .f32 :=
  addf (shapeCast _ X Cert.MergeRefIdeal.Gen.shapeCasts_S2x16384x2048_S32768x2048) (mulf (mulf (Host.dotGeneral Cert.MergeRefIdeal.dot_S32768x2048_S2048x2048_S32768x2048_1_0_0_1_n_n none (addf (addf (mulf (extractStridedSlice Cert.MergeRefIdeal.S32768x2048 ![0, 0] (shapeCast _ T Cert.MergeRefIdeal.Gen.shapeCasts_S2x16384x6144_S32768x6144) Cert.MergeRefIdeal.Gen.slices_S32768x6144_S32768x2048_0_0) (Host.dotGeneral Cert.MergeRefIdeal.dot_S32768x512_S512x2048_S32768x2048_1_0_0_1_n_n none (shapeCast _ A Cert.MergeRefIdeal.Gen.shapeCasts_S2x16384x512_S32768x512) (shapeCast _ (extractStridedSlice Cert.MergeRefIdeal.S1x512x2048 ![0, 0, 0] Wa Cert.MergeRefIdeal.Gen.slices_S2x512x2048_S1x512x2048_0_0_0) Cert.MergeRefIdeal.Gen.shapeCasts_S1x512x2048_S512x2048))) (mulf (extractStridedSlice Cert.MergeRefIdeal.S32768x2048 ![0, 2048] (shapeCast _ T Cert.MergeRefIdeal.Gen.shapeCasts_S2x16384x6144_S32768x6144) Cert.MergeRefIdeal.Gen.slices_S32768x6144_S32768x2048_0_2048) (Host.dotGeneral Cert.MergeRefIdeal.dot_S32768x512_S512x2048_S32768x2048_1_0_0_1_n_n none (shapeCast _ B Cert.MergeRefIdeal.Gen.shapeCasts_S2x16384x512_S32768x512) (shapeCast _ (extractStridedSlice Cert.MergeRefIdeal.S1x512x2048 ![0, 0, 0] Wb Cert.MergeRefIdeal.Gen.slices_S2x512x2048_S1x512x2048_0_0_0) Cert.MergeRefIdeal.Gen.shapeCasts_S1x512x2048_S512x2048)))) (mulf (extractStridedSlice Cert.MergeRefIdeal.S32768x2048 ![0, 4096] (shapeCast _ T Cert.MergeRefIdeal.Gen.shapeCasts_S2x16384x6144_S32768x6144) Cert.MergeRefIdeal.Gen.slices_S32768x6144_S32768x2048_0_4096) (Host.dotGeneral Cert.MergeRefIdeal.dot_S32768x1024_S1024x2048_S32768x2048_1_0_0_1_n_n none (shapeCast _ C Cert.MergeRefIdeal.Gen.shapeCasts_S2x16384x1024_S32768x1024) (shapeCast _ (extractStridedSlice Cert.MergeRefIdeal.S1x1024x2048 ![0, 0, 0] Wc Cert.MergeRefIdeal.Gen.slices_S2x1024x2048_S1x1024x2048_0_0_0) Cert.MergeRefIdeal.Gen.shapeCasts_S1x1024x2048_S1024x2048)))) (shapeCast _ (extractStridedSlice Cert.MergeRefIdeal.S1x2048x2048 ![0, 0, 0] Wo Cert.MergeRefIdeal.Gen.slices_S2x2048x2048_S1x2048x2048_0_0_0) Cert.MergeRefIdeal.Gen.shapeCasts_S1x2048x2048_S2048x2048)) (broadcastInDim Cert.MergeRefIdeal.S32768x2048 ![0, 1] Cert.MergeRefIdeal.Gen.bcast_S32768x1_S32768x2048_0_1 (Host.rsqrt (addf (Host.divf (broadcastInDim Cert.MergeRefIdeal.S32768x1 ![0] Cert.MergeRefIdeal.Gen.bcast_S32768_S32768x1_0 (Host.reduceAdd (mulf (Host.dotGeneral Cert.MergeRefIdeal.dot_S32768x2048_S2048x2048_S32768x2048_1_0_0_1_n_n none (addf (addf (mulf (extractStridedSlice Cert.MergeRefIdeal.S32768x2048 ![0, 0] (shapeCast _ T Cert.MergeRefIdeal.Gen.shapeCasts_S2x16384x6144_S32768x6144) Cert.MergeRefIdeal.Gen.slices_S32768x6144_S32768x2048_0_0) (Host.dotGeneral Cert.MergeRefIdeal.dot_S32768x512_S512x2048_S32768x2048_1_0_0_1_n_n none (shapeCast _ A Cert.MergeRefIdeal.Gen.shapeCasts_S2x16384x512_S32768x512) (shapeCast _ (extractStridedSlice Cert.MergeRefIdeal.S1x512x2048 ![0, 0, 0] Wa Cert.MergeRefIdeal.Gen.slices_S2x512x2048_S1x512x2048_0_0_0) Cert.MergeRefIdeal.Gen.shapeCasts_S1x512x2048_S512x2048))) (mulf (extractStridedSlice Cert.MergeRefIdeal.S32768x2048 ![0, 2048] (shapeCast _ T Cert.MergeRefIdeal.Gen.shapeCasts_S2x16384x6144_S32768x6144) Cert.MergeRefIdeal.Gen.slices_S32768x6144_S32768x2048_0_2048) (Host.dotGeneral Cert.MergeRefIdeal.dot_S32768x512_S512x2048_S32768x2048_1_0_0_1_n_n none (shapeCast _ B Cert.MergeRefIdeal.Gen.shapeCasts_S2x16384x512_S32768x512) (shapeCast _ (extractStridedSlice Cert.MergeRefIdeal.S1x512x2048 ![0, 0, 0] Wb Cert.MergeRefIdeal.Gen.slices_S2x512x2048_S1x512x2048_0_0_0) Cert.MergeRefIdeal.Gen.shapeCasts_S1x512x2048_S512x2048)))) (mulf (extractStridedSlice Cert.MergeRefIdeal.S32768x2048 ![0, 4096] (shapeCast _ T Cert.MergeRefIdeal.Gen.shapeCasts_S2x16384x6144_S32768x6144) Cert.MergeRefIdeal.Gen.slices_S32768x6144_S32768x2048_0_4096) (Host.dotGeneral Cert.MergeRefIdeal.dot_S32768x1024_S1024x2048_S32768x2048_1_0_0_1_n_n none (shapeCast _ C Cert.MergeRefIdeal.Gen.shapeCasts_S2x16384x1024_S32768x1024) (shapeCast _ (extractStridedSlice Cert.MergeRefIdeal.S1x1024x2048 ![0, 0, 0] Wc Cert.MergeRefIdeal.Gen.slices_S2x1024x2048_S1x1024x2048_0_0_0) Cert.MergeRefIdeal.Gen.shapeCasts_S1x1024x2048_S1024x2048)))) (shapeCast _ (extractStridedSlice Cert.MergeRefIdeal.S1x2048x2048 ![0, 0, 0] Wo Cert.MergeRefIdeal.Gen.slices_S2x2048x2048_S1x2048x2048_0_0_0) Cert.MergeRefIdeal.Gen.shapeCasts_S1x2048x2048_S2048x2048)) (Host.dotGeneral Cert.MergeRefIdeal.dot_S32768x2048_S2048x2048_S32768x2048_1_0_0_1_n_n none (addf (addf (mulf (extractStridedSlice Cert.MergeRefIdeal.S32768x2048 ![0, 0] (shapeCast _ T Cert.MergeRefIdeal.Gen.shapeCasts_S2x16384x6144_S32768x6144) Cert.MergeRefIdeal.Gen.slices_S32768x6144_S32768x2048_0_0) (Host.dotGeneral Cert.MergeRefIdeal.dot_S32768x512_S512x2048_S32768x2048_1_0_0_1_n_n none (shapeCast _ A Cert.MergeRefIdeal.Gen.shapeCasts_S2x16384x512_S32768x512) (shapeCast _ (extractStridedSlice Cert.MergeRefIdeal.S1x512x2048 ![0, 0, 0] Wa Cert.MergeRefIdeal.Gen.slices_S2x512x2048_S1x512x2048_0_0_0) Cert.MergeRefIdeal.Gen.shapeCasts_S1x512x2048_S512x2048))) (mulf (extractStridedSlice Cert.MergeRefIdeal.S32768x2048 ![0, 2048] (shapeCast _ T Cert.MergeRefIdeal.Gen.shapeCasts_S2x16384x6144_S32768x6144) Cert.MergeRefIdeal.Gen.slices_S32768x6144_S32768x2048_0_2048) (Host.dotGeneral Cert.MergeRefIdeal.dot_S32768x512_S512x2048_S32768x2048_1_0_0_1_n_n none (shapeCast _ B Cert.MergeRefIdeal.Gen.shapeCasts_S2x16384x512_S32768x512) (shapeCast _ (extractStridedSlice Cert.MergeRefIdeal.S1x512x2048 ![0, 0, 0] Wb Cert.MergeRefIdeal.Gen.slices_S2x512x2048_S1x512x2048_0_0_0) Cert.MergeRefIdeal.Gen.shapeCasts_S1x512x2048_S512x2048)))) (mulf (extractStridedSlice Cert.MergeRefIdeal.S32768x2048 ![0, 4096] (shapeCast _ T Cert.MergeRefIdeal.Gen.shapeCasts_S2x16384x6144_S32768x6144) Cert.MergeRefIdeal.Gen.slices_S32768x6144_S32768x2048_0_4096) (Host.dotGeneral Cert.MergeRefIdeal.dot_S32768x1024_S1024x2048_S32768x2048_1_0_0_1_n_n none (shapeCast _ C Cert.MergeRefIdeal.Gen.shapeCasts_S2x16384x1024_S32768x1024) (shapeCast _ (extractStridedSlice Cert.MergeRefIdeal.S1x1024x2048 ![0, 0, 0] Wc Cert.MergeRefIdeal.Gen.slices_S2x1024x2048_S1x1024x2048_0_0_0) Cert.MergeRefIdeal.Gen.shapeCasts_S1x1024x2048_S1024x2048)))) (shapeCast _ (extractStridedSlice Cert.MergeRefIdeal.S1x2048x2048 ![0, 0, 0] Wo Cert.MergeRefIdeal.Gen.slices_S2x2048x2048_S1x2048x2048_0_0_0) Cert.MergeRefIdeal.Gen.shapeCasts_S1x2048x2048_S2048x2048))) (constant Cert.MergeRefIdeal.S_ .f32 0x00000000#32) Cert.MergeRefIdeal.Gen.reducesTo_S32768x2048_S32768_d1 Cert.MergeRefIdeal.Gen.h_S_)) (broadcastInDim Cert.MergeRefIdeal.S32768x1 ![] Cert.MergeRefIdeal.Gen.bcast_S_S32768x1 (constant Cert.MergeRefIdeal.S_ .f32 0x45000000#32))) (broadcastInDim Cert.MergeRefIdeal.S32768x1 ![] Cert.MergeRefIdeal.Gen.bcast_S_S32768x1 (constant Cert.MergeRefIdeal.S_ .f32 0x358637BD#32)))))) (broadcastInDim Cert.MergeRefIdeal.S32768x2048 ![0, 1] Cert.MergeRefIdeal.Gen.bcast_S1x2048_S32768x2048_0_1 (broadcastInDim Cert.MergeRefIdeal.S1x2048 ![1] Cert.MergeRefIdeal.Gen.bcast_S2048_S1x2048_1 (shapeCast _ (extractStridedSlice Cert.MergeRefIdeal.S1x2048 ![0, 0] G Cert.MergeRefIdeal.Gen.slices_S2x2048_S1x2048_0_0) Cert.MergeRefIdeal.Gen.shapeCasts_S1x2048_S2048))))

/-- Where every window's block sits at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0, 0]
    ∧ win0_7.index t = ![0, 0, 0] ∧ win0_8.index t = ![0, 0, 0] ∧ win0_9.index t = ![0, 0] ∧ win0_10.index t = ![t.val, 0] :=
  (by decide +kernel : ∀ t : Fin grid0.N, _)

/-- The tokens, as a plain array. -/
abbrev argX (c : Dev nD) : FVec Ideal S2x16384x2048 .f32 := m ((c : Thread nD τ).loc main_arg0)
/-- The attention's result, as a plain array. -/
abbrev argA (c : Dev nD) : FVec Ideal S2x16384x512 .f32 := m ((c : Thread nD τ).loc main_arg1)
/-- The gating unit's result, as a plain array. -/
abbrev argB (c : Dev nD) : FVec Ideal S2x16384x512 .f32 := m ((c : Thread nD τ).loc main_arg2)
/-- The convolution module's result, as a plain array. -/
abbrev argC (c : Dev nD) : FVec Ideal S2x16384x1024 .f32 := m ((c : Thread nD τ).loc main_arg3)
/-- The gates, as a plain array. -/
abbrev argT (c : Dev nD) : FVec Ideal S2x16384x6144 .f32 := m ((c : Thread nD τ).loc main_arg4)
/-- The attention's projection's weights, as a plain array. -/
abbrev argWa (c : Dev nD) : FVec Ideal S2x512x2048 .f32 := m ((c : Thread nD τ).loc main_arg5)
/-- The gating unit's projection's weights, as a plain array. -/
abbrev argWb (c : Dev nD) : FVec Ideal S2x512x2048 .f32 := m ((c : Thread nD τ).loc main_arg6)
/-- The convolution module's projection's weights, as a plain array. -/
abbrev argWc (c : Dev nD) : FVec Ideal S2x1024x2048 .f32 := m ((c : Thread nD τ).loc main_arg7)
/-- The output projection's weights, as a plain array. -/
abbrev argWo (c : Dev nD) : FVec Ideal S2x2048x2048 .f32 := m ((c : Thread nD τ).loc main_arg8)
/-- The norms' scales, as a plain array. -/
abbrev argG (c : Dev nD) : FVec Ideal S2x2048 .f32 := m ((c : Thread nD τ).loc main_arg9)

/-- The tokens the kernel is called with: the argument with its first two axes joined. -/
theorem entry_x (c : Dev nD) (r : Fin 32768) (k : Fin 2048) : (V m c main_v4 : FVec Ideal S32768x2048 .f32) (ix2 r k)
    = argX m c (ix3 ⟨r.val / 16384, by omega⟩ ⟨r.val % 16384, by omega⟩ k) := by
  have h : @Eq (FVec Ideal S32768x2048 .f32) (V m c main_v4)
      (shapeCast S32768x2048 (argX m c) shapeCasts_S2x16384x2048_S32768x2048) := by
    entry_read
    rfl
  rw [h]
  pointwise

/-- The tokens's block at point `t`. -/
theorem blk_x (c : Dev nD) (t : Fin cfg0.N) (r : Fin 256) (k : Fin 2048) : iblk m c 0 t (ix2 r k)
    = argX m c (ix3 ⟨(t.val * 256 + r.val) / 16384, by have := lt_of_lt_of_eq t.isLt N_0; omega⟩ ⟨(t.val * 256 + r.val) % 16384, by omega⟩ k) := by
  blk_simp [iblk]
  refine Eq.trans (congrArg (V m c main_v4 : S32768x2048.Idx → EReal) ?_) (entry_x m c ⟨t.val * 256 + r.val, by have := lt_of_lt_of_eq t.isLt N_0; omega⟩ k)
  blk_ext [idx t]

/-- The attention's result the kernel is called with: the argument with its first two axes joined. -/
theorem entry_a (c : Dev nD) (r : Fin 32768) (k : Fin 512) : (V m c main_v6 : FVec Ideal S32768x512 .bf16) (ix2 r k)
    = argA m c (ix3 ⟨r.val / 16384, by omega⟩ ⟨r.val % 16384, by omega⟩ k) := by
  have h : @Eq (FVec Ideal S32768x512 .bf16) (V m c main_v6)
      (truncf .bf16 (shapeCast S32768x512 (argA m c) shapeCasts_S2x16384x512_S32768x512) bitsLt_bf16_f32) := by
    entry_read
    rfl
  rw [h]
  pointwise

/-- The attention's result's block at point `t`. -/
theorem blk_a (c : Dev nD) (t : Fin cfg0.N) (r : Fin 256) (k : Fin 512) : iblk m c 1 t (ix2 r k)
    = argA m c (ix3 ⟨(t.val * 256 + r.val) / 16384, by have := lt_of_lt_of_eq t.isLt N_0; omega⟩ ⟨(t.val * 256 + r.val) % 16384, by omega⟩ k) := by
  blk_simp [iblk]
  refine Eq.trans (congrArg (V m c main_v6 : S32768x512.Idx → EReal) ?_) (entry_a m c ⟨t.val * 256 + r.val, by have := lt_of_lt_of_eq t.isLt N_0; omega⟩ k)
  blk_ext [idx t]

/-- The gating unit's result the kernel is called with: the argument with its first two axes joined. -/
theorem entry_b (c : Dev nD) (r : Fin 32768) (k : Fin 512) : (V m c main_v8 : FVec Ideal S32768x512 .bf16) (ix2 r k)
    = argB m c (ix3 ⟨r.val / 16384, by omega⟩ ⟨r.val % 16384, by omega⟩ k) := by
  have h : @Eq (FVec Ideal S32768x512 .bf16) (V m c main_v8)
      (truncf .bf16 (shapeCast S32768x512 (argB m c) shapeCasts_S2x16384x512_S32768x512) bitsLt_bf16_f32) := by
    entry_read
    rfl
  rw [h]
  pointwise

/-- The gating unit's result's block at point `t`. -/
theorem blk_b (c : Dev nD) (t : Fin cfg0.N) (r : Fin 256) (k : Fin 512) : iblk m c 2 t (ix2 r k)
    = argB m c (ix3 ⟨(t.val * 256 + r.val) / 16384, by have := lt_of_lt_of_eq t.isLt N_0; omega⟩ ⟨(t.val * 256 + r.val) % 16384, by omega⟩ k) := by
  blk_simp [iblk]
  refine Eq.trans (congrArg (V m c main_v8 : S32768x512.Idx → EReal) ?_) (entry_b m c ⟨t.val * 256 + r.val, by have := lt_of_lt_of_eq t.isLt N_0; omega⟩ k)
  blk_ext [idx t]

/-- The convolution module's result the kernel is called with: the argument with its first two axes joined. -/
theorem entry_cc (c : Dev nD) (r : Fin 32768) (k : Fin 1024) : (V m c main_v10 : FVec Ideal S32768x1024 .bf16) (ix2 r k)
    = argC m c (ix3 ⟨r.val / 16384, by omega⟩ ⟨r.val % 16384, by omega⟩ k) := by
  have h : @Eq (FVec Ideal S32768x1024 .bf16) (V m c main_v10)
      (truncf .bf16 (shapeCast S32768x1024 (argC m c) shapeCasts_S2x16384x1024_S32768x1024) bitsLt_bf16_f32) := by
    entry_read
    rfl
  rw [h]
  pointwise

/-- The convolution module's result's block at point `t`. -/
theorem blk_cc (c : Dev nD) (t : Fin cfg0.N) (r : Fin 256) (k : Fin 1024) : iblk m c 3 t (ix2 r k)
    = argC m c (ix3 ⟨(t.val * 256 + r.val) / 16384, by have := lt_of_lt_of_eq t.isLt N_0; omega⟩ ⟨(t.val * 256 + r.val) % 16384, by omega⟩ k) := by
  blk_simp [iblk]
  refine Eq.trans (congrArg (V m c main_v10 : S32768x1024.Idx → EReal) ?_) (entry_cc m c ⟨t.val * 256 + r.val, by have := lt_of_lt_of_eq t.isLt N_0; omega⟩ k)
  blk_ext [idx t]

/-- The gates the kernel is called with: the argument with its first two axes joined. -/
theorem entry_t (c : Dev nD) (r : Fin 32768) (k : Fin 6144) : (V m c main_v12 : FVec Ideal S32768x6144 .bf16) (ix2 r k)
    = argT m c (ix3 ⟨r.val / 16384, by omega⟩ ⟨r.val % 16384, by omega⟩ k) := by
  have h : @Eq (FVec Ideal S32768x6144 .bf16) (V m c main_v12)
      (truncf .bf16 (shapeCast S32768x6144 (argT m c) shapeCasts_S2x16384x6144_S32768x6144) bitsLt_bf16_f32) := by
    entry_read
    rfl
  rw [h]
  pointwise

/-- The gates's block at point `t`. -/
theorem blk_t (c : Dev nD) (t : Fin cfg0.N) (r : Fin 256) (k : Fin 6144) : iblk m c 4 t (ix2 r k)
    = argT m c (ix3 ⟨(t.val * 256 + r.val) / 16384, by have := lt_of_lt_of_eq t.isLt N_0; omega⟩ ⟨(t.val * 256 + r.val) % 16384, by omega⟩ k) := by
  blk_simp [iblk]
  refine Eq.trans (congrArg (V m c main_v12 : S32768x6144.Idx → EReal) ?_) (entry_t m c ⟨t.val * 256 + r.val, by have := lt_of_lt_of_eq t.isLt N_0; omega⟩ k)
  blk_ext [idx t]

/-- The attention's projection's weights the kernel is called with: the argument. -/
theorem entry_wa (c : Dev nD) : @Eq (S2x512x2048.Idx → EReal) (V m c main_v0) (argWa m c) := by
  entry_read
  rfl

/-- The attention's projection's weights at point `t`. -/
theorem blk_wa (c : Dev nD) (t : Fin cfg0.N) (k : Fin 512) (l : Fin 2048) : iblk m c 5 t (ix3 0 k l) = argWa m c (ix3 0 k l) := by
  blk_simp [iblk]
  rw [entry_wa]
  blk_ext [idx t]

/-- The gating unit's projection's weights the kernel is called with: the argument. -/
theorem entry_wb (c : Dev nD) : @Eq (S2x512x2048.Idx → EReal) (V m c main_v1) (argWb m c) := by
  entry_read
  rfl

/-- The gating unit's projection's weights at point `t`. -/
theorem blk_wb (c : Dev nD) (t : Fin cfg0.N) (k : Fin 512) (l : Fin 2048) : iblk m c 6 t (ix3 0 k l) = argWb m c (ix3 0 k l) := by
  blk_simp [iblk]
  rw [entry_wb]
  blk_ext [idx t]

/-- The convolution module's projection's weights the kernel is called with: the argument. -/
theorem entry_wc (c : Dev nD) : @Eq (S2x1024x2048.Idx → EReal) (V m c main_v2) (argWc m c) := by
  entry_read
  rfl

/-- The convolution module's projection's weights at point `t`. -/
theorem blk_wc (c : Dev nD) (t : Fin cfg0.N) (k : Fin 1024) (l : Fin 2048) : iblk m c 7 t (ix3 0 k l) = argWc m c (ix3 0 k l) := by
  blk_simp [iblk]
  rw [entry_wc]
  blk_ext [idx t]

/-- The output projection's weights the kernel is called with: the argument. -/
theorem entry_wo (c : Dev nD) : @Eq (S2x2048x2048.Idx → EReal) (V m c main_v3) (argWo m c) := by
  entry_read
  rfl

/-- The output projection's weights at point `t`. -/
theorem blk_wo (c : Dev nD) (t : Fin cfg0.N) (k : Fin 2048) (l : Fin 2048) : iblk m c 8 t (ix3 0 k l) = argWo m c (ix3 0 k l) := by
  blk_simp [iblk]
  rw [entry_wo]
  blk_ext [idx t]

/-- The norm's row the kernel is called with: the first layer's scale. -/
theorem entry_g (c : Dev nD) (k : Fin 2048) : (V m c main_v15 : FVec Ideal S1x2048 .f32) (ix2 0 k) = argG m c (ix2 0 k) := by
  have h : @Eq (FVec Ideal S1x2048 .f32) (V m c main_v15)
      (shapeCast S1x2048 (shapeCast S2048 (extractStridedSlice S1x2048 ![0, 0] (argG m c) slices_S2x2048_S1x2048_0_0) shapeCasts_S1x2048_S2048) shapeCasts_S2048_S1x2048) := by
    entry_read
    rfl
  rw [h]
  pointwise

/-- The norm's row at point `t`. -/
theorem blk_g (c : Dev nD) (t : Fin cfg0.N) (k : Fin 2048) : iblk m c 9 t (ix2 0 k) = argG m c (ix2 0 k) := by
  blk_simp [iblk]
  refine Eq.trans (congrArg (V m c main_v15 : S1x2048.Idx → EReal) ?_) (entry_g m c k)
  blk_ext [idx t]

set_option maxHeartbeats 1000000 in
/-- What the body stores at row `r`, column `l` of point `t`'s block is the reference's merge at row `256 t + r`. -/
theorem point (c : Dev nD) (t : Fin cfg0.N) (r : Fin 256) (l : Fin 2048) :
    out0_10 (iblk m c 0 t) (iblk m c 1 t) (iblk m c 2 t) (iblk m c 3 t) (iblk m c 4 t) (iblk m c 5 t) (iblk m c 6 t)
      (iblk m c 7 t) (iblk m c 8 t) (iblk m c 9 t) (ix2 r l)
    = REF (argX m c) (argA m c) (argB m c) (argC m c) (argT m c) (argWa m c) (argWb m c) (argWc m c) (argWo m c) (argG m c)
        (ix2 ⟨t.val * 256 + r.val, by have := lt_of_lt_of_eq t.isLt N_0; omega⟩ l) := by
  frame_out
  pointwise [k0_pay1, k0_pay2, k0_pay3, REF]
  reads_congr
  · exact blk_x m c t _ _
  · exact blk_t m c t _ _
  · exact blk_a m c t _ _
  · exact blk_wa m c t _ _
  · exact blk_t m c t _ _
  · exact blk_b m c t _ _
  · exact blk_wb m c t _ _
  · exact blk_t m c t _ _
  · exact blk_cc m c t _ _
  · exact blk_wc m c t _ _
  · exact blk_wo m c t _ _
  · exact blk_t m c t _ _
  · exact blk_t m c t _ _
  · exact blk_t m c t _ _
  · exact blk_wo m c t _ _
  · exact blk_g m c t _

/-- The result array after the run. -/
theorem final (c : Dev nD) : (dats m 0 c).arrAt 10 (cfgs 0).N
    = REF (argX m c) (argA m c) (argB m c) (argC m c) (argT m c) (argWa m c) (argWb m c) (argWc m c) (argWo m c) (argG m c) := by
  refine (dats m 0 c).arrAt_eq_of_covers 10 _ (by decide +kernel) fun t _ y => ?_
  blk_simp
  rw [after0_10]
  have e : ((win0_10.blk t).view.emb y : S32768x2048.Idx)
      = ix2 ⟨t.val * 256 + (y 0).val, by have := lt_of_lt_of_eq t.isLt N_0; have : (y 0).val < 256 := (y 0).isLt; omega⟩ (y 1) := by
    blk_ext [idx t]
  rw [e]
  idx_vars y
  exact point m c t _ _

/-- The merging kernel and the reference leave the same result. -/
theorem algebraic : Cert.algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨(h c).1.trans ?_, (h c).2⟩)
    (Cert.MergeRefIdeal.Value.run (F := Ideal) m' ρ')
  obtain ⟨h0, h1, h2, h3, h4, h5, h6, h7, h8, h9⟩ := hagree c
  unfold Cert.MergeRefIdeal.Value.res_main_v40
  rw [h0, h1, h2, h3, h4, h5, h6, h7, h8, h9]
  exact (final m c).symm

end Cert.MergeIdeal.Result

end
-- ==== Proof.PleValue.lean ====
/- What the last layer's per-layer embedding kernel computes: its result array is the reference's, element by element. -/
module

public import proofs.«01_k».proof.Proof.Gen.PleIdeal.Value
public import proofs.«01_k».proof.Proof.Gen.PleRefIdeal.Run
public import proofs.«01_k».proof.Defs
public import Idealize.ShloMosaic.Lib.Pointwise
public import Idealize.ShloMosaic.Lib.Pipeline.ValueKit

@[expose] public section

set_option maxRecDepth 16384

noncomputable section

namespace Cert.PleIdeal.Result

open Idealize.ShloMosaic Idealize.ShloMosaic.TcCoe Idealize.SL.Sem
open Idealize.ShloMosaic.Pipeline (Dat)
open Cert.PleIdeal Cert.PleIdeal.Gen

variable (m : (ℓ : Loc nD τ sig) → Buf (Elt Ideal) ℓ)

/-- The reference's update: the residual plus the sigmoid of the normalised tokens' gate times the projected embedding. -/
abbrev REF (X : FVec Ideal S2x16384x2048 .f32) (P : FVec Ideal S2x2x16384x256 .f32) (G : FVec Ideal S2x2048 .f32)
    (W1 : FVec Ideal S2x2048x2048 .f32) (W2 : FVec Ideal S2x256x2048 .f32) : FVec Ideal S32768x2048 .f32 :=
  addf (shapeCast _ X Cert.PleRefIdeal.Gen.shapeCasts_S2x16384x2048_S32768x2048) (mulf (Host.divf (broadcastInDim Cert.PleRefIdeal.S32768x2048 ![] Cert.PleRefIdeal.Gen.bcast_S_S32768x2048 (constant Cert.PleRefIdeal.S_ .f32 0x3F800000#32)) (addf (broadcastInDim Cert.PleRefIdeal.S32768x2048 ![] Cert.PleRefIdeal.Gen.bcast_S_S32768x2048 (constant Cert.PleRefIdeal.S_ .f32 0x3F800000#32)) (Host.exp (Host.negf (Host.dotGeneral Cert.PleRefIdeal.dot_S32768x2048_S2048x2048_S32768x2048_1_0_0_1_n_n none (mulf (mulf (shapeCast _ X Cert.PleRefIdeal.Gen.shapeCasts_S2x16384x2048_S32768x2048) (broadcastInDim Cert.PleRefIdeal.S32768x2048 ![0, 1] Cert.PleRefIdeal.Gen.bcast_S32768x1_S32768x2048_0_1 (Host.rsqrt (addf (Host.divf (broadcastInDim Cert.PleRefIdeal.S32768x1 ![0] Cert.PleRefIdeal.Gen.bcast_S32768_S32768x1_0 (Host.reduceAdd (mulf (shapeCast _ X Cert.PleRefIdeal.Gen.shapeCasts_S2x16384x2048_S32768x2048) (shapeCast _ X Cert.PleRefIdeal.Gen.shapeCasts_S2x16384x2048_S32768x2048)) (constant Cert.PleRefIdeal.S_ .f32 0x00000000#32) Cert.PleRefIdeal.Gen.reducesTo_S32768x2048_S32768_d1 Cert.PleRefIdeal.Gen.h_S_)) (broadcastInDim Cert.PleRefIdeal.S32768x1 ![] Cert.PleRefIdeal.Gen.bcast_S_S32768x1 (constant Cert.PleRefIdeal.S_ .f32 0x45000000#32))) (broadcastInDim Cert.PleRefIdeal.S32768x1 ![] Cert.PleRefIdeal.Gen.bcast_S_S32768x1 (constant Cert.PleRefIdeal.S_ .f32 0x358637BD#32)))))) (broadcastInDim Cert.PleRefIdeal.S32768x2048 ![0, 1] Cert.PleRefIdeal.Gen.bcast_S1x2048_S32768x2048_0_1 (broadcastInDim Cert.PleRefIdeal.S1x2048 ![1] Cert.PleRefIdeal.Gen.bcast_S2048_S1x2048_1 (shapeCast _ (extractStridedSlice Cert.PleRefIdeal.S1x2048 ![1, 0] G Cert.PleRefIdeal.Gen.slices_S2x2048_S1x2048_1_0) Cert.PleRefIdeal.Gen.shapeCasts_S1x2048_S2048)))) (shapeCast _ (extractStridedSlice Cert.PleRefIdeal.S1x2048x2048 ![1, 0, 0] W1 Cert.PleRefIdeal.Gen.slices_S2x2048x2048_S1x2048x2048_1_0_0) Cert.PleRefIdeal.Gen.shapeCasts_S1x2048x2048_S2048x2048)))))) (Host.dotGeneral Cert.PleRefIdeal.dot_S32768x256_S256x2048_S32768x2048_1_0_0_1_n_n none (shapeCast _ (extractStridedSlice Cert.PleRefIdeal.S1x32768x256 ![1, 0, 0] (shapeCast _ P Cert.PleRefIdeal.Gen.shapeCasts_S2x2x16384x256_S2x32768x256) Cert.PleRefIdeal.Gen.slices_S2x32768x256_S1x32768x256_1_0_0) Cert.PleRefIdeal.Gen.shapeCasts_S1x32768x256_S32768x256) (shapeCast _ (extractStridedSlice Cert.PleRefIdeal.S1x256x2048 ![1, 0, 0] W2 Cert.PleRefIdeal.Gen.slices_S2x256x2048_S1x256x2048_1_0_0) Cert.PleRefIdeal.Gen.shapeCasts_S1x256x2048_S256x2048)))

/-- Where every window's block sits at each grid point. -/
theorem idx : ∀ t : Fin cfg0.N, win0_0.index t = ![t.val, 0] ∧ win0_1.index t = ![1, t.val, 0]
    ∧ win0_2.index t = ![0, 0] ∧ win0_3.index t = ![1, 0, 0] ∧ win0_4.index t = ![1, 0, 0] ∧ win0_6.index t = ![t.val, 0] :=
  (by decide +kernel : ∀ t : Fin grid0.N, _)

/-- The tokens, as a plain array. -/
abbrev argX (c : Dev nD) : FVec Ideal S2x16384x2048 .f32 := m ((c : Thread nD τ).loc main_arg0)
/-- The embeddings, as a plain array. -/
abbrev argP (c : Dev nD) : FVec Ideal S2x2x16384x256 .f32 := m ((c : Thread nD τ).loc main_arg1)
/-- The norms' scales, as a plain array. -/
abbrev argG (c : Dev nD) : FVec Ideal S2x2048 .f32 := m ((c : Thread nD τ).loc main_arg2)
/-- The gates' weights, as a plain array. -/
abbrev argW1 (c : Dev nD) : FVec Ideal S2x2048x2048 .f32 := m ((c : Thread nD τ).loc main_arg3)
/-- The projections' weights, as a plain array. -/
abbrev argW2 (c : Dev nD) : FVec Ideal S2x256x2048 .f32 := m ((c : Thread nD τ).loc main_arg4)

/-- The tokens' array the kernel is called with: the argument with its first two axes joined. -/
theorem entry_x (c : Dev nD) (r : Fin 32768) (k : Fin 2048) : (V m c main_v2 : FVec Ideal S32768x2048 .f32) (ix2 r k)
    = argX m c (ix3 ⟨r.val / 16384, by omega⟩ ⟨r.val % 16384, by omega⟩ k) := by
  have h : @Eq (FVec Ideal S32768x2048 .f32) (V m c main_v2)
      (shapeCast S32768x2048 (argX m c) shapeCasts_S2x16384x2048_S32768x2048) := by
    entry_read
    rfl
  rw [h]
  pointwise

/-- The embeddings' array the kernel is called with: the argument with its two middle axes joined. -/
theorem entry_p (c : Dev nD) (a : Fin 2) (r : Fin 32768) (k : Fin 256) : (V m c main_v3 : FVec Ideal S2x32768x256 .f32) (ix3 a r k)
    = argP m c (ix4 a ⟨r.val / 16384, by omega⟩ ⟨r.val % 16384, by omega⟩ k) := by
  have h : @Eq (FVec Ideal S2x32768x256 .f32) (V m c main_v3)
      (shapeCast S2x32768x256 (argP m c) shapeCasts_S2x2x16384x256_S2x32768x256) := by
    entry_read
    rfl
  rw [h]
  pointwise
  blk_ext

/-- The norm's row the kernel is called with: the second layer's scale. -/
theorem entry_g (c : Dev nD) (k : Fin 2048) : (V m c main_v4 : FVec Ideal S1x2048 .f32) (ix2 0 k) = argG m c (ix2 1 k) := by
  have h : @Eq (FVec Ideal S1x2048 .f32) (V m c main_v4)
      (shapeCast S1x2048 (shapeCast S2048 (extractStridedSlice S1x2048 ![1, 0] (argG m c) slices_S2x2048_S1x2048_1_0) shapeCasts_S1x2048_S2048) shapeCasts_S2048_S1x2048) := by
    entry_read
    rfl
  rw [h]
  pointwise

/-- The gates' weights the kernel is called with: the argument. -/
theorem entry_w1 (c : Dev nD) : @Eq (S2x2048x2048.Idx → EReal) (V m c main_v5) (argW1 m c) := by
  entry_read
  rfl

/-- The projections' weights the kernel is called with: the argument. -/
theorem entry_w2 (c : Dev nD) : @Eq (S2x256x2048.Idx → EReal) (V m c main_v6) (argW2 m c) := by
  entry_read
  rfl

/-- The tokens' block at point `t`. -/
theorem blk_x (c : Dev nD) (t : Fin cfg0.N) (r : Fin 512) (k : Fin 2048) : iblk m c 0 t (ix2 r k)
    = argX m c (ix3 ⟨(t.val * 512 + r.val) / 16384, by have := lt_of_lt_of_eq t.isLt N_0; omega⟩ ⟨(t.val * 512 + r.val) % 16384, by omega⟩ k) := by
  blk_simp [iblk]
  refine Eq.trans (congrArg (V m c main_v2 : S32768x2048.Idx → EReal) ?_) (entry_x m c ⟨t.val * 512 + r.val, by have := lt_of_lt_of_eq t.isLt N_0; omega⟩ k)
  blk_ext [idx t]

/-- The embeddings' block at point `t`. -/
theorem blk_p (c : Dev nD) (t : Fin cfg0.N) (r : Fin 512) (k : Fin 256) : iblk m c 1 t (ix3 0 r k)
    = argP m c (ix4 1 ⟨(t.val * 512 + r.val) / 16384, by have := lt_of_lt_of_eq t.isLt N_0; omega⟩ ⟨(t.val * 512 + r.val) % 16384, by omega⟩ k) := by
  blk_simp [iblk]
  refine Eq.trans (congrArg (V m c main_v3 : S2x32768x256.Idx → EReal) ?_) (entry_p m c 1 ⟨t.val * 512 + r.val, by have := lt_of_lt_of_eq t.isLt N_0; omega⟩ k)
  blk_ext [idx t]

/-- The norm's row at point `t`. -/
theorem blk_g (c : Dev nD) (t : Fin cfg0.N) (k : Fin 2048) : iblk m c 2 t (ix2 0 k) = argG m c (ix2 1 k) := by
  blk_simp [iblk]
  refine Eq.trans (congrArg (V m c main_v4 : S1x2048.Idx → EReal) ?_) (entry_g m c k)
  blk_ext [idx t]

/-- The gate's weights at point `t`. -/
theorem blk_w1 (c : Dev nD) (t : Fin cfg0.N) (k l : Fin 2048) : iblk m c 3 t (ix3 0 k l) = argW1 m c (ix3 1 k l) := by
  blk_simp [iblk]
  rw [entry_w1]
  blk_ext [idx t]

/-- The projection's weights at point `t`. -/
theorem blk_w2 (c : Dev nD) (t : Fin cfg0.N) (k : Fin 256) (l : Fin 2048) : iblk m c 4 t (ix3 0 k l) = argW2 m c (ix3 1 k l) := by
  blk_simp [iblk]
  rw [entry_w2]
  blk_ext [idx t]

/-- What the body stores at row `r`, column `l` of point `t`'s block is the reference's update at row `512 t + r`. -/
theorem point (c : Dev nD) (t : Fin cfg0.N) (r : Fin 512) (l : Fin 2048) :
    k0_pay1 (iblk m c 0 t) (iblk m c 2 t) (iblk m c 3 t) (iblk m c 1 t) (iblk m c 4 t) (ix2 r l)
    = REF (argX m c) (argP m c) (argG m c) (argW1 m c) (argW2 m c)
        (ix2 ⟨t.val * 512 + r.val, by have := lt_of_lt_of_eq t.isLt N_0; omega⟩ l) := by
  pointwise [k0_pay1, REF]
  simp only [sub_eq_add_neg, zero_add]
  reads_congr
  · exact blk_x m c t _ _
  · exact blk_x m c t _ _
  · exact blk_g m c t _
  · exact blk_w1 m c t _ _
  · exact blk_p m c t _ _
  · exact blk_w2 m c t _ _

/-- The result array after the run. -/
theorem final (c : Dev nD) : (dats m 0 c).arrAt 6 (cfgs 0).N
    = REF (argX m c) (argP m c) (argG m c) (argW1 m c) (argW2 m c) := by
  refine (dats m 0 c).arrAt_eq_of_covers 6 _ (by decide +kernel) fun t _ y => ?_
  blk_simp
  rw [after0_6]; frame_out
  have e : ((win0_6.blk t).view.emb y : S32768x2048.Idx)
      = ix2 ⟨t.val * 512 + (y 0).val, by have := lt_of_lt_of_eq t.isLt N_0; have : (y 0).val < 512 := (y 0).isLt; omega⟩ (y 1) := by
    blk_ext [idx t]
  rw [e]
  idx_vars y
  exact point m c t _ _

/-- The embedding kernel and the reference leave the same result. -/
theorem algebraic : Cert.algebraic_PleIdeal_PleRefIdeal := by
  intro m ρ m' ρ' _ hagree
  refine ⟨_, Cert.PleIdeal.Value.run_blocks (F := Ideal) m ρ, ?_⟩
  refine (θ_run Cert.PleRefIdeal.defs _ _).mono (fun _ h c => ⟨(h c).1.trans ?_, (h c).2⟩)
    (Cert.PleRefIdeal.Value.run (F := Ideal) m' ρ')
  obtain ⟨h0, h1, h2, h3, h4⟩ := hagree c
  rw [h0, h1, h2, h3, h4]
  exact (final m c).symm

end Cert.PleIdeal.Result

end
-- ==== Proof.SguStages.lean ====
/- The spatial gating reference, taken apart: the projection, the two gelus, the layer norm, the masked weights, the mixing. -/
module

public import proofs.«01_k».proof.Proof.Gen.SguIdeal.Value
public import proofs.«01_k».proof.Proof.Gen.SguRefIdeal.Run
public import Idealize.ShloMosaic.Lib.Pointwise
public import Idealize.ShloMosaic.Lib.Pipeline.ValueKit

@[expose] public section

set_option maxRecDepth 16384

noncomputable section

namespace Cert.SguRefIdeal.Stage

open Idealize.ShloMosaic Idealize.ShloMosaic.TcCoe Idealize.SL.Sem
open Cert.SguRefIdeal Cert.SguRefIdeal.Gen

/-- The input projection. -/
def rP (A0 : FVec Ideal S2x16384x2048 .f32) (A1 : FVec Ideal S2x2048x11264 .f32) : FVec Ideal S2x16384x11264 .f32 :=
  Host.dotGeneral dot_S2x16384x2048_S2048x11264_S2x16384x11264_2_0_01_1_n_n none A0 (shapeCast _ (extractStridedSlice S1x2048x11264 ![0, 0, 0] A1 slices_S2x2048x11264_S1x2048x11264_0_0_0) shapeCasts_S1x2048x11264_S2048x11264)

/-- The gelu of the first half's columns. -/
def rU (P : FVec Ideal S2x16384x11264 .f32) : FVec Ideal S2x16384x512 .f32 :=
  mulf (extractStridedSlice S2x16384x512 ![0, 0, 0] (extractStridedSlice S2x16384x1024 ![0, 0, 4096] P slices_S2x16384x11264_S2x16384x1024_0_0_4096) slices_S2x16384x1024_S2x16384x512_0_0_0) (mulf (broadcastInDim S2x16384x512 ![] bcast_S_S2x16384x512 (constant S_ .f32 0x3F000000#32)) (addf (broadcastInDim S2x16384x512 ![] bcast_S_S2x16384x512 (constant S_ .f32 0x3F800000#32)) (Host.tanh (mulf (broadcastInDim S2x16384x512 ![] bcast_S_S2x16384x512 (constant S_ .f32 0x3F4C422A#32)) (addf (extractStridedSlice S2x16384x512 ![0, 0, 0] (extractStridedSlice S2x16384x1024 ![0, 0, 4096] P slices_S2x16384x11264_S2x16384x1024_0_0_4096) slices_S2x16384x1024_S2x16384x512_0_0_0) (mulf (broadcastInDim S2x16384x512 ![] bcast_S_S2x16384x512 (constant S_ .f32 0x3D372713#32)) (mulf (mulf (extractStridedSlice S2x16384x512 ![0, 0, 0] (extractStridedSlice S2x16384x1024 ![0, 0, 4096] P slices_S2x16384x11264_S2x16384x1024_0_0_4096) slices_S2x16384x1024_S2x16384x512_0_0_0) (extractStridedSlice S2x16384x512 ![0, 0, 0] (extractStridedSlice S2x16384x1024 ![0, 0, 4096] P slices_S2x16384x11264_S2x16384x1024_0_0_4096) slices_S2x16384x1024_S2x16384x512_0_0_0)) (extractStridedSlice S2x16384x512 ![0, 0, 0] (extractStridedSlice S2x16384x1024 ![0, 0, 4096] P slices_S2x16384x11264_S2x16384x1024_0_0_4096) slices_S2x16384x1024_S2x16384x512_0_0_0))))))))

/-- The gelu of the second half's columns. -/
def rG (P : FVec Ideal S2x16384x11264 .f32) : FVec Ideal S2x16384x512 .f32 :=
  mulf (extractStridedSlice S2x16384x512 ![0, 0, 512] (extractStridedSlice S2x16384x1024 ![0, 0, 4096] P slices_S2x16384x11264_S2x16384x1024_0_0_4096) slices_S2x16384x1024_S2x16384x512_0_0_512) (mulf (broadcastInDim S2x16384x512 ![] bcast_S_S2x16384x512 (constant S_ .f32 0x3F000000#32)) (addf (broadcastInDim S2x16384x512 ![] bcast_S_S2x16384x512 (constant S_ .f32 0x3F800000#32)) (Host.tanh (mulf (broadcastInDim S2x16384x512 ![] bcast_S_S2x16384x512 (constant S_ .f32 0x3F4C422A#32)) (addf (extractStridedSlice S2x16384x512 ![0, 0, 512] (extractStridedSlice S2x16384x1024 ![0, 0, 4096] P slices_S2x16384x11264_S2x16384x1024_0_0_4096) slices_S2x16384x1024_S2x16384x512_0_0_512) (mulf (broadcastInDim S2x16384x512 ![] bcast_S_S2x16384x512 (constant S_ .f32 0x3D372713#32)) (mulf (mulf (extractStridedSlice S2x16384x512 ![0, 0, 512] (extractStridedSlice S2x16384x1024 ![0, 0, 4096] P slices_S2x16384x11264_S2x16384x1024_0_0_4096) slices_S2x16384x1024_S2x16384x512_0_0_512) (extractStridedSlice S2x16384x512 ![0, 0, 512] (extractStridedSlice S2x16384x1024 ![0, 0, 4096] P slices_S2x16384x11264_S2x16384x1024_0_0_4096) slices_S2x16384x1024_S2x16384x512_0_0_512)) (extractStridedSlice S2x16384x512 ![0, 0, 512] (extractStridedSlice S2x16384x1024 ![0, 0, 4096] P slices_S2x16384x11264_S2x16384x1024_0_0_4096) slices_S2x16384x1024_S2x16384x512_0_0_512))))))))

/-- The layer norm of the second half. -/
def rV (V : FVec Ideal S2x16384x512 .f32) (A2 A3 : FVec Ideal S2x512 .f32) : FVec Ideal S2x16384x512 .f32 :=
  addf (mulf (mulf (subf V (broadcastInDim S2x16384x512 ![0, 1, 2] bcast_S2x16384x1_S2x16384x512_0_1_2 (Host.divf (broadcastInDim S2x16384x1 ![0, 1] bcast_S2x16384_S2x16384x1_0_1 (Host.reduceAdd V (constant S_ .f32 0x00000000#32) reducesTo_S2x16384x512_S2x16384_d2 h_S_)) (broadcastInDim S2x16384x1 ![] bcast_S_S2x16384x1 (constant S_ .f32 0x44000000#32))))) (broadcastInDim S2x16384x512 ![0, 1, 2] bcast_S2x16384x1_S2x16384x512_0_1_2 (Host.rsqrt (addf (Host.divf (broadcastInDim S2x16384x1 ![0, 1] bcast_S2x16384_S2x16384x1_0_1 (Host.reduceAdd (mulf (subf V (broadcastInDim S2x16384x512 ![0, 1, 2] bcast_S2x16384x1_S2x16384x512_0_1_2 (Host.divf (broadcastInDim S2x16384x1 ![0, 1] bcast_S2x16384_S2x16384x1_0_1 (Host.reduceAdd V (constant S_ .f32 0x00000000#32) reducesTo_S2x16384x512_S2x16384_d2 h_S_)) (broadcastInDim S2x16384x1 ![] bcast_S_S2x16384x1 (constant S_ .f32 0x44000000#32))))) (subf V (broadcastInDim S2x16384x512 ![0, 1, 2] bcast_S2x16384x1_S2x16384x512_0_1_2 (Host.divf (broadcastInDim S2x16384x1 ![0, 1] bcast_S2x16384_S2x16384x1_0_1 (Host.reduceAdd V (constant S_ .f32 0x00000000#32) reducesTo_S2x16384x512_S2x16384_d2 h_S_)) (broadcastInDim S2x16384x1 ![] bcast_S_S2x16384x1 (constant S_ .f32 0x44000000#32)))))) (constant S_ .f32 0x00000000#32) reducesTo_S2x16384x512_S2x16384_d2 h_S_)) (broadcastInDim S2x16384x1 ![] bcast_S_S2x16384x1 (constant S_ .f32 0x44000000#32))) (broadcastInDim S2x16384x1 ![] bcast_S_S2x16384x1 (constant S_ .f32 0x358637BD#32)))))) (broadcastInDim S2x16384x512 ![0, 1, 2] bcast_S1x1x512_S2x16384x512_0_1_2 (broadcastInDim S1x1x512 ![2] bcast_S512_S1x1x512_2 (shapeCast _ (extractStridedSlice S1x512 ![0, 0] A2 slices_S2x512_S1x512_0_0) shapeCasts_S1x512_S512)))) (broadcastInDim S2x16384x512 ![0, 1, 2] bcast_S1x1x512_S2x16384x512_0_1_2 (broadcastInDim S1x1x512 ![2] bcast_S512_S1x1x512_2 (shapeCast _ (extractStridedSlice S1x512 ![0, 0] A3 slices_S2x512_S1x512_0_0) shapeCasts_S1x512_S512)))

/-- The mixing weights under the lower triangle. -/
def rW (A4 : FVec Ideal S2x4x128x128 .f32) : FVec Ideal S4x128x128 .f32 :=
  mulf (shapeCast _ (extractStridedSlice S1x4x128x128 ![0, 0, 0, 0] A4 slices_S2x4x128x128_S1x4x128x128_0_0_0_0) shapeCasts_S1x4x128x128_S4x128x128) (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

/-- The mixing along a chunk, the bias and the product with the first half. -/
def rO (U V : FVec Ideal S2x16384x512 .f32) (W : FVec Ideal S4x128x128 .f32) (A5 : FVec Ideal S2x4x128 .f32) : FVec Ideal S32768x512 .bf16 :=
  truncf .bf16 (shapeCast _ (mulf U (shapeCast _ (addf (transpose S2x128x128x4x128 [1, 2, 4, 0, 3] (Host.dotGeneral dot_S2x128x128x4x128_S4x128x128_S4x2x128x128x128_2_2_014_1_3_0 none (shapeCast _ V shapeCasts_S2x16384x512_S2x128x128x4x128) W) transposes_S4x2x128x128x128_S2x128x128x4x128_1_2_4_0_3) (broadcastInDim S2x128x128x4x128 ![0, 1, 2, 3, 4] bcast_S1x1x128x4x1_S2x128x128x4x128_0_1_2_3_4 (broadcastInDim S1x1x128x4x1 ![2, 3] bcast_S128x4_S1x1x128x4x1_2_3 (transpose S128x4 [1, 0] (shapeCast _ (extractStridedSlice S1x4x128 ![0, 0, 0] A5 slices_S2x4x128_S1x4x128_0_0_0) shapeCasts_S1x4x128_S4x128) transposes_S4x128_S128x4_1_0)))) shapeCasts_S2x128x128x4x128_S2x16384x512)) shapeCasts_S2x16384x512_S32768x512) bitsLt_bf16_f32

end Cert.SguRefIdeal.Stage

end
-- ==== Proof.SguArith.lean ====
/- The spatial gating kernel's arithmetic against the reference's, on plain arrays. -/
module

public import proofs.«01_k».proof.Proof.SguStages

@[expose] public section

set_option maxRecDepth 16384

noncomputable section

namespace Cert.SguIdeal.Result

open Idealize.ShloMosaic Idealize.ShloMosaic.TcCoe Idealize.SL.Sem
open Cert.SguIdeal Cert.SguIdeal.Gen
open Cert.SguRefIdeal.Stage

/-- The two orders of the gelu's factors. -/
theorem gelu_comm (a b c : EReal) : a * b * c = b * (a * c) := by ac_rfl

/-- The kernel's gelu of its first product is the reference's. -/
theorem pay5_apply (x : FVec Ideal S512x2048 .bf16) (w : FVec Ideal S1x2048x512 .bf16) (X : FVec Ideal S2x16384x2048 .f32)
    (W : FVec Ideal S2x2048x11264 .f32) (r : Fin 512) (l : Fin 512) (b : Fin 2) (s : Fin 16384)
    (hx : ∀ k : Fin 2048, x (ix2 r k) = X (ix3 b s k)) (hw : ∀ k : Fin 2048, w (ix3 0 k l) = W (ix3 0 k ⟨4096 + l.val, by omega⟩)) :
    k0_pay5 (F := Ideal) x w (ix2 r l) = rU (rP X W) (ix3 b s l) := by
  pointwise [k0_pay5, k0_pay4, rU, rP]
  simp only [hx, hw]
  exact gelu_comm _ _ _

/-- The kernel's gelu of its second product is the reference's. -/
theorem pay6_apply (x : FVec Ideal S512x2048 .bf16) (w : FVec Ideal S1x2048x512 .bf16) (X : FVec Ideal S2x16384x2048 .f32)
    (W : FVec Ideal S2x2048x11264 .f32) (r : Fin 512) (l : Fin 512) (b : Fin 2) (s : Fin 16384)
    (hx : ∀ k : Fin 2048, x (ix2 r k) = X (ix3 b s k)) (hw : ∀ k : Fin 2048, w (ix3 0 k l) = W (ix3 0 k ⟨4608 + l.val, by omega⟩)) :
    k0_pay6 (F := Ideal) x w (ix2 r l) = rG (rP X W) (ix3 b s l) := by
  pointwise [k0_pay6, k0_pay4, rG, rP]
  simp only [hx, hw, ← Nat.add_assoc, Nat.reduceAdd]
  exact gelu_comm _ _ _

/-- The kernel's layer norm of a row is the reference's. -/
theorem pay8_apply (v : FVec Ideal S512x512 .f32) (g b' : FVec Ideal S1x512 .f32) (V : FVec Ideal Cert.SguRefIdeal.S2x16384x512 .f32)
    (G B : FVec Ideal S2x512 .f32) (r : Fin 512) (l : Fin 512) (b : Fin 2) (s : Fin 16384)
    (hv : ∀ k : Fin 512, v (ix2 r k) = V (ix3 b s k)) (hg : ∀ k : Fin 512, g (ix2 0 k) = G (ix2 0 k))
    (hb : ∀ k : Fin 512, b' (ix2 0 k) = B (ix2 0 k)) :
    k0_pay8 (F := Ideal) v (k0_pay7 g) b' (ix2 r l) = rV V G B (ix3 b s l) := by
  pointwise [k0_pay8, k0_pay7, rV]
  simp only [hv, hg, hb]

/-- The kernel's test for the lower triangle. -/
theorem sel_tri (p q : Fin 128) (u v : EReal) :
    Scalar.select (IntOp.cmpi CmpIPredicate.sle (BitVec.ofNat 32 q.val) (BitVec.ofNat 32 p.val)) u v = if q ≤ p then u else v := by
  have h : ∀ p q : Fin 128, IntOp.cmpi CmpIPredicate.sle (BitVec.ofNat 32 q.val) (BitVec.ofNat 32 p.val)
      = if q ≤ p then 1#1 else 0#1 := by decide +kernel
  rw [h p q]; split_ifs <;> rfl

/-- The reference's test for the lower triangle. -/
theorem sel_tri' (p q : Fin 128) (u v : EReal) :
    Scalar.select (IntOp.cmpi CmpIPredicate.sge (IntOp.addi (BitVec.ofNat 32 p.val) 0#32) (BitVec.ofNat 32 q.val)) u v = if q ≤ p then u else v := by
  have h : ∀ p q : Fin 128, IntOp.cmpi CmpIPredicate.sge (IntOp.addi (BitVec.ofNat 32 p.val) 0#32) (BitVec.ofNat 32 q.val)
      = if q ≤ p then 1#1 else 0#1 := by decide +kernel
  rw [h p q]; split_ifs <;> rfl

/-- The reference's masked weights. -/
theorem rW_apply (W : FVec Ideal S2x4x128x128 .f32) (g : Fin 4) (p q : Fin 128) :
    rW W (ix3 g p q) = (if q ≤ p then W (ix4 0 g p q) else 0 : EReal) := by
  pointwise [rW]
  simp only [sel_tri']

/-- The reference's result in terms of its stages. -/
theorem rO_apply (U V : FVec Ideal Cert.SguRefIdeal.S2x16384x512 .f32) (W : FVec Ideal S4x128x128 .f32) (A5 : FVec Ideal S2x4x128 .f32)
    (n : Fin 32768) (l : Fin 512) : rO U V W A5 (ix2 n l)
    = (U (ix3 ⟨n.val / 16384, by omega⟩ ⟨n.val % 16384, by omega⟩ l) *
      ((∑ k : Fin 128, W (ix3 ⟨l.val / 128, by omega⟩ ⟨n.val % 128, by omega⟩ k)
        * V (ix3 ⟨n.val / 16384, by omega⟩ ⟨n.val % 16384 / 128 * 128 + k.val, by have := k.isLt; omega⟩ l))
        + A5 (ix3 0 ⟨l.val / 128, by omega⟩ ⟨n.val % 128, by omega⟩)) : EReal) := by
  pointwise [rO]
  have e : n.val % 16384 % 128 = n.val % 128 := by omega
  simp only [e]
  congr 2
  exact Finset.sum_congr rfl fun _ _ => mul_comm _ _

set_option maxHeartbeats 2000000 in
/-- One tile of the block the kernel stores, in terms of its two halves. -/
theorem out_apply (x0 : FVec Ideal S512x2048 .bf16) (x1 x2 : FVec Ideal S1x2048x512 .bf16) (x3 x4 : FVec Ideal S1x512 .f32)
    (x5 : FVec Ideal S4x128x128 .f32) (x6 : FVec Ideal S128x4 .f32) (r l : Fin 512) :
    out0_7 (F := Ideal) x0 x1 x2 x3 x4 x5 x6 (ix2 r l)
    = (k0_pay33 (F := Ideal) x0 x1 x2 x3 x4 x5 x6 (ix2 r l) * ((∑ k : Fin 128, (if k.val ≤ r.val % 128 then
        x5 (ix3 ⟨l.val / 128, by omega⟩ ⟨r.val % 128, by omega⟩ k) else 0)
        * k0_pay38 (F := Ideal) x0 x1 x2 x3 x4 x5 x6 (ix2 ⟨r.val / 128 * 128 + k.val, by omega⟩ l))
        + x6 (ix2 ⟨r.val % 128, by omega⟩ ⟨l.val / 128, by omega⟩)) : EReal) := by
  unfold out0_7
  canon_tiles x h
  all_goals
    obtain ⟨p, q, rfl⟩ : ∃ p q, x = ix2 p q := ⟨x 0, x 1, by blk_ext⟩
    obtain ⟨r, hr⟩ := r
    obtain ⟨l, hl⟩ := l
    dsimp at h0 h1
    subst h0 h1
    pointwise [k0_pay1, k0_pay2, k0_pay3, k0_pay11, k0_pay12, k0_pay13, k0_pay14, k0_pay15, k0_pay18, k0_pay19, k0_pay20, k0_pay21, k0_pay22, k0_pay25, k0_pay26, k0_pay27, k0_pay28, k0_pay29, k0_pay32, k0_pay45, k0_pay46, k0_pay43, k0_pay44, k0_pay41, k0_pay42, k0_pay39, k0_pay40, k0_pay36, k0_pay37, k0_pay9, k0_pay10, k0_pay16, k0_pay17, k0_pay23, k0_pay24, k0_pay30, k0_pay31]
    refine congrArg₂ (fun a b : EReal => a * b) rfl (congrArg₂ (fun a b : EReal => a + b)
      (Finset.sum_congr rfl fun k _ => ?_) (congrArg x6 ?_))
    · rw [sel_tri, ite_mul, zero_mul]
      refine if_congr (by rw [Fin.le_def]; omega) (congrArg₂ (fun a b : EReal => a * b) (congrArg x5 ?_) (congrArg _ ?_)) rfl
      · blk_ext
      · blk_ext
    · blk_ext

end Cert.SguIdeal.Result
end
-- ==== Proof.SguValue.lean ====
/- What the spatial gating kernel computes: its result array is the reference's, element by element. -/
module

public import proofs.«01_k».proof.Proof.SguArith
public import proofs.«01_k».proof.Proof.Gen.Sgu.Frame
public import proofs.«01_k».proof.Defs

@[expose] public section

set_option maxRecDepth 16384

noncomputable section

namespace Cert.SguIdeal.Result

open Idealize.ShloMosaic Idealize.ShloMosaic.TcCoe Idealize.SL.Sem
open Idealize.ShloMosaic.Pipeline (Dat)
open Cert.SguIdeal Cert.SguIdeal.Gen
open Cert.SguRefIdeal.Stage

variable (m : (ℓ : Loc nD τ sig) → Buf (Elt Ideal) ℓ)

/-- The reference's result. -/
abbrev REF (X : FVec Ideal S2x16384x2048 .f32) (W : FVec Ideal S2x2048x11264 .f32) (G B : FVec Ideal S2x512 .f32)
    (SW : FVec Ideal S2x4x128x128 .f32) (SB : FVec Ideal S2x4x128 .f32) : FVec Ideal S32768x512 .bf16 :=
  rO (rU (rP X W)) (rV (rG (rP X W)) G B) (rW SW) SB

/-- Where every window's block sits at each grid point. -/
theorem idx : ∀ t : Fin cfg0.N, win0_0.index t = ![t.val, 0] ∧ win0_1.index t = ![0, 0, 8] ∧ win0_2.index t = ![0, 0, 9]
    ∧ win0_3.index t = ![0, 0] ∧ win0_4.index t = ![0, 0] ∧ win0_5.index t = ![0, 0, 0] ∧ win0_6.index t = ![0, 0]
    ∧ win0_7.index t = ![t.val, 0] :=
  (by decide +kernel : ∀ t : Fin grid0.N, _)

/-- The tokens, as a plain array. -/
abbrev argX (c : Dev nD) : FVec Ideal S2x16384x2048 .f32 := m ((c : Thread nD τ).loc main_arg0)
/-- The projection's weights, as a plain array. -/
abbrev argW (c : Dev nD) : FVec Ideal S2x2048x11264 .f32 := m ((c : Thread nD τ).loc main_arg1)
/-- The norms' scales, as a plain array. -/
abbrev argG (c : Dev nD) : FVec Ideal S2x512 .f32 := m ((c : Thread nD τ).loc main_arg2)
/-- The norms' shifts, as a plain array. -/
abbrev argB (c : Dev nD) : FVec Ideal S2x512 .f32 := m ((c : Thread nD τ).loc main_arg3)
/-- The mixing weights, as a plain array. -/
abbrev argSW (c : Dev nD) : FVec Ideal S2x4x128x128 .f32 := m ((c : Thread nD τ).loc main_arg4)
/-- The mixing biases, as a plain array. -/
abbrev argSB (c : Dev nD) : FVec Ideal S2x4x128 .f32 := m ((c : Thread nD τ).loc main_arg5)

/-- The tokens' array the kernel is called with: the argument with its first two axes joined. -/
theorem entry_x (c : Dev nD) (r : Fin 32768) (k : Fin 2048) : (V m c main_v1 : S32768x2048.Idx → EReal) (ix2 r k)
    = argX m c (ix3 ⟨r.val / 16384, by omega⟩ ⟨r.val % 16384, by omega⟩ k) := by
  have h : @Eq (S32768x2048.Idx → EReal) (V m c main_v1)
      (shapeCast S32768x2048 (argX m c) shapeCasts_S2x16384x2048_S32768x2048) := by
    entry_read
    rfl
  rw [h]
  pointwise

/-- The projection's weights the kernel is called with: the argument. -/
theorem entry_w (c : Dev nD) : @Eq (S2x2048x11264.Idx → EReal) (V m c main_v2) (argW m c) := by
  entry_read
  rfl

/-- The norm's scale the kernel is called with. -/
theorem entry_g (c : Dev nD) (k : Fin 512) : (V m c main_v5 : FVec Ideal S1x512 .f32) (ix2 0 k) = argG m c (ix2 0 k) := by
  have h : @Eq (FVec Ideal S1x512 .f32) (V m c main_v5)
      (shapeCast S1x512 (shapeCast S512 (extractStridedSlice S1x512 ![0, 0] (argG m c) slices_S2x512_S1x512_0_0) shapeCasts_S1x512_S512) shapeCasts_S512_S1x512) := by
    entry_read
    rfl
  rw [h]
  pointwise

/-- The norm's shift the kernel is called with. -/
theorem entry_b (c : Dev nD) (k : Fin 512) : (V m c main_v8 : FVec Ideal S1x512 .f32) (ix2 0 k) = argB m c (ix2 0 k) := by
  have h : @Eq (FVec Ideal S1x512 .f32) (V m c main_v8)
      (shapeCast S1x512 (shapeCast S512 (extractStridedSlice S1x512 ![0, 0] (argB m c) slices_S2x512_S1x512_0_0) shapeCasts_S1x512_S512) shapeCasts_S512_S1x512) := by
    entry_read
    rfl
  rw [h]
  pointwise

/-- The mixing weights the kernel is called with. -/
theorem entry_sw (c : Dev nD) (g : Fin 4) (p q : Fin 128) :
    (V m c main_v10 : FVec Ideal S4x128x128 .f32) (ix3 g p q) = argSW m c (ix4 0 g p q) := by
  have h : @Eq (FVec Ideal S4x128x128 .f32) (V m c main_v10)
      (shapeCast S4x128x128 (extractStridedSlice S1x4x128x128 ![0, 0, 0, 0] (argSW m c) slices_S2x4x128x128_S1x4x128x128_0_0_0_0) shapeCasts_S1x4x128x128_S4x128x128) := by
    entry_read
    rfl
  rw [h]
  pointwise

/-- The mixing biases the kernel is called with. -/
theorem entry_sb (c : Dev nD) (p : Fin 128) (g : Fin 4) :
    (V m c main_v13 : FVec Ideal S128x4 .f32) (ix2 p g) = argSB m c (ix3 0 g p) := by
  have h : @Eq (FVec Ideal S128x4 .f32) (V m c main_v13)
      (transpose S128x4 [1, 0] (shapeCast S4x128 (extractStridedSlice S1x4x128 ![0, 0, 0] (argSB m c) slices_S2x4x128_S1x4x128_0_0_0) shapeCasts_S1x4x128_S4x128) transposes_S4x128_S128x4_1_0) := by
    entry_read
    rfl
  rw [h]
  pointwise

/-- The tokens' block at point `t`. -/
theorem blk_x (c : Dev nD) (t : Fin cfg0.N) (r : Fin 512) (k : Fin 2048) : iblk m c 0 t (ix2 r k)
    = argX m c (ix3 ⟨(t.val * 512 + r.val) / 16384, by have := lt_of_lt_of_eq t.isLt N_0; omega⟩ ⟨(t.val * 512 + r.val) % 16384, by omega⟩ k) := by
  blk_simp [iblk]
  refine Eq.trans (congrArg (V m c main_v1 : S32768x2048.Idx → EReal) ?_) (entry_x m c ⟨t.val * 512 + r.val, by have := lt_of_lt_of_eq t.isLt N_0; omega⟩ k)
  blk_ext [idx t]

/-- The first half's weights at point `t`. -/
theorem blk_wu (c : Dev nD) (t : Fin cfg0.N) (k : Fin 2048) (l : Fin 512) :
    iblk m c 1 t (ix3 0 k l) = argW m c (ix3 0 k ⟨4096 + l.val, by omega⟩) := by
  blk_simp [iblk]
  rw [entry_w]
  blk_ext [idx t]

/-- The second half's weights at point `t`. -/
theorem blk_wv (c : Dev nD) (t : Fin cfg0.N) (k : Fin 2048) (l : Fin 512) :
    iblk m c 2 t (ix3 0 k l) = argW m c (ix3 0 k ⟨4608 + l.val, by omega⟩) := by
  blk_simp [iblk]
  rw [entry_w]
  blk_ext [idx t]

/-- The norm's scale at point `t`. -/
theorem blk_g (c : Dev nD) (t : Fin cfg0.N) (k : Fin 512) : iblk m c 3 t (ix2 0 k) = argG m c (ix2 0 k) := by
  blk_simp [iblk]
  refine Eq.trans (congrArg (V m c main_v5 : S1x512.Idx → EReal) ?_) (entry_g m c k)
  blk_ext [idx t]

/-- The norm's shift at point `t`. -/
theorem blk_b (c : Dev nD) (t : Fin cfg0.N) (k : Fin 512) : iblk m c 4 t (ix2 0 k) = argB m c (ix2 0 k) := by
  blk_simp [iblk]
  refine Eq.trans (congrArg (V m c main_v8 : S1x512.Idx → EReal) ?_) (entry_b m c k)
  blk_ext [idx t]

/-- The mixing weights at point `t`. -/
theorem blk_sw (c : Dev nD) (t : Fin cfg0.N) (g : Fin 4) (p q : Fin 128) : iblk m c 5 t (ix3 g p q) = argSW m c (ix4 0 g p q) := by
  blk_simp [iblk]
  refine Eq.trans (congrArg (V m c main_v10 : S4x128x128.Idx → EReal) ?_) (entry_sw m c g p q)
  blk_ext [idx t]

/-- The mixing biases at point `t`. -/
theorem blk_sb (c : Dev nD) (t : Fin cfg0.N) (p : Fin 128) (g : Fin 4) : iblk m c 6 t (ix2 p g) = argSB m c (ix3 0 g p) := by
  blk_simp [iblk]
  refine Eq.trans (congrArg (V m c main_v13 : S128x4.Idx → EReal) ?_) (entry_sb m c p g)
  blk_ext [idx t]

/-- The first half is made from the blocks read whole. -/
theorem pay33_eq (x0 x1 x2 x3 x4 x5 x6) : k0_pay33 (F := Ideal) x0 x1 x2 x3 x4 x5 x6 = k0_pay5 x0 x1 := by
  unfold k0_pay33
  rw [View.ld_unit_zero (by decide), View.ld_unit_zero (by decide)]

/-- The second half is made from the blocks read whole. -/
theorem pay38_eq (x0 x1 x2 x3 x4 x5 x6) :
    k0_pay38 (F := Ideal) x0 x1 x2 x3 x4 x5 x6 = k0_pay8 (k0_pay6 x0 x2) (k0_pay7 x3) x4 := by
  unfold k0_pay38 k0_pay34 k0_pay35
  rw [View.ld_unit_zero (by decide), View.ld_unit_zero (by decide), View.ld_unit_zero (by decide), View.ld_unit_zero (by decide)]

/-- The first half on row `r` of point `t`'s block is the reference's at row `512 t + r`. -/
theorem half_u (c : Dev nD) (t : Fin cfg0.N) (r l : Fin 512) (b : Fin 2) (s : Fin 16384)
    (hb : b.val = (t.val * 512 + r.val) / 16384) (hs : s.val = (t.val * 512 + r.val) % 16384) :
    k0_pay5 (F := Ideal) (iblk m c 0 t) (iblk m c 1 t) (ix2 r l) = rU (rP (argX m c) (argW m c)) (ix3 b s l) := by
  obtain ⟨b, h⟩ := b
  obtain ⟨s, h'⟩ := s
  dsimp only at hb hs
  subst hb hs
  exact pay5_apply _ _ _ _ r l _ _ (fun k => blk_x m c t r k) (fun k => blk_wu m c t k l)

/-- The second half on row `r` of point `t`'s block is the reference's at row `512 t + r`. -/
theorem half_v (c : Dev nD) (t : Fin cfg0.N) (r l : Fin 512) (b : Fin 2) (s : Fin 16384)
    (hb : b.val = (t.val * 512 + r.val) / 16384) (hs : s.val = (t.val * 512 + r.val) % 16384) :
    k0_pay8 (F := Ideal) (k0_pay6 (iblk m c 0 t) (iblk m c 2 t)) (k0_pay7 (iblk m c 3 t)) (iblk m c 4 t) (ix2 r l)
    = rV (rG (rP (argX m c) (argW m c))) (argG m c) (argB m c) (ix3 b s l) := by
  obtain ⟨b, h⟩ := b
  obtain ⟨s, h'⟩ := s
  dsimp only at hb hs
  subst hb hs
  refine pay8_apply _ _ _ _ _ _ r l _ _ (fun k => ?_) (fun k => ?_) (fun k => ?_)
  · exact pay6_apply _ _ _ _ r k _ _ (fun k => blk_x m c t r k) (fun k' => blk_wv m c t k' k)
  · exact blk_g m c t k
  · exact blk_b m c t k

/-- What the body stores at row `r`, column `l` of point `t`'s block is the reference's result at row `512 t + r`. -/
theorem point (c : Dev nD) (t : Fin cfg0.N) (r l : Fin 512) :
    out0_7 (F := Ideal) (iblk m c 0 t) (iblk m c 1 t) (iblk m c 2 t) (iblk m c 3 t) (iblk m c 4 t) (iblk m c 5 t) (iblk m c 6 t) (ix2 r l)
    = REF (argX m c) (argW m c) (argG m c) (argB m c) (argSW m c) (argSB m c)
        (ix2 ⟨t.val * 512 + r.val, by have := lt_of_lt_of_eq t.isLt N_0; omega⟩ l) := by
  have ht := lt_of_lt_of_eq t.isLt N_0
  have hr := r.isLt
  have hl := l.isLt
  have e : (t.val * 512 + r.val) % 128 = r.val % 128 := by omega
  rw [out_apply, pay33_eq, pay38_eq]
  unfold REF
  rw [rO_apply]
  have hA := half_u m c t r l ⟨(t.val * 512 + r.val) / 16384, by omega⟩ ⟨(t.val * 512 + r.val) % 16384, by omega⟩ rfl rfl
  have hW : ∀ k : Fin 128, (if k.val ≤ r.val % 128 then (iblk m c 5 t : FVec Ideal S4x128x128 .f32) (ix3 ⟨l.val / 128, by omega⟩ ⟨r.val % 128, by omega⟩ k) else (0 : EReal))
      = rW (argSW m c) (ix3 ⟨l.val / 128, by omega⟩ ⟨(t.val * 512 + r.val) % 128, by omega⟩ k) := by
    intro k
    rw [rW_apply, blk_sw]
    simp only [e, Fin.le_def]
  have hV : ∀ k : Fin 128, _ := fun k => half_v m c t ⟨r.val / 128 * 128 + k.val, by omega⟩ l
    ⟨(t.val * 512 + r.val) / 16384, by omega⟩ ⟨(t.val * 512 + r.val) % 16384 / 128 * 128 + k.val, by omega⟩
    (by dsimp only; omega) (by dsimp only; omega)
  have hS : (iblk m c 6 t : FVec Ideal S128x4 .f32) (ix2 ⟨r.val % 128, by omega⟩ ⟨l.val / 128, by omega⟩)
      = argSB m c (ix3 0 ⟨l.val / 128, by omega⟩ ⟨(t.val * 512 + r.val) % 128, by omega⟩) := by
    rw [blk_sb]
    simp only [e]
  rw [hA, hS]
  exact congrArg₂ (fun a b : EReal => a * b) rfl (congrArg₂ (fun a b : EReal => a + b)
    (Finset.sum_congr rfl fun k _ => congrArg₂ (fun a b : EReal => a * b) (hW k) (hV k)) rfl)

/-- The result array after the run. -/
theorem final (c : Dev nD) : (dats m 0 c).arrAt 7 (cfgs 0).N
    = REF (argX m c) (argW m c) (argG m c) (argB m c) (argSW m c) (argSB m c) := by
  refine (dats m 0 c).arrAt_eq_of_covers 7 _ (by decide +kernel) fun t _ y => ?_
  blk_simp
  rw [after0_7]
  have e : ((win0_7.blk t).view.emb y : S32768x512.Idx)
      = ix2 ⟨t.val * 512 + (y 0).val, by have := lt_of_lt_of_eq t.isLt N_0; have : (y 0).val < 512 := (y 0).isLt; omega⟩ (y 1) := by
    blk_ext [idx t]
  rw [e]
  idx_vars y
  exact point m c t _ _

/-- The spatial gating kernel and the reference leave the same result. -/
theorem algebraic : Cert.algebraic_SguIdeal_SguRefIdeal := by
  intro m ρ m' ρ' _ hagree
  refine ⟨_, Cert.SguIdeal.Value.run_blocks (F := Ideal) m ρ, ?_⟩
  refine (θ_run Cert.SguRefIdeal.defs _ _).mono (fun _ h c => ⟨(h c).1.trans ?_, (h c).2⟩)
    (Cert.SguRefIdeal.Value.run (F := Ideal) m' ρ')
  obtain ⟨h0, h1, h2, h3, h4, h5⟩ := hagree c
  unfold Cert.SguRefIdeal.Value.res_main_v79
  rw [h0, h1, h2, h3, h4, h5]
  exact (final m c).symm

end Cert.SguIdeal.Result

end
-- ==== Proof.QkvIdealRuns.lean ====
module

public import proofs.«01_k».proof.Proof.Gen.QkvIdeal.Frame
public import proofs.«01_k».proof.Proof.Gen.QkvIdeal.Skeleton

/-!
# The bodies of the projection kernel's three grid columns

The grid is 32 row blocks by 3 columns.  In every column the body multiplies its block of rows by its block of
weights; the first column stores the queries, the second the keys and their block means, the third the transposed
values.  Each of the three runs below says what the body leaves in the buffers it stores into, as a list of the stored
pieces, the buffers of the other columns being handed back as they were found.
-/

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

local notation "𝕄" => MT nD τ sig Unit (Elt F) ℕ (UR sig nD τ) ℕ

/-- The first condition holds in the first column. -/
theorem cond1_iff (t : Fin cfg0.N) : k0_cond1 (grid0.coords t) = 1#1 ↔ t.val % 3 = 0 := by
  have ht : t.val < 96 := Nat.lt_of_lt_of_eq t.isLt N_0
  have e1 : (grid0.coords t 1).val = t.val / 1 % 3 := Pipeline.Grid.coords_val t 1 (by decide) rfl
  simp only [k0_cond1, e1]
  word_cmp

/-- The second condition holds in the second column. -/
theorem cond2_iff (t : Fin cfg0.N) : k0_cond2 (grid0.coords t) = 1#1 ↔ t.val % 3 = 1 := by
  have ht : t.val < 96 := Nat.lt_of_lt_of_eq t.isLt N_0
  have e1 : (grid0.coords t 1).val = t.val / 1 % 3 := Pipeline.Grid.coords_val t 1 (by decide) rfl
  simp only [k0_cond2, e1]
  word_cmp

/-- The third condition holds in the third column. -/
theorem cond3_iff (t : Fin cfg0.N) : k0_cond3 (grid0.coords t) = 1#1 ↔ t.val % 3 = 2 := by
  have ht : t.val < 96 := Nat.lt_of_lt_of_eq t.isLt N_0
  have e1 : (grid0.coords t 1).val = t.val / 1 % 3 := Pipeline.Grid.coords_val t 1 (by decide) rfl
  simp only [k0_cond3, e1]
  word_cmp

section Runs

variable (c : Dev nD) (i : grid0.Coords)
  (arg2 : Memref sig .tc .vmem S1024x2048 .bf16) (harg2 : arg2.IsWhole)
  (arg3 : Memref sig .tc .vmem S1x2048x1024 .bf16) (harg3 : arg3.IsWhole)
  (arg4 : Memref sig .tc .vmem S1024x128 .f32) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1024x1024 .bf16) (harg7 : arg7.IsWhole)
  (arg8 : Memref sig .tc .vmem S1024x2048 .bf16) (harg8 : arg8.IsWhole)
  (arg9 : Memref sig .tc .vmem S8x1x144x1024 .bf16) (harg9 : arg9.IsWhole)
  (arg10 : Memref sig .tc .vmem S1x4x1024 .f32) (harg10 : arg10.IsWhole)

set_option maxHeartbeats 4000000 in
/-- The first column: the eight blocks of queries are stored. -/
noncomputable def runA (h1 : k0_cond1 i = 1#1) (h2 : ¬k0_cond2 i = 1#1) (h3 : ¬k0_cond3 i = 1#1)
  (x0 : Vec F S1024x2048 .bf16) (x1 : Vec F S1x2048x1024 .bf16) (x2 x3 x4 : Vec F S1024x128 .f32) :
    { L5 : List (View.Piece (Elt F) S1024x1024 .bf16) //
      ∀ (xi6 : Vec F S1024x2048 .bf16) (xi7 : Vec F S8x1x144x1024 .bf16) (xi8 : Vec F S1x4x1024 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ d, owns (c : Thread nD τ) arg7 fullShare d)
            ∗ owns (c : Thread nD τ) arg8 fullShare xi6
            ∗ owns (c : Thread nD τ) arg9 fullShare xi7
            ∗ owns (c : Thread nD τ) arg10 fullShare xi8
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ (∃ f, arg7.view.loc (c : Thread nD τ) ↦[arg7.view.set]{fullShare} arg7.view.writes (Elt F) f L5)
              ∗ owns (c : Thread nD τ) arg8 fullShare xi6
              ∗ owns (c : Thread nD τ) arg9 fullShare xi7
              ∗ owns (c : Thread nD τ) arg10 fullShare xi8) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10) K } := by
  refine ⟨?_, fun xi6 xi7 xi8 E K => ?run⟩
  case run =>
    simp only [cc0_qkv_proj_eq_skeleton]; unfold cc0_qkv_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _
      iexact H5
    isplitl [H6]
    · iexists _; isplitr; · ipureintro; exact harg8.read_unread _
      iexact H6
    isplitl [H7]
    · iexists _; isplitr; · ipureintro; exact harg9.read_unread _
      iexact H7
    iexists _; isplitr; · ipureintro; exact harg10.read_unread _
    iexact H8

set_option maxHeartbeats 4000000 in
/-- The second column: the eight blocks of keys, each beside its block indicator, and the means are stored. -/
noncomputable def runB (h1 : ¬k0_cond1 i = 1#1) (h2 : k0_cond2 i = 1#1) (h3 : ¬k0_cond3 i = 1#1)
  (x0 : Vec F S1024x2048 .bf16) (x1 : Vec F S1x2048x1024 .bf16) (x2 x3 x4 : Vec F S1024x128 .f32) :
    Σ' (L6 : List (View.Piece (Elt F) S1024x2048 .bf16)), { L8 : List (View.Piece (Elt F) S1x4x1024 .f32) //
      ∀ (xi5 : Vec F S1024x1024 .bf16) (xi7 : Vec F S8x1x144x1024 .bf16) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ (∃ d, owns (c : Thread nD τ) arg8 fullShare d)
            ∗ owns (c : Thread nD τ) arg9 fullShare xi7
            ∗ (∃ d, owns (c : Thread nD τ) arg10 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ (∃ f, arg8.view.loc (c : Thread nD τ) ↦[arg8.view.set]{fullShare} arg8.view.writes (Elt F) f L6)
              ∗ owns (c : Thread nD τ) arg9 fullShare xi7
              ∗ (∃ f, arg10.view.loc (c : Thread nD τ) ↦[arg10.view.set]{fullShare} arg10.view.writes (Elt F) f L8)) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10) K } := by
  refine ⟨?_, ?_, fun xi5 xi7 E K => ?run⟩
  case run =>
    simp only [cc0_qkv_proj_eq_skeleton]; unfold cc0_qkv_proj_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _
      iexact H6
    isplitl [H7]
    · iexists _; isplitr; · ipureintro; exact harg9.read_unread _
      iexact H7
    iexists _
    iexact H8

set_option maxHeartbeats 4000000 in
/-- The third column: the eight transposed blocks of values, each above its rows of ones, are stored. -/
noncomputable def runC (h1 : ¬k0_cond1 i = 1#1) (h2 : ¬k0_cond2 i = 1#1) (h3 : k0_cond3 i = 1#1)
  (x0 : Vec F S1024x2048 .bf16) (x1 : Vec F S1x2048x1024 .bf16) (x2 x3 x4 : Vec F S1024x128 .f32) :
    { L7 : List (View.Piece (Elt F) S8x1x144x1024 .bf16) //
      ∀ (xi5 : Vec F S1024x1024 .bf16) (xi6 : Vec F S1024x2048 .bf16) (xi8 : Vec F S1x4x1024 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare xi5
            ∗ owns (c : Thread nD τ) arg8 fullShare xi6
            ∗ (∃ d, owns (c : Thread nD τ) arg9 fullShare d)
            ∗ owns (c : Thread nD τ) arg10 fullShare xi8
            ∗ (iprop(owns (c : Thread nD τ) arg2 fullShare x0
              ∗ owns (c : Thread nD τ) arg3 fullShare x1
              ∗ owns (c : Thread nD τ) arg4 fullShare x2
              ∗ owns (c : Thread nD τ) arg5 fullShare x3
              ∗ owns (c : Thread nD τ) arg6 fullShare x4
              ∗ owns (c : Thread nD τ) arg7 fullShare xi5
              ∗ owns (c : Thread nD τ) arg8 fullShare xi6
              ∗ (∃ f, arg9.view.loc (c : Thread nD τ) ↦[arg9.view.set]{fullShare} arg9.view.writes (Elt F) f L7)
              ∗ owns (c : Thread nD τ) arg10 fullShare xi8) -∗ K ⟨⟩))
          ⊢ wp frame (wpE (defs₀ (F := F)) Variants.none c none) E (cc0_qkv_proj i arg2 harg2 arg3 harg3 arg4 harg4 arg5 harg5 arg6 harg6 arg7 harg7 arg8 harg8 arg9 harg9 arg10 harg10) K } := by
  refine ⟨?_, fun xi5 xi6 xi8 E K => ?run⟩
  case run =>
    simp only [cc0_qkv_proj_eq_skeleton]; unfold cc0_qkv_proj_skel
    simp only [k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _
      iexact H7
    iexists _; isplitr; · ipureintro; exact harg10.read_unread _
    iexact H8

end Runs

end Cert.QkvIdeal.Run

end
-- ==== Proof.QkvIdealFrame.lean ====
module

public import proofs.«01_k».proof.Proof.QkvIdealRuns
public import Idealize.ShloMosaic.Lib.Claim

/-!
# What the projection kernel's four results hold after each point, and its frame

A row block's three points fill its four result blocks one after another, and the last of them writes all four back.
The queries' block holds, from the first point on, what that point stored; the keys' and the means' from the second;
the values' from the third.
-/

@[expose] public section

set_option maxRecDepth 16384

noncomputable section

namespace Cert.QkvIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal.Gen

variable {F : FTy → Type} [FloatOps F]

local notation "𝕄" => MT nD τ sig Unit (Elt F) ℕ (UR sig nD τ) ℕ

/-- Window 0's staging memref at a point. -/
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
/-- Window 1's staging memref at a point. -/
abbrev ms1 (t : Fin cfg0.N) : Memref sig .tc .vmem S1x2048x1024 .bf16 := win0_1.stage (cfg0.slots t 1)
abbrev hs1 (t : Fin cfg0.N) : (ms1 t).IsWhole := hstage0_1 ((cfg0.slots t 1).cast nbuf0_1)
/-- Window 2's staging memref at a point. -/
abbrev ms2 (t : Fin cfg0.N) : Memref sig .tc .vmem S1024x128 .f32 := win0_2.stage (cfg0.slots t 2)
abbrev hs2 (t : Fin cfg0.N) : (ms2 t).IsWhole := hstage0_2 ((cfg0.slots t 2).cast nbuf0_2)
/-- Window 3's staging memref at a point. -/
abbrev ms3 (t : Fin cfg0.N) : Memref sig .tc .vmem S1024x128 .f32 := win0_3.stage (cfg0.slots t 3)
abbrev hs3 (t : Fin cfg0.N) : (ms3 t).IsWhole := hstage0_3 ((cfg0.slots t 3).cast nbuf0_3)
/-- Window 4's staging memref at a point. -/
abbrev ms4 (t : Fin cfg0.N) : Memref sig .tc .vmem S1024x128 .f32 := win0_4.stage (cfg0.slots t 4)
abbrev hs4 (t : Fin cfg0.N) : (ms4 t).IsWhole := hstage0_4 ((cfg0.slots t 4).cast nbuf0_4)
/-- Window 5's staging memref at a point. -/
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
/-- Window 6's staging memref at a point. -/
abbrev ms6 (t : Fin cfg0.N) : Memref sig .tc .vmem S1024x2048 .bf16 := win0_6.stage (cfg0.slots t 6)
abbrev hs6 (t : Fin cfg0.N) : (ms6 t).IsWhole := hstage0_6 ((cfg0.slots t 6).cast nbuf0_6)
/-- Window 7's staging memref at a point. -/
abbrev ms7 (t : Fin cfg0.N) : Memref sig .tc .vmem S8x1x144x1024 .bf16 := win0_7.stage (cfg0.slots t 7)
abbrev hs7 (t : Fin cfg0.N) : (ms7 t).IsWhole := hstage0_7 ((cfg0.slots t 7).cast nbuf0_7)
/-- Window 8's staging memref at a point. -/
abbrev ms8 (t : Fin cfg0.N) : Memref sig .tc .vmem S1x4x1024 .f32 := win0_8.stage (cfg0.slots t 8)
abbrev hs8 (t : Fin cfg0.N) : (ms8 t).IsWhole := hstage0_8 ((cfg0.slots t 8).cast nbuf0_8)

variable (m : (ℓ : Loc nD τ sig) → Buf (Elt F) ℓ) (ρ : Dev nD → PrngReg)

/-- The run of column 0 at its point `t`. -/
abbrev atA (c : Dev nD) (t : Fin cfg0.N) (h : t.val % 3 = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    ((cond1_iff t).mpr h) (fun h' => by have := (cond2_iff t).mp h'; omega) (fun h' => by have := (cond3_iff t).mp h'; omega)
    (iblk m c 0 t) (iblk m c 1 t) (iblk m c 2 t) (iblk m c 3 t) (iblk m c 4 t)

/-- The run of column 1 at its point `t`. -/
abbrev atB (c : Dev nD) (t : Fin cfg0.N) (h : t.val % 3 = 1) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (fun h' => by have := (cond1_iff t).mp h'; omega) ((cond2_iff t).mpr h) (fun h' => by have := (cond3_iff t).mp h'; omega)
    (iblk m c 0 t) (iblk m c 1 t) (iblk m c 2 t) (iblk m c 3 t) (iblk m c 4 t)

/-- The run of column 2 at its point `t`. -/
abbrev atC (c : Dev nD) (t : Fin cfg0.N) (h : t.val % 3 = 2) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
    (fun h' => by have := (cond1_iff t).mp h'; omega) (fun h' => by have := (cond2_iff t).mp h'; omega) ((cond3_iff t).mpr h)
    (iblk m c 0 t) (iblk m c 1 t) (iblk m c 2 t) (iblk m c 3 t) (iblk m c 4 t)

/-- The pieces of the queries cover their block. -/
theorem cover5 (c : Dev nD) (t : Fin cfg0.N) (h : t.val % 3 = 0) (y) :
    ∃ pc ∈ (atA m c t h).1, y ∈ pc.1.set :=
  View.cover_of_tiledL (atA m c t h).1 S1024x128.size (by sl_kernel_rfl) y

/-- A buffer through which the contents of the queries are stated. -/
abbrev VO5 : View sig .tc .vmem S1024x1024 .bf16 := (Memref.whole cc0_stg5_0 : Memref sig .tc .vmem S1024x1024 .bf16).view

/-- What the point of column 0 leaves of the queries. -/
def out5 (c : Dev nD) (t : Fin cfg0.N) (h : t.val % 3 = 0) : Vec F S1024x1024 .bf16 :=
  VO5.read (Elt F) (VO5.writes (Elt F) VO5.junk (atA m c t h).1)

/-- The pieces of the keys cover their block. -/
theorem cover6 (c : Dev nD) (t : Fin cfg0.N) (h : t.val % 3 = 1) (y) :
    ∃ pc ∈ (atB m c t h).1, y ∈ pc.1.set :=
  View.cover_of_tiledL (atB m c t h).1 S1024x128.size (by sl_kernel_rfl) y

/-- A buffer through which the contents of the keys are stated. -/
abbrev VO6 : View sig .tc .vmem S1024x2048 .bf16 := (Memref.whole cc0_stg6_0 : Memref sig .tc .vmem S1024x2048 .bf16).view

/-- What the point of column 1 leaves of the keys. -/
def out6 (c : Dev nD) (t : Fin cfg0.N) (h : t.val % 3 = 1) : Vec F S1024x2048 .bf16 :=
  VO6.read (Elt F) (VO6.writes (Elt F) VO6.junk (atB m c t h).1)

/-- The pieces of the means cover their block. -/
theorem cover8 (c : Dev nD) (t : Fin cfg0.N) (h : t.val % 3 = 1) (y) :
    ∃ pc ∈ (atB m c t h).2.1, y ∈ pc.1.set :=
  View.cover_of_tiledL (atB m c t h).2.1 S1x1x128.size (by sl_kernel_rfl) y

/-- A buffer through which the contents of the means are stated. -/
abbrev VO8 : View sig .tc .vmem S1x4x1024 .f32 := (Memref.whole cc0_stg8_0 : Memref sig .tc .vmem S1x4x1024 .f32).view

/-- What the point of column 1 leaves of the means. -/
def out8 (c : Dev nD) (t : Fin cfg0.N) (h : t.val % 3 = 1) : Vec F S1x4x1024 .f32 :=
  VO8.read (Elt F) (VO8.writes (Elt F) VO8.junk (atB m c t h).2.1)

/-- The pieces of the values cover their block. -/
theorem cover7 (c : Dev nD) (t : Fin cfg0.N) (h : t.val % 3 = 2) (y) :
    ∃ pc ∈ (atC m c t h).1, y ∈ pc.1.set :=
  View.cover_of_tiledBy (atC m c t h).1 ![1, 1, 16, 1024] (by sl_kernel_rfl) y

/-- A buffer through which the contents of the values are stated. -/
abbrev VO7 : View sig .tc .vmem S8x1x144x1024 .bf16 := (Memref.whole cc0_stg7_0 : Memref sig .tc .vmem S8x1x144x1024 .bf16).view

/-- What the point of column 2 leaves of the values. -/
def out7 (c : Dev nD) (t : Fin cfg0.N) (h : t.val % 3 = 2) : Vec F S8x1x144x1024 .bf16 :=
  VO7.read (Elt F) (VO7.writes (Elt F) VO7.junk (atC m c t h).1)

/-- The point of column `k` in the row block of `t`. -/
def pt (t : Fin cfg0.N) (k : ℕ) (hk : k < 3) : Fin cfg0.N :=
  ⟨3 * (t.val / 3) + k, by have := t.isLt; have e : cfg0.N = 96 := N_0; omega⟩

theorem pt_mod (t : Fin cfg0.N) (k : ℕ) (hk : k < 3) : (pt t k hk).val % 3 = k := by
  show (3 * (t.val / 3) + k) % 3 = k; omega

/-- The proof data: an input's block is left in place, a result's block holds what its own point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c (pt t 0 (by omega)) (pt_mod t 0 _)
    | ⟨6, _⟩ => out6 m c (pt t 1 (by omega)) (pt_mod t 1 _)
    | ⟨7, _⟩ => out7 m c (pt t 2 (by omega)) (pt_mod t 2 _)
    | ⟨8, _⟩ => out8 m c (pt t 1 (by omega)) (pt_mod t 1 _)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = out5 m c (pt t 0 (by omega)) (pt_mod t 0 _) := by dsimp only [dats]
theorem after6 (c : Dev nD) (t : Fin cfg0.N) : (dats m 0 c).after 6 t = out6 m c (pt t 1 (by omega)) (pt_mod t 1 _) := by dsimp only [dats]
theorem after7 (c : Dev nD) (t : Fin cfg0.N) : (dats m 0 c).after 7 t = out7 m c (pt t 2 (by omega)) (pt_mod t 2 _) := by dsimp only [dats]
theorem after8 (c : Dev nD) (t : Fin cfg0.N) : (dats m 0 c).after 8 t = out8 m c (pt t 1 (by omega)) (pt_mod t 1 _) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem out5_congr (c : Dev nD) {s t : Fin cfg0.N} (e : s = t) (h : s.val % 3 = 0) (h' : t.val % 3 = 0) :
    out5 m c s h = out5 m c t h' := by subst e; rfl
/-- At its own point the block holds what that point stores. -/
theorem after5_own (c : Dev nD) (t : Fin cfg0.N) (h : t.val % 3 = 0) : (dats m 0 c).after 5 t = out5 m c t h := by
  rw [after5]; exact out5_congr m c (Fin.ext (by show 3 * (t.val / 3) + 0 = t.val; omega)) _ _

theorem out6_congr (c : Dev nD) {s t : Fin cfg0.N} (e : s = t) (h : s.val % 3 = 1) (h' : t.val % 3 = 1) :
    out6 m c s h = out6 m c t h' := by subst e; rfl
/-- At its own point the block holds what that point stores. -/
theorem after6_own (c : Dev nD) (t : Fin cfg0.N) (h : t.val % 3 = 1) : (dats m 0 c).after 6 t = out6 m c t h := by
  rw [after6]; exact out6_congr m c (Fin.ext (by show 3 * (t.val / 3) + 1 = t.val; omega)) _ _

theorem out7_congr (c : Dev nD) {s t : Fin cfg0.N} (e : s = t) (h : s.val % 3 = 2) (h' : t.val % 3 = 2) :
    out7 m c s h = out7 m c t h' := by subst e; rfl
/-- At its own point the block holds what that point stores. -/
theorem after7_own (c : Dev nD) (t : Fin cfg0.N) (h : t.val % 3 = 2) : (dats m 0 c).after 7 t = out7 m c t h := by
  rw [after7]; exact out7_congr m c (Fin.ext (by show 3 * (t.val / 3) + 2 = t.val; omega)) _ _

theorem out8_congr (c : Dev nD) {s t : Fin cfg0.N} (e : s = t) (h : s.val % 3 = 1) (h' : t.val % 3 = 1) :
    out8 m c s h = out8 m c t h' := by subst e; rfl
/-- At its own point the block holds what that point stores. -/
theorem after8_own (c : Dev nD) (t : Fin cfg0.N) (h : t.val % 3 = 1) : (dats m 0 c).after 8 t = out8 m c t h := by
  rw [after8]; exact out8_congr m c (Fin.ext (by show 3 * (t.val / 3) + 1 = t.val; omega)) _ _

/-- The same row block's earlier point leaves the same block. -/
theorem pt_pred (t : Fin cfg0.N) (h : t.val % 3 ≠ 0) (k : ℕ) (hk : k < 3) :
    pt ⟨t.val - 1, Nat.lt_of_le_of_lt (Nat.sub_le _ _) t.isLt⟩ k hk = pt t k hk :=
  Fin.ext (by show 3 * ((t.val - 1) / 3) + k = 3 * (t.val / 3) + k; omega)

/-- An uncut result block left at a point is kept whole. -/
theorem kept_eq (c : Dev nD) (w : Fin cfg0.W) (hclip : ∀ (i : cfg0.grid.Coords) a, (cfg0.win w).clip i a = none)
    (t : Fin cfg0.N) (d) : (dats m 0 c).kept w t d = (dats m 0 c).after w t := by
  unfold Dat.kept
  rw [Pipeline.fill_of_clip_none w _ (hclip _) d ((dats m 0 c).after w _), Window.fill_cut]

/-- A result the point before stored, and did not write back, is found as that point left it. -/
theorem before_live (c : Dev nD) (w : Fin cfg0.W) (hw : (cfg0.win w).isOut = true)
    (hclip : ∀ (i : cfg0.grid.Coords) a, (cfg0.win w).clip i a = none) (s t : Fin cfg0.N)
    (hs : s.val + 1 = t.val) (hfl : (cfg0.win w).flush s = false) (hi : cfg0.idle w (cfg0.grid.coords s) = false) (d) :
    (dats m 0 c).before w t d = (dats m 0 c).after w s := by
  obtain rfl : s = ⟨t.val - 1, Nat.lt_of_le_of_lt (Nat.sub_le _ _) t.isLt⟩ := Fin.ext (by show s.val = t.val - 1; omega)
  rw [(dats m 0 c).before_of_pos w t (by omega) ((cfg0.win w).fetch_out hw t), hfl, if_neg Bool.false_ne_true]
  unfold Dat.left; rw [hi]; exact kept_eq m c w hclip _ d

/-- A result the point before neither stored nor wrote back is found as that point found it. -/
theorem before_idle (c : Dev nD) (w : Fin cfg0.W) (hw : (cfg0.win w).isOut = true) (s t : Fin cfg0.N)
    (hs : s.val + 1 = t.val) (hfl : (cfg0.win w).flush s = false) (hi : cfg0.idle w (cfg0.grid.coords s) = true) (d) :
    (dats m 0 c).before w t d = (dats m 0 c).before w s d := by
  obtain rfl : s = ⟨t.val - 1, Nat.lt_of_le_of_lt (Nat.sub_le _ _) t.isLt⟩ := Fin.ext (by show s.val = t.val - 1; omega)
  rw [(dats m 0 c).before_of_pos w t (by omega) ((cfg0.win w).fetch_out hw t), hfl, if_neg Bool.false_ne_true]
  unfold Dat.left; rw [hi]

theorem live5 : ∀ t : Fin cfg0.N, t.val % 3 = 0 → cfg0.idle 5 (grid0.coords t) = false := by decide +kernel
theorem idle5 : ∀ t : Fin cfg0.N, t.val % 3 ≠ 0 → cfg0.idle 5 (grid0.coords t) = true := by decide +kernel
theorem noFlush5 (t : Fin cfg0.N) (h : t.val % 3 ≠ 2) : (cfg0.win 5).flush t = false :=
  Bool.eq_false_iff.mpr fun e => h ((flush0_5 t).mp e)
theorem live6 : ∀ t : Fin cfg0.N, t.val % 3 = 1 → cfg0.idle 6 (grid0.coords t) = false := by decide +kernel
theorem idle6 : ∀ t : Fin cfg0.N, t.val % 3 ≠ 1 → cfg0.idle 6 (grid0.coords t) = true := by decide +kernel
theorem noFlush6 (t : Fin cfg0.N) (h : t.val % 3 ≠ 2) : (cfg0.win 6).flush t = false :=
  Bool.eq_false_iff.mpr fun e => h ((flush0_6 t).mp e)
theorem live7 : ∀ t : Fin cfg0.N, t.val % 3 = 2 → cfg0.idle 7 (grid0.coords t) = false := by decide +kernel
theorem idle7 : ∀ t : Fin cfg0.N, t.val % 3 ≠ 2 → cfg0.idle 7 (grid0.coords t) = true := by decide +kernel
theorem noFlush7 (t : Fin cfg0.N) (h : t.val % 3 ≠ 2) : (cfg0.win 7).flush t = false :=
  Bool.eq_false_iff.mpr fun e => h ((flush0_7 t).mp e)
theorem live8 : ∀ t : Fin cfg0.N, t.val % 3 = 1 → cfg0.idle 8 (grid0.coords t) = false := by decide +kernel
theorem idle8 : ∀ t : Fin cfg0.N, t.val % 3 ≠ 1 → cfg0.idle 8 (grid0.coords t) = true := by decide +kernel
theorem noFlush8 (t : Fin cfg0.N) (h : t.val % 3 ≠ 2) : (cfg0.win 8).flush t = false :=
  Bool.eq_false_iff.mpr fun e => h ((flush0_8 t).mp e)

/-- The queries' block at the last point of its row block is what the first point stored. -/
theorem before5 (c : Dev nD) (t : Fin cfg0.N) (h : t.val % 3 = 2) (d) : (dats m 0 c).before 5 t d = (dats m 0 c).after 5 t := by
  have hN : t.val < 96 := lt_of_lt_of_eq t.isLt N_0
  have e : cfg0.N = 96 := N_0
  rw [before_idle m c 5 rfl ⟨t.val - 1, by omega⟩ t (by show t.val - 1 + 1 = _; omega) (noFlush5 _ (by show (t.val - 1) % 3 ≠ 2; omega))
      (idle5 _ (by show (t.val - 1) % 3 ≠ 0; omega)),
    before_live m c 5 rfl (fun _ _ => rfl) ⟨t.val - 2, by omega⟩ _ (by show t.val - 2 + 1 = t.val - 1; omega) (noFlush5 _ (by show (t.val - 2) % 3 ≠ 2; omega))
      (live5 _ (by show (t.val - 2) % 3 = 0; omega)), after5, after5]
  exact out5_congr m c (Fin.ext (by show 3 * ((t.val - 2) / 3) + 0 = 3 * (t.val / 3) + 0; omega)) _ _

/-- This block at the last point of its row block is what the second point stored. -/
theorem before6 (c : Dev nD) (t : Fin cfg0.N) (h : t.val % 3 = 2) (d) : (dats m 0 c).before 6 t d = (dats m 0 c).after 6 t := by
  have hN : t.val < 96 := lt_of_lt_of_eq t.isLt N_0
  have e : cfg0.N = 96 := N_0
  rw [before_live m c 6 rfl (fun _ _ => rfl) ⟨t.val - 1, by omega⟩ _ (by show t.val - 1 + 1 = t.val; omega) (noFlush6 _ (by show (t.val - 1) % 3 ≠ 2; omega))
      (live6 _ (by show (t.val - 1) % 3 = 1; omega)), after6, after6]
  exact out6_congr m c (Fin.ext (by show 3 * ((t.val - 1) / 3) + 1 = 3 * (t.val / 3) + 1; omega)) _ _

/-- This block at the last point of its row block is what the second point stored. -/
theorem before8 (c : Dev nD) (t : Fin cfg0.N) (h : t.val % 3 = 2) (d) : (dats m 0 c).before 8 t d = (dats m 0 c).after 8 t := by
  have hN : t.val < 96 := lt_of_lt_of_eq t.isLt N_0
  have e : cfg0.N = 96 := N_0
  rw [before_live m c 8 rfl (fun _ _ => rfl) ⟨t.val - 1, by omega⟩ _ (by show t.val - 1 + 1 = t.val; omega) (noFlush8 _ (by show (t.val - 1) % 3 ≠ 2; omega))
      (live8 _ (by show (t.val - 1) % 3 = 1; omega)), after8, after8]
  exact out8_congr m c (Fin.ext (by show 3 * ((t.val - 1) / 3) + 1 = 3 * (t.val / 3) + 1; omega)) _ _

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- An input's buffer is left at its block. -/
theorem leaves_in (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- So is a result's where it is written back without being stored into. -/
theorem leaves_flush (c : Dev nD) (w : Fin cfg0.W) (t : Fin cfg0.N) (hi : cfg0.idle w (cfg0.grid.coords t) = true)
    (hf : (cfg0.win w).flush t = true) :
    (dats m 0 c).leavesExact w t = owns (c : Thread nD τ) ((cfg0.win w).stage (cfg0.slots t w)) fullShare ((dats m 0 c).after w t) := by
  unfold Dat.leavesExact; rw [hi, hf]

set_option maxHeartbeats 4000000 in
/-- The body's triple at a point of column 0. -/
theorem soundA (c : Dev nD) (t : Fin cfg0.N) (h : t.val % 3 = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.succ = (dats m 0 c).Φ t.castSucc from rfl]
  rw [leaves_in m c 0 t rfl, after0,
    leaves_in m c 1 t rfl, after1,
    leaves_in m c 2 t rfl, after2,
    leaves_in m c 3 t rfl, after3,
    leaves_in m c 4 t rfl, after4,
    leaves_in m c 5 t (live5 t h), after5_own m c t h,
    Dat.leavesExact_idle (dats m 0 c) 6 t (idle6 t (by omega)) (noFlush6 t (by omega)),
    Dat.leavesExact_idle (dats m 0 c) 7 t (idle7 t (by omega)) (noFlush7 t (by omega)),
    Dat.leavesExact_idle (dats m 0 c) 8 t (idle8 t (by omega)) (noFlush8 t (by omega))]
  unfold out5
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atA m c t h).2 _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iintro ⟨H0, H1, H2, H3, H4, ⟨%e5, H5⟩, H6, H7, H8⟩
  isplitl [HΦ]; · iexact HΦ
  isplitl [Ho]; · iexact Ho
  isplitl [H0]
  · iexact H0
  isplitl [H1]
  · iexact H1
  isplitl [H2]
  · iexact H2
  isplitl [H3]
  · iexact H3
  isplitl [H4]
  · iexact H4
  isplitl [H5]
  · unfold owns; iexists _; isplitr
    swap; · iexact H5
    ipureintro; exact View.read_writes_of_cover _ _ _ _ _ (cover5 m c t h)
  isplitl [H6]
  · iexists _; iexact H6
  isplitl [H7]
  · iexists _; iexact H7
  · iexists _; iexact H8

set_option maxHeartbeats 4000000 in
/-- The body's triple at a point of column 1. -/
theorem soundB (c : Dev nD) (t : Fin cfg0.N) (h : t.val % 3 = 1) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.succ = (dats m 0 c).Φ t.castSucc from rfl]
  rw [leaves_in m c 0 t rfl, after0,
    leaves_in m c 1 t rfl, after1,
    leaves_in m c 2 t rfl, after2,
    leaves_in m c 3 t rfl, after3,
    leaves_in m c 4 t rfl, after4,
    Dat.leavesExact_idle (dats m 0 c) 5 t (idle5 t (by omega)) (noFlush5 t (by omega)),
    leaves_in m c 6 t (live6 t h), after6_own m c t h,
    Dat.leavesExact_idle (dats m 0 c) 7 t (idle7 t (by omega)) (noFlush7 t (by omega)),
    leaves_in m c 8 t (live8 t h), after8_own m c t h]
  unfold out6 out8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atB m c t h).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  iintro ⟨H0, H1, H2, H3, H4, H5, ⟨%e6, H6⟩, H7, ⟨%e8, H8⟩⟩
  isplitl [HΦ]; · iexact HΦ
  isplitl [Ho]; · iexact Ho
  isplitl [H0]
  · iexact H0
  isplitl [H1]
  · iexact H1
  isplitl [H2]
  · iexact H2
  isplitl [H3]
  · iexact H3
  isplitl [H4]
  · iexact H4
  isplitl [H5]
  · iexists _; iexact H5
  isplitl [H6]
  · unfold owns; iexists _; isplitr
    swap; · iexact H6
    ipureintro; exact View.read_writes_of_cover _ _ _ _ _ (cover6 m c t h)
  isplitl [H7]
  · iexists _; iexact H7
  · unfold owns; iexists _; isplitr
    swap; · iexact H8
    ipureintro; exact View.read_writes_of_cover _ _ _ _ _ (cover8 m c t h)

set_option maxHeartbeats 4000000 in
/-- The body's triple at a point of column 2. -/
theorem soundC (c : Dev nD) (t : Fin cfg0.N) (h : t.val % 3 = 2) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl,
    show (dats m 0 c).Φ t.succ = (dats m 0 c).Φ t.castSucc from rfl]
  rw [leaves_in m c 0 t rfl, after0,
    leaves_in m c 1 t rfl, after1,
    leaves_in m c 2 t rfl, after2,
    leaves_in m c 3 t rfl, after3,
    leaves_in m c 4 t rfl, after4,
    leaves_flush m c 5 t (idle5 t (by omega)) ((flush0_5 t).mpr h),
    leaves_flush m c 6 t (idle6 t (by omega)) ((flush0_6 t).mpr h),
    leaves_in m c 7 t (live7 t h), after7_own m c t h,
    leaves_flush m c 8 t (idle8 t (by omega)) ((flush0_8 t).mpr h)]
  simp only [before5 m c t h, before6 m c t h, before8 m c t h]
  unfold out7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((atC m c t h).2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  iintro ⟨H0, H1, H2, H3, H4, H5, H6, ⟨%e7, H7⟩, H8⟩
  isplitl [HΦ]; · iexact HΦ
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · unfold owns; iexists _; isplitr
    swap; · iexact H7
    ipureintro; exact View.read_writes_of_cover _ _ _ _ _ (cover7 m c t h)
  · iexact H8

/-- The body's triple at any point. -/
theorem sound_body (c : Dev nD) (t : Fin cfg0.N) :
    bodyPre m c t ⊢ wp frame (wpE (defs₀ (F := F)) Variants.none c none) Set.univ (bodyAt0 t) (fun _ => bodyPost m c t) := by
  rcases (by omega : t.val % 3 = 0 ∨ t.val % 3 = 1 ∨ t.val % 3 = 2) with h | h | h
  · exact soundA m c t h
  · exact soundB m c t h
  · exact soundC m c t h

theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program's run: each array as the proof data have it, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- THE FRAME of the projection call, at any float values: it ends, the arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.QkvIdeal.Run

end
-- ==== Proof.QkvStages.lean ====
/- The projection's reference, taken apart: the product, the angles, a head's columns, the rotation and the four results. -/
module

public import proofs.«01_k».proof.Proof.QkvIdealFrame
public import proofs.«01_k».proof.Proof.Gen.QkvRefIdeal.Run
public import Idealize.ShloMosaic.Lib.Pointwise
public import Idealize.ShloMosaic.Lib.Pipeline.ValueKit

@[expose] public section

set_option maxRecDepth 16384

noncomputable section

namespace Cert.QkvRefIdeal.Stage

open Idealize.ShloMosaic Idealize.ShloMosaic.TcCoe Idealize.SL.Sem
open Cert.QkvRefIdeal Cert.QkvRefIdeal.Gen

/-- The input projection. -/
def rP (A0 : FVec Ideal S2x16384x2048 .f32) (A1 : FVec Ideal S2x2048x11264 .f32) : FVec Ideal S2x16384x11264 .f32 :=
  Host.dotGeneral dot_S2x16384x2048_S2048x11264_S2x16384x11264_2_0_01_1_n_n none A0 (shapeCast _ (extractStridedSlice S1x2048x11264 ![0, 0, 0] A1 slices_S2x2048x11264_S1x2048x11264_0_0_0) shapeCasts_S1x2048x11264_S2048x11264)

/-- The cosines of the angles. -/
def rC : FVec Ideal S16384x16 .f32 :=
  Host.cos (mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))

/-- The sines of the angles. -/
def rS : FVec Ideal S16384x16 .f32 :=
  Host.sin (mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))

/-- The queries before the rotation, head by head. -/
def rQH (P : FVec Ideal S2x16384x11264 .f32) : FVec Ideal S2x8x16384x128 .f32 :=
  transpose S2x8x16384x128 [0, 2, 1, 3] (shapeCast _ (extractStridedSlice S2x16384x1024 ![0, 0, 0] P slices_S2x16384x11264_S2x16384x1024_0_0_0) shapeCasts_S2x16384x1024_S2x16384x8x128) transposes_S2x16384x8x128_S2x8x16384x128_0_2_1_3

/-- The keys before the rotation, head by head. -/
def rKH (P : FVec Ideal S2x16384x11264 .f32) : FVec Ideal S2x8x16384x128 .f32 :=
  transpose S2x8x16384x128 [0, 2, 1, 3] (shapeCast _ (extractStridedSlice S2x16384x1024 ![0, 0, 1024] P slices_S2x16384x11264_S2x16384x1024_0_0_1024) shapeCasts_S2x16384x1024_S2x16384x8x128) transposes_S2x16384x8x128_S2x8x16384x128_0_2_1_3

/-- The rotation of the first thirty-two columns of every head. -/
def rR (Y : FVec Ideal S2x8x16384x128 .f32) (C S : FVec Ideal S16384x16 .f32) : FVec Ideal S2x8x16384x128 .f32 :=
  (concatenate S2x8x16384x128 3 [⟨S2x8x16384x16, ((subf (mulf (extractStridedSlice S2x8x16384x16 ![0, 0, 0, 0] Y slices_S2x8x16384x128_S2x8x16384x16_0_0_0_0) (broadcastInDim S2x8x16384x16 ![0, 1, 2, 3] bcast_S1x1x16384x16_S2x8x16384x16_0_1_2_3 (broadcastInDim S1x1x16384x16 ![2, 3] bcast_S16384x16_S1x1x16384x16_2_3 C))) (mulf (extractStridedSlice S2x8x16384x16 ![0, 0, 0, 16] Y slices_S2x8x16384x128_S2x8x16384x16_0_0_0_16) (broadcastInDim S2x8x16384x16 ![0, 1, 2, 3] bcast_S1x1x16384x16_S2x8x16384x16_0_1_2_3 (broadcastInDim S1x1x16384x16 ![2, 3] bcast_S16384x16_S1x1x16384x16_2_3 S)))) : (⟨S2x8x16384x16, .f32⟩ : BufTy).Contents (Elt Ideal))⟩, ⟨S2x8x16384x16, ((addf (mulf (extractStridedSlice S2x8x16384x16 ![0, 0, 0, 16] Y slices_S2x8x16384x128_S2x8x16384x16_0_0_0_16) (broadcastInDim S2x8x16384x16 ![0, 1, 2, 3] bcast_S1x1x16384x16_S2x8x16384x16_0_1_2_3 (broadcastInDim S1x1x16384x16 ![2, 3] bcast_S16384x16_S1x1x16384x16_2_3 C))) (mulf (extractStridedSlice S2x8x16384x16 ![0, 0, 0, 0] Y slices_S2x8x16384x128_S2x8x16384x16_0_0_0_0) (broadcastInDim S2x8x16384x16 ![0, 1, 2, 3] bcast_S1x1x16384x16_S2x8x16384x16_0_1_2_3 (broadcastInDim S1x1x16384x16 ![2, 3] bcast_S16384x16_S1x1x16384x16_2_3 S)))) : (⟨S2x8x16384x16, .f32⟩ : BufTy).Contents (Elt Ideal))⟩, ⟨S2x8x16384x96, ((extractStridedSlice S2x8x16384x96 ![0, 0, 0, 32] Y slices_S2x8x16384x128_S2x8x16384x96_0_0_0_32) : (⟨S2x8x16384x96, .f32⟩ : BufTy).Contents (Elt Ideal))⟩] concatenates_S2x8x16384x16_S2x8x16384x16_S2x8x16384x96_S2x8x16384x128_d3 : (⟨S2x8x16384x128, .f32⟩ : BufTy).Contents (Elt Ideal))

/-- The queries as they are returned. -/
def rQ (R : FVec Ideal S2x8x16384x128 .f32) : FVec Ideal S32768x1024 .bf16 :=
  truncf .bf16 (shapeCast _ (transpose S2x16384x8x128 [0, 2, 1, 3] (mulf (R) (broadcastInDim S2x8x16384x128 ![] bcast_S_S2x8x16384x128 (constant S_ .f32 0x3E0293EE#32))) transposes_S2x8x16384x128_S2x16384x8x128_0_2_1_3) shapeCasts_S2x16384x8x128_S32768x1024) bitsLt_bf16_f32

/-- The keys as they are returned, each head beside the indicator of the token's block. -/
def rK (R : FVec Ideal S2x8x16384x128 .f32) : FVec Ideal S32768x2048 .bf16 :=
  truncf .bf16 (shapeCast _ (concatenate S2x16384x8x256 3 [⟨S2x16384x8x128, (transpose S2x16384x8x128 [0, 2, 1, 3] (R) transposes_S2x8x16384x128_S2x16384x8x128_0_2_1_3)⟩, ⟨S2x16384x8x128, (shapeCast _ (uitofp .f32 (cmpi .eq (iotaInDim S2x64x256x8x128 32 1) (broadcastInDim S2x64x256x8x128 ![0, 1, 2, 3, 4] bcast_S1x1x1x1x128_S2x64x256x8x128_0_1_2_3_4 (broadcastInDim S1x1x1x1x128 ![4] bcast_S128_S1x1x1x1x128_4 (iotaInDim S128 32 0))))) shapeCasts_S2x64x256x8x128_S2x16384x8x128)⟩] concatenates_S2x16384x8x128_S2x16384x8x128_S2x16384x8x256_d3) shapeCasts_S2x16384x8x256_S32768x2048) bitsLt_bf16_f32

/-- The values as they are returned, transposed and with sixteen rows of ones. -/
def rV (P : FVec Ideal S2x16384x11264 .f32) : FVec Ideal S8x32x144x1024 .bf16 :=
  truncf .bf16 (concatenate S8x32x144x1024 2 [⟨S8x32x128x1024, (transpose S8x32x128x1024 [2, 0, 3, 1] (shapeCast _ (extractStridedSlice S2x16384x1024 ![0, 0, 2048] P slices_S2x16384x11264_S2x16384x1024_0_0_2048) shapeCasts_S2x16384x1024_S32x1024x8x128) transposes_S32x1024x8x128_S8x32x128x1024_2_0_3_1)⟩, ⟨S8x32x16x1024, (broadcastInDim S8x32x16x1024 ![] bcast_S_S8x32x16x1024 (constant S_ .f32 0x3F800000#32))⟩] concatenates_S8x32x128x1024_S8x32x16x1024_S8x32x144x1024_d2) bitsLt_bf16_f32

/-- The means of the keys over blocks of 256 tokens. -/
def rM (R : FVec Ideal S2x8x16384x128 .f32) : FVec Ideal S32x4x1024 .f32 :=
  shapeCast _ (Host.divf (Host.reduceAdd (shapeCast _ (transpose S2x16384x8x128 [0, 2, 1, 3] (R) transposes_S2x8x16384x128_S2x16384x8x128_0_2_1_3) shapeCasts_S2x16384x8x128_S2x64x256x1024) (constant S_ .f32 0x00000000#32) reducesTo_S2x64x256x1024_S2x64x1024_d2 h_S_) (broadcastInDim S2x64x1024 ![] bcast_S_S2x64x1024 (constant S_ .f32 0x43800000#32))) shapeCasts_S2x64x1024_S32x4x1024

end Cert.QkvRefIdeal.Stage

end
-- ==== Proof.QkvArith.lean ====
/- The projection kernel's arithmetic against the reference's, on plain arrays. -/
module

public import proofs.«01_k».proof.Proof.QkvStages

@[expose] public section

set_option maxRecDepth 16384

noncomputable section

namespace Cert.QkvIdeal.Result

open Idealize.ShloMosaic Idealize.ShloMosaic.TcCoe Idealize.SL.Sem
open Cert.QkvIdeal Cert.QkvIdeal.Gen
open Cert.QkvRefIdeal.Stage

/-- The kernel's product is the reference's at the column block it takes. -/
theorem pay1_apply (x : FVec Ideal S1024x2048 .bf16) (w : FVec Ideal S1x2048x1024 .bf16) (X : FVec Ideal S2x16384x2048 .f32)
    (W : FVec Ideal S2x2048x11264 .f32) (r l : Fin 1024) (b : Fin 2) (s : Fin 16384) (n : Fin 11264)
    (hx : ∀ k : Fin 2048, x (ix2 r k) = X (ix3 b s k)) (hw : ∀ k : Fin 2048, w (ix3 0 k l) = W (ix3 0 k n)) :
    k0_pay1 (F := Ideal) x w (ix2 r l) = rP X W (ix3 b s n) := by
  pointwise [k0_pay1, rP]
  simp only [hx, hw]

/-- The rotation as the kernel computes it: a head's column, the one sixteen to the right and the one sixteen to the left,
    each times its table. -/
def rope (y : FVec Ideal S1024x1024 .f32) (c s1 s2 : FVec Ideal S1024x128 .f32) (r l : Fin 1024) : EReal :=
  y (ix2 r l) * c (ix2 r ⟨l.val % 128, by omega⟩)
    + y (ix2 r ⟨l.val / 128 * 128 + (l.val % 128 + 16) % 128, by omega⟩) * s1 (ix2 r ⟨l.val % 128, by omega⟩)
    + y (ix2 r ⟨l.val / 128 * 128 + (l.val % 128 + 112) % 128, by omega⟩) * s2 (ix2 r ⟨l.val % 128, by omega⟩)

/-- A piece's rotation, by the columns it reads, is the rotation at its column of the row of heads. -/
theorem rope_of (y : FVec Ideal S1024x1024 .f32) (c s1 s2 : FVec Ideal S1024x128 .f32) (r l : Fin 1024) (q : Fin 128)
    (hl : l.val % 128 = q.val) (i₀ i₁ i₂ : S1024x1024.Idx) (j : S1024x128.Idx) (e₀ : i₀ = ix2 r l)
    (e₁ : i₁ = ix2 r ⟨l.val / 128 * 128 + (l.val % 128 + 16) % 128, by omega⟩)
    (e₂ : i₂ = ix2 r ⟨l.val / 128 * 128 + (l.val % 128 + 112) % 128, by omega⟩) (ej : j = ix2 r q) :
    (y i₀ * c j + y i₁ * s1 j + y i₂ * s2 j : EReal) = rope y c s1 s2 r l := by
  have e : (⟨l.val % 128, by omega⟩ : Fin 128) = q := Fin.ext hl
  subst e₀ e₁ e₂ ej
  unfold rope
  rw [e]

/-- The reference's rotation. -/
theorem rR_apply (Y : FVec Ideal Cert.QkvRefIdeal.S2x8x16384x128 .f32) (C S : FVec Ideal Cert.QkvRefIdeal.S16384x16 .f32) (b : Fin 2) (h : Fin 8) (s : Fin 16384) (l : Fin 128) :
    rR Y C S (ix4 b h s l) = (if hl : l.val < 16 then Y (ix4 b h s l) * C (ix2 s ⟨l.val, hl⟩) - Y (ix4 b h s ⟨l.val + 16, by omega⟩) * S (ix2 s ⟨l.val, hl⟩)
      else if hl' : l.val < 32 then Y (ix4 b h s l) * C (ix2 s ⟨l.val - 16, by omega⟩) + Y (ix4 b h s ⟨l.val - 16, by omega⟩) * S (ix2 s ⟨l.val - 16, by omega⟩)
      else Y (ix4 b h s l) : EReal) := by
  pointwise [rR]
  by_cases h1 : l.val < 16
  · simp only [h1, dite_true, Nat.add_comm 16]
  · by_cases h2 : l.val < 32
    · have h3 : l.val - 16 < 16 := by omega
      simp only [h1, h2, h3, dite_true, dite_false]
      congr 3; blk_ext
    · have h3 : ¬ l.val - 16 < 16 := by omega
      simp only [h1, h2, h3, dite_false]
      congr 1; blk_ext

/-- A head's columns of the reference's queries. -/
theorem rQH_apply (P : FVec Ideal Cert.QkvRefIdeal.S2x16384x11264 .f32) (b : Fin 2) (h : Fin 8) (s : Fin 16384) (l : Fin 128) :
    rQH P (ix4 b h s l) = P (ix3 b s ⟨h.val * 128 + l.val, by omega⟩) := by
  pointwise [rQH]

/-- A head's columns of the reference's keys. -/
theorem rKH_apply (P : FVec Ideal Cert.QkvRefIdeal.S2x16384x11264 .f32) (b : Fin 2) (h : Fin 8) (s : Fin 16384) (l : Fin 128) :
    rKH P (ix4 b h s l) = P (ix3 b s ⟨1024 + (h.val * 128 + l.val), by omega⟩) := by
  pointwise [rKH]

/-- The reference's queries. -/
theorem rQ_apply (R : FVec Ideal Cert.QkvRefIdeal.S2x8x16384x128 .f32) (n : Fin 32768) (l : Fin 1024) :
    rQ R (ix2 n l) = (R (ix4 ⟨n.val / 16384, by omega⟩ ⟨l.val / 128, by omega⟩ ⟨n.val % 16384, by omega⟩ ⟨l.val % 128, by omega⟩)
      * (FloatOps.ofBits FTy.f32 0x3E0293EE#32 : Ideal .f32) : EReal) := by
  pointwise [rQ]

/-- The reference's means: the sum over a block of 256 tokens by their number. -/
theorem rM_apply (R : FVec Ideal Cert.QkvRefIdeal.S2x8x16384x128 .f32) (i : Fin 32) (p : Fin 4) (l : Fin 1024) :
    rM R (ix3 i p l) = Ideal.div (∑ x : Fin 256, (R (ix4 ⟨i.val / 16, by omega⟩ ⟨l.val / 128, by omega⟩
        ⟨(i.val % 16 * 4 + p.val) * 256 + x.val, by omega⟩ ⟨l.val % 128, by omega⟩) : EReal)) (Ideal.ofBits FTy.f32 0x43800000#32) := by
  pointwise [rM]

/-- The reference's values: a head's columns of the product, under them rows of ones. -/
theorem rV_apply (P : FVec Ideal Cert.QkvRefIdeal.S2x16384x11264 .f32) (h : Fin 8) (i : Fin 32) (d : Fin 144) (q : Fin 1024) :
    rV P (ix4 h i d q) = (if hd : d.val < 128 then P (ix3 ⟨i.val / 16, by omega⟩ ⟨i.val % 16 * 1024 + q.val, by omega⟩
      ⟨2048 + (h.val * 128 + d.val), by omega⟩) else 1 : EReal) := by
  pointwise [rV]

/-- The indicator of two numbers being the same. -/
theorem uitofp_eq (a b : ℕ) (ha : a < 2 ^ 32) (hb : b < 2 ^ 32) :
    (FloatOps.uitofp FTy.f32 (IntOp.cmpi CmpIPredicate.eq (BitVec.ofNat 32 a) (BitVec.ofNat 32 b)) : Ideal .f32)
      = (if a = b then 1 else 0 : EReal) := by
  have h1 : (FloatOps.uitofp FTy.f32 1#1 : Ideal .f32) = (1 : EReal) := by
    show ((((1#1 : BitVec 1).toNat : ℕ) : ℝ) : EReal) = 1
    norm_num
  have h0 : (FloatOps.uitofp FTy.f32 0#1 : Ideal .f32) = (0 : EReal) := by
    show ((((0#1 : BitVec 1).toNat : ℕ) : ℝ) : EReal) = 0
    norm_num
  by_cases h : a = b
  · subst h
    have e : IntOp.cmpi CmpIPredicate.eq (BitVec.ofNat 32 a) (BitVec.ofNat 32 a) = 1#1 := by simp [IntOp.cmpi]
    rw [e, h1, if_pos rfl]
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    have e : IntOp.cmpi CmpIPredicate.eq (BitVec.ofNat 32 a) (BitVec.ofNat 32 b) = 0#1 := by
      show BitVec.ofBool (BitVec.ofNat 32 a == BitVec.ofNat 32 b) = 0#1
      rw [beq_eq_false_iff_ne.mpr hne]; rfl
    rw [e, h0, if_neg h]

/-- The reference's keys: a head's columns, beside them the indicator of the token's block. -/
theorem rK_apply (R : FVec Ideal Cert.QkvRefIdeal.S2x8x16384x128 .f32) (n : Fin 32768) (l : Fin 2048) :
    rK R (ix2 n l) = (if hl : l.val % 256 < 128 then R (ix4 ⟨n.val / 16384, by omega⟩ ⟨l.val / 256, by omega⟩ ⟨n.val % 16384, by omega⟩ ⟨l.val % 256, hl⟩)
      else if n.val % 16384 / 256 = l.val % 256 - 128 then 1 else 0 : EReal) := by
  pointwise [rK]
  rw [uitofp_eq _ _ (by omega) (by omega)]

end Cert.QkvIdeal.Result
-- ==== Proof.QkvPoint.lean ====
/- What the projection kernel's points store, on plain arrays. -/
module

public import proofs.«01_k».proof.Proof.QkvArith

@[expose] public section

set_option maxRecDepth 16384

noncomputable section

namespace Cert.QkvIdeal.Result

open Idealize.ShloMosaic Idealize.ShloMosaic.TcCoe Idealize.SL.Sem
open Cert.QkvIdeal Cert.QkvIdeal.Gen
open Cert.QkvIdeal.Run (out5 out6 out7 out8)

variable (m : (ℓ : Loc nD τ sig) → Buf (Elt Ideal) ℓ)

/-- The product a point makes of its blocks. -/
abbrev prod (c : Dev nD) (t : Fin cfg0.N) : FVec Ideal S1024x1024 .f32 := k0_pay1 (iblk m c 0 t) (iblk m c 1 t)

set_option maxHeartbeats 4000000 in
/-- What a point of column 0 stores: the rotated product, scaled. -/
theorem out5_apply (c : Dev nD) (t : Fin cfg0.N) (h : t.val % 3 = 0) (r l : Fin 1024) : out5 m c t h (ix2 r l)
    = (rope (prod m c t) (iblk m c 2 t) (iblk m c 3 t) (iblk m c 4 t) r l * (FloatOps.ofBits FTy.f32 0x3E0293EE#32 : Ideal .f32) : EReal) := by
  unfold out5 Run.atA
  frame_out [Run.runA]
  unfold k0_pay2 k0_pay3 prod
  generalize k0_pay1 (F := Ideal) (iblk m c 0 t) (iblk m c 1 t) = y
  generalize (iblk m c 2 t : FVec Ideal S1024x128 .f32) = C
  generalize (iblk m c 3 t : FVec Ideal S1024x128 .f32) = S
  generalize (iblk m c 4 t : FVec Ideal S1024x128 .f32) = S'
  canon_tiles x h
  all_goals
    obtain ⟨p, q, rfl⟩ : ∃ p q, x = ix2 p q := ⟨x 0, x 1, by blk_ext⟩
    obtain ⟨r, hr⟩ := r
    obtain ⟨l, hl⟩ := l
    dsimp at h0 h1
    subst h0 h1
    pointwise [k0_pay12, k0_pay13, k0_pay14, k0_pay15, k0_pay16, k0_pay17, k0_pay18, k0_pay19, k0_pay20, k0_pay21, k0_pay22]
    refine congrArg₂ (fun a b : EReal => a * b) (rope_of _ _ _ _ _ _ q ?_ _ _ _ _ ?_ ?_ ?_ rfl) rfl
    · dsimp only; omega
    · rfl
    · blk_ext
    · blk_ext

set_option maxHeartbeats 4000000 in
/-- What a point of column 2 stores: the product transposed, head by head, and rows of ones. -/
theorem out7_apply (c : Dev nD) (t : Fin cfg0.N) (hc : t.val % 3 = 2) (h : Fin 8) (d : Fin 144) (q : Fin 1024) :
    out7 m c t hc (ix4 h 0 d q)
    = (if hd : d.val < 128 then prod m c t (ix2 q ⟨h.val * 128 + d.val, by omega⟩) else 1 : EReal) := by
  unfold out7 Run.atC
  frame_out [Run.runC]
  unfold k0_pay8 k0_pay10 prod
  generalize k0_pay1 (F := Ideal) (iblk m c 0 t) (iblk m c 1 t) = y
  canon_tiles x h using View.cover_of_tiledBy _ ![1, 1, 16, 1024] (by sl_kernel_rfl) _
  all_goals
    obtain ⟨a, b, p, k, rfl⟩ : ∃ a b p k, x = ix4 a b p k := ⟨x 0, x 1, x 2, x 3, by blk_ext⟩
    obtain ⟨h, hh⟩ := h
    obtain ⟨d, hd⟩ := d
    obtain ⟨q, hq⟩ := q
    dsimp at h0 h2 h3
    have ea : a.val = 0 := by omega
    subst h0 h2 h3
    pointwise [k0_pay7, k0_pay9, k0_pay11, k0_pay85, k0_pay86, k0_pay87, k0_pay88, k0_pay89, k0_pay90, k0_pay91, k0_pay92, k0_pay93, k0_pay94, k0_pay95, k0_pay96, k0_pay97]
  all_goals trace_state

/-- The number of the kernel's first block of 256 tokens in a row block, from the grid coordinate. -/
theorem start_eq : ∀ t : Fin cfg0.N, Scalar.muli
              (Scalar.select
                (Scalar.andi
                  (Scalar.xori
                    (Scalar.cmpi CmpIPredicate.slt (Scalar.remsi (BitVec.ofNat 32 (grid0.coords t 0).val) 16#32) 0#32) 0#1)
                  (Scalar.cmpi CmpIPredicate.ne (Scalar.remsi (BitVec.ofNat 32 (grid0.coords t 0).val) 16#32) 0#32))
                (Scalar.addi (Scalar.remsi (BitVec.ofNat 32 (grid0.coords t 0).val) 16#32) 16#32)
                (Scalar.remsi (BitVec.ofNat 32 (grid0.coords t 0).val) 16#32))
              4#32 = BitVec.ofNat 32 (t.val / 3 % 16 * 4) :=
  (by decide +kernel : ∀ t : Fin grid0.N, _)

/-- The same number with the divisor's guard spelled out. -/
theorem start_eq' : ∀ t : Fin cfg0.N, Scalar.muli
                    (Scalar.select
                      (Scalar.andi
                        (Scalar.xori
                          (Scalar.cmpi CmpIPredicate.slt
                            (Scalar.remsi (BitVec.ofNat 32 (grid0.coords t 0).val)
                              (Scalar.select (Scalar.cmpi CmpIPredicate.eq 16#32 0#32) 1#32 16#32))
                            0#32)
                          (Scalar.cmpi CmpIPredicate.slt
                            (Scalar.select (Scalar.cmpi CmpIPredicate.eq 16#32 0#32) 1#32 16#32) 0#32))
                        (Scalar.cmpi CmpIPredicate.ne
                          (Scalar.remsi (BitVec.ofNat 32 (grid0.coords t 0).val)
                            (Scalar.select (Scalar.cmpi CmpIPredicate.eq 16#32 0#32) 1#32 16#32))
                          0#32))
                      (Scalar.addi
                        (Scalar.remsi (BitVec.ofNat 32 (grid0.coords t 0).val)
                          (Scalar.select (Scalar.cmpi CmpIPredicate.eq 16#32 0#32) 1#32 16#32))
                        (Scalar.select (Scalar.cmpi CmpIPredicate.eq 16#32 0#32) 1#32 16#32))
                      (Scalar.remsi (BitVec.ofNat 32 (grid0.coords t 0).val)
                        (Scalar.select (Scalar.cmpi CmpIPredicate.eq 16#32 0#32) 1#32 16#32)))
                    4#32 = BitVec.ofNat 32 (t.val / 3 % 16 * 4) :=
  (by decide +kernel : ∀ t : Fin grid0.N, _)

/-- The rows of the four blocks of 256 in a row block, by the comparisons that pick them. -/
theorem rows_eq : ∀ r : Fin 1024,
    IntOp.andi (IntOp.cmpi CmpIPredicate.sge (BitVec.ofNat 32 r.val) 0#32) (IntOp.cmpi CmpIPredicate.slt (BitVec.ofNat 32 r.val) 256#32) = (if r.val / 256 = 0 then 1#1 else 0#1)
    ∧ IntOp.andi (IntOp.cmpi CmpIPredicate.sge (BitVec.ofNat 32 r.val) 256#32) (IntOp.cmpi CmpIPredicate.slt (BitVec.ofNat 32 r.val) 512#32) = (if r.val / 256 = 1 then 1#1 else 0#1)
    ∧ IntOp.andi (IntOp.cmpi CmpIPredicate.sge (BitVec.ofNat 32 r.val) 512#32) (IntOp.cmpi CmpIPredicate.slt (BitVec.ofNat 32 r.val) 768#32) = (if r.val / 256 = 2 then 1#1 else 0#1)
    ∧ IntOp.andi (IntOp.cmpi CmpIPredicate.sge (BitVec.ofNat 32 r.val) 768#32) (IntOp.cmpi CmpIPredicate.slt (BitVec.ofNat 32 r.val) 1024#32) = (if r.val / 256 = 3 then 1#1 else 0#1) := by
  decide +kernel

/-- The column of a block of 256 tokens, by the comparison that picks it. -/
theorem col_eq : ∀ (g : Fin 16) (q : Fin 128) (k : Fin 4),
    IntOp.cmpi CmpIPredicate.eq (BitVec.ofNat 32 q.val) (Scalar.addi (BitVec.ofNat 32 (g.val * 4)) (BitVec.ofNat 32 k.val))
      = (if g.val * 4 + k.val = q.val then 1#1 else 0#1) := by
  decide +kernel

/-- The indicator of the token's block, as the kernel builds it. -/
theorem hot_apply (t : Fin cfg0.N) (r : Fin 1024) (q : Fin 128) :
    k0_pay29 (F := Ideal) (iota Kind.tc S1024x128 32 [0] iota_S1024x128_d0_w32)
            (iota Kind.tc S1024x128 32 [1] iota_S1024x128_d1_w32) (BitVec.ofNat 32 (t.val / 3 % 16 * 4))
            (k0_pay26 (BitVec.ofNat 32 (grid0.coords t 0).val)) k0_pay27 (k0_pay28 (BitVec.ofNat 32 (grid0.coords t 0).val)) (ix2 r q)
    = (if t.val / 3 % 16 * 4 + r.val / 256 = q.val then 1 else 0 : EReal) := by
  pointwise [k0_pay29, k0_pay26, k0_pay27, k0_pay28]
  have hr := r.isLt
  obtain ⟨a0, a1, a2, a3⟩ := rows_eq r
  have b0 := col_eq ⟨t.val / 3 % 16, by omega⟩ q 0
  have b1 := col_eq ⟨t.val / 3 % 16, by omega⟩ q 1
  have b2 := col_eq ⟨t.val / 3 % 16, by omega⟩ q 2
  have b3 := col_eq ⟨t.val / 3 % 16, by omega⟩ q 3
  change IntOp.cmpi CmpIPredicate.eq (BitVec.ofNat 32 q.val) (Scalar.addi (BitVec.ofNat 32 (t.val / 3 % 16 * 4)) 0#32) = (if t.val / 3 % 16 * 4 + 0 = q.val then 1#1 else 0#1) at b0
  change IntOp.cmpi CmpIPredicate.eq (BitVec.ofNat 32 q.val) (Scalar.addi (BitVec.ofNat 32 (t.val / 3 % 16 * 4)) 1#32) = (if t.val / 3 % 16 * 4 + 1 = q.val then 1#1 else 0#1) at b1
  change IntOp.cmpi CmpIPredicate.eq (BitVec.ofNat 32 q.val) (Scalar.addi (BitVec.ofNat 32 (t.val / 3 % 16 * 4)) 2#32) = (if t.val / 3 % 16 * 4 + 2 = q.val then 1#1 else 0#1) at b2
  change IntOp.cmpi CmpIPredicate.eq (BitVec.ofNat 32 q.val) (Scalar.addi (BitVec.ofNat 32 (t.val / 3 % 16 * 4)) 3#32) = (if t.val / 3 % 16 * 4 + 3 = q.val then 1#1 else 0#1) at b3
  rw [start_eq' t, a0, a1, a2, a3, b0, b1, b2, b3]
  obtain h | h | h | h : r.val / 256 = 0 ∨ r.val / 256 = 1 ∨ r.val / 256 = 2 ∨ r.val / 256 = 3 := by omega
  all_goals
    simp only [h, eq_self_iff_true, if_true, show ¬ (0 : ℕ) = 1 by decide, show ¬ (0 : ℕ) = 2 by decide, show ¬ (0 : ℕ) = 3 by decide,
      show ¬ (1 : ℕ) = 0 by decide, show ¬ (1 : ℕ) = 2 by decide, show ¬ (1 : ℕ) = 3 by decide, show ¬ (2 : ℕ) = 0 by decide,
      show ¬ (2 : ℕ) = 1 by decide, show ¬ (2 : ℕ) = 3 by decide, show ¬ (3 : ℕ) = 0 by decide, show ¬ (3 : ℕ) = 1 by decide,
      show ¬ (3 : ℕ) = 2 by decide, if_false]
    generalize t.val / 3 % 16 * 4 = n
    by_cases e0 : n + 0 = q.val <;> by_cases e1 : n + 1 = q.val <;> by_cases e2 : n + 2 = q.val <;> by_cases e3 : n + 3 = q.val <;>
      first
      | omega
      | (simp only [e0, e1, e2, e3, if_true, if_false]; rfl)

set_option maxHeartbeats 4000000 in
/-- What a point of column 1 stores of the keys: the rotated product, each head beside the indicator of the token's block. -/
theorem out6_apply (c : Dev nD) (t : Fin cfg0.N) (h : t.val % 3 = 1) (r : Fin 1024) (l : Fin 2048) : out6 m c t h (ix2 r l)
    = (if hl : l.val % 256 < 128 then rope (prod m c t) (iblk m c 2 t) (iblk m c 3 t) (iblk m c 4 t) r ⟨l.val / 256 * 128 + l.val % 256, by omega⟩
      else if t.val / 3 % 16 * 4 + r.val / 256 = l.val % 256 - 128 then 1 else 0 : EReal) := by
  have hot := hot_apply t r
  unfold out6 Run.atB
  frame_out [Run.runB]
  unfold prod
  generalize k0_pay1 (F := Ideal) (iblk m c 0 t) (iblk m c 1 t) = y
  generalize (iblk m c 2 t : FVec Ideal S1024x128 .f32) = C
  generalize (iblk m c 3 t : FVec Ideal S1024x128 .f32) = S
  generalize (iblk m c 4 t : FVec Ideal S1024x128 .f32) = S'
  rw [start_eq t]
  canon_tiles x h
  all_goals
    obtain ⟨p, q, rfl⟩ : ∃ p q, x = ix2 p q := ⟨x 0, x 1, by blk_ext⟩
    obtain ⟨r, hr⟩ := r
    obtain ⟨l, hl⟩ := l
    dsimp at h0 h1
    subst h0 h1
    have hq := q.isLt
  all_goals
    first
    | rw [dif_neg (by dsimp only; omega)]
      exact (hot q).trans (if_congr (by dsimp only; omega) rfl rfl)
    | rw [dif_pos (by dsimp only; omega)]
      pointwise [k0_pay82, k0_pay81, k0_pay23, k0_pay24, k0_pay25, k0_pay75, k0_pay74, k0_pay68, k0_pay67, k0_pay60, k0_pay59, k0_pay53, k0_pay52, k0_pay46, k0_pay45, k0_pay39, k0_pay38, k0_pay31, k0_pay30]
      refine rope_of _ _ _ _ _ _ q ?_ _ _ _ _ ?_ ?_ ?_ rfl
      · dsimp only; omega
      · blk_ext
      · blk_ext
      · blk_ext

set_option maxHeartbeats 8000000 in
/-- What a point of column 1 stores of the means: the mean of the rotated product over each block of 256 rows. -/
theorem out8_apply (c : Dev nD) (t : Fin cfg0.N) (h : t.val % 3 = 1) (p : Fin 4) (l : Fin 1024) : out8 m c t h (ix3 0 p l)
    = (Ideal.div (∑ x : Fin 256, rope (prod m c t) (iblk m c 2 t) (iblk m c 3 t) (iblk m c 4 t) ⟨p.val * 256 + x.val, by omega⟩ l)
        (Ideal.ofBits FTy.f32 0x43800000#32) : EReal) := by
  unfold out8 Run.atB
  frame_out [Run.runB]
  unfold prod
  generalize k0_pay1 (F := Ideal) (iblk m c 0 t) (iblk m c 1 t) = y
  generalize (iblk m c 2 t : FVec Ideal S1024x128 .f32) = C
  generalize (iblk m c 3 t : FVec Ideal S1024x128 .f32) = S
  generalize (iblk m c 4 t : FVec Ideal S1024x128 .f32) = S'
  canon_tiles x h
  all_goals
    obtain ⟨a, b, q, rfl⟩ : ∃ a b q, x = ix3 a b q := ⟨x 0, x 1, x 2, by blk_ext⟩
    obtain ⟨p, hp⟩ := p
    obtain ⟨l, hl⟩ := l
    dsimp at h0 h1 h2
    have hb : b.val = 0 := by omega
    subst h1 h2
    have hq := q.isLt
  all_goals
    pointwise [k0_pay4, k0_pay5, k0_pay6, k0_pay23, k0_pay24, k0_pay25, k0_pay30, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    refine congrArg₂ Ideal.div (Finset.sum_congr rfl fun x _ => rope_of _ _ _ _ _ _ q ?_ _ _ _ _ ?_ ?_ ?_ ?_) rfl
    · dsimp only; omega
    · blk_ext
    · blk_ext
    · blk_ext
    · blk_ext

end Cert.QkvIdeal.Result
-- ==== Proof.QkvValue.lean ====
/- What the projection kernel computes: its four result arrays are the reference's, element by element. -/
module

public import proofs.«01_k».proof.Proof.QkvPoint
public import proofs.«01_k».proof.Defs
public import Idealize.ShloMosaic.Lib.StableHlo.RunRead

@[expose] public section

set_option maxRecDepth 16384

noncomputable section

namespace Cert.QkvIdeal.Result

open Idealize.ShloMosaic Idealize.ShloMosaic.TcCoe Idealize.SL.Sem
open Idealize.ShloMosaic.Pipeline (Dat)
open Cert.QkvIdeal Cert.QkvIdeal.Gen
open Cert.QkvIdeal.Run (out5 out6 out7 out8 pt pt_mod dats)
open Cert.QkvRefIdeal.Stage

variable (m : (ℓ : Loc nD τ sig) → Buf (Elt Ideal) ℓ)

/-- Where every window's block sits at each grid point. -/
theorem idx : ∀ t : Fin cfg0.N, win0_0.index t = ![t.val / 3, 0] ∧ win0_1.index t = ![0, 0, t.val % 3]
    ∧ win0_2.index t = ![t.val / 3 % 16, 0] ∧ win0_3.index t = ![t.val / 3 % 16, 0] ∧ win0_4.index t = ![t.val / 3 % 16, 0]
    ∧ win0_5.index t = ![t.val / 3, 0] ∧ win0_6.index t = ![t.val / 3, 0] ∧ win0_7.index t = ![0, t.val / 3, 0, 0]
    ∧ win0_8.index t = ![t.val / 3, 0, 0] :=
  (by decide +kernel : ∀ t : Fin grid0.N, _)

/-- The tokens, as a plain array. -/
abbrev argX (c : Dev nD) : FVec Ideal S2x16384x2048 .f32 := m ((c : Thread nD τ).loc main_arg0)
/-- The projection's weights, as a plain array. -/
abbrev argW (c : Dev nD) : FVec Ideal S2x2048x11264 .f32 := m ((c : Thread nD τ).loc main_arg1)

/-- The tokens' array the kernel is called with: the argument with its first two axes joined. -/
theorem entry_x (c : Dev nD) (r : Fin 32768) (k : Fin 2048) : (V m c main_v27 : S32768x2048.Idx → EReal) (ix2 r k)
    = argX m c (ix3 ⟨r.val / 16384, by omega⟩ ⟨r.val % 16384, by omega⟩ k) := by
  have h : @Eq (S32768x2048.Idx → EReal) (V m c main_v27)
      (shapeCast S32768x2048 (argX m c) shapeCasts_S2x16384x2048_S32768x2048) := by
    entry_read
    rfl
  rw [h]
  pointwise

/-- The projection's weights the kernel is called with: the argument. -/
theorem entry_w (c : Dev nD) : @Eq (S2x2048x11264.Idx → EReal) (V m c main_v28) (argW m c) := by
  entry_read
  rfl

/-- The table of cosines: twice the cosines, then ones. -/
theorem entry_c (c : Dev nD) (s : Fin 16384) (q : Fin 128) : (V m c main_v22 : S16384x128.Idx → EReal) (ix2 s q)
    = (if h : q.val < 16 then rC (ix2 s ⟨q.val, h⟩) else if h' : q.val < 32 then rC (ix2 s ⟨q.val - 16, by omega⟩) else 1 : EReal) := by
  have h : @Eq (FVec Ideal S16384x128 .f32) (V m c main_v22)
      (concatenate S16384x128 1 [⟨S16384x16, (rC : FVec Ideal S16384x16 .f32)⟩, ⟨S16384x16, (rC : FVec Ideal S16384x16 .f32)⟩, ⟨S16384x96, broadcastInDim S16384x96 ![] bcast_S_S16384x96 (constant S_ .f32 0x3F800000#32)⟩] concatenates_S16384x16_S16384x16_S16384x96_S16384x128_d1) := by
    unfold V
    after_reads_simp
    rfl
  rw [h]
  pointwise
  have e : (q.val - 16 < 16) = (q.val < 32) := propext (by omega)
  by_cases k1 : q.val < 16
  · simp only [k1, dite_true]
  · by_cases k2 : q.val < 32 <;> simp only [k1, k2, e, dite_true, dite_false]

/-- The table of sines of the columns to the right: the negated sines, then zeros. -/
theorem entry_s1 (c : Dev nD) (s : Fin 16384) (q : Fin 128) : (V m c main_v24 : S16384x128.Idx → EReal) (ix2 s q)
    = (if h : q.val < 16 then -rS (ix2 s ⟨q.val, h⟩) else 0 : EReal) := by
  have h : @Eq (FVec Ideal S16384x128 .f32) (V m c main_v24)
      (concatenate S16384x128 1 [⟨S16384x16, Host.negf (rS : FVec Ideal S16384x16 .f32)⟩, ⟨S16384x16, broadcastInDim S16384x16 ![] bcast_S_S16384x16 (constant S_ .f32 0x00000000#32)⟩, ⟨S16384x96, broadcastInDim S16384x96 ![] bcast_S_S16384x96 (constant S_ .f32 0x00000000#32)⟩] concatenates_S16384x16_S16384x16_S16384x96_S16384x128_d1) := by
    unfold V
    after_reads_simp
    rfl
  rw [h]
  pointwise
  split_ifs <;> rfl

/-- The table of sines of the columns to the left: zeros, the sines, then zeros. -/
theorem entry_s2 (c : Dev nD) (s : Fin 16384) (q : Fin 128) : (V m c main_v25 : S16384x128.Idx → EReal) (ix2 s q)
    = (if h : q.val < 16 then 0 else if h' : q.val < 32 then rS (ix2 s ⟨q.val - 16, by omega⟩) else 0 : EReal) := by
  have h : @Eq (FVec Ideal S16384x128 .f32) (V m c main_v25)
      (concatenate S16384x128 1 [⟨S16384x16, broadcastInDim S16384x16 ![] bcast_S_S16384x16 (constant S_ .f32 0x00000000#32)⟩, ⟨S16384x16, (rS : FVec Ideal S16384x16 .f32)⟩, ⟨S16384x96, broadcastInDim S16384x96 ![] bcast_S_S16384x96 (constant S_ .f32 0x00000000#32)⟩] concatenates_S16384x16_S16384x16_S16384x96_S16384x128_d1) := by
    unfold V
    after_reads_simp
    rfl
  rw [h]
  pointwise
  have e : (q.val - 16 < 16) = (q.val < 32) := propext (by omega)
  by_cases k1 : q.val < 16
  · simp only [k1, dite_true]
  · by_cases k2 : q.val < 32 <;> simp only [k1, k2, e, dite_true, dite_false]

/-- The tokens' block at point `t`. -/
theorem blk_x (c : Dev nD) (t : Fin cfg0.N) (r : Fin 1024) (k : Fin 2048) : iblk m c 0 t (ix2 r k)
    = argX m c (ix3 ⟨t.val / 3 / 16, by have := lt_of_lt_of_eq t.isLt N_0; omega⟩ ⟨t.val / 3 % 16 * 1024 + r.val, by omega⟩ k) := by
  have ht := lt_of_lt_of_eq t.isLt N_0
  have hr := r.isLt
  blk_simp [iblk]
  refine Eq.trans (congrArg (V m c main_v27 : S32768x2048.Idx → EReal) ?_) ((entry_x m c ⟨t.val / 3 * 1024 + r.val, by omega⟩ k).trans (congrArg _ ?_))
  · blk_ext [idx t]
  · blk_ext

/-- The weights' block at point `t`. -/
theorem blk_w (c : Dev nD) (t : Fin cfg0.N) (k : Fin 2048) (l : Fin 1024) :
    iblk m c 1 t (ix3 0 k l) = argW m c (ix3 0 k ⟨t.val % 3 * 1024 + l.val, by omega⟩) := by
  blk_simp [iblk]
  rw [entry_w]
  blk_ext [idx t]

/-- The cosines' block at point `t`. -/
theorem blk_c (c : Dev nD) (t : Fin cfg0.N) (r : Fin 1024) (q : Fin 128) (s : Fin 16384) (hs : s.val = t.val / 3 % 16 * 1024 + r.val) :
    iblk m c 2 t (ix2 r q)
    = (if h : q.val < 16 then rC (ix2 s ⟨q.val, h⟩) else if h' : q.val < 32 then rC (ix2 s ⟨q.val - 16, by omega⟩) else 1 : EReal) := by
  refine Eq.trans ?_ (entry_c m c s q)
  obtain ⟨s, hs'⟩ := s
  dsimp only at hs
  subst hs
  blk_simp [iblk]
  refine congrArg (V m c main_v22 : S16384x128.Idx → EReal) ?_
  blk_ext [idx t]

/-- The first table of sines' block at point `t`. -/
theorem blk_s1 (c : Dev nD) (t : Fin cfg0.N) (r : Fin 1024) (q : Fin 128) (s : Fin 16384) (hs : s.val = t.val / 3 % 16 * 1024 + r.val) :
    iblk m c 3 t (ix2 r q) = (if h : q.val < 16 then -rS (ix2 s ⟨q.val, h⟩) else 0 : EReal) := by
  refine Eq.trans ?_ (entry_s1 m c s q)
  obtain ⟨s, hs'⟩ := s
  dsimp only at hs
  subst hs
  blk_simp [iblk]
  refine congrArg (V m c main_v24 : S16384x128.Idx → EReal) ?_
  blk_ext [idx t]

/-- The second table of sines' block at point `t`. -/
theorem blk_s2 (c : Dev nD) (t : Fin cfg0.N) (r : Fin 1024) (q : Fin 128) (s : Fin 16384) (hs : s.val = t.val / 3 % 16 * 1024 + r.val) :
    iblk m c 4 t (ix2 r q)
    = (if h : q.val < 16 then 0 else if h' : q.val < 32 then rS (ix2 s ⟨q.val - 16, by omega⟩) else 0 : EReal) := by
  refine Eq.trans ?_ (entry_s2 m c s q)
  obtain ⟨s, hs'⟩ := s
  dsimp only at hs
  subst hs
  blk_simp [iblk]
  refine congrArg (V m c main_v25 : S16384x128.Idx → EReal) ?_
  blk_ext [idx t]

/-- The rotation of a row whose columns are the reference's, under tables that are the reference's, is the reference's. -/
theorem rope_eq (y : FVec Ideal S1024x1024 .f32) (c s1 s2 : FVec Ideal S1024x128 .f32)
    (Y : FVec Ideal Cert.QkvRefIdeal.S2x8x16384x128 .f32) (C S : FVec Ideal Cert.QkvRefIdeal.S16384x16 .f32)
    (r l : Fin 1024) (b : Fin 2) (s : Fin 16384)
    (hy : ∀ q : Fin 128, y (ix2 r ⟨l.val / 128 * 128 + q.val, by omega⟩) = Y (ix4 b ⟨l.val / 128, by omega⟩ s q))
    (hc : ∀ q : Fin 128, c (ix2 r q) = (if h : q.val < 16 then C (ix2 s ⟨q.val, h⟩) else if h' : q.val < 32 then C (ix2 s ⟨q.val - 16, by omega⟩) else 1 : EReal))
    (h1 : ∀ q : Fin 128, s1 (ix2 r q) = (if h : q.val < 16 then -S (ix2 s ⟨q.val, h⟩) else 0 : EReal))
    (h2 : ∀ q : Fin 128, s2 (ix2 r q) = (if h : q.val < 16 then 0 else if h' : q.val < 32 then S (ix2 s ⟨q.val - 16, by omega⟩) else 0 : EReal)) :
    rope y c s1 s2 r l = rR Y C S (ix4 b ⟨l.val / 128, by omega⟩ s ⟨l.val % 128, by omega⟩) := by
  have e : (⟨l.val / 128 * 128 + l.val % 128, by omega⟩ : Fin 1024) = l := Fin.ext (by dsimp only; omega)
  have y0 := hy ⟨l.val % 128, by omega⟩
  have y1 := hy ⟨(l.val % 128 + 16) % 128, by omega⟩
  have y2 := hy ⟨(l.val % 128 + 112) % 128, by omega⟩
  dsimp only at y0 y1 y2
  rw [e] at y0
  unfold rope
  rw [rR_apply, y0, y1, y2, hc, h1, h2]
  by_cases k1 : l.val % 128 < 16
  · have e1 : (l.val % 128 + 16) % 128 = l.val % 128 + 16 := by omega
    simp only [k1, dite_true, mul_zero, add_zero, e1]
    rw [mul_neg, sub_eq_add_neg]
  · by_cases k2 : l.val % 128 < 32
    · have e2 : (l.val % 128 + 112) % 128 = l.val % 128 - 16 := by omega
      simp only [k1, k2, dite_true, dite_false, mul_zero, add_zero, e2]
    · simp only [k1, k2, dite_false, mul_zero, add_zero, mul_one]

/-- The product of the block at point `t` is the projection, at the point's rows and columns. -/
theorem prod_eq (c : Dev nD) (t : Fin cfg0.N) (r l : Fin 1024) :
    prod m c t (ix2 r l) = rP (argX m c) (argW m c) (ix3 ⟨t.val / 3 / 16, by have := lt_of_lt_of_eq t.isLt N_0; omega⟩
      ⟨t.val / 3 % 16 * 1024 + r.val, by omega⟩ ⟨t.val % 3 * 1024 + l.val, by omega⟩) :=
  pay1_apply (iblk m c 0 t) (iblk m c 1 t) (argX m c) (argW m c) r l _ _ _ (fun k => blk_x m c t r k) (fun k => blk_w m c t k l)

/-- The reference's projection. -/
abbrev P (c : Dev nD) := rP (argX m c) (argW m c)
/-- The reference's rotated queries. -/
abbrev Rq (c : Dev nD) := rR (rQH (P m c)) rC rS
/-- The reference's rotated keys. -/
abbrev Rk (c : Dev nD) := rR (rKH (P m c)) rC rS

/-- The rotation at a point of the queries is the reference's. -/
theorem rope_q (c : Dev nD) (t : Fin cfg0.N) (h : t.val % 3 = 0) (r l : Fin 1024) :
    rope (prod m c t) (iblk m c 2 t) (iblk m c 3 t) (iblk m c 4 t) r l
    = Rq m c (ix4 ⟨t.val / 3 / 16, by have := lt_of_lt_of_eq t.isLt N_0; omega⟩ ⟨l.val / 128, by omega⟩
        ⟨t.val / 3 % 16 * 1024 + r.val, by omega⟩ ⟨l.val % 128, by omega⟩) := by
  refine rope_eq _ _ _ _ _ _ _ r l _ _ (fun q => ?_) (fun q => blk_c m c t r q _ rfl) (fun q => blk_s1 m c t r q _ rfl) (fun q => blk_s2 m c t r q _ rfl)
  rw [prod_eq, rQH_apply]
  refine congrArg _ ?_
  blk_ext

/-- The rotation at a point of the keys is the reference's. -/
theorem rope_k (c : Dev nD) (t : Fin cfg0.N) (h : t.val % 3 = 1) (r l : Fin 1024) :
    rope (prod m c t) (iblk m c 2 t) (iblk m c 3 t) (iblk m c 4 t) r l
    = Rk m c (ix4 ⟨t.val / 3 / 16, by have := lt_of_lt_of_eq t.isLt N_0; omega⟩ ⟨l.val / 128, by omega⟩
        ⟨t.val / 3 % 16 * 1024 + r.val, by omega⟩ ⟨l.val % 128, by omega⟩) := by
  refine rope_eq _ _ _ _ _ _ _ r l _ _ (fun q => ?_) (fun q => blk_c m c t r q _ rfl) (fun q => blk_s1 m c t r q _ rfl) (fun q => blk_s2 m c t r q _ rfl)
  rw [prod_eq, rKH_apply]
  refine congrArg _ ?_
  blk_ext

theorem pt_div (t : Fin cfg0.N) (k : ℕ) (hk : k < 3) : (pt t k hk).val / 3 = t.val / 3 := by
  show (3 * (t.val / 3) + k) / 3 = t.val / 3
  omega

/-- A block of the queries is the reference's. -/
theorem point5 (c : Dev nD) (t : Fin cfg0.N) (h : t.val % 3 = 0) (r l : Fin 1024) (n : Fin 32768)
    (hn : n.val = t.val / 3 * 1024 + r.val) : out5 m c t h (ix2 r l) = rQ (Rq m c) (ix2 n l) := by
  rw [out5_apply, rQ_apply, rope_q m c t h]
  have e1 : n.val / 16384 = t.val / 3 / 16 := by omega
  have e2 : n.val % 16384 = t.val / 3 % 16 * 1024 + r.val := by omega
  simp only [e1, e2]

/-- A block of the keys with the indicator of their blocks is the reference's. -/
theorem point6 (c : Dev nD) (t : Fin cfg0.N) (h : t.val % 3 = 1) (r : Fin 1024) (l : Fin 2048) (n : Fin 32768)
    (hn : n.val = t.val / 3 * 1024 + r.val) : out6 m c t h (ix2 r l) = rK (Rk m c) (ix2 n l) := by
  rw [out6_apply, rK_apply]
  have e1 : n.val / 16384 = t.val / 3 / 16 := by omega
  have e2 : n.val % 16384 = t.val / 3 % 16 * 1024 + r.val := by omega
  by_cases hl : l.val % 256 < 128
  · rw [dif_pos hl, dif_pos hl, rope_k m c t h]
    have e3 : (l.val / 256 * 128 + l.val % 256) / 128 = l.val / 256 := by omega
    have e4 : (l.val / 256 * 128 + l.val % 256) % 128 = l.val % 256 := by omega
    simp only [e1, e2, e3, e4]
  · rw [dif_neg hl, dif_neg hl]
    have e5 : n.val % 16384 / 256 = t.val / 3 % 16 * 4 + r.val / 256 := by omega
    rw [e5]

/-- A block of the values with their rows of ones is the reference's. -/
theorem point7 (c : Dev nD) (t : Fin cfg0.N) (hc : t.val % 3 = 2) (h : Fin 8) (d : Fin 144) (q : Fin 1024) (i : Fin 32)
    (hi : i.val = t.val / 3) : out7 m c t hc (ix4 h 0 d q) = rV (P m c) (ix4 h i d q) := by
  rw [out7_apply, rV_apply]
  by_cases hd : d.val < 128
  · rw [dif_pos hd, dif_pos hd, prod_eq]
    simp only [hi, hc]
  · rw [dif_neg hd, dif_neg hd]

/-- A block of the blocks' mean keys is the reference's. -/
theorem point8 (c : Dev nD) (t : Fin cfg0.N) (h : t.val % 3 = 1) (p : Fin 4) (l : Fin 1024) (i : Fin 32)
    (hi : i.val = t.val / 3) : out8 m c t h (ix3 0 p l) = rM (Rk m c) (ix3 i p l) := by
  rw [out8_apply, rM_apply]
  refine congrArg (Ideal.div · _) (Finset.sum_congr rfl fun x _ => ?_)
  rw [rope_k m c t h]
  refine congrArg (Rk m c) ?_
  obtain ⟨i, hi'⟩ := i
  dsimp only at hi
  subst hi
  blk_ext

/-- The queries after the run. -/
theorem final5 (c : Dev nD) : (dats m 0 c).arrAt 5 (cfgs 0).N = rQ (Rq m c) := by
  refine (dats m 0 c).arrAt_eq_of_covers 5 _ (by decide +kernel) fun t _ y => ?_
  blk_simp
  rw [Run.after5]
  have e : ((win0_5.blk t).view.emb y : S32768x1024.Idx)
      = ix2 ⟨t.val / 3 * 1024 + (y 0).val, by have := lt_of_lt_of_eq t.isLt N_0; have : (y 0).val < 1024 := (y 0).isLt; omega⟩ (y 1) := by
    blk_ext [idx t]
  rw [e]
  idx_vars y
  exact point5 m c _ _ _ _ _ (by rw [pt_div])

/-- The keys after the run. -/
theorem final6 (c : Dev nD) : (dats m 0 c).arrAt 6 (cfgs 0).N = rK (Rk m c) := by
  refine (dats m 0 c).arrAt_eq_of_covers 6 _ (by decide +kernel) fun t _ y => ?_
  blk_simp
  rw [Run.after6]
  have e : ((win0_6.blk t).view.emb y : S32768x2048.Idx)
      = ix2 ⟨t.val / 3 * 1024 + (y 0).val, by have := lt_of_lt_of_eq t.isLt N_0; have : (y 0).val < 1024 := (y 0).isLt; omega⟩ (y 1) := by
    blk_ext [idx t]
  rw [e]
  idx_vars y
  exact point6 m c _ _ _ _ _ (by rw [pt_div])

/-- The values after the run. -/
theorem final7 (c : Dev nD) : (dats m 0 c).arrAt 7 (cfgs 0).N = rV (P m c) := by
  refine (dats m 0 c).arrAt_eq_of_covers 7 _ (by decide +kernel) fun t _ y => ?_
  blk_simp
  rw [Run.after7]
  have e : ((win0_7.blk t).view.emb y : S8x32x144x1024.Idx)
      = ix4 (y 0) ⟨t.val / 3, by have := lt_of_lt_of_eq t.isLt N_0; omega⟩ (y 2) (y 3) := by
    blk_ext [idx t]
  rw [e]
  idx_vars y
  obtain rfl : y1 = 0 := Subsingleton.elim _ _
  exact point7 m c _ _ _ _ _ _ (by rw [pt_div])

/-- The blocks' mean keys after the run. -/
theorem final8 (c : Dev nD) : (dats m 0 c).arrAt 8 (cfgs 0).N = rM (Rk m c) := by
  refine (dats m 0 c).arrAt_eq_of_covers 8 _ (by decide +kernel) fun t _ y => ?_
  blk_simp
  rw [Run.after8]
  have e : ((win0_8.blk t).view.emb y : S32x4x1024.Idx)
      = ix3 ⟨t.val / 3, by have := lt_of_lt_of_eq t.isLt N_0; omega⟩ (y 1) (y 2) := by
    blk_ext [idx t]
  rw [e]
  idx_vars y
  obtain rfl : y0 = 0 := Subsingleton.elim _ _
  exact point8 m c _ _ _ _ _ (by rw [pt_div])

/-- What the kernel's run leaves: its four result arrays, and its arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v29_0) = rQ (Rq m c)
      ∧ r.2.mem ((c : Thread nD τ).loc main_v29_1) = rK (Rk m c)
      ∧ r.2.mem ((c : Thread nD τ).loc main_v29_2) = rV (P m c)
      ∧ r.2.mem ((c : Thread nD τ).loc main_v29_3) = rM (Rk m c)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun r h c =>
    ⟨((h c).1 5).trans (final5 m c), ((h c).1 6).trans (final6 m c), ((h c).1 7).trans (final7 m c), ((h c).1 8).trans (final8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (Run.run_main m ρ)

/-- The projection kernel and the reference leave the same four results. -/
theorem algebraic : Cert.algebraic_QkvIdeal_QkvRefIdeal := by
  intro m ρ m' ρ' _ hagree
  refine ⟨_, _, _, _, run m ρ, ?_⟩
  refine (θ_run Cert.QkvRefIdeal.defs _ _).mono (fun _ h c => ⟨(h c).1.trans ?_, (h c).2.1.trans ?_, (h c).2.2.1.trans ?_, (h c).2.2.2.1.trans ?_, (h c).2.2.2.2⟩)
    (Cert.QkvRefIdeal.Value.run (F := Ideal) m' ρ')
  all_goals obtain ⟨h0, h1⟩ := hagree c
  · unfold Cert.QkvRefIdeal.Value.res_main_v105
    rw [h0, h1]
    rfl
  · unfold Cert.QkvRefIdeal.Value.res_main_v106
    rw [h0, h1]
    rfl
  · rw [h0, h1]
    rfl
  · unfold Cert.QkvRefIdeal.Value.res_main_v108
    rw [h0, h1]
    rfl

end Cert.QkvIdeal.Result
-- ==== Proof.ConvStages.lean ====
/- The convolution module's reference, taken apart: the projection, the gated and padded rows, the 31 taps, the layer norm and
the silu. -/
module

public import proofs.«01_k».proof.Proof.Gen.ConvIdeal.Value
public import proofs.«01_k».proof.Proof.Gen.ConvRefIdeal.Run
public import Idealize.ShloMosaic.Lib.Pointwise
public import Idealize.ShloMosaic.Lib.Pipeline.ValueKit

@[expose] public section

set_option maxRecDepth 16384

noncomputable section

namespace Cert.ConvRefIdeal.Stage

open Idealize.ShloMosaic Idealize.ShloMosaic.TcCoe Idealize.SL.Sem
open Cert.ConvRefIdeal Cert.ConvRefIdeal.Gen

/-- The module's columns of the input projection. -/
def rP (A0 : FVec Ideal S2x16384x2048 .f32) (A1 : FVec Ideal S2x2048x11264 .f32) : FVec Ideal S2x16384x1024 .f32 :=
  extractStridedSlice S2x16384x1024 ![0, 0, 3072] (Host.dotGeneral dot_S2x16384x2048_S2048x11264_S2x16384x11264_2_0_01_1_n_n none A0 (shapeCast _ (extractStridedSlice S1x2048x11264 ![0, 0, 0] A1 slices_S2x2048x11264_S1x2048x11264_0_0_0) shapeCasts_S1x2048x11264_S2048x11264)) slices_S2x16384x11264_S2x16384x1024_0_0_3072

/-- The gated rows under 30 rows of zeros. -/
def rA (P : FVec Ideal S2x16384x1024 .f32) : FVec Ideal S2x16414x512 .f32 :=
  pad S2x16414x512 ![0, 30, 0] ![0, 0, 0] ![0, 0, 0] (mulf (extractStridedSlice S2x16384x512 ![0, 0, 0] P slices_S2x16384x1024_S2x16384x512_0_0_0) (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (extractStridedSlice S2x16384x512 ![0, 0, 512] P slices_S2x16384x1024_S2x16384x512_0_0_512)))))) (sitofp .f32 (constantI S_ 32 0#32)) pads_S2x16384x512_S2x16414x512_000_3000_000 h_S_

/-- The first eleven taps' sum. -/
def rC1 (A : FVec Ideal S2x16414x512 .f32) (A2 : FVec Ideal S2x31x512 .f32) : FVec Ideal S2x16384x512 .f32 :=
  addf (addf (addf (addf (addf (addf (addf (addf (addf (addf (addf (broadcastInDim S2x16384x512 ![] bcast_S_S2x16384x512 (constant S_ .f32 0x00000000#32)) (mulf (broadcastInDim S2x16384x512 ![0, 1, 2] bcast_S1x1x512_S2x16384x512_0_1_2 (broadcastInDim S1x1x512 ![2] bcast_S512_S1x1x512_2 (shapeCast _ (extractStridedSlice S1x1x512 ![0, 0, 0] A2 slices_S2x31x512_S1x1x512_0_0_0) shapeCasts_S1x1x512_S512))) (extractStridedSlice S2x16384x512 ![0, 0, 0] A slices_S2x16414x512_S2x16384x512_0_0_0))) (mulf (broadcastInDim S2x16384x512 ![0, 1, 2] bcast_S1x1x512_S2x16384x512_0_1_2 (broadcastInDim S1x1x512 ![2] bcast_S512_S1x1x512_2 (shapeCast _ (extractStridedSlice S1x1x512 ![0, 1, 0] A2 slices_S2x31x512_S1x1x512_0_1_0) shapeCasts_S1x1x512_S512))) (extractStridedSlice S2x16384x512 ![0, 1, 0] A slices_S2x16414x512_S2x16384x512_0_1_0))) (mulf (broadcastInDim S2x16384x512 ![0, 1, 2] bcast_S1x1x512_S2x16384x512_0_1_2 (broadcastInDim S1x1x512 ![2] bcast_S512_S1x1x512_2 (shapeCast _ (extractStridedSlice S1x1x512 ![0, 2, 0] A2 slices_S2x31x512_S1x1x512_0_2_0) shapeCasts_S1x1x512_S512))) (extractStridedSlice S2x16384x512 ![0, 2, 0] A slices_S2x16414x512_S2x16384x512_0_2_0))) (mulf (broadcastInDim S2x16384x512 ![0, 1, 2] bcast_S1x1x512_S2x16384x512_0_1_2 (broadcastInDim S1x1x512 ![2] bcast_S512_S1x1x512_2 (shapeCast _ (extractStridedSlice S1x1x512 ![0, 3, 0] A2 slices_S2x31x512_S1x1x512_0_3_0) shapeCasts_S1x1x512_S512))) (extractStridedSlice S2x16384x512 ![0, 3, 0] A slices_S2x16414x512_S2x16384x512_0_3_0))) (mulf (broadcastInDim S2x16384x512 ![0, 1, 2] bcast_S1x1x512_S2x16384x512_0_1_2 (broadcastInDim S1x1x512 ![2] bcast_S512_S1x1x512_2 (shapeCast _ (extractStridedSlice S1x1x512 ![0, 4, 0] A2 slices_S2x31x512_S1x1x512_0_4_0) shapeCasts_S1x1x512_S512))) (extractStridedSlice S2x16384x512 ![0, 4, 0] A slices_S2x16414x512_S2x16384x512_0_4_0))) (mulf (broadcastInDim S2x16384x512 ![0, 1, 2] bcast_S1x1x512_S2x16384x512_0_1_2 (broadcastInDim S1x1x512 ![2] bcast_S512_S1x1x512_2 (shapeCast _ (extractStridedSlice S1x1x512 ![0, 5, 0] A2 slices_S2x31x512_S1x1x512_0_5_0) shapeCasts_S1x1x512_S512))) (extractStridedSlice S2x16384x512 ![0, 5, 0] A slices_S2x16414x512_S2x16384x512_0_5_0))) (mulf (broadcastInDim S2x16384x512 ![0, 1, 2] bcast_S1x1x512_S2x16384x512_0_1_2 (broadcastInDim S1x1x512 ![2] bcast_S512_S1x1x512_2 (shapeCast _ (extractStridedSlice S1x1x512 ![0, 6, 0] A2 slices_S2x31x512_S1x1x512_0_6_0) shapeCasts_S1x1x512_S512))) (extractStridedSlice S2x16384x512 ![0, 6, 0] A slices_S2x16414x512_S2x16384x512_0_6_0))) (mulf (broadcastInDim S2x16384x512 ![0, 1, 2] bcast_S1x1x512_S2x16384x512_0_1_2 (broadcastInDim S1x1x512 ![2] bcast_S512_S1x1x512_2 (shapeCast _ (extractStridedSlice S1x1x512 ![0, 7, 0] A2 slices_S2x31x512_S1x1x512_0_7_0) shapeCasts_S1x1x512_S512))) (extractStridedSlice S2x16384x512 ![0, 7, 0] A slices_S2x16414x512_S2x16384x512_0_7_0))) (mulf (broadcastInDim S2x16384x512 ![0, 1, 2] bcast_S1x1x512_S2x16384x512_0_1_2 (broadcastInDim S1x1x512 ![2] bcast_S512_S1x1x512_2 (shapeCast _ (extractStridedSlice S1x1x512 ![0, 8, 0] A2 slices_S2x31x512_S1x1x512_0_8_0) shapeCasts_S1x1x512_S512))) (extractStridedSlice S2x16384x512 ![0, 8, 0] A slices_S2x16414x512_S2x16384x512_0_8_0))) (mulf (broadcastInDim S2x16384x512 ![0, 1, 2] bcast_S1x1x512_S2x16384x512_0_1_2 (broadcastInDim S1x1x512 ![2] bcast_S512_S1x1x512_2 (shapeCast _ (extractStridedSlice S1x1x512 ![0, 9, 0] A2 slices_S2x31x512_S1x1x512_0_9_0) shapeCasts_S1x1x512_S512))) (extractStridedSlice S2x16384x512 ![0, 9, 0] A slices_S2x16414x512_S2x16384x512_0_9_0))) (mulf (broadcastInDim S2x16384x512 ![0, 1, 2] bcast_S1x1x512_S2x16384x512_0_1_2 (broadcastInDim S1x1x512 ![2] bcast_S512_S1x1x512_2 (shapeCast _ (extractStridedSlice S1x1x512 ![0, 10, 0] A2 slices_S2x31x512_S1x1x512_0_10_0) shapeCasts_S1x1x512_S512))) (extractStridedSlice S2x16384x512 ![0, 10, 0] A slices_S2x16414x512_S2x16384x512_0_10_0))

/-- Eleven taps more. -/
def rC2 (C : FVec Ideal S2x16384x512 .f32) (A : FVec Ideal S2x16414x512 .f32) (A2 : FVec Ideal S2x31x512 .f32) : FVec Ideal S2x16384x512 .f32 :=
  addf (addf (addf (addf (addf (addf (addf (addf (addf (addf (addf C (mulf (broadcastInDim S2x16384x512 ![0, 1, 2] bcast_S1x1x512_S2x16384x512_0_1_2 (broadcastInDim S1x1x512 ![2] bcast_S512_S1x1x512_2 (shapeCast _ (extractStridedSlice S1x1x512 ![0, 11, 0] A2 slices_S2x31x512_S1x1x512_0_11_0) shapeCasts_S1x1x512_S512))) (extractStridedSlice S2x16384x512 ![0, 11, 0] A slices_S2x16414x512_S2x16384x512_0_11_0))) (mulf (broadcastInDim S2x16384x512 ![0, 1, 2] bcast_S1x1x512_S2x16384x512_0_1_2 (broadcastInDim S1x1x512 ![2] bcast_S512_S1x1x512_2 (shapeCast _ (extractStridedSlice S1x1x512 ![0, 12, 0] A2 slices_S2x31x512_S1x1x512_0_12_0) shapeCasts_S1x1x512_S512))) (extractStridedSlice S2x16384x512 ![0, 12, 0] A slices_S2x16414x512_S2x16384x512_0_12_0))) (mulf (broadcastInDim S2x16384x512 ![0, 1, 2] bcast_S1x1x512_S2x16384x512_0_1_2 (broadcastInDim S1x1x512 ![2] bcast_S512_S1x1x512_2 (shapeCast _ (extractStridedSlice S1x1x512 ![0, 13, 0] A2 slices_S2x31x512_S1x1x512_0_13_0) shapeCasts_S1x1x512_S512))) (extractStridedSlice S2x16384x512 ![0, 13, 0] A slices_S2x16414x512_S2x16384x512_0_13_0))) (mulf (broadcastInDim S2x16384x512 ![0, 1, 2] bcast_S1x1x512_S2x16384x512_0_1_2 (broadcastInDim S1x1x512 ![2] bcast_S512_S1x1x512_2 (shapeCast _ (extractStridedSlice S1x1x512 ![0, 14, 0] A2 slices_S2x31x512_S1x1x512_0_14_0) shapeCasts_S1x1x512_S512))) (extractStridedSlice S2x16384x512 ![0, 14, 0] A slices_S2x16414x512_S2x16384x512_0_14_0))) (mulf (broadcastInDim S2x16384x512 ![0, 1, 2] bcast_S1x1x512_S2x16384x512_0_1_2 (broadcastInDim S1x1x512 ![2] bcast_S512_S1x1x512_2 (shapeCast _ (extractStridedSlice S1x1x512 ![0, 15, 0] A2 slices_S2x31x512_S1x1x512_0_15_0) shapeCasts_S1x1x512_S512))) (extractStridedSlice S2x16384x512 ![0, 15, 0] A slices_S2x16414x512_S2x16384x512_0_15_0))) (mulf (broadcastInDim S2x16384x512 ![0, 1, 2] bcast_S1x1x512_S2x16384x512_0_1_2 (broadcastInDim S1x1x512 ![2] bcast_S512_S1x1x512_2 (shapeCast _ (extractStridedSlice S1x1x512 ![0, 16, 0] A2 slices_S2x31x512_S1x1x512_0_16_0) shapeCasts_S1x1x512_S512))) (extractStridedSlice S2x16384x512 ![0, 16, 0] A slices_S2x16414x512_S2x16384x512_0_16_0))) (mulf (broadcastInDim S2x16384x512 ![0, 1, 2] bcast_S1x1x512_S2x16384x512_0_1_2 (broadcastInDim S1x1x512 ![2] bcast_S512_S1x1x512_2 (shapeCast _ (extractStridedSlice S1x1x512 ![0, 17, 0] A2 slices_S2x31x512_S1x1x512_0_17_0) shapeCasts_S1x1x512_S512))) (extractStridedSlice S2x16384x512 ![0, 17, 0] A slices_S2x16414x512_S2x16384x512_0_17_0))) (mulf (broadcastInDim S2x16384x512 ![0, 1, 2] bcast_S1x1x512_S2x16384x512_0_1_2 (broadcastInDim S1x1x512 ![2] bcast_S512_S1x1x512_2 (shapeCast _ (extractStridedSlice S1x1x512 ![0, 18, 0] A2 slices_S2x31x512_S1x1x512_0_18_0) shapeCasts_S1x1x512_S512))) (extractStridedSlice S2x16384x512 ![0, 18, 0] A slices_S2x16414x512_S2x16384x512_0_18_0))) (mulf (broadcastInDim S2x16384x512 ![0, 1, 2] bcast_S1x1x512_S2x16384x512_0_1_2 (broadcastInDim S1x1x512 ![2] bcast_S512_S1x1x512_2 (shapeCast _ (extractStridedSlice S1x1x512 ![0, 19, 0] A2 slices_S2x31x512_S1x1x512_0_19_0) shapeCasts_S1x1x512_S512))) (extractStridedSlice S2x16384x512 ![0, 19, 0] A slices_S2x16414x512_S2x16384x512_0_19_0))) (mulf (broadcastInDim S2x16384x512 ![0, 1, 2] bcast_S1x1x512_S2x16384x512_0_1_2 (broadcastInDim S1x1x512 ![2] bcast_S512_S1x1x512_2 (shapeCast _ (extractStridedSlice S1x1x512 ![0, 20, 0] A2 slices_S2x31x512_S1x1x512_0_20_0) shapeCasts_S1x1x512_S512))) (extractStridedSlice S2x16384x512 ![0, 20, 0] A slices_S2x16414x512_S2x16384x512_0_20_0))) (mulf (broadcastInDim S2x16384x512 ![0, 1, 2] bcast_S1x1x512_S2x16384x512_0_1_2 (broadcastInDim S1x1x512 ![2] bcast_S512_S1x1x512_2 (shapeCast _ (extractStridedSlice S1x1x512 ![0, 21, 0] A2 slices_S2x31x512_S1x1x512_0_21_0) shapeCasts_S1x1x512_S512))) (extractStridedSlice S2x16384x512 ![0, 21, 0] A slices_S2x16414x512_S2x16384x512_0_21_0))

/-- The last nine taps and the bias. -/
def rC3 (C : FVec Ideal S2x16384x512 .f32) (A : FVec Ideal S2x16414x512 .f32) (A2 : FVec Ideal S2x31x512 .f32) (A3 : FVec Ideal S2x512 .f32) : FVec Ideal S2x16384x512 .f32 :=
  addf (addf (addf (addf (addf (addf (addf (addf (addf (addf C (mulf (broadcastInDim S2x16384x512 ![0, 1, 2] bcast_S1x1x512_S2x16384x512_0_1_2 (broadcastInDim S1x1x512 ![2] bcast_S512_S1x1x512_2 (shapeCast _ (extractStridedSlice S1x1x512 ![0, 22, 0] A2 slices_S2x31x512_S1x1x512_0_22_0) shapeCasts_S1x1x512_S512))) (extractStridedSlice S2x16384x512 ![0, 22, 0] A slices_S2x16414x512_S2x16384x512_0_22_0))) (mulf (broadcastInDim S2x16384x512 ![0, 1, 2] bcast_S1x1x512_S2x16384x512_0_1_2 (broadcastInDim S1x1x512 ![2] bcast_S512_S1x1x512_2 (shapeCast _ (extractStridedSlice S1x1x512 ![0, 23, 0] A2 slices_S2x31x512_S1x1x512_0_23_0) shapeCasts_S1x1x512_S512))) (extractStridedSlice S2x16384x512 ![0, 23, 0] A slices_S2x16414x512_S2x16384x512_0_23_0))) (mulf (broadcastInDim S2x16384x512 ![0, 1, 2] bcast_S1x1x512_S2x16384x512_0_1_2 (broadcastInDim S1x1x512 ![2] bcast_S512_S1x1x512_2 (shapeCast _ (extractStridedSlice S1x1x512 ![0, 24, 0] A2 slices_S2x31x512_S1x1x512_0_24_0) shapeCasts_S1x1x512_S512))) (extractStridedSlice S2x16384x512 ![0, 24, 0] A slices_S2x16414x512_S2x16384x512_0_24_0))) (mulf (broadcastInDim S2x16384x512 ![0, 1, 2] bcast_S1x1x512_S2x16384x512_0_1_2 (broadcastInDim S1x1x512 ![2] bcast_S512_S1x1x512_2 (shapeCast _ (extractStridedSlice S1x1x512 ![0, 25, 0] A2 slices_S2x31x512_S1x1x512_0_25_0) shapeCasts_S1x1x512_S512))) (extractStridedSlice S2x16384x512 ![0, 25, 0] A slices_S2x16414x512_S2x16384x512_0_25_0))) (mulf (broadcastInDim S2x16384x512 ![0, 1, 2] bcast_S1x1x512_S2x16384x512_0_1_2 (broadcastInDim S1x1x512 ![2] bcast_S512_S1x1x512_2 (shapeCast _ (extractStridedSlice S1x1x512 ![0, 26, 0] A2 slices_S2x31x512_S1x1x512_0_26_0) shapeCasts_S1x1x512_S512))) (extractStridedSlice S2x16384x512 ![0, 26, 0] A slices_S2x16414x512_S2x16384x512_0_26_0))) (mulf (broadcastInDim S2x16384x512 ![0, 1, 2] bcast_S1x1x512_S2x16384x512_0_1_2 (broadcastInDim S1x1x512 ![2] bcast_S512_S1x1x512_2 (shapeCast _ (extractStridedSlice S1x1x512 ![0, 27, 0] A2 slices_S2x31x512_S1x1x512_0_27_0) shapeCasts_S1x1x512_S512))) (extractStridedSlice S2x16384x512 ![0, 27, 0] A slices_S2x16414x512_S2x16384x512_0_27_0))) (mulf (broadcastInDim S2x16384x512 ![0, 1, 2] bcast_S1x1x512_S2x16384x512_0_1_2 (broadcastInDim S1x1x512 ![2] bcast_S512_S1x1x512_2 (shapeCast _ (extractStridedSlice S1x1x512 ![0, 28, 0] A2 slices_S2x31x512_S1x1x512_0_28_0) shapeCasts_S1x1x512_S512))) (extractStridedSlice S2x16384x512 ![0, 28, 0] A slices_S2x16414x512_S2x16384x512_0_28_0))) (mulf (broadcastInDim S2x16384x512 ![0, 1, 2] bcast_S1x1x512_S2x16384x512_0_1_2 (broadcastInDim S1x1x512 ![2] bcast_S512_S1x1x512_2 (shapeCast _ (extractStridedSlice S1x1x512 ![0, 29, 0] A2 slices_S2x31x512_S1x1x512_0_29_0) shapeCasts_S1x1x512_S512))) (extractStridedSlice S2x16384x512 ![0, 29, 0] A slices_S2x16414x512_S2x16384x512_0_29_0))) (mulf (broadcastInDim S2x16384x512 ![0, 1, 2] bcast_S1x1x512_S2x16384x512_0_1_2 (broadcastInDim S1x1x512 ![2] bcast_S512_S1x1x512_2 (shapeCast _ (extractStridedSlice S1x1x512 ![0, 30, 0] A2 slices_S2x31x512_S1x1x512_0_30_0) shapeCasts_S1x1x512_S512))) (extractStridedSlice S2x16384x512 ![0, 30, 0] A slices_S2x16414x512_S2x16384x512_0_30_0))) (broadcastInDim S2x16384x512 ![0, 1, 2] bcast_S1x1x512_S2x16384x512_0_1_2 (broadcastInDim S1x1x512 ![2] bcast_S512_S1x1x512_2 (shapeCast _ (extractStridedSlice S1x512 ![0, 0] A3 slices_S2x512_S1x512_0_0) shapeCasts_S1x512_S512)))

/-- The convolution. -/
def rC (A : FVec Ideal S2x16414x512 .f32) (A2 : FVec Ideal S2x31x512 .f32) (A3 : FVec Ideal S2x512 .f32) : FVec Ideal S2x16384x512 .f32 :=
  rC3 (rC2 (rC1 A A2) A A2) A A2 A3

/-- The rows' means. -/
def rMean (C : FVec Ideal S2x16384x512 .f32) : FVec Ideal S2x16384x1 .f32 :=
  Host.divf (broadcastInDim S2x16384x1 ![0, 1] bcast_S2x16384_S2x16384x1_0_1 (Host.reduceAdd C (constant S_ .f32 0x00000000#32) reducesTo_S2x16384x512_S2x16384_d2 h_S_)) (broadcastInDim S2x16384x1 ![] bcast_S_S2x16384x1 (constant S_ .f32 0x44000000#32))

/-- The rows less their means. -/
def rDev (C : FVec Ideal S2x16384x512 .f32) : FVec Ideal S2x16384x512 .f32 :=
  subf C (broadcastInDim S2x16384x512 ![0, 1, 2] bcast_S2x16384x1_S2x16384x512_0_1_2 (rMean C))

/-- The layer norm. -/
def rN (C : FVec Ideal S2x16384x512 .f32) (A4 A5 : FVec Ideal S2x512 .f32) : FVec Ideal S2x16384x512 .f32 :=
  addf (mulf (mulf (subf C (broadcastInDim S2x16384x512 ![0, 1, 2] bcast_S2x16384x1_S2x16384x512_0_1_2 (rMean C))) (broadcastInDim S2x16384x512 ![0, 1, 2] bcast_S2x16384x1_S2x16384x512_0_1_2 (Host.rsqrt (addf (Host.divf (broadcastInDim S2x16384x1 ![0, 1] bcast_S2x16384_S2x16384x1_0_1 (Host.reduceAdd (mulf (rDev C) (rDev C)) (constant S_ .f32 0x00000000#32) reducesTo_S2x16384x512_S2x16384_d2 h_S_)) (broadcastInDim S2x16384x1 ![] bcast_S_S2x16384x1 (constant S_ .f32 0x44000000#32))) (broadcastInDim S2x16384x1 ![] bcast_S_S2x16384x1 (constant S_ .f32 0x358637BD#32)))))) (broadcastInDim S2x16384x512 ![0, 1, 2] bcast_S1x1x512_S2x16384x512_0_1_2 (broadcastInDim S1x1x512 ![2] bcast_S512_S1x1x512_2 (shapeCast _ (extractStridedSlice S1x512 ![0, 0] A4 slices_S2x512_S1x512_0_0) shapeCasts_S1x512_S512)))) (broadcastInDim S2x16384x512 ![0, 1, 2] bcast_S1x1x512_S2x16384x512_0_1_2 (broadcastInDim S1x1x512 ![2] bcast_S512_S1x1x512_2 (shapeCast _ (extractStridedSlice S1x512 ![0, 0] A5 slices_S2x512_S1x512_0_0) shapeCasts_S1x512_S512)))

/-- The silu. -/
def rO (N : FVec Ideal S2x16384x512 .f32) : FVec Ideal S32768x512 .bf16 :=
  truncf .bf16 (shapeCast _ (mulf N (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf N))))) shapeCasts_S2x16384x512_S32768x512) bitsLt_bf16_f32

end Cert.ConvRefIdeal.Stage

end
-- ==== Proof.ConvPoint.lean ====
/- What the convolution kernel stores at one grid point: the layer norm and the silu of 31 taps of the gated rows, at every row
and column of the block. -/
module

public import proofs.«01_k».proof.Proof.Gen.ConvIdeal.Value
public import Idealize.ShloMosaic.Lib.Pointwise
public import Idealize.ShloMosaic.Lib.Pipeline.ValueKit

@[expose] public section

set_option maxRecDepth 16384

noncomputable section

namespace Cert.ConvIdeal.Result

open Idealize.ShloMosaic Idealize.ShloMosaic.TcCoe Idealize.SL.Sem
open Cert.ConvIdeal Cert.ConvIdeal.Gen

variable (m : (ℓ : Loc nD τ sig) → Buf (Elt Ideal) ℓ)

/-- A partial sum read back from the second scratch array is the newest one stored there, from the row it is read at. -/
theorem part_read {κ : Kind} {sp : Space} (vw : View sig κ sp S8x136x128 .f32) (j o : ℕ) (h : ∀ a, (![j, 0, 0] : Fin 3 → ℕ) a + (![1, 136, 128] : Fin 3 → ℕ) a ≤ S8x136x128.size a)
    (h' : ∀ a, (![j, o, 0] : Fin 3 → ℕ) a + (![1, 128, 128] : Fin 3 → ℕ) a ≤ S8x136x128.size a) (ho : o + 128 ≤ 136)
    (w : FVec Ideal S1x136x128 .f32) (L : List (View.Piece (Elt Ideal) S8x136x128 .f32)) :
    @Eq (FVec Ideal S1x128x128 .f32) (vw.readCov (Val := Elt Ideal) (⟨Rect.unit (s := S8x136x128) ![j, 0, 0] ![1, 136, 128] h, w⟩ :: L)
      (Rect.unit (s := S8x136x128) ![j, o, 0] ![1, 128, 128] h').toLoadRect)
    (fun x => w (ix3 (0 : Fin 1) (⟨o + (x 1).val, by have : (x 1).val < 128 := (x 1).isLt; omega⟩ : Fin 136) (x 2 : Fin 128))) := by
  rw [View.readCov_eq_canon']
  funext x
  have e : (Rect.unit (s := S8x136x128) ![j, o, 0] ![1, 128, 128] h').toLoadRect.idx x
      = (Rect.unit (s := S8x136x128) ![j, 0, 0] ![1, 136, 128] h).emb
        (ix3 (0 : Fin 1) (⟨o + (x 1).val, by have : (x 1).val < 128 := (x 1).isLt; omega⟩ : Fin 136) (x 2 : Fin 128)) := by
    change (Rect.unit (s := S8x136x128) ![j, o, 0] ![1, 128, 128] h').emb x = _
    blk_ext
  rw [e, View.canon_cons_emb]

/-- The first scratch array: the halo's rows above the tile's. -/
def scr (u : FVec Ideal S32x512 .f32) (v : FVec Ideal S512x512 .f32) (p : ℕ) (q : Fin 512) : EReal :=
  if h : p < 32 then u (ix2 ⟨p, h⟩ q) else if h' : p - 32 < 512 then v (ix2 ⟨p - 32, h'⟩ q) else 0

/-- The first scratch array's contents at a row and a column. -/
theorem scr_canon (h h2) (u : FVec Ideal S32x512 .f32) (v : FVec Ideal S512x512 .f32) (p : Fin 544) (q : Fin 512) :
    View.canon (Val := Elt Ideal) (s := S544x512) (e := .f32) [⟨Rect.unit (s := S544x512) ![32, 0] ![512, 512] h, v⟩,
      ⟨Rect.unit (s := S544x512) ![0, 0] ![32, 512] h2, u⟩] (ix2 p q) = scr u v p.val q := by
  unfold scr
  have hb := p.isLt
  split_ifs with hp hp'
  · rw [View.canon_cons_of_not_mem]
    · have e : (ix2 p q : S544x512.Idx) = (Rect.unit (s := S544x512) ![0, 0] ![32, 512] h2).emb (ix2 (⟨p.val, hp⟩ : Fin 32) q) := by
        blk_ext
      rw [e, View.canon_cons_emb]
    · intro hm
      obtain ⟨z, hz⟩ := LoadRect.exists_idx_of_mem (Rect.unit (s := S544x512) ![32, 0] ![512, 512] h).toLoadRect hm
      have := congrArg (fun i : S544x512.Idx => (i 0).val) hz
      have e2 : 32 + (z 0).val = p.val := by simpa using this
      omega
  · have e : (ix2 p q : S544x512.Idx) = (Rect.unit (s := S544x512) ![32, 0] ![512, 512] h).emb (ix2 (⟨p.val - 32, by omega⟩ : Fin 512) q) := by
      blk_ext
    rw [e, View.canon_cons_emb]
  · omega

/-- What is read from the first scratch array. -/
theorem scr_read {κ : Kind} {sp : Space} (vw : View sig κ sp S544x512 .f32) (n r k : ℕ) (h h2) (h' : ∀ a, (![r, k] : Fin 2 → ℕ) a + (![n, 128] : Fin 2 → ℕ) a ≤ S544x512.size a) (hr : r + n ≤ 544)
    (hk : k + 128 ≤ 512)
    (u : FVec Ideal S32x512 .f32) (v : FVec Ideal S512x512 .f32) :
    @Eq (FVec Ideal ⟨2, ![n, 128]⟩ .f32) (vw.readCov (Val := Elt Ideal) [⟨Rect.unit (s := S544x512) ![32, 0] ![512, 512] h, v⟩,
      ⟨Rect.unit (s := S544x512) ![0, 0] ![32, 512] h2, u⟩]
      (Rect.unit (s := S544x512) ![r, k] ![n, 128] h').toLoadRect)
    (fun x => scr u v (r + (x 0).val) ⟨k + (x 1).val, by have : (x 1).val < 128 := (x 1).isLt; omega⟩) := by
  rw [View.readCov_eq_canon']
  funext x
  have b0 : (x 0).val < n := (x 0).isLt
  have b1 : (x 1).val < 128 := (x 1).isLt
  have e : (Rect.unit (s := S544x512) ![r, k] ![n, 128] h').toLoadRect.idx x
      = (ix2 (⟨r + (x 0).val, by omega⟩ : Fin 544) (⟨k + (x 1).val, by omega⟩ : Fin 512) : S544x512.Idx) := by
    change (Rect.unit (s := S544x512) ![r, k] ![n, 128] h').emb x = _
    blk_ext
  rw [e]
  exact scr_canon h h2 u v _ _

/-- A tap's weight. -/
def wt (W : FVec Ideal S31x512 .f32) (k : ℕ) (l : Fin 512) : EReal := if h : k < 31 then W (ix2 ⟨k, h⟩ l) else 0

/-- The convolution at row `o + q`: the bias and 31 taps of the 31 rows ending there. -/
def cv (U : FVec Ideal S32x512 .f32) (Y : FVec Ideal S512x512 .f32) (W : FVec Ideal S31x512 .f32) (B : FVec Ideal S1x512 .f32)
    (o q : ℕ) (l : Fin 512) : EReal := B (ix2 0 l) + ∑ k ∈ Finset.range 31, wt W k l * scr U Y (o + 2 + k + q) l

/-- A row's layer norm, before the silu. -/
def nrm (y g b : Fin 512 → EReal) (l : Fin 512) : EReal :=
  (y l - Ideal.div (∑ x, y x) (Ideal.ofBits FTy.f32 1140850688#32))
    * Ideal.rsqrt (Ideal.div (∑ x, (y x - Ideal.div (∑ x, y x) (Ideal.ofBits FTy.f32 1140850688#32))
      * (y x - Ideal.div (∑ x, y x) (Ideal.ofBits FTy.f32 1140850688#32))) (Ideal.ofBits FTy.f32 1140850688#32)
      + Ideal.ofBits FTy.f32 897988541#32) * g l + b l

/-- The silu of a number. -/
def silu (x : EReal) : EReal := x * Ideal.div 1 (1 + Ideal.exp (0 - x))

/-- Four columns of 128 lanes side by side. -/
theorem conc_eq (a b c d : FVec Ideal S128x128 .f32) (y : Fin 128 → Fin 512 → EReal)
    (ha : ∀ q l : Fin 128, a (ix2 q l) = y q ⟨0 + l.val, by omega⟩) (hb : ∀ q l : Fin 128, b (ix2 q l) = y q ⟨128 + l.val, by omega⟩)
    (hc : ∀ q l : Fin 128, c (ix2 q l) = y q ⟨256 + l.val, by omega⟩) (hd : ∀ q l : Fin 128, d (ix2 q l) = y q ⟨384 + l.val, by omega⟩) :
    @Eq (FVec Ideal S128x512 .f32) (concatenate S128x512 1 [⟨S128x128, a⟩, ⟨S128x128, b⟩, ⟨S128x128, c⟩, ⟨S128x128, d⟩] concatenates_S128x128_S128x128_S128x128_S128x128_S128x512_d1)
      (fun x => y (x 0) (x 1)) := by
  funext x
  idx_vars x
  pointwise
  simp only [ha, hb, hc, hd]
  split_ifs <;> exact congrArg (y _) (Fin.ext (by dsimp only; omega))

section

variable (a b c d : FVec Ideal S128x128 .f32) (e : FVec Ideal S1x128x128 .f32) (g h : FVec Ideal S1x512 .f32) (y : Fin 128 → Fin 512 → EReal)
  (ha : ∀ q l : Fin 128, a (ix2 q l) = y q ⟨0 + l.val, by omega⟩) (hb : ∀ q l : Fin 128, b (ix2 q l) = y q ⟨128 + l.val, by omega⟩)
  (hc : ∀ q l : Fin 128, c (ix2 q l) = y q ⟨256 + l.val, by omega⟩)

include ha hb hc

/-- The first row block's layer norm and silu. -/
theorem pay97_eq (hd : ∀ q l : Fin 128, (d (ix2 q l) + e (ix3 0 q l) : EReal) = y q ⟨384 + l.val, by omega⟩)
    (q : Fin 128) (l : Fin 512) : k0_pay97 (F := Ideal) a b c d e g h (ix2 q l)
      = silu (nrm (y q) (fun l => g (ix2 0 l)) (fun l => h (ix2 0 l)) l) := by
  unfold k0_pay97
  rw [conc_eq a b c _ y ha hb hc (fun q l => Eq.trans (by pointwise) (hd q l))]
  pointwise [silu, nrm]

/-- The second row block's layer norm and silu. -/
theorem pay191_eq (hd : ∀ q l : Fin 128, (d (ix2 q l) + e (ix3 0 q l) : EReal) = y q ⟨384 + l.val, by omega⟩)
    (q : Fin 128) (l : Fin 512) : k0_pay191 (F := Ideal) (k0_pay186 g) (k0_pay187 h) (k0_pay188 a b c d e) (k0_pay189 a b c d e) k0_pay190 (ix2 q l)
      = silu (nrm (y q) (fun l => g (ix2 0 l)) (fun l => h (ix2 0 l)) l) := by
  unfold k0_pay189 k0_pay188
  dsimp only
  rw [conc_eq a b c _ y ha hb hc (fun q l => Eq.trans (by pointwise) (hd q l))]
  pointwise [silu, nrm, k0_pay191, k0_pay190, k0_pay186, k0_pay187]

/-- The third row block's layer norm and silu. -/
theorem pay283_eq (hd : ∀ q l : Fin 128, d (ix2 q l) = y q ⟨384 + l.val, by omega⟩)
    (q : Fin 128) (l : Fin 512) : k0_pay283 (F := Ideal) a b c d g h (ix2 q l)
      = silu (nrm (y q) (fun l => g (ix2 0 l)) (fun l => h (ix2 0 l)) l) := by
  unfold k0_pay283
  rw [conc_eq a b c _ y ha hb hc hd]
  pointwise [silu, nrm]

/-- The fourth row block's layer norm and silu. -/
theorem pay1_eq (hd : ∀ q l : Fin 128, (d (ix2 q l) + e (ix3 0 q l) : EReal) = y q ⟨384 + l.val, by omega⟩)
    (q : Fin 128) (l : Fin 512) : k0_pay1 (F := Ideal) (k0_pay377 a b c d e g h) (k0_pay378 (k0_pay377 a b c d e g h)) k0_pay379 (ix2 q l)
      = silu (nrm (y q) (fun l => g (ix2 0 l)) (fun l => h (ix2 0 l)) l) := by
  unfold k0_pay377
  dsimp only
  rw [conc_eq a b c _ y ha hb hc (fun q l => Eq.trans (by pointwise) (hd q l))]
  pointwise [silu, nrm, k0_pay1, k0_pay378, k0_pay379]

end

set_option maxHeartbeats 0 in
/-- The block after the body at point `t`, at row `r` and lane `l`. -/
theorem block_apply (c : Dev nD) (t : Fin cfg0.N) (r l : Fin 512) : outsAt0 m c t (ix2 r l)
    = silu (nrm (cv (k0_pay2 (F := Ideal) (grid0.coords t) (iblk m c 1 t) (iblk m c 2 t) (iblk m c 3 t)) (k0_pay3 (F := Ideal) (iblk m c 0 t) (iblk m c 2 t) (iblk m c 3 t))
       (iblk m c 4 t) (iblk m c 5 t) 0 r.val) (fun l => (iblk m c 6 t : FVec Ideal S1x512 .f32) (ix2 0 l)) (fun l => (iblk m c 7 t : FVec Ideal S1x512 .f32) (ix2 0 l)) l) := by
  unfold outsAt0 out0_A_8
  frame_out [kernelRun0_A]
  generalize k0_pay2 (F := Ideal) (grid0.coords t) (iblk m c 1 t) (iblk m c 2 t) (iblk m c 3 t) = U
  generalize k0_pay3 (F := Ideal) (iblk m c 0 t) (iblk m c 2 t) (iblk m c 3 t) = Y
  generalize (iblk m c 4 t : FVec Ideal S31x512 .f32) = W
  generalize (iblk m c 5 t : FVec Ideal S1x512 .f32) = B
  generalize (iblk m c 6 t : FVec Ideal S1x512 .f32) = G
  generalize (iblk m c 7 t : FVec Ideal S1x512 .f32) = H
  change FVec Ideal S31x512 .f32 at W
  change FVec Ideal S1x512 .f32 at B
  change FVec Ideal S1x512 .f32 at G
  change FVec Ideal S1x512 .f32 at H
  have sh : ∀ o q, cv U Y W B 0 (o + q) = cv U Y W B o q := fun o q => by
    funext l
    unfold cv
    refine congrArg (B (ix2 0 l) + ·) (Finset.sum_congr rfl fun k _ => congrArg (fun n => wt W k l * scr U Y n l) (by omega))
  simp (disch := omega) only [part_read, scr_read]
  canon_tiles x h
  all_goals
    obtain ⟨p, q, rfl⟩ : ∃ p q, x = ix2 p q := ⟨x 0, x 1, by blk_ext⟩
    have e1 : l = q := Fin.ext h1
    subst e1
    first
    | have e0 : r.val = 384 + p.val := h0
      rw [e0, sh]
      refine pay1_eq _ _ _ _ _ _ _ (fun q l => cv U Y W B 384 q.val l) (fun q l => ?_) (fun q l => ?_) (fun q l => ?_) (fun q l => ?_) p l
    | have e0 : r.val = 256 + p.val := h0
      rw [e0, sh]
      refine pay283_eq _ _ _ _ _ _ (fun q l => cv U Y W B 256 q.val l) (fun q l => ?_) (fun q l => ?_) (fun q l => ?_) (fun q l => ?_) p l
    | have e0 : r.val = 128 + p.val := h0
      rw [e0, sh]
      refine pay191_eq _ _ _ _ _ _ _ (fun q l => cv U Y W B 128 q.val l) (fun q l => ?_) (fun q l => ?_) (fun q l => ?_) (fun q l => ?_) p l
    | have e0 : r.val = 0 + p.val := h0.trans (Nat.zero_add _).symm
      rw [e0, sh]
      refine pay97_eq _ _ _ _ _ _ _ (fun q l => cv U Y W B 0 q.val l) (fun q l => ?_) (fun q l => ?_) (fun q l => ?_) (fun q l => ?_) p l
  all_goals
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376]
    simp only [cv, wt, Finset.sum_range_succ, Finset.sum_range_zero, zero_add, Nat.reduceAdd, Nat.reduceLT, dite_true, ← Nat.add_assoc, Fin.reduceFinMk]
    abel

end Cert.ConvIdeal.Result
end
-- ==== Proof.ConvArith.lean ====
/- The convolution module's arithmetic: the reference's stages element by element, and the kernel's gated rows. -/
module

public import proofs.«01_k».proof.Proof.ConvStages
public import proofs.«01_k».proof.Proof.ConvPoint

@[expose] public section

set_option maxRecDepth 16384

noncomputable section

namespace Cert.ConvIdeal.Result

open Idealize.ShloMosaic Idealize.ShloMosaic.TcCoe Idealize.SL.Sem
open Cert.ConvIdeal Cert.ConvIdeal.Gen
open Cert.ConvRefIdeal.Stage

/-- The gate: a number times the logistic of another. -/
def glu (x y : EReal) : EReal := x * Ideal.div 1 (1 + Ideal.exp (-y))

/-- The reference's padded gated rows. -/
theorem rA_apply (P : FVec Ideal Cert.ConvRefIdeal.S2x16384x1024 .f32) (b : Fin 2) (s : Fin 16414) (l : Fin 512) :
    rA P (ix3 b s l) = (if h : s.val < 30 then 0 else glu (P (ix3 b ⟨s.val - 30, by omega⟩ ⟨l.val, by omega⟩)) (P (ix3 b ⟨s.val - 30, by omega⟩ ⟨512 + l.val, by omega⟩)) : EReal) := by
  have hz : (FloatOps.sitofp FTy.f32 (0#32) : Ideal .f32) = (0 : EReal) := by
    change ((((0#32 : BitVec 32).toInt : ℝ)) : EReal) = 0
    norm_num
  pointwise [rA, glu]
  by_cases h : s.val < 30
  · rw [dif_neg (by omega), dif_pos h]
    exact hz
  · rw [dif_pos (by omega), dif_neg h]

/-- The reference's projection. -/
theorem rP_apply (X : FVec Ideal S2x16384x2048 .f32) (W : FVec Ideal S2x2048x11264 .f32) (b : Fin 2) (s : Fin 16384) (j : Fin 1024) :
    rP X W (ix3 b s j) = ∑ k : Fin 2048, X (ix3 b s k) * W (ix3 0 k ⟨3072 + j.val, by omega⟩) := by
  pointwise [rP]

/-- The reference's convolution. -/
theorem rC_apply (A : FVec Ideal Cert.ConvRefIdeal.S2x16414x512 .f32) (A2 : FVec Ideal S2x31x512 .f32) (A3 : FVec Ideal S2x512 .f32)
    (b : Fin 2) (s : Fin 16384) (l : Fin 512) :
    rC A A2 A3 (ix3 b s l) = (A3 (ix2 0 l) + ∑ k ∈ Finset.range 31, (if h : k < 31 then A2 (ix3 0 ⟨k, h⟩ l) * A (ix3 b ⟨k + s.val, by omega⟩ l) else 0) : EReal) := by
  simp only [Finset.sum_range_succ, Finset.sum_range_zero, zero_add, Nat.reduceLT, dite_true, Fin.reduceFinMk]
  pointwise [rC, rC1, rC2, rC3]
  rw [add_comm]

/-- The reference's layer norm. -/
theorem rN_apply (C : FVec Ideal Cert.ConvRefIdeal.S2x16384x512 .f32) (A4 A5 : FVec Ideal S2x512 .f32)
    (b : Fin 2) (s : Fin 16384) (l : Fin 512) :
    rN C A4 A5 (ix3 b s l) = nrm (fun l => C (ix3 b s l)) (fun l => A4 (ix2 0 l)) (fun l => A5 (ix2 0 l)) l := by
  pointwise [rN, rDev, rMean, nrm]

/-- The reference's silu. -/
theorem rO_apply (N : FVec Ideal Cert.ConvRefIdeal.S2x16384x512 .f32) (n : Fin 32768) (l : Fin 512) :
    rO N (ix2 n l) = silu (N (ix3 ⟨n.val / 16384, by omega⟩ ⟨n.val % 16384, by omega⟩ l)) := by
  pointwise [rO, silu]
  simp only [zero_sub]

/-- The kernel's gated rows of the tile. -/
theorem pay3_apply (x : FVec Ideal S512x2048 .bf16) (w w' : FVec Ideal S1x2048x512 .bf16) (p l : Fin 512) :
    k0_pay3 (F := Ideal) x w w' (ix2 p l)
      = glu (∑ k : Fin 2048, x (ix2 p k) * w (ix3 0 k l)) (∑ k : Fin 2048, x (ix2 p k) * w' (ix3 0 k l)) := by
  pointwise [k0_pay3, glu]
  simp only [zero_sub]

/-- The kernel's test for a sequence's first tile. -/
theorem sel_first (t : Fin grid0.N) (u v : EReal) :
    Scalar.select (Scalar.cmpi CmpIPredicate.eq
      (Scalar.select
        (Scalar.andi
          (Scalar.xori
            (Scalar.cmpi CmpIPredicate.slt
              (Scalar.remsi (BitVec.ofNat 32 (grid0.coords t 0).val)
                (Scalar.select (Scalar.cmpi CmpIPredicate.eq 32#32 0#32) 1#32 32#32))
              0#32)
            (Scalar.cmpi CmpIPredicate.slt (Scalar.select (Scalar.cmpi CmpIPredicate.eq 32#32 0#32) 1#32 32#32) 0#32))
          (Scalar.cmpi CmpIPredicate.ne
            (Scalar.remsi (BitVec.ofNat 32 (grid0.coords t 0).val)
              (Scalar.select (Scalar.cmpi CmpIPredicate.eq 32#32 0#32) 1#32 32#32))
            0#32))
        (Scalar.addi
          (Scalar.remsi (BitVec.ofNat 32 (grid0.coords t 0).val)
            (Scalar.select (Scalar.cmpi CmpIPredicate.eq 32#32 0#32) 1#32 32#32))
          (Scalar.select (Scalar.cmpi CmpIPredicate.eq 32#32 0#32) 1#32 32#32))
        (Scalar.remsi (BitVec.ofNat 32 (grid0.coords t 0).val)
          (Scalar.select (Scalar.cmpi CmpIPredicate.eq 32#32 0#32) 1#32 32#32)))
      0#32) u v = if t.val % 32 = 0 then u else v := by
  have h : ∀ t : Fin grid0.N, Scalar.cmpi CmpIPredicate.eq
      (Scalar.select
        (Scalar.andi
          (Scalar.xori
            (Scalar.cmpi CmpIPredicate.slt
              (Scalar.remsi (BitVec.ofNat 32 (grid0.coords t 0).val)
                (Scalar.select (Scalar.cmpi CmpIPredicate.eq 32#32 0#32) 1#32 32#32))
              0#32)
            (Scalar.cmpi CmpIPredicate.slt (Scalar.select (Scalar.cmpi CmpIPredicate.eq 32#32 0#32) 1#32 32#32) 0#32))
          (Scalar.cmpi CmpIPredicate.ne
            (Scalar.remsi (BitVec.ofNat 32 (grid0.coords t 0).val)
              (Scalar.select (Scalar.cmpi CmpIPredicate.eq 32#32 0#32) 1#32 32#32))
            0#32))
        (Scalar.addi
          (Scalar.remsi (BitVec.ofNat 32 (grid0.coords t 0).val)
            (Scalar.select (Scalar.cmpi CmpIPredicate.eq 32#32 0#32) 1#32 32#32))
          (Scalar.select (Scalar.cmpi CmpIPredicate.eq 32#32 0#32) 1#32 32#32))
        (Scalar.remsi (BitVec.ofNat 32 (grid0.coords t 0).val)
          (Scalar.select (Scalar.cmpi CmpIPredicate.eq 32#32 0#32) 1#32 32#32)))
      0#32 = if t.val % 32 = 0 then 1#1 else 0#1 := by decide +kernel
  rw [h t]; split_ifs <;> rfl

/-- The kernel's gated rows of the halo, zeros at a sequence's first tile. -/
theorem pay2_apply (t : Fin grid0.N) (x : FVec Ideal S32x2048 .bf16) (w w' : FVec Ideal S1x2048x512 .bf16) (p : Fin 32) (l : Fin 512) :
    k0_pay2 (F := Ideal) (grid0.coords t) x w w' (ix2 p l)
      = if t.val % 32 = 0 then 0
        else glu (∑ k : Fin 2048, x (ix2 p k) * w (ix3 0 k l)) (∑ k : Fin 2048, x (ix2 p k) * w' (ix3 0 k l)) := by
  pointwise [k0_pay2, glu]
  simp only [zero_sub]
  exact sel_first t _ _

end Cert.ConvIdeal.Result

end
-- ==== Proof.ConvValue.lean ====
/- What the convolution kernel computes: its result array is the reference's, element by element. -/
module

public import proofs.«01_k».proof.Proof.ConvArith
public import proofs.«01_k».proof.Proof.Gen.Conv.Frame
public import proofs.«01_k».proof.Defs

@[expose] public section

set_option maxRecDepth 16384

noncomputable section

namespace Cert.ConvIdeal.Result

open Idealize.ShloMosaic Idealize.ShloMosaic.TcCoe Idealize.SL.Sem
open Idealize.ShloMosaic.Pipeline (Dat)
open Cert.ConvIdeal Cert.ConvIdeal.Gen
open Cert.ConvRefIdeal.Stage

variable (m : (ℓ : Loc nD τ sig) → Buf (Elt Ideal) ℓ)

/-- The reference's result. -/
abbrev REF (X : FVec Ideal S2x16384x2048 .f32) (W : FVec Ideal S2x2048x11264 .f32) (K : FVec Ideal S2x31x512 .f32)
    (D G B : FVec Ideal S2x512 .f32) : FVec Ideal S32768x512 .bf16 :=
  rO (rN (rC (rA (rP X W)) K D) G B)

/-- Where every window's block sits at each grid point. -/
theorem idx : ∀ t : Fin cfg0.N, win0_0.index t = ![t.val, 0] ∧ win0_1.index t = ![16 * t.val - 1, 0] ∧ win0_2.index t = ![0, 0, 6]
    ∧ win0_3.index t = ![0, 0, 7] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The tokens, as a plain array. -/
abbrev argX (c : Dev nD) : FVec Ideal S2x16384x2048 .f32 := m ((c : Thread nD τ).loc main_arg0)
/-- The projection's weights, as a plain array. -/
abbrev argW (c : Dev nD) : FVec Ideal S2x2048x11264 .f32 := m ((c : Thread nD τ).loc main_arg1)
/-- The taps, as a plain array. -/
abbrev argK (c : Dev nD) : FVec Ideal S2x31x512 .f32 := m ((c : Thread nD τ).loc main_arg2)
/-- The convolutions' biases, as a plain array. -/
abbrev argD (c : Dev nD) : FVec Ideal S2x512 .f32 := m ((c : Thread nD τ).loc main_arg3)
/-- The norms' scales, as a plain array. -/
abbrev argG (c : Dev nD) : FVec Ideal S2x512 .f32 := m ((c : Thread nD τ).loc main_arg4)
/-- The norms' shifts, as a plain array. -/
abbrev argB (c : Dev nD) : FVec Ideal S2x512 .f32 := m ((c : Thread nD τ).loc main_arg5)

/-- The tokens' array the kernel is called with: the argument with its first two axes joined. -/
theorem entry_x (c : Dev nD) (r : Fin 32768) (k : Fin 2048) : (V m c main_v1 : S32768x2048.Idx → EReal) (ix2 r k)
    = argX m c (ix3 ⟨r.val / 16384, by omega⟩ ⟨r.val % 16384, by omega⟩ k) := by
  have h : @Eq (S32768x2048.Idx → EReal) (V m c main_v1)
      (shapeCast S32768x2048 (argX m c) shapeCasts_S2x16384x2048_S32768x2048) := by
    entry_read
    rfl
  rw [h]
  pointwise

/-- The projection's weights the kernel is called with: the argument. -/
theorem entry_w (c : Dev nD) : @Eq (S2x2048x11264.Idx → EReal) (V m c main_v2) (argW m c) := by
  entry_read
  rfl

/-- The taps the kernel is called with. -/
theorem entry_k (c : Dev nD) (k : Fin 31) (l : Fin 512) :
    (V m c main_v4 : FVec Ideal S31x512 .f32) (ix2 k l) = argK m c (ix3 0 k l) := by
  have h : @Eq (FVec Ideal S31x512 .f32) (V m c main_v4)
      (shapeCast S31x512 (extractStridedSlice S1x31x512 ![0, 0, 0] (argK m c) slices_S2x31x512_S1x31x512_0_0_0) shapeCasts_S1x31x512_S31x512) := by
    entry_read
    rfl
  rw [h]
  pointwise

/-- The convolution's bias the kernel is called with. -/
theorem entry_d (c : Dev nD) (k : Fin 512) : (V m c main_v7 : FVec Ideal S1x512 .f32) (ix2 0 k) = argD m c (ix2 0 k) := by
  have h : @Eq (FVec Ideal S1x512 .f32) (V m c main_v7)
      (shapeCast S1x512 (shapeCast S512 (extractStridedSlice S1x512 ![0, 0] (argD m c) slices_S2x512_S1x512_0_0) shapeCasts_S1x512_S512) shapeCasts_S512_S1x512) := by
    entry_read
    rfl
  rw [h]
  pointwise

/-- The norm's scale the kernel is called with. -/
theorem entry_g (c : Dev nD) (k : Fin 512) : (V m c main_v10 : FVec Ideal S1x512 .f32) (ix2 0 k) = argG m c (ix2 0 k) := by
  have h : @Eq (FVec Ideal S1x512 .f32) (V m c main_v10)
      (shapeCast S1x512 (shapeCast S512 (extractStridedSlice S1x512 ![0, 0] (argG m c) slices_S2x512_S1x512_0_0) shapeCasts_S1x512_S512) shapeCasts_S512_S1x512) := by
    entry_read
    rfl
  rw [h]
  pointwise

/-- The norm's shift the kernel is called with. -/
theorem entry_b (c : Dev nD) (k : Fin 512) : (V m c main_v13 : FVec Ideal S1x512 .f32) (ix2 0 k) = argB m c (ix2 0 k) := by
  have h : @Eq (FVec Ideal S1x512 .f32) (V m c main_v13)
      (shapeCast S1x512 (shapeCast S512 (extractStridedSlice S1x512 ![0, 0] (argB m c) slices_S2x512_S1x512_0_0) shapeCasts_S1x512_S512) shapeCasts_S512_S1x512) := by
    entry_read
    rfl
  rw [h]
  pointwise

/-- The tile's tokens at point `t`. -/
theorem blk_x (c : Dev nD) (t : Fin cfg0.N) (r : Fin 512) (k : Fin 2048) : iblk m c 0 t (ix2 r k)
    = argX m c (ix3 ⟨(t.val * 512 + r.val) / 16384, by have := lt_of_lt_of_eq t.isLt N_0; omega⟩ ⟨(t.val * 512 + r.val) % 16384, by omega⟩ k) := by
  blk_simp [iblk]
  refine Eq.trans (congrArg (V m c main_v1 : S32768x2048.Idx → EReal) ?_) (entry_x m c ⟨t.val * 512 + r.val, by have := lt_of_lt_of_eq t.isLt N_0; omega⟩ k)
  blk_ext [idx t]

/-- The halo's tokens at point `t`: the 32 rows before the tile. -/
theorem blk_h (c : Dev nD) (t : Fin cfg0.N) (r : Fin 32) (k : Fin 2048) : iblk m c 1 t (ix2 r k)
    = argX m c (ix3 ⟨((16 * t.val - 1) * 32 + r.val) / 16384, by have := lt_of_lt_of_eq t.isLt N_0; omega⟩ ⟨((16 * t.val - 1) * 32 + r.val) % 16384, by omega⟩ k) := by
  blk_simp [iblk]
  refine Eq.trans (congrArg (V m c main_v1 : S32768x2048.Idx → EReal) ?_) (entry_x m c ⟨(16 * t.val - 1) * 32 + r.val, by have := lt_of_lt_of_eq t.isLt N_0; omega⟩ k)
  blk_ext [idx t]

/-- The weights of the half that is gated at point `t`. -/
theorem blk_wa (c : Dev nD) (t : Fin cfg0.N) (k : Fin 2048) (l : Fin 512) :
    iblk m c 2 t (ix3 0 k l) = argW m c (ix3 0 k ⟨3072 + l.val, by omega⟩) := by
  blk_simp [iblk]
  rw [entry_w]
  blk_ext [idx t]

/-- The weights of the gate at point `t`. -/
theorem blk_wb (c : Dev nD) (t : Fin cfg0.N) (k : Fin 2048) (l : Fin 512) :
    iblk m c 3 t (ix3 0 k l) = argW m c (ix3 0 k ⟨3072 + (512 + l.val), by omega⟩) := by
  blk_simp [iblk]
  rw [entry_w]
  blk_ext [idx t]

/-- The taps at point `t`. -/
theorem blk_k (c : Dev nD) (t : Fin cfg0.N) (k : Fin 31) (l : Fin 512) : iblk m c 4 t (ix2 k l) = argK m c (ix3 0 k l) := by
  blk_simp [iblk]
  refine Eq.trans (congrArg (V m c main_v4 : S31x512.Idx → EReal) ?_) (entry_k m c k l)
  blk_ext [idx t]

/-- The convolution's bias at point `t`. -/
theorem blk_d (c : Dev nD) (t : Fin cfg0.N) (k : Fin 512) : iblk m c 5 t (ix2 0 k) = argD m c (ix2 0 k) := by
  blk_simp [iblk]
  refine Eq.trans (congrArg (V m c main_v7 : S1x512.Idx → EReal) ?_) (entry_d m c k)
  blk_ext [idx t]

/-- The norm's scale at point `t`. -/
theorem blk_g (c : Dev nD) (t : Fin cfg0.N) (k : Fin 512) : iblk m c 6 t (ix2 0 k) = argG m c (ix2 0 k) := by
  blk_simp [iblk]
  refine Eq.trans (congrArg (V m c main_v10 : S1x512.Idx → EReal) ?_) (entry_g m c k)
  blk_ext [idx t]

/-- The norm's shift at point `t`. -/
theorem blk_b (c : Dev nD) (t : Fin cfg0.N) (k : Fin 512) : iblk m c 7 t (ix2 0 k) = argB m c (ix2 0 k) := by
  blk_simp [iblk]
  refine Eq.trans (congrArg (V m c main_v13 : S1x512.Idx → EReal) ?_) (entry_b m c k)
  blk_ext [idx t]

/-- A row of the kernel's products with the projection's columns is the reference's row. -/
theorem glu_row (c : Dev nD) (t : Fin cfg0.N) (l : Fin 512) (f : Fin 2048 → EReal) (b : Fin 2) (s : Fin 16414) (n : ℕ) (h : n < 16384)
    (hs : s.val = n + 30) (hf : ∀ k, f k = argX m c (ix3 b ⟨n, h⟩ k)) :
    glu (∑ k : Fin 2048, f k * (iblk m c 2 t : FVec Ideal S1x2048x512 .bf16) (ix3 0 k l))
      (∑ k : Fin 2048, f k * (iblk m c 3 t : FVec Ideal S1x2048x512 .bf16) (ix3 0 k l))
    = rA (rP (argX m c) (argW m c)) (ix3 b s l) := by
  obtain ⟨s, h'⟩ := s
  dsimp only at hs
  subst hs
  rw [rA_apply, dif_neg (by dsimp only; omega), rP_apply, rP_apply]
  simp only [Nat.add_sub_cancel]
  refine congrArg₂ glu (Finset.sum_congr rfl fun k _ => ?_) (Finset.sum_congr rfl fun k _ => ?_)
  · exact congrArg₂ (fun a b : EReal => a * b) (hf k) (blk_wa m c t k l)
  · exact congrArg₂ (fun a b : EReal => a * b) (hf k) (blk_wb m c t k l)

/-- The kernel's gated rows of point `t`'s tile are the reference's. -/
theorem tile_row (c : Dev nD) (t : Fin cfg0.N) (p l : Fin 512) (b : Fin 2) (s : Fin 16414)
    (hb : b.val = t.val / 32) (hs : s.val = t.val % 32 * 512 + p.val + 30) :
    k0_pay3 (F := Ideal) (iblk m c 0 t) (iblk m c 2 t) (iblk m c 3 t) (ix2 p l) = rA (rP (argX m c) (argW m c)) (ix3 b s l) := by
  have hp := p.isLt
  rw [pay3_apply]
  refine glu_row m c t l _ b s (t.val % 32 * 512 + p.val) (by omega) hs fun k => ?_
  refine (blk_x m c t p k).trans (congrArg (argX m c) ?_)
  exact congrArg₂ (fun a b => ix3 a b k) (Fin.ext (by dsimp only; omega)) (Fin.ext (by dsimp only; omega))

/-- The kernel's gated rows of point `t`'s halo are the reference's. -/
theorem halo_row (c : Dev nD) (t : Fin cfg0.N) (p : Fin 32) (l : Fin 512) (b : Fin 2) (s : Fin 16414)
    (hb : b.val = t.val / 32) (hs : s.val + 2 = t.val % 32 * 512 + p.val) :
    k0_pay2 (F := Ideal) (grid0.coords t) (iblk m c 1 t) (iblk m c 2 t) (iblk m c 3 t) (ix2 p l)
    = rA (rP (argX m c) (argW m c)) (ix3 b s l) := by
  have hp := p.isLt
  rw [pay2_apply]
  by_cases h0 : t.val % 32 = 0
  · rw [if_pos h0, rA_apply, dif_pos (by omega)]
  · rw [if_neg h0]
    refine glu_row m c t l _ b s (t.val % 32 * 512 + p.val - 32) (by omega) (by omega) fun k => ?_
    refine (blk_h m c t p k).trans (congrArg (argX m c) ?_)
    exact congrArg₂ (fun a b => ix3 a b k) (Fin.ext (by dsimp only; omega)) (Fin.ext (by dsimp only; omega))

/-- The kernel's scratch at point `t`, row by row: the reference's padded rows. -/
theorem scr_row (c : Dev nD) (t : Fin cfg0.N) (i : ℕ) (l : Fin 512) (b : Fin 2) (s : Fin 16414)
    (hb : b.val = t.val / 32) (hs : s.val + 2 = t.val % 32 * 512 + i) (hi : i < 544) :
    scr (k0_pay2 (F := Ideal) (grid0.coords t) (iblk m c 1 t) (iblk m c 2 t) (iblk m c 3 t))
      (k0_pay3 (F := Ideal) (iblk m c 0 t) (iblk m c 2 t) (iblk m c 3 t)) i l
    = rA (rP (argX m c) (argW m c)) (ix3 b s l) := by
  unfold scr
  by_cases h : i < 32
  · rw [dif_pos h]
    exact halo_row m c t ⟨i, h⟩ l b s hb hs
  · rw [dif_neg h, dif_pos (by omega)]
    exact tile_row m c t ⟨i - 32, by omega⟩ l b s hb (by dsimp only; omega)

/-- The kernel's taps on row `r` of point `t`'s block are the reference's convolution at row `512 t + r`. -/
theorem cv_row (c : Dev nD) (t : Fin cfg0.N) (r l : Fin 512) (b : Fin 2) (s : Fin 16384)
    (hb : b.val = t.val / 32) (hs : s.val = t.val % 32 * 512 + r.val) :
    cv (k0_pay2 (F := Ideal) (grid0.coords t) (iblk m c 1 t) (iblk m c 2 t) (iblk m c 3 t))
      (k0_pay3 (F := Ideal) (iblk m c 0 t) (iblk m c 2 t) (iblk m c 3 t)) (iblk m c 4 t) (iblk m c 5 t) 0 r.val l
    = rC (rA (rP (argX m c) (argW m c))) (argK m c) (argD m c) (ix3 b s l) := by
  have hr := r.isLt
  unfold cv
  rw [rC_apply]
  refine congrArg₂ (fun a b : EReal => a + b) (blk_d m c t l) (Finset.sum_congr rfl fun k hk => ?_)
  have hk' := Finset.mem_range.1 hk
  unfold wt
  rw [dif_pos hk', dif_pos hk']
  exact congrArg₂ (fun a b : EReal => a * b) (blk_k m c t ⟨k, hk'⟩ l) (scr_row m c t _ l b _ hb (by dsimp only; omega) (by omega))

/-- What the body stores at row `r`, column `l` of point `t`'s block is the reference's result at row `512 t + r`. -/
theorem point (c : Dev nD) (t : Fin cfg0.N) (r l : Fin 512) :
    outsAt0 m c t (ix2 r l)
    = REF (argX m c) (argW m c) (argK m c) (argD m c) (argG m c) (argB m c)
        (ix2 ⟨t.val * 512 + r.val, by have := lt_of_lt_of_eq t.isLt N_0; omega⟩ l) := by
  have ht := lt_of_lt_of_eq t.isLt N_0
  have hr := r.isLt
  rw [block_apply]
  unfold REF
  rw [rO_apply, rN_apply]
  refine congrArg silu ?_
  have hC : ∀ l : Fin 512, _ := fun l => cv_row m c t r l ⟨(t.val * 512 + r.val) / 16384, by omega⟩
    ⟨(t.val * 512 + r.val) % 16384, by omega⟩ (by dsimp only; omega) (by dsimp only; omega)
  rw [funext hC, funext (blk_g m c t), funext (blk_b m c t)]

/-- The result array after the run. -/
theorem final (c : Dev nD) : (dats m 0 c).arrAt 8 (cfgs 0).N
    = REF (argX m c) (argW m c) (argK m c) (argD m c) (argG m c) (argB m c) := by
  refine (dats m 0 c).arrAt_eq_of_covers 8 _ (by decide +kernel) fun t _ y => ?_
  blk_simp
  rw [after0_8]
  have e : ((win0_8.blk t).view.emb y : S32768x512.Idx)
      = ix2 ⟨t.val * 512 + (y 0).val, by have := lt_of_lt_of_eq t.isLt N_0; have : (y 0).val < 512 := (y 0).isLt; omega⟩ (y 1) := by
    blk_ext [idx t]
  rw [e]
  idx_vars y
  exact point m c t _ _

/-- The convolution kernel and the reference leave the same result. -/
theorem algebraic : Cert.algebraic_ConvIdeal_ConvRefIdeal := by
  intro m ρ m' ρ' _ hagree
  refine ⟨_, Cert.ConvIdeal.Value.run_blocks (F := Ideal) m ρ, ?_⟩
  refine (θ_run Cert.ConvRefIdeal.defs _ _).mono (fun _ h c => ⟨(h c).1.trans ?_, (h c).2⟩)
    (Cert.ConvRefIdeal.Value.run (F := Ideal) m' ρ')
  obtain ⟨h0, h1, h2, h3, h4, h5⟩ := hagree c
  change REF (m' ((c.tc : Thread Cert.ConvRefIdeal.nD Cert.ConvRefIdeal.τ).loc Cert.ConvRefIdeal.main_arg0))
    (m' ((c.tc : Thread Cert.ConvRefIdeal.nD Cert.ConvRefIdeal.τ).loc Cert.ConvRefIdeal.main_arg1))
    (m' ((c.tc : Thread Cert.ConvRefIdeal.nD Cert.ConvRefIdeal.τ).loc Cert.ConvRefIdeal.main_arg2))
    (m' ((c.tc : Thread Cert.ConvRefIdeal.nD Cert.ConvRefIdeal.τ).loc Cert.ConvRefIdeal.main_arg3))
    (m' ((c.tc : Thread Cert.ConvRefIdeal.nD Cert.ConvRefIdeal.τ).loc Cert.ConvRefIdeal.main_arg4))
    (m' ((c.tc : Thread Cert.ConvRefIdeal.nD Cert.ConvRefIdeal.τ).loc Cert.ConvRefIdeal.main_arg5)) = _
  rw [h0, h1, h2, h3, h4, h5]
  exact (final m c).symm

end Cert.ConvIdeal.Result

end
-- ==== Proof.PrenormValue.lean ====
/- What the norm that opens a layer computes: its result array is the reference's, element by element. -/
module

public import proofs.«01_k».proof.Proof.Gen.PrenormIdeal.Value
public import proofs.«01_k».proof.Proof.Gen.Prenorm.Frame
public import proofs.«01_k».proof.Proof.Gen.PrenormRefIdeal.Run
public import proofs.«01_k».proof.Defs
public import Idealize.ShloMosaic.Lib.Pointwise
public import Idealize.ShloMosaic.Lib.Pipeline.ValueKit

@[expose] public section

set_option maxRecDepth 16384

noncomputable section

namespace Cert.PrenormIdeal.Result

open Idealize.ShloMosaic Idealize.ShloMosaic.TcCoe Idealize.SL.Sem
open Idealize.ShloMosaic.Pipeline (Dat)
open Cert.PrenormIdeal Cert.PrenormIdeal.Gen

variable (m : (ℓ : Loc nD τ sig) → Buf (Elt Ideal) ℓ)

/-- The reference's norm: each row over its root mean square, scaled. -/
abbrev REF (X : FVec Ideal S2x16384x2048 .f32) (G : FVec Ideal S2x2048 .f32) : FVec Ideal S32768x2048 .bf16 :=
  truncf .bf16 (mulf (mulf (shapeCast _ X Cert.PrenormRefIdeal.Gen.shapeCasts_S2x16384x2048_S32768x2048) (broadcastInDim Cert.PrenormRefIdeal.S32768x2048 ![0, 1] Cert.PrenormRefIdeal.Gen.bcast_S32768x1_S32768x2048_0_1 (Host.rsqrt (addf (Host.divf (broadcastInDim Cert.PrenormRefIdeal.S32768x1 ![0] Cert.PrenormRefIdeal.Gen.bcast_S32768_S32768x1_0 (Host.reduceAdd (mulf (shapeCast _ X Cert.PrenormRefIdeal.Gen.shapeCasts_S2x16384x2048_S32768x2048) (shapeCast _ X Cert.PrenormRefIdeal.Gen.shapeCasts_S2x16384x2048_S32768x2048)) (constant Cert.PrenormRefIdeal.S_ .f32 0x00000000#32) Cert.PrenormRefIdeal.Gen.reducesTo_S32768x2048_S32768_d1 Cert.PrenormRefIdeal.Gen.h_S_)) (broadcastInDim Cert.PrenormRefIdeal.S32768x1 ![] Cert.PrenormRefIdeal.Gen.bcast_S_S32768x1 (constant Cert.PrenormRefIdeal.S_ .f32 0x45000000#32))) (broadcastInDim Cert.PrenormRefIdeal.S32768x1 ![] Cert.PrenormRefIdeal.Gen.bcast_S_S32768x1 (constant Cert.PrenormRefIdeal.S_ .f32 0x358637BD#32)))))) (broadcastInDim Cert.PrenormRefIdeal.S32768x2048 ![0, 1] Cert.PrenormRefIdeal.Gen.bcast_S1x2048_S32768x2048_0_1 (broadcastInDim Cert.PrenormRefIdeal.S1x2048 ![1] Cert.PrenormRefIdeal.Gen.bcast_S2048_S1x2048_1 (shapeCast _ (extractStridedSlice Cert.PrenormRefIdeal.S1x2048 ![0, 0] G Cert.PrenormRefIdeal.Gen.slices_S2x2048_S1x2048_0_0) Cert.PrenormRefIdeal.Gen.shapeCasts_S1x2048_S2048)))) Cert.PrenormRefIdeal.Gen.bitsLt_bf16_f32

/-- Where every window's block sits at each grid point. -/
theorem idx : ∀ t : Fin cfg0.N, win0_0.index t = ![t.val, 0] ∧ win0_1.index t = ![0, 0] ∧ win0_2.index t = ![t.val, 0] :=
  (by decide +kernel : ∀ t : Fin grid0.N, _)

/-- The tokens, as a plain array. -/
abbrev argX (c : Dev nD) : FVec Ideal S2x16384x2048 .f32 := m ((c : Thread nD τ).loc main_arg0)
/-- The norms' scales, as a plain array. -/
abbrev argG (c : Dev nD) : FVec Ideal S2x2048 .f32 := m ((c : Thread nD τ).loc main_arg1)

/-- The tokens' array the kernel is called with: the argument with its first two axes joined. -/
theorem entry_x (c : Dev nD) (r : Fin 32768) (k : Fin 2048) : (V m c main_v0 : FVec Ideal S32768x2048 .f32) (ix2 r k)
    = argX m c (ix3 ⟨r.val / 16384, by omega⟩ ⟨r.val % 16384, by omega⟩ k) := by
  have h : @Eq (FVec Ideal S32768x2048 .f32) (V m c main_v0)
      (shapeCast S32768x2048 (argX m c) shapeCasts_S2x16384x2048_S32768x2048) := by
    entry_read
    rfl
  rw [h]
  pointwise

/-- The norm's row the kernel is called with: the first layer's scale. -/
theorem entry_g (c : Dev nD) (k : Fin 2048) : (V m c main_v3 : FVec Ideal S1x2048 .f32) (ix2 0 k) = argG m c (ix2 0 k) := by
  have h : @Eq (FVec Ideal S1x2048 .f32) (V m c main_v3)
      (shapeCast S1x2048 (shapeCast S2048 (extractStridedSlice S1x2048 ![0, 0] (argG m c) slices_S2x2048_S1x2048_0_0) shapeCasts_S1x2048_S2048) shapeCasts_S2048_S1x2048) := by
    entry_read
    rfl
  rw [h]
  pointwise

/-- The tokens' block at point `t`. -/
theorem blk_x (c : Dev nD) (t : Fin cfg0.N) (r : Fin 512) (k : Fin 2048) : iblk m c 0 t (ix2 r k)
    = argX m c (ix3 ⟨(t.val * 512 + r.val) / 16384, by have := lt_of_lt_of_eq t.isLt N_0; omega⟩ ⟨(t.val * 512 + r.val) % 16384, by omega⟩ k) := by
  blk_simp [iblk]
  refine Eq.trans (congrArg (V m c main_v0 : S32768x2048.Idx → EReal) ?_) (entry_x m c ⟨t.val * 512 + r.val, by have := lt_of_lt_of_eq t.isLt N_0; omega⟩ k)
  blk_ext [idx t]

/-- The norm's row at point `t`. -/
theorem blk_g (c : Dev nD) (t : Fin cfg0.N) (k : Fin 2048) : iblk m c 1 t (ix2 0 k) = argG m c (ix2 0 k) := by
  blk_simp [iblk]
  refine Eq.trans (congrArg (V m c main_v3 : S1x2048.Idx → EReal) ?_) (entry_g m c k)
  blk_ext [idx t]

/-- What the body stores at row `r`, column `l` of point `t`'s block is the reference's norm at row `512 t + r`. -/
theorem point (c : Dev nD) (t : Fin cfg0.N) (r : Fin 512) (l : Fin 2048) :
    k0_pay1 (iblk m c 0 t) (iblk m c 1 t) (ix2 r l)
    = REF (argX m c) (argG m c) (ix2 ⟨t.val * 512 + r.val, by have := lt_of_lt_of_eq t.isLt N_0; omega⟩ l) := by
  pointwise [k0_pay1, REF]
  reads_congr
  · exact blk_x m c t _ _
  · exact blk_x m c t _ _
  · exact blk_g m c t _

/-- The result array after the run. -/
theorem final (c : Dev nD) : (dats m 0 c).arrAt 2 (cfgs 0).N = REF (argX m c) (argG m c) := by
  refine (dats m 0 c).arrAt_eq_of_covers 2 _ (by decide +kernel) fun t _ y => ?_
  blk_simp
  rw [after0_2]; frame_out
  have e : ((win0_2.blk t).view.emb y : S32768x2048.Idx)
      = ix2 ⟨t.val * 512 + (y 0).val, by have := lt_of_lt_of_eq t.isLt N_0; have : (y 0).val < 512 := (y 0).isLt; omega⟩ (y 1) := by
    blk_ext [idx t]
  rw [e]
  idx_vars y
  exact point m c t _ _

/-- The norm's kernel and the reference leave the same result. -/
theorem algebraic : Cert.algebraic_PrenormIdeal_PrenormRefIdeal := by
  intro m ρ m' ρ' _ hagree
  refine ⟨_, Cert.PrenormIdeal.Value.run_blocks (F := Ideal) m ρ, ?_⟩
  refine (θ_run Cert.PrenormRefIdeal.defs _ _).mono (fun _ h c => ⟨(h c).1.trans ?_, (h c).2⟩)
    (Cert.PrenormRefIdeal.Value.run (F := Ideal) m' ρ')
  obtain ⟨h0, h1⟩ := hagree c
  rw [h0, h1]
  exact (final m c).symm

end Cert.PrenormIdeal.Result

end
-- ==== Proof.PleMidValue.lean ====
/- What the first layer's embedding kernel computes: its two result arrays are the reference's, element by element. -/
module

public import proofs.«01_k».proof.Proof.Gen.PleMidIdeal.Value
public import proofs.«01_k».proof.Proof.Gen.PleMid.Frame
public import proofs.«01_k».proof.Proof.Gen.PleMidRefIdeal.Run
public import proofs.«01_k».proof.Defs
public import Idealize.ShloMosaic.Lib.Pointwise
public import Idealize.ShloMosaic.Lib.Pipeline.ValueKit

@[expose] public section

set_option maxRecDepth 16384

noncomputable section

namespace Cert.PleMidIdeal.Result

open Idealize.ShloMosaic Idealize.ShloMosaic.TcCoe Idealize.SL.Sem
open Idealize.ShloMosaic.Pipeline (Dat)
open Cert.PleMidIdeal Cert.PleMidIdeal.Gen

variable (m : (ℓ : Loc nD τ sig) → Buf (Elt Ideal) ℓ)

/-- The reference's update: the residual plus the sigmoid of the normalised tokens' gate times the projected embedding. -/
abbrev REF (X : FVec Ideal S2x16384x2048 .f32) (P : FVec Ideal S2x2x16384x256 .f32) (G : FVec Ideal S2x2048 .f32)
    (W1 : FVec Ideal S2x2048x2048 .f32) (W2 : FVec Ideal S2x256x2048 .f32) : FVec Ideal S32768x2048 .f32 :=
  addf (shapeCast _ X Cert.PleMidRefIdeal.Gen.shapeCasts_S2x16384x2048_S32768x2048) (mulf (Host.divf (broadcastInDim Cert.PleMidRefIdeal.S32768x2048 ![] Cert.PleMidRefIdeal.Gen.bcast_S_S32768x2048 (constant Cert.PleMidRefIdeal.S_ .f32 0x3F800000#32)) (addf (broadcastInDim Cert.PleMidRefIdeal.S32768x2048 ![] Cert.PleMidRefIdeal.Gen.bcast_S_S32768x2048 (constant Cert.PleMidRefIdeal.S_ .f32 0x3F800000#32)) (Host.exp (Host.negf (Host.dotGeneral Cert.PleMidRefIdeal.dot_S32768x2048_S2048x2048_S32768x2048_1_0_0_1_n_n none (mulf (mulf (shapeCast _ X Cert.PleMidRefIdeal.Gen.shapeCasts_S2x16384x2048_S32768x2048) (broadcastInDim Cert.PleMidRefIdeal.S32768x2048 ![0, 1] Cert.PleMidRefIdeal.Gen.bcast_S32768x1_S32768x2048_0_1 (Host.rsqrt (addf (Host.divf (broadcastInDim Cert.PleMidRefIdeal.S32768x1 ![0] Cert.PleMidRefIdeal.Gen.bcast_S32768_S32768x1_0 (Host.reduceAdd (mulf (shapeCast _ X Cert.PleMidRefIdeal.Gen.shapeCasts_S2x16384x2048_S32768x2048) (shapeCast _ X Cert.PleMidRefIdeal.Gen.shapeCasts_S2x16384x2048_S32768x2048)) (constant Cert.PleMidRefIdeal.S_ .f32 0x00000000#32) Cert.PleMidRefIdeal.Gen.reducesTo_S32768x2048_S32768_d1 Cert.PleMidRefIdeal.Gen.h_S_)) (broadcastInDim Cert.PleMidRefIdeal.S32768x1 ![] Cert.PleMidRefIdeal.Gen.bcast_S_S32768x1 (constant Cert.PleMidRefIdeal.S_ .f32 0x45000000#32))) (broadcastInDim Cert.PleMidRefIdeal.S32768x1 ![] Cert.PleMidRefIdeal.Gen.bcast_S_S32768x1 (constant Cert.PleMidRefIdeal.S_ .f32 0x358637BD#32)))))) (broadcastInDim Cert.PleMidRefIdeal.S32768x2048 ![0, 1] Cert.PleMidRefIdeal.Gen.bcast_S1x2048_S32768x2048_0_1 (broadcastInDim Cert.PleMidRefIdeal.S1x2048 ![1] Cert.PleMidRefIdeal.Gen.bcast_S2048_S1x2048_1 (shapeCast _ (extractStridedSlice Cert.PleMidRefIdeal.S1x2048 ![0, 0] G Cert.PleMidRefIdeal.Gen.slices_S2x2048_S1x2048_0_0) Cert.PleMidRefIdeal.Gen.shapeCasts_S1x2048_S2048)))) (shapeCast _ (extractStridedSlice Cert.PleMidRefIdeal.S1x2048x2048 ![0, 0, 0] W1 Cert.PleMidRefIdeal.Gen.slices_S2x2048x2048_S1x2048x2048_0_0_0) Cert.PleMidRefIdeal.Gen.shapeCasts_S1x2048x2048_S2048x2048)))))) (Host.dotGeneral Cert.PleMidRefIdeal.dot_S32768x256_S256x2048_S32768x2048_1_0_0_1_n_n none (shapeCast _ (extractStridedSlice Cert.PleMidRefIdeal.S1x32768x256 ![0, 0, 0] (shapeCast _ P Cert.PleMidRefIdeal.Gen.shapeCasts_S2x2x16384x256_S2x32768x256) Cert.PleMidRefIdeal.Gen.slices_S2x32768x256_S1x32768x256_0_0_0) Cert.PleMidRefIdeal.Gen.shapeCasts_S1x32768x256_S32768x256) (shapeCast _ (extractStridedSlice Cert.PleMidRefIdeal.S1x256x2048 ![0, 0, 0] W2 Cert.PleMidRefIdeal.Gen.slices_S2x256x2048_S1x256x2048_0_0_0) Cert.PleMidRefIdeal.Gen.shapeCasts_S1x256x2048_S256x2048)))

/-- The reference's norm of the updated rows, with the second layer's scale. -/
abbrev NRM (Y : FVec Ideal S32768x2048 .f32) (G : FVec Ideal S2x2048 .f32) : FVec Ideal S32768x2048 .bf16 :=
  truncf .bf16 (mulf (mulf Y (broadcastInDim Cert.PleMidRefIdeal.S32768x2048 ![0, 1] Cert.PleMidRefIdeal.Gen.bcast_S32768x1_S32768x2048_0_1 (Host.rsqrt (addf (Host.divf (broadcastInDim Cert.PleMidRefIdeal.S32768x1 ![0] Cert.PleMidRefIdeal.Gen.bcast_S32768_S32768x1_0 (Host.reduceAdd (mulf Y Y) (constant Cert.PleMidRefIdeal.S_ .f32 0x00000000#32) Cert.PleMidRefIdeal.Gen.reducesTo_S32768x2048_S32768_d1 Cert.PleMidRefIdeal.Gen.h_S_)) (broadcastInDim Cert.PleMidRefIdeal.S32768x1 ![] Cert.PleMidRefIdeal.Gen.bcast_S_S32768x1 (constant Cert.PleMidRefIdeal.S_ .f32 0x45000000#32))) (broadcastInDim Cert.PleMidRefIdeal.S32768x1 ![] Cert.PleMidRefIdeal.Gen.bcast_S_S32768x1 (constant Cert.PleMidRefIdeal.S_ .f32 0x358637BD#32)))))) (broadcastInDim Cert.PleMidRefIdeal.S32768x2048 ![0, 1] Cert.PleMidRefIdeal.Gen.bcast_S1x2048_S32768x2048_0_1 (broadcastInDim Cert.PleMidRefIdeal.S1x2048 ![1] Cert.PleMidRefIdeal.Gen.bcast_S2048_S1x2048_1 (shapeCast _ (extractStridedSlice Cert.PleMidRefIdeal.S1x2048 ![1, 0] G Cert.PleMidRefIdeal.Gen.slices_S2x2048_S1x2048_1_0) Cert.PleMidRefIdeal.Gen.shapeCasts_S1x2048_S2048)))) Cert.PleMidRefIdeal.Gen.bitsLt_bf16_f32

/-- Where every window's block sits at each grid point. -/
theorem idx : ∀ t : Fin cfg0.N, win0_0.index t = ![t.val, 0] ∧ win0_1.index t = ![0, t.val, 0]
    ∧ win0_2.index t = ![0, 0] ∧ win0_3.index t = ![0, 0, 0] ∧ win0_4.index t = ![0, 0, 0] ∧ win0_5.index t = ![0, 0] ∧ win0_6.index t = ![t.val, 0] ∧ win0_7.index t = ![t.val, 0] :=
  (by decide +kernel : ∀ t : Fin grid0.N, _)

/-- The tokens, as a plain array. -/
abbrev argX (c : Dev nD) : FVec Ideal S2x16384x2048 .f32 := m ((c : Thread nD τ).loc main_arg0)
/-- The embeddings, as a plain array. -/
abbrev argP (c : Dev nD) : FVec Ideal S2x2x16384x256 .f32 := m ((c : Thread nD τ).loc main_arg1)
/-- The norms' scales, as a plain array. -/
abbrev argG (c : Dev nD) : FVec Ideal S2x2048 .f32 := m ((c : Thread nD τ).loc main_arg2)
/-- The gates' weights, as a plain array. -/
abbrev argW1 (c : Dev nD) : FVec Ideal S2x2048x2048 .f32 := m ((c : Thread nD τ).loc main_arg3)
/-- The projections' weights, as a plain array. -/
abbrev argW2 (c : Dev nD) : FVec Ideal S2x256x2048 .f32 := m ((c : Thread nD τ).loc main_arg4)

/-- The opening norms' scales, as a plain array. -/
abbrev argN (c : Dev nD) : FVec Ideal S2x2048 .f32 := m ((c : Thread nD τ).loc main_arg5)

/-- The tokens' array the kernel is called with: the argument with its first two axes joined. -/
theorem entry_x (c : Dev nD) (r : Fin 32768) (k : Fin 2048) : (V m c main_v0 : FVec Ideal S32768x2048 .f32) (ix2 r k)
    = argX m c (ix3 ⟨r.val / 16384, by omega⟩ ⟨r.val % 16384, by omega⟩ k) := by
  have h : @Eq (FVec Ideal S32768x2048 .f32) (V m c main_v0)
      (shapeCast S32768x2048 (argX m c) shapeCasts_S2x16384x2048_S32768x2048) := by
    entry_read
    rfl
  rw [h]
  pointwise

/-- The embeddings' array the kernel is called with: the argument with its two middle axes joined. -/
theorem entry_p (c : Dev nD) (a : Fin 2) (r : Fin 32768) (k : Fin 256) : (V m c main_v1 : FVec Ideal S2x32768x256 .f32) (ix3 a r k)
    = argP m c (ix4 a ⟨r.val / 16384, by omega⟩ ⟨r.val % 16384, by omega⟩ k) := by
  have h : @Eq (FVec Ideal S2x32768x256 .f32) (V m c main_v1)
      (shapeCast S2x32768x256 (argP m c) shapeCasts_S2x2x16384x256_S2x32768x256) := by
    entry_read
    rfl
  rw [h]
  pointwise
  blk_ext

/-- The norm's row the kernel is called with: the first layer's scale. -/
theorem entry_g (c : Dev nD) (k : Fin 2048) : (V m c main_v4 : FVec Ideal S1x2048 .f32) (ix2 0 k) = argG m c (ix2 0 k) := by
  have h : @Eq (FVec Ideal S1x2048 .f32) (V m c main_v4)
      (shapeCast S1x2048 (shapeCast S2048 (extractStridedSlice S1x2048 ![0, 0] (argG m c) slices_S2x2048_S1x2048_0_0) shapeCasts_S1x2048_S2048) shapeCasts_S2048_S1x2048) := by
    entry_read
    rfl
  rw [h]
  pointwise

/-- The next layer's opening scale the kernel is called with. -/
theorem entry_n (c : Dev nD) (k : Fin 2048) : (V m c main_v9 : FVec Ideal S1x2048 .f32) (ix2 0 k) = argN m c (ix2 1 k) := by
  have h : @Eq (FVec Ideal S1x2048 .f32) (V m c main_v9)
      (shapeCast S1x2048 (shapeCast S2048 (extractStridedSlice S1x2048 ![1, 0] (argN m c) slices_S2x2048_S1x2048_1_0) shapeCasts_S1x2048_S2048) shapeCasts_S2048_S1x2048) := by
    entry_read
    rfl
  rw [h]
  pointwise

/-- The gates' weights the kernel is called with: the argument. -/
theorem entry_w1 (c : Dev nD) : @Eq (S2x2048x2048.Idx → EReal) (V m c main_v5) (argW1 m c) := by
  entry_read
  rfl

/-- The projections' weights the kernel is called with: the argument. -/
theorem entry_w2 (c : Dev nD) : @Eq (S2x256x2048.Idx → EReal) (V m c main_v6) (argW2 m c) := by
  entry_read
  rfl

/-- The tokens' block at point `t`. -/
theorem blk_x (c : Dev nD) (t : Fin cfg0.N) (r : Fin 512) (k : Fin 2048) : iblk m c 0 t (ix2 r k)
    = argX m c (ix3 ⟨(t.val * 512 + r.val) / 16384, by have := lt_of_lt_of_eq t.isLt N_0; omega⟩ ⟨(t.val * 512 + r.val) % 16384, by omega⟩ k) := by
  blk_simp [iblk]
  refine Eq.trans (congrArg (V m c main_v0 : S32768x2048.Idx → EReal) ?_) (entry_x m c ⟨t.val * 512 + r.val, by have := lt_of_lt_of_eq t.isLt N_0; omega⟩ k)
  blk_ext [idx t]

/-- The embeddings' block at point `t`. -/
theorem blk_p (c : Dev nD) (t : Fin cfg0.N) (r : Fin 512) (k : Fin 256) : iblk m c 1 t (ix3 0 r k)
    = argP m c (ix4 0 ⟨(t.val * 512 + r.val) / 16384, by have := lt_of_lt_of_eq t.isLt N_0; omega⟩ ⟨(t.val * 512 + r.val) % 16384, by omega⟩ k) := by
  blk_simp [iblk]
  refine Eq.trans (congrArg (V m c main_v1 : S2x32768x256.Idx → EReal) ?_) (entry_p m c 0 ⟨t.val * 512 + r.val, by have := lt_of_lt_of_eq t.isLt N_0; omega⟩ k)
  blk_ext [idx t]

/-- The norm's row at point `t`. -/
theorem blk_g (c : Dev nD) (t : Fin cfg0.N) (k : Fin 2048) : iblk m c 2 t (ix2 0 k) = argG m c (ix2 0 k) := by
  blk_simp [iblk]
  refine Eq.trans (congrArg (V m c main_v4 : S1x2048.Idx → EReal) ?_) (entry_g m c k)
  blk_ext [idx t]

/-- The gate's weights at point `t`. -/
theorem blk_w1 (c : Dev nD) (t : Fin cfg0.N) (k l : Fin 2048) : iblk m c 3 t (ix3 0 k l) = argW1 m c (ix3 0 k l) := by
  blk_simp [iblk]
  rw [entry_w1]
  blk_ext [idx t]

/-- The projection's weights at point `t`. -/
theorem blk_w2 (c : Dev nD) (t : Fin cfg0.N) (k : Fin 256) (l : Fin 2048) : iblk m c 4 t (ix3 0 k l) = argW2 m c (ix3 0 k l) := by
  blk_simp [iblk]
  rw [entry_w2]
  blk_ext [idx t]

/-- The next layer's opening scale at point `t`. -/
theorem blk_n (c : Dev nD) (t : Fin cfg0.N) (k : Fin 2048) : iblk m c 5 t (ix2 0 k) = argN m c (ix2 1 k) := by
  blk_simp [iblk]
  refine Eq.trans (congrArg (V m c main_v9 : S1x2048.Idx → EReal) ?_) (entry_n m c k)
  blk_ext [idx t]

/-- What the body stores at row `r`, column `l` of point `t`'s block is the reference's update at row `512 t + r`. -/
theorem point (c : Dev nD) (t : Fin cfg0.N) (r : Fin 512) (l : Fin 2048) :
    k0_pay2 (iblk m c 0 t) (iblk m c 2 t) (iblk m c 3 t) (iblk m c 1 t) (iblk m c 4 t) (ix2 r l)
    = REF (argX m c) (argP m c) (argG m c) (argW1 m c) (argW2 m c)
        (ix2 ⟨t.val * 512 + r.val, by have := lt_of_lt_of_eq t.isLt N_0; omega⟩ l) := by
  pointwise [k0_pay2, REF]
  simp only [sub_eq_add_neg, zero_add]
  reads_congr
  · exact blk_x m c t _ _
  · exact blk_x m c t _ _
  · exact blk_g m c t _
  · exact blk_w1 m c t _ _
  · exact blk_p m c t _ _
  · exact blk_w2 m c t _ _

/-- The kernel's norm of a row is the reference's. -/
theorem norm_apply (v : FVec Ideal S512x2048 .f32) (g : FVec Ideal S1x2048 .f32) (Y : FVec Ideal S32768x2048 .f32) (G : FVec Ideal S2x2048 .f32)
    (r : Fin 512) (l : Fin 2048) (n : Fin 32768) (hv : ∀ k : Fin 2048, v (ix2 r k) = Y (ix2 n k)) (hg : ∀ k : Fin 2048, g (ix2 0 k) = G (ix2 1 k)) :
    k0_pay1 (F := Ideal) v g (ix2 r l) = NRM Y G (ix2 n l) := by
  pointwise [k0_pay1, NRM]
  simp only [hv, hg]

/-- The update is made from the blocks read whole. -/
theorem pay3_eq (x0 x1 x2 x3 x4 x5) : k0_pay3 (F := Ideal) x0 x1 x2 x3 x4 x5 = k0_pay2 x0 x2 x3 x1 x4 := by
  unfold k0_pay3
  rw [View.ld_unit_zero (by decide), View.ld_unit_zero (by decide), View.ld_unit_zero (by decide), View.ld_unit_zero (by decide), View.ld_unit_zero (by decide)]

/-- The first output's block. -/
theorem out6_eq (x0 x1 x2 x3 x4 x5) : out0_6 (F := Ideal) x0 x1 x2 x3 x4 x5 = k0_pay2 x0 x2 x3 x1 x4 := by
  unfold out0_6
  rw [pay3_eq]
  frame_out

/-- The second output's block. -/
theorem out7_eq (x0 x1 x2 x3 x4 x5) : out0_7 (F := Ideal) x0 x1 x2 x3 x4 x5 = k0_pay1 (k0_pay2 x0 x2 x3 x1 x4) x5 := by
  unfold out0_7
  rw [pay3_eq]
  frame_out

/-- The first result array after the run. -/
theorem final (c : Dev nD) : (dats m 0 c).arrAt 6 (cfgs 0).N
    = REF (argX m c) (argP m c) (argG m c) (argW1 m c) (argW2 m c) := by
  refine (dats m 0 c).arrAt_eq_of_covers 6 _ (by decide +kernel) fun t _ y => ?_
  blk_simp
  rw [after0_6, out6_eq]
  have e : ((win0_6.blk t).view.emb y : S32768x2048.Idx)
      = ix2 ⟨t.val * 512 + (y 0).val, by have := lt_of_lt_of_eq t.isLt N_0; have : (y 0).val < 512 := (y 0).isLt; omega⟩ (y 1) := by
    blk_ext [idx t]
  rw [e]
  idx_vars y
  exact point m c t _ _

/-- The second result array after the run. -/
theorem final_norm (c : Dev nD) : (dats m 0 c).arrAt 7 (cfgs 0).N
    = NRM (REF (argX m c) (argP m c) (argG m c) (argW1 m c) (argW2 m c)) (argN m c) := by
  refine (dats m 0 c).arrAt_eq_of_covers 7 _ (by decide +kernel) fun t _ y => ?_
  blk_simp
  rw [after0_7, out7_eq]
  have e : ((win0_7.blk t).view.emb y : S32768x2048.Idx)
      = ix2 ⟨t.val * 512 + (y 0).val, by have := lt_of_lt_of_eq t.isLt N_0; have : (y 0).val < 512 := (y 0).isLt; omega⟩ (y 1) := by
    blk_ext [idx t]
  rw [e]
  idx_vars y
  exact norm_apply _ _ _ _ _ _ _ (fun k => point m c t _ k) (fun k => blk_n m c t k)

/-- The embedding kernel and the reference leave the same results. -/
theorem algebraic : Cert.algebraic_PleMidIdeal_PleMidRefIdeal := by
  intro m ρ m' ρ' _ hagree
  refine ⟨_, _, Cert.PleMidIdeal.Value.run_blocks (F := Ideal) m ρ, ?_⟩
  refine (θ_run Cert.PleMidRefIdeal.defs _ _).mono (fun _ h c => ⟨(h c).1.trans ?_, (h c).2.1.trans ?_, (h c).2.2⟩)
    (Cert.PleMidRefIdeal.Value.run (F := Ideal) m' ρ')
  all_goals obtain ⟨h0, h1, h2, h3, h4, h5⟩ := hagree c
  · rw [h0, h1, h2, h3, h4]
    exact (final m c).symm
  · unfold Cert.PleMidRefIdeal.Value.res_main_v48
    rw [h0, h1, h2, h3, h4, h5]
    exact (final_norm m c).symm

end Cert.PleMidIdeal.Result

end
-- ==== Proof.LayerFrames.lean ====
/- The frames of the layer's other programs: each runs to the end, leaves its arguments alone and its counters at zero. -/
module

public import proofs.«01_k».proof.Defs
public import proofs.«01_k».proof.Proof.Gen.Gates
public import proofs.«01_k».proof.Proof.Gen.Gates.Frame
public import proofs.«01_k».proof.Proof.Gen.GatesIdeal
public import proofs.«01_k».proof.Proof.Gen.GatesIdeal.Value
public import proofs.«01_k».proof.Proof.Gen.GatesRefIdeal
public import proofs.«01_k».proof.Proof.Gen.GatesRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.Ple
public import proofs.«01_k».proof.Proof.Gen.Ple.Frame
public import proofs.«01_k».proof.Proof.Gen.PleIdeal
public import proofs.«01_k».proof.Proof.Gen.PleIdeal.Value
public import proofs.«01_k».proof.Proof.Gen.PleRefIdeal
public import proofs.«01_k».proof.Proof.Gen.PleRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnRefIdeal
public import proofs.«01_k».proof.Proof.Gen.FfnRefIdeal.Run
public import proofs.«01_k».proof.Proof.Gen.Sgu
public import proofs.«01_k».proof.Proof.Gen.Sgu.Frame
public import proofs.«01_k».proof.Proof.Gen.SguIdeal
public import proofs.«01_k».proof.Proof.Gen.SguIdeal.Value
public import proofs.«01_k».proof.Proof.Gen.SguRefIdeal
public import proofs.«01_k».proof.Proof.Gen.SguRefIdeal.Run
public import proofs.«01_k».proof.Proof.QkvFrame
public import proofs.«01_k».proof.Proof.QkvIdealFrame
public import proofs.«01_k».proof.Proof.Gen.QkvRefIdeal
public import proofs.«01_k».proof.Proof.Gen.QkvRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Value
public import proofs.«01_k».proof.Proof.Gen.ConvRefIdeal
public import proofs.«01_k».proof.Proof.Gen.ConvRefIdeal.Run
public import proofs.«01_k».proof.Proof.Gen.Prenorm
public import proofs.«01_k».proof.Proof.Gen.Prenorm.Frame
public import proofs.«01_k».proof.Proof.Gen.PrenormIdeal
public import proofs.«01_k».proof.Proof.Gen.PrenormIdeal.Value
public import proofs.«01_k».proof.Proof.Gen.PrenormRefIdeal
public import proofs.«01_k».proof.Proof.Gen.PrenormRefIdeal.Run
public import proofs.«01_k».proof.Proof.Gen.PleMid
public import proofs.«01_k».proof.Proof.Gen.PleMid.Frame
public import proofs.«01_k».proof.Proof.Gen.PleMidIdeal
public import proofs.«01_k».proof.Proof.Gen.PleMidIdeal.Value
public import proofs.«01_k».proof.Proof.Gen.PleMidRefIdeal
public import proofs.«01_k».proof.Proof.Gen.PleMidRefIdeal.Run

@[expose] public section

noncomputable section

namespace Cert.Proof.LayerFrames

open Idealize.ShloMosaic Idealize.ShloMosaic.TcCoe Idealize.SL.Sem

/-- The gates' kernel at the machine's floats. -/
theorem gates : Cert.quiescent_Gates := fun m ρ _ => Cert.Gates.Gen.frame m ρ
/-- The gates' kernel over the extended reals. -/
theorem gates_ideal : Cert.quiescent_GatesIdeal := fun m ρ _ => Cert.GatesIdeal.Gen.frame m ρ
/-- The gates' reference. -/
theorem gates_ref : Cert.quiescent_GatesRefIdeal := fun m ρ _ =>
  (θ_run Cert.GatesRefIdeal.defs _ _).mono (fun r h => ⟨fun c => (h c).2,
      Idealize.ShloMosaic.sem_eq_zero_of_no_sems (by decide) r.2⟩)
    (Cert.GatesRefIdeal.Value.run (F := Ideal) m ρ)

/-- The merging kernel at the machine's floats. -/
theorem merge : Cert.quiescent_Merge := fun m ρ _ => Cert.Merge.Gen.frame m ρ
/-- The merging kernel over the extended reals. -/
theorem merge_ideal : Cert.quiescent_MergeIdeal := fun m ρ _ => Cert.MergeIdeal.Gen.frame m ρ
/-- The merge's reference. -/
theorem merge_ref : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- The embedding kernel at the machine's floats. -/
theorem ple : Cert.quiescent_Ple := fun m ρ _ => Cert.Ple.Gen.frame m ρ
/-- The embedding kernel over the extended reals. -/
theorem ple_ideal : Cert.quiescent_PleIdeal := fun m ρ _ => Cert.PleIdeal.Gen.frame m ρ
/-- The embedding's reference. -/
theorem ple_ref : Cert.quiescent_PleRefIdeal := fun m ρ _ =>
  (θ_run Cert.PleRefIdeal.defs _ _).mono (fun r h => ⟨fun c => (h c).2,
      Idealize.ShloMosaic.sem_eq_zero_of_no_sems (by decide) r.2⟩)
    (Cert.PleRefIdeal.Value.run (F := Ideal) m ρ)

/-- The feed-forward kernel at the machine's floats. -/
theorem ffn : Cert.quiescent_Ffn := fun m ρ _ => Cert.Ffn.Gen.frame m ρ
/-- The feed-forward kernel over the extended reals. -/
theorem ffn_ideal : Cert.quiescent_FfnIdeal := fun m ρ _ => Cert.FfnIdeal.Gen.frame m ρ
/-- The feed-forward's reference. -/
theorem ffn_ref : Cert.quiescent_FfnRefIdeal := fun m ρ _ =>
  (θ_run Cert.FfnRefIdeal.defs _ _).mono (fun r h => ⟨fun c => (h c).2,
      Idealize.ShloMosaic.sem_eq_zero_of_no_sems (by decide) r.2⟩)
    (Cert.FfnRefIdeal.Value.run (F := Ideal) m ρ)

/-- The spatial gating kernel at the machine's floats. -/
theorem sgu : Cert.quiescent_Sgu := fun m ρ _ => Cert.Sgu.Gen.frame m ρ
/-- The spatial gating kernel over the extended reals. -/
theorem sgu_ideal : Cert.quiescent_SguIdeal := fun m ρ _ => Cert.SguIdeal.Gen.frame m ρ
/-- The spatial gating's reference. -/
theorem sgu_ref : Cert.quiescent_SguRefIdeal := fun m ρ _ =>
  (θ_run Cert.SguRefIdeal.defs _ _).mono (fun r h => ⟨fun c => (h c).2,
      Idealize.ShloMosaic.sem_eq_zero_of_no_sems (by decide) r.2⟩)
    (Cert.SguRefIdeal.Value.run (F := Ideal) m ρ)

/-- The projection kernel at the machine's floats. -/
theorem qkv : Cert.quiescent_Qkv := fun m ρ _ => Cert.Qkv.Run.frame m ρ
/-- The projection kernel over the extended reals. -/
theorem qkv_ideal : Cert.quiescent_QkvIdeal := fun m ρ _ => Cert.QkvIdeal.Run.frame m ρ
/-- The projections' reference. -/
theorem qkv_ref : Cert.quiescent_QkvRefIdeal := fun m ρ _ =>
  (θ_run Cert.QkvRefIdeal.defs _ _).mono (fun r h => ⟨fun c => (h c).2.2.2.2,
      Idealize.ShloMosaic.sem_eq_zero_of_no_sems (by decide) r.2⟩)
    (Cert.QkvRefIdeal.Value.run (F := Ideal) m ρ)

/-- The convolution kernel at the machine's floats. -/
theorem conv : Cert.quiescent_Conv := fun m ρ _ => Cert.Conv.Gen.frame m ρ
/-- The convolution kernel over the extended reals. -/
theorem conv_ideal : Cert.quiescent_ConvIdeal := fun m ρ _ => Cert.ConvIdeal.Gen.frame m ρ
/-- The convolution's reference. -/
theorem conv_ref : Cert.quiescent_ConvRefIdeal := fun m ρ _ =>
  (θ_run Cert.ConvRefIdeal.defs _ _).mono (fun r h => ⟨fun c => (h c).2,
      Idealize.ShloMosaic.sem_eq_zero_of_no_sems (by decide) r.2⟩)
    (Cert.ConvRefIdeal.Value.run (F := Ideal) m ρ)

/-- The opening norm's kernel at the machine's floats. -/
theorem prenorm : Cert.quiescent_Prenorm := fun m ρ _ => Cert.Prenorm.Gen.frame m ρ
/-- The opening norm's kernel over the extended reals. -/
theorem prenorm_ideal : Cert.quiescent_PrenormIdeal := fun m ρ _ => Cert.PrenormIdeal.Gen.frame m ρ
/-- The opening norm's reference. -/
theorem prenorm_ref : Cert.quiescent_PrenormRefIdeal := fun m ρ _ =>
  (θ_run Cert.PrenormRefIdeal.defs _ _).mono (fun r h => ⟨fun c => (h c).2,
      Idealize.ShloMosaic.sem_eq_zero_of_no_sems (by decide) r.2⟩)
    (Cert.PrenormRefIdeal.Value.run (F := Ideal) m ρ)

/-- The first layer's embedding kernel at the machine's floats. -/
theorem ple_mid : Cert.quiescent_PleMid := fun m ρ _ => Cert.PleMid.Gen.frame m ρ
/-- The first layer's embedding kernel over the extended reals. -/
theorem ple_mid_ideal : Cert.quiescent_PleMidIdeal := fun m ρ _ => Cert.PleMidIdeal.Gen.frame m ρ
/-- The first layer's embedding reference. -/
theorem ple_mid_ref : Cert.quiescent_PleMidRefIdeal := fun m ρ _ =>
  (θ_run Cert.PleMidRefIdeal.defs _ _).mono (fun r h => ⟨fun c => (h c).2.2,
      Idealize.ShloMosaic.sem_eq_zero_of_no_sems (by decide) r.2⟩)
    (Cert.PleMidRefIdeal.Value.run (F := Ideal) m ρ)

end Cert.Proof.LayerFrames

end
-- ==== Proof.lean ====
/- The certificate's one theorem, put together from its modules. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.FfnValue
public import proofs.«01_k».proof.Proof.GatesValue
public import proofs.«01_k».proof.Proof.MergeValue
public import proofs.«01_k».proof.Proof.PleValue
public import proofs.«01_k».proof.Proof.SguValue
public import proofs.«01_k».proof.Proof.QkvValue
public import proofs.«01_k».proof.Proof.ConvValue
public import proofs.«01_k».proof.Proof.PrenormValue
public import proofs.«01_k».proof.Proof.PleMidValue
public import proofs.«01_k».proof.Proof.LayerFrames

@[expose] public section

noncomputable section

namespace Cert.Proof

/-- Everything the statement claims. -/
theorem claim : Cert.Claim :=
  ⟨Cert.Kernel.Gen.facts, Cert.KernelIdeal.Gen.facts, Cert.ReferenceIdeal.Gen.facts,
    Cert.Gates.Gen.facts, Cert.GatesIdeal.Gen.facts, Cert.GatesRefIdeal.Gen.facts,
    Cert.Merge.Gen.facts, Cert.MergeIdeal.Gen.facts, Cert.MergeRefIdeal.Gen.facts,
    Cert.Ple.Gen.facts, Cert.PleIdeal.Gen.facts, Cert.PleRefIdeal.Gen.facts,
    Cert.Ffn.Gen.facts, Cert.FfnIdeal.Gen.facts, Cert.FfnRefIdeal.Gen.facts,
    Cert.Sgu.Gen.facts, Cert.SguIdeal.Gen.facts, Cert.SguRefIdeal.Gen.facts,
    Cert.Qkv.Gen.facts, Cert.QkvIdeal.Gen.facts, Cert.QkvRefIdeal.Gen.facts,
    Cert.Conv.Gen.facts, Cert.ConvIdeal.Gen.facts, Cert.ConvRefIdeal.Gen.facts,
    Cert.Prenorm.Gen.facts, Cert.PrenormIdeal.Gen.facts, Cert.PrenormRefIdeal.Gen.facts,
    Cert.PleMid.Gen.facts, Cert.PleMidIdeal.Gen.facts, Cert.PleMidRefIdeal.Gen.facts,
    Frames.frame_p, Frames.frame_pi, Frames.frame_ri,
    LayerFrames.gates, LayerFrames.gates_ideal, LayerFrames.gates_ref,
    LayerFrames.merge, LayerFrames.merge_ideal, LayerFrames.merge_ref,
    LayerFrames.ple, LayerFrames.ple_ideal, LayerFrames.ple_ref,
    LayerFrames.ffn, LayerFrames.ffn_ideal, LayerFrames.ffn_ref,
    LayerFrames.sgu, LayerFrames.sgu_ideal, LayerFrames.sgu_ref,
    LayerFrames.qkv, LayerFrames.qkv_ideal, LayerFrames.qkv_ref,
    LayerFrames.conv, LayerFrames.conv_ideal, LayerFrames.conv_ref,
    LayerFrames.prenorm, LayerFrames.prenorm_ideal, LayerFrames.prenorm_ref,
    LayerFrames.ple_mid, LayerFrames.ple_mid_ideal, LayerFrames.ple_mid_ref,
    Frames.preserves,
    trivial, Cert.GatesIdeal.Result.algebraic,
    trivial, Cert.MergeIdeal.Result.algebraic,
    trivial, Cert.PleIdeal.Result.algebraic,
    trivial, Cert.FfnIdeal.Result.algebraic,
    trivial, Cert.SguIdeal.Result.algebraic,
    trivial, Cert.QkvIdeal.Result.algebraic,
    trivial, Cert.ConvIdeal.Result.algebraic,
    trivial, Cert.PrenormIdeal.Result.algebraic,
    trivial, Cert.PleMidIdeal.Result.algebraic⟩

end Cert.Proof

end
